-- ==== Defs.lean ====
def Pre_Kernel [hPre_slots_fit : Cert.Pre_slots_fit.Facts] (m : (ℓ : Loc Cert.Kernel.nD Cert.Kernel.τ Cert.Kernel.sig) → Buf (Elt Bits) ℓ) : Prop :=
  ∀ c : Dev Cert.Kernel.nD,
    (Cert.Pre_slots_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_slots_fit : Cert.Pre_slots_fit.Facts] (m : (ℓ : Loc Cert.KernelIdeal.nD Cert.KernelIdeal.τ Cert.KernelIdeal.sig) → Buf (Elt Ideal) ℓ) : Prop :=
  ∀ c : Dev Cert.KernelIdeal.nD,
    (Cert.Pre_slots_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_groups_fit [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit [hPre_groups_fit : Cert.Pre_groups_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_slots_fit : Cert.Pre_slots_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_slots_fit : Cert.Pre_slots_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_groups_fit [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_groups_fit [hReferenceIdeal : Cert.ReferenceIdeal.Facts] [hPre_groups_fit : Cert.Pre_groups_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_groups_fit [hKernelIdeal : Cert.KernelIdeal.Facts] [hReferenceIdeal : Cert.ReferenceIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_slots_fit : Cert.Pre_slots_fit.Facts) (hPre_groups_fit : Cert.Pre_groups_fit.Facts),
    quiescent_Kernel (hKernel := hKernel) (hPre_slots_fit := hPre_slots_fit)
    ∧ quiescent_KernelIdeal (hKernelIdeal := hKernelIdeal) (hPre_slots_fit := hPre_slots_fit)
    ∧ quiescent_KernelIdeal_pre_groups_fit (hKernelIdeal := hKernelIdeal) (hPre_groups_fit := hPre_groups_fit)
    ∧ quiescent_ReferenceIdeal (hReferenceIdeal := hReferenceIdeal)
    ∧ quiescent_ReferenceIdeal_pre_groups_fit (hReferenceIdeal := hReferenceIdeal) (hPre_groups_fit := hPre_groups_fit)
    ∧ preserves_Kernel_KernelIdeal
    ∧ algebraic_KernelIdeal_ReferenceIdeal_pre_groups_fit (hKernelIdeal := hKernelIdeal) (hReferenceIdeal := hReferenceIdeal) (hPre_groups_fit := hPre_groups_fit)
-- ==== Pre_groups_fit.lean ====
abbrev S24x7168 : Shape := ⟨2, ![24, 7168]⟩
abbrev S27 : Shape := ⟨1, ![27]⟩
abbrev S27x1792x2048 : Shape := ⟨3, ![27, 1792, 2048]⟩
abbrev S27x112x2048 : Shape := ⟨3, ![27, 112, 2048]⟩
abbrev S17x1792x2048 : Shape := ⟨3, ![17, 1792, 2048]⟩
abbrev S_ : Shape := ⟨0, ![]⟩

class Facts : Prop where
  bcast_S_S27 : S_.BroadcastsInDim S27 (![] : Fin 0 → Fin S27.rank)

variable [Facts]

def fn {F : FTy → Type} [FloatOps F] (main_arg0 : FVec F S24x7168 .bf16) (main_arg1 : IVec S27 32) (main_arg2 : IVec S27x1792x2048 8) (main_arg3 : FVec F S27x112x2048 .f32) (main_arg4 : IVec S17x1792x2048 8) (main_arg5 : IVec S27 32) : IVec S27 1 :=
  let main_c : IVec S_ 32 := constantI S_ 32 16#32
  let main_v0 : IVec S27 32 := broadcastInDim S27 ![] bcast_S_S27 main_c
  let main_v1 : IVec S27 1 := cmpi .sle main_arg5 main_v0
  let main_c_0 : IVec S_ 32 := constantI S_ 32 0#32
  let main_v2 : IVec S27 32 := broadcastInDim S27 ![] bcast_S_S27 main_c_0
  let main_v3 : IVec S27 1 := cmpi .sge main_arg1 main_v2
  let main_v4 : IVec S27 1 := andi main_v1 main_v3
  let main_c_1 : IVec S_ 32 := constantI S_ 32 24#32
  let main_v5 : IVec S27 32 := broadcastInDim S27 ![] bcast_S_S27 main_c_1
  let main_v6 : IVec S27 1 := cmpi .sle main_arg1 main_v5
  let main_v7 : IVec S27 1 := andi main_v4 main_v6
  main_v7
-- ==== Pre_slots_fit.lean ====
abbrev S24x7168 : Shape := ⟨2, ![24, 7168]⟩
abbrev S27 : Shape := ⟨1, ![27]⟩
abbrev S27x1792x2048 : Shape := ⟨3, ![27, 1792, 2048]⟩
abbrev S27x112x2048 : Shape := ⟨3, ![27, 112, 2048]⟩
abbrev S17x1792x2048 : Shape := ⟨3, ![17, 1792, 2048]⟩
abbrev S_ : Shape := ⟨0, ![]⟩

class Facts : Prop where
  bcast_S_S27 : S_.BroadcastsInDim S27 (![] : Fin 0 → Fin S27.rank)

variable [Facts]

def fn {F : FTy → Type} [FloatOps F] (main_arg0 : FVec F S24x7168 .bf16) (main_arg1 : IVec S27 32) (main_arg2 : IVec S27x1792x2048 8) (main_arg3 : FVec F S27x112x2048 .f32) (main_arg4 : IVec S17x1792x2048 8) (main_arg5 : IVec S27 32) : IVec S27 1 :=
  let main_c : IVec S_ 32 := constantI S_ 32 16#32
  let main_v0 : IVec S27 32 := broadcastInDim S27 ![] bcast_S_S27 main_c
  let main_v1 : IVec S27 1 := cmpi .sle main_arg5 main_v0
  main_v1
-- ==== Kernel.lean ====
abbrev S24x7168 : Shape := ⟨2, ![24, 7168]⟩
abbrev S27 : Shape := ⟨1, ![27]⟩
abbrev S27x1792x2048 : Shape := ⟨3, ![27, 1792, 2048]⟩
abbrev S27x112x2048 : Shape := ⟨3, ![27, 112, 2048]⟩
abbrev S17x1792x2048 : Shape := ⟨3, ![17, 1792, 2048]⟩
abbrev S24x2048 : Shape := ⟨2, ![24, 2048]⟩
abbrev S3x1792x512 : Shape := ⟨3, ![3, 1792, 512]⟩
abbrev S3x112x512 : Shape := ⟨3, ![3, 112, 512]⟩
abbrev S112x512 : Shape := ⟨2, ![112, 512]⟩
abbrev S3x3 : Shape := ⟨2, ![3, 3]⟩
abbrev S1 : Shape := ⟨1, ![1]⟩
abbrev S1x1 : Shape := ⟨2, ![1, 1]⟩
abbrev S_ : Shape := ⟨0, ![]⟩
abbrev S1x1792x512 : Shape := ⟨3, ![1, 1792, 512]⟩
abbrev S1792x512 : Shape := ⟨2, ![1792, 512]⟩
abbrev S1x112x512 : Shape := ⟨3, ![1, 112, 512]⟩
abbrev S256x256 : Shape := ⟨2, ![256, 256]⟩
abbrev S24x256 : Shape := ⟨2, ![24, 256]⟩
abbrev S24x512 : Shape := ⟨2, ![24, 512]⟩
abbrev S1x64x512 : Shape := ⟨3, ![1, 64, 512]⟩
abbrev S64x512 : Shape := ⟨2, ![64, 512]⟩
abbrev S16x512 : Shape := ⟨2, ![16, 512]⟩
abbrev S16x8x512 : Shape := ⟨3, ![16, 8, 512]⟩
abbrev S16x1x512 : Shape := ⟨3, ![16, 1, 512]⟩
abbrev S128x512 : Shape := ⟨2, ![128, 512]⟩
abbrev S8x512 : Shape := ⟨2, ![8, 512]⟩
abbrev S32x512 : Shape := ⟨2, ![32, 512]⟩
abbrev S256x512 : Shape := ⟨2, ![256, 512]⟩
abbrev S24x1792 : Shape := ⟨2, ![24, 1792]⟩

abbrev nBuf : Space → Nat
  | .hbm => 7
  | .vmem => 8
  | .smem => 4
  | _ => 0

abbrev bufTy : (tb : Table) → Fin (tcTables nBuf tb) → BufTy
  | .hbm, ⟨0, _⟩ => ⟨S24x7168, .bf16⟩
  | .hbm, ⟨1, _⟩ => ⟨S27, .i32⟩
  | .hbm, ⟨2, _⟩ => ⟨S27x1792x2048, .i8⟩
  | .hbm, ⟨3, _⟩ => ⟨S27x112x2048, .f32⟩
  | .hbm, ⟨4, _⟩ => ⟨S17x1792x2048, .i8⟩
  | .hbm, ⟨5, _⟩ => ⟨S27, .i32⟩
  | .hbm, ⟨6, _⟩ => ⟨S24x2048, .bf16⟩
  | .local _ .vmem, ⟨0, _⟩ => ⟨S24x7168, .bf16⟩
  | .local _ .vmem, ⟨1, _⟩ => ⟨S24x2048, .bf16⟩
  | .local _ .vmem, ⟨2, _⟩ => ⟨S3x1792x512, .i8⟩
  | .local _ .vmem, ⟨3, _⟩ => ⟨S3x1792x512, .i8⟩
  | .local _ .vmem, ⟨4, _⟩ => ⟨S3x112x512, .f32⟩
  | .local _ .vmem, ⟨5, _⟩ => ⟨S112x512, .f32⟩
  | .local _ .vmem, ⟨6, _⟩ => ⟨S24x7168, .bf16⟩
  | .local _ .vmem, ⟨7, _⟩ => ⟨S24x2048, .f32⟩
  | .local _ .smem, ⟨0, _⟩ => ⟨S27, .i32⟩
  | .local _ .smem, ⟨1, _⟩ => ⟨S27, .i32⟩
  | .local _ .smem, ⟨2, _⟩ => ⟨S27, .i32⟩
  | .local _ .smem, ⟨3, _⟩ => ⟨S27, .i32⟩
  | _, _ => ⟨S24x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_stg1_0 : Ref sig .tc := ⟨.smem, 1, rfl⟩
abbrev cc0_scratch6 : Ref sig .tc := ⟨.smem, 2, rfl⟩
abbrev cc0_scratch7 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c27_i32 : BitVec 32 := 27#32
  let v0 : BitVec 32 := Scalar.addi c0_i32_1 c27_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let v226 : Index := Scalar.indexCast arg16
  ![v226.toNat]
def k0_off2 (arg17 : BitVec 32) : Fin 1 → Nat :=
  let v235 : Index := Scalar.indexCast arg17
  ![v235.toNat]
def k0_cond1 (v227 : BitVec 32) : BitVec 1 :=
  let c0_i32_138 : BitVec 32 := 0#32
  let v228 : BitVec 1 := Scalar.cmpi .sgt v227 c0_i32_138
  let v229 : BitVec 32 := Scalar.extui v228
  let c0_i32_139 : BitVec 32 := 0#32
  let v230 : BitVec 1 := Scalar.cmpi .ne v229 c0_i32_139
  v230

def k0_chk1 (arg17 : BitVec 32) (v227 : BitVec 32) : Prop :=
  (∀ (k0_h1 : k0_cond1 v227 = 1#1), ∀ a, (k0_off2 arg17) a + S1.size a ≤ S27.size a)
theorem k0_off2_inb : ∀ (arg17 : BitVec 32) (v227 : BitVec 32) (k0_hw1 : k0_chk1 arg17 v227), ∀ (k0_h1 : k0_cond1 v227 = 1#1), ∀ a, (k0_off2 arg17) a + S1.size a ≤ S27.size a := fun arg17 v227 k0_hw1 k0_h1 => k0_hw1 k0_h1

def k0_off3 : Fin 1 → Nat :=
  let c0_i32_4 : BitVec 32 := 0#32
  let c0_i32_139 : BitVec 32 := 0#32
  let v228 : BitVec 1 := Scalar.cmpi .sgt c0_i32_4 c0_i32_139
  let v229 : BitVec 32 := Scalar.extui v228
  let c0_i32_140 : BitVec 32 := 0#32
  let v230 : BitVec 1 := Scalar.cmpi .slt c0_i32_4 c0_i32_140
  let v231 : BitVec 32 := Scalar.extui v230
  let v232 : BitVec 32 := Scalar.subi v229 v231
  let c4_i32_138 : BitVec 32 := 4#32
  let c0_i32_141 : BitVec 32 := 0#32
  let v233 : BitVec 1 := Scalar.cmpi .sgt c4_i32_138 c0_i32_141
  let v234 : BitVec 32 := Scalar.extui v233
  let c0_i32_142 : BitVec 32 := 0#32
  let v235 : BitVec 1 := Scalar.cmpi .slt c4_i32_138 c0_i32_142
  let v236 : BitVec 32 := Scalar.extui v235
  let v237 : BitVec 32 := Scalar.subi v234 v236
  let v238 : BitVec 1 := Scalar.cmpi .ne v232 v237
  let v239 : BitVec 32 := Scalar.remsi c0_i32_4 c4_i32_138
  let c0_i32_143 : BitVec 32 := 0#32
  let v240 : BitVec 1 := Scalar.cmpi .ne v239 c0_i32_143
  let v241 : BitVec 1 := Scalar.andi v238 v240
  let v227 : BitVec 32 := Scalar.divsi c0_i32_4 c4_i32_138
  let c1_i32_144 : BitVec 32 := 1#32
  let v242 : BitVec 32 := Scalar.subi v227 c1_i32_144
  let v243 : BitVec 32 := Scalar.select v241 v242 v227
  let v244 : Index := Scalar.indexCast v243
  ![v244.toNat]
def k0_mult1 : BitVec 32 :=
  let c0_i32_4 : BitVec 32 := 0#32
  let c4_i32_145 : BitVec 32 := 4#32
  let v246 : BitVec 32 := Scalar.remsi c0_i32_4 c4_i32_145
  let c512_i32 : BitVec 32 := 512#32
  let v247 : BitVec 32 := Scalar.muli v246 c512_i32
  v247
def k0_off4 (v245 : BitVec 32) : Fin 1 → Nat :=
  let v249 : Index := Scalar.indexCast v245
  ![v249.toNat]
def k0_cond2 (v1_0 : BitVec 32) : BitVec 1 :=
  let c0_i32_3 : BitVec 32 := 0#32
  let c4_i32 : BitVec 32 := 4#32
  let v2 : BitVec 32 := Scalar.muli v1_0 c4_i32
  let v3 : BitVec 1 := Scalar.cmpi .slt c0_i32_3 v2
  let v4 : BitVec 32 := Scalar.extui v3
  let c0_i32_5 : BitVec 32 := 0#32
  let v5 : BitVec 1 := Scalar.cmpi .ne v4 c0_i32_5
  v5

def k0_off5 : Fin 2 → Nat :=
  let c0_i32_147 : BitVec 32 := 0#32
  let c0_i32_4 : BitVec 32 := 0#32
  let c3_i32 : BitVec 32 := 3#32
  let v226 : BitVec 32 := Scalar.remsi c0_i32_4 c3_i32
  ![0, v226.toNat]
def k0_off6 : Fin 3 → Nat :=
  let c0_i32_4 : BitVec 32 := 0#32
  let c3_i32 : BitVec 32 := 3#32
  let v226 : BitVec 32 := Scalar.remsi c0_i32_4 c3_i32
  let c0_i32_148 : BitVec 32 := 0#32
  let c0_i32_149 : BitVec 32 := 0#32
  ![v226.toNat, 0, 0]
def k0_off7 (v245 : BitVec 32) : Fin 3 → Nat :=
  let c0_i32_150 : BitVec 32 := 0#32
  let c0_i32_4 : BitVec 32 := 0#32
  let c4_i32_145 : BitVec 32 := 4#32
  let v246 : BitVec 32 := Scalar.remsi c0_i32_4 c4_i32_145
  let c512_i32 : BitVec 32 := 512#32
  let v247 : BitVec 32 := Scalar.muli v246 c512_i32
  let v248 : BitVec 32 := v247
  ![v245.toNat, 0, v248.toNat]
def k0_off8 : Fin 2 → Nat :=
  let c1_i32_151 : BitVec 32 := 1#32
  let c0_i32_4 : BitVec 32 := 0#32
  let c3_i32 : BitVec 32 := 3#32
  let v226 : BitVec 32 := Scalar.remsi c0_i32_4 c3_i32
  ![1, v226.toNat]
def k0_off9 : Fin 3 → Nat :=
  let c0_i32_4 : BitVec 32 := 0#32
  let c3_i32 : BitVec 32 := 3#32
  let v226 : BitVec 32 := Scalar.remsi c0_i32_4 c3_i32
  let c0_i32_152 : BitVec 32 := 0#32
  let c0_i32_153 : BitVec 32 := 0#32
  ![v226.toNat, 0, 0]
def k0_off10 (v245 : BitVec 32) : Fin 3 → Nat :=
  let c0_i32_154 : BitVec 32 := 0#32
  let c0_i32_4 : BitVec 32 := 0#32
  let c4_i32_145 : BitVec 32 := 4#32
  let v246 : BitVec 32 := Scalar.remsi c0_i32_4 c4_i32_145
  let c512_i32 : BitVec 32 := 512#32
  let v247 : BitVec 32 := Scalar.muli v246 c512_i32
  let v248 : BitVec 32 := v247
  ![v245.toNat, 0, v248.toNat]

def k0_chk2 (v1_0 : BitVec 32) (v245 : BitVec 32) : Prop :=
  (∀ (k0_h2 : k0_cond2 v1_0 = 1#1), ∀ a, (k0_off4 v245) a + S1.size a ≤ S27.size a) ∧
  (∀ (k0_h2 : k0_cond2 v1_0 = 1#1), ∀ a, (k0_off7 v245) a + S1x1792x512.size a ≤ S27x1792x2048.size a) ∧
  (∀ (k0_h2 : k0_cond2 v1_0 = 1#1), ∀ (hinb : ∀ a, (k0_off7 v245) a + S1x1792x512.size a ≤ S27x1792x2048.size a), (Rect.unit (s := S27x1792x2048) (k0_off7 v245) S1x1792x512.size hinb).WholeWords (EltTy.packing .i8)) ∧
  (∀ (k0_h2 : k0_cond2 v1_0 = 1#1), ∀ a, (k0_off10 v245) a + S1x112x512.size a ≤ S27x112x2048.size a)
theorem k0_off4_inb : ∀ (v1_0 : BitVec 32) (v245 : BitVec 32) (k0_hw2 : k0_chk2 v1_0 v245), ∀ (k0_h2 : k0_cond2 v1_0 = 1#1), ∀ a, (k0_off4 v245) a + S1.size a ≤ S27.size a := fun v1_0 v245 k0_hw2 k0_h2 => k0_hw2.1 k0_h2
theorem k0_off7_inb : ∀ (v1_0 : BitVec 32) (v245 : BitVec 32) (k0_hw2 : k0_chk2 v1_0 v245), ∀ (k0_h2 : k0_cond2 v1_0 = 1#1), ∀ a, (k0_off7 v245) a + S1x1792x512.size a ≤ S27x1792x2048.size a := fun v1_0 v245 k0_hw2 k0_h2 => k0_hw2.2.1 k0_h2
theorem k0_off7_wordsi8 : ∀ (v1_0 : BitVec 32) (v245 : BitVec 32) (k0_hw2 : k0_chk2 v1_0 v245), ∀ (k0_h2 : k0_cond2 v1_0 = 1#1), (Rect.unit (s := S27x1792x2048) (k0_off7 v245) S1x1792x512.size (k0_off7_inb v1_0 v245 k0_hw2 k0_h2)).WholeWords (EltTy.packing .i8) := fun v1_0 v245 k0_hw2 k0_h2 => k0_hw2.2.2.1 k0_h2 (k0_off7_inb v1_0 v245 k0_hw2 k0_h2)
theorem k0_off10_inb : ∀ (v1_0 : BitVec 32) (v245 : BitVec 32) (k0_hw2 : k0_chk2 v1_0 v245), ∀ (k0_h2 : k0_cond2 v1_0 = 1#1), ∀ a, (k0_off10 v245) a + S1x112x512.size a ≤ S27x112x2048.size a := fun v1_0 v245 k0_hw2 k0_h2 => k0_hw2.2.2.2 k0_h2

def k0_off11 : Fin 2 → Nat :=
  let c2_i32_156 : BitVec 32 := 2#32
  let c0_i32_4 : BitVec 32 := 0#32
  let c3_i32 : BitVec 32 := 3#32
  let v226 : BitVec 32 := Scalar.remsi c0_i32_4 c3_i32
  ![2, v226.toNat]
def k0_off12 : Fin 3 → Nat :=
  let c0_i32_4 : BitVec 32 := 0#32
  let c3_i32 : BitVec 32 := 3#32
  let v226 : BitVec 32 := Scalar.remsi c0_i32_4 c3_i32
  let c0_i32_158 : BitVec 32 := 0#32
  let c0_i32_159 : BitVec 32 := 0#32
  ![v226.toNat, 0, 0]
def k0_off13 (v250 : BitVec 32) : Fin 3 → Nat :=
  let c0_i32_146 : BitVec 32 := 0#32
  let v251 : BitVec 32 := Scalar.maxsi v250 c0_i32_146
  let c0_i32_160 : BitVec 32 := 0#32
  let c0_i32_4 : BitVec 32 := 0#32
  let c4_i32_145 : BitVec 32 := 4#32
  let v246 : BitVec 32 := Scalar.remsi c0_i32_4 c4_i32_145
  let c512_i32 : BitVec 32 := 512#32
  let v247 : BitVec 32 := Scalar.muli v246 c512_i32
  let v248 : BitVec 32 := v247
  ![v251.toNat, 0, v248.toNat]
def k0_cond3 (v250 : BitVec 32) : BitVec 1 :=
  let c0_i32_155 : BitVec 32 := 0#32
  let v264 : BitVec 1 := Scalar.cmpi .sge v250 c0_i32_155
  let v265 : BitVec 32 := Scalar.extui v264
  let c0_i32_157 : BitVec 32 := 0#32
  let v266 : BitVec 1 := Scalar.cmpi .ne v265 c0_i32_157
  v266

def k0_chk3 (v1_0 : BitVec 32) (v250 : BitVec 32) : Prop :=
  (∀ (k0_h2 : k0_cond2 v1_0 = 1#1), ∀ (k0_h3 : k0_cond3 v250 = 1#1), ∀ a, (k0_off13 v250) a + S1x1792x512.size a ≤ S17x1792x2048.size a) ∧
  (∀ (k0_h2 : k0_cond2 v1_0 = 1#1), ∀ (k0_h3 : k0_cond3 v250 = 1#1), ∀ (hinb : ∀ a, (k0_off13 v250) a + S1x1792x512.size a ≤ S17x1792x2048.size a), (Rect.unit (s := S17x1792x2048) (k0_off13 v250) S1x1792x512.size hinb).WholeWords (EltTy.packing .i8))
theorem k0_off13_inb : ∀ (v1_0 : BitVec 32) (v250 : BitVec 32) (k0_hw3 : k0_chk3 v1_0 v250), ∀ (k0_h2 : k0_cond2 v1_0 = 1#1), ∀ (k0_h3 : k0_cond3 v250 = 1#1), ∀ a, (k0_off13 v250) a + S1x1792x512.size a ≤ S17x1792x2048.size a := fun v1_0 v250 k0_hw3 k0_h2 k0_h3 => k0_hw3.1 k0_h2 k0_h3
theorem k0_off13_wordsi8 : ∀ (v1_0 : BitVec 32) (v250 : BitVec 32) (k0_hw3 : k0_chk3 v1_0 v250), ∀ (k0_h2 : k0_cond2 v1_0 = 1#1), ∀ (k0_h3 : k0_cond3 v250 = 1#1), (Rect.unit (s := S17x1792x2048) (k0_off13 v250) S1x1792x512.size (k0_off13_inb v1_0 v250 k0_hw3 k0_h2 k0_h3)).WholeWords (EltTy.packing .i8) := fun v1_0 v250 k0_hw3 k0_h2 k0_h3 => k0_hw3.2 k0_h2 k0_h3 (k0_off13_inb v1_0 v250 k0_hw3 k0_h2 k0_h3)

def k0_off14 : Fin 1 → Nat :=
  let c1_i32_7 : BitVec 32 := 1#32
  let c0_i32_139 : BitVec 32 := 0#32
  let v228 : BitVec 1 := Scalar.cmpi .sgt c1_i32_7 c0_i32_139
  let v229 : BitVec 32 := Scalar.extui v228
  let c0_i32_140 : BitVec 32 := 0#32
  let v230 : BitVec 1 := Scalar.cmpi .slt c1_i32_7 c0_i32_140
  let v231 : BitVec 32 := Scalar.extui v230
  let v232 : BitVec 32 := Scalar.subi v229 v231
  let c4_i32_138 : BitVec 32 := 4#32
  let c0_i32_141 : BitVec 32 := 0#32
  let v233 : BitVec 1 := Scalar.cmpi .sgt c4_i32_138 c0_i32_141
  let v234 : BitVec 32 := Scalar.extui v233
  let c0_i32_142 : BitVec 32 := 0#32
  let v235 : BitVec 1 := Scalar.cmpi .slt c4_i32_138 c0_i32_142
  let v236 : BitVec 32 := Scalar.extui v235
  let v237 : BitVec 32 := Scalar.subi v234 v236
  let v238 : BitVec 1 := Scalar.cmpi .ne v232 v237
  let v239 : BitVec 32 := Scalar.remsi c1_i32_7 c4_i32_138
  let c0_i32_143 : BitVec 32 := 0#32
  let v240 : BitVec 1 := Scalar.cmpi .ne v239 c0_i32_143
  let v241 : BitVec 1 := Scalar.andi v238 v240
  let v227 : BitVec 32 := Scalar.divsi c1_i32_7 c4_i32_138
  let c1_i32_144 : BitVec 32 := 1#32
  let v242 : BitVec 32 := Scalar.subi v227 c1_i32_144
  let v243 : BitVec 32 := Scalar.select v241 v242 v227
  let v244 : Index := Scalar.indexCast v243
  ![v244.toNat]
def k0_mult2 : BitVec 32 :=
  let c1_i32_7 : BitVec 32 := 1#32
  let c4_i32_145 : BitVec 32 := 4#32
  let v246 : BitVec 32 := Scalar.remsi c1_i32_7 c4_i32_145
  let c512_i32 : BitVec 32 := 512#32
  let v247 : BitVec 32 := Scalar.muli v246 c512_i32
  v247
def k0_off15 (v245 : BitVec 32) : Fin 1 → Nat :=
  let v249 : Index := Scalar.indexCast v245
  ![v249.toNat]
def k0_cond4 (v1_0 : BitVec 32) : BitVec 1 :=
  let c1_i32_6 : BitVec 32 := 1#32
  let c4_i32 : BitVec 32 := 4#32
  let v2 : BitVec 32 := Scalar.muli v1_0 c4_i32
  let v6 : BitVec 1 := Scalar.cmpi .slt c1_i32_6 v2
  let v7 : BitVec 32 := Scalar.extui v6
  let c0_i32_8 : BitVec 32 := 0#32
  let v8 : BitVec 1 := Scalar.cmpi .ne v7 c0_i32_8
  v8

def k0_off16 : Fin 2 → Nat :=
  let c0_i32_147 : BitVec 32 := 0#32
  let c1_i32_7 : BitVec 32 := 1#32
  let c3_i32 : BitVec 32 := 3#32
  let v226 : BitVec 32 := Scalar.remsi c1_i32_7 c3_i32
  ![0, v226.toNat]
def k0_off17 : Fin 3 → Nat :=
  let c1_i32_7 : BitVec 32 := 1#32
  let c3_i32 : BitVec 32 := 3#32
  let v226 : BitVec 32 := Scalar.remsi c1_i32_7 c3_i32
  let c0_i32_148 : BitVec 32 := 0#32
  let c0_i32_149 : BitVec 32 := 0#32
  ![v226.toNat, 0, 0]
def k0_off18 (v245 : BitVec 32) : Fin 3 → Nat :=
  let c0_i32_150 : BitVec 32 := 0#32
  let c1_i32_7 : BitVec 32 := 1#32
  let c4_i32_145 : BitVec 32 := 4#32
  let v246 : BitVec 32 := Scalar.remsi c1_i32_7 c4_i32_145
  let c512_i32 : BitVec 32 := 512#32
  let v247 : BitVec 32 := Scalar.muli v246 c512_i32
  let v248 : BitVec 32 := v247
  ![v245.toNat, 0, v248.toNat]
def k0_off19 : Fin 2 → Nat :=
  let c1_i32_151 : BitVec 32 := 1#32
  let c1_i32_7 : BitVec 32 := 1#32
  let c3_i32 : BitVec 32 := 3#32
  let v226 : BitVec 32 := Scalar.remsi c1_i32_7 c3_i32
  ![1, v226.toNat]
def k0_off20 : Fin 3 → Nat :=
  let c1_i32_7 : BitVec 32 := 1#32
  let c3_i32 : BitVec 32 := 3#32
  let v226 : BitVec 32 := Scalar.remsi c1_i32_7 c3_i32
  let c0_i32_152 : BitVec 32 := 0#32
  let c0_i32_153 : BitVec 32 := 0#32
  ![v226.toNat, 0, 0]
def k0_off21 (v245 : BitVec 32) : Fin 3 → Nat :=
  let c0_i32_154 : BitVec 32 := 0#32
  let c1_i32_7 : BitVec 32 := 1#32
  let c4_i32_145 : BitVec 32 := 4#32
  let v246 : BitVec 32 := Scalar.remsi c1_i32_7 c4_i32_145
  let c512_i32 : BitVec 32 := 512#32
  let v247 : BitVec 32 := Scalar.muli v246 c512_i32
  let v248 : BitVec 32 := v247
  ![v245.toNat, 0, v248.toNat]

def k0_chk4 (v1_0 : BitVec 32) (v245 : BitVec 32) : Prop :=
  (∀ (k0_h4 : k0_cond4 v1_0 = 1#1), ∀ a, (k0_off15 v245) a + S1.size a ≤ S27.size a) ∧
  (∀ (k0_h4 : k0_cond4 v1_0 = 1#1), ∀ a, (k0_off18 v245) a + S1x1792x512.size a ≤ S27x1792x2048.size a) ∧
  (∀ (k0_h4 : k0_cond4 v1_0 = 1#1), ∀ (hinb : ∀ a, (k0_off18 v245) a + S1x1792x512.size a ≤ S27x1792x2048.size a), (Rect.unit (s := S27x1792x2048) (k0_off18 v245) S1x1792x512.size hinb).WholeWords (EltTy.packing .i8)) ∧
  (∀ (k0_h4 : k0_cond4 v1_0 = 1#1), ∀ a, (k0_off21 v245) a + S1x112x512.size a ≤ S27x112x2048.size a)
theorem k0_off15_inb : ∀ (v1_0 : BitVec 32) (v245 : BitVec 32) (k0_hw4 : k0_chk4 v1_0 v245), ∀ (k0_h4 : k0_cond4 v1_0 = 1#1), ∀ a, (k0_off15 v245) a + S1.size a ≤ S27.size a := fun v1_0 v245 k0_hw4 k0_h4 => k0_hw4.1 k0_h4
theorem k0_off18_inb : ∀ (v1_0 : BitVec 32) (v245 : BitVec 32) (k0_hw4 : k0_chk4 v1_0 v245), ∀ (k0_h4 : k0_cond4 v1_0 = 1#1), ∀ a, (k0_off18 v245) a + S1x1792x512.size a ≤ S27x1792x2048.size a := fun v1_0 v245 k0_hw4 k0_h4 => k0_hw4.2.1 k0_h4
theorem k0_off18_wordsi8 : ∀ (v1_0 : BitVec 32) (v245 : BitVec 32) (k0_hw4 : k0_chk4 v1_0 v245), ∀ (k0_h4 : k0_cond4 v1_0 = 1#1), (Rect.unit (s := S27x1792x2048) (k0_off18 v245) S1x1792x512.size (k0_off18_inb v1_0 v245 k0_hw4 k0_h4)).WholeWords (EltTy.packing .i8) := fun v1_0 v245 k0_hw4 k0_h4 => k0_hw4.2.2.1 k0_h4 (k0_off18_inb v1_0 v245 k0_hw4 k0_h4)
theorem k0_off21_inb : ∀ (v1_0 : BitVec 32) (v245 : BitVec 32) (k0_hw4 : k0_chk4 v1_0 v245), ∀ (k0_h4 : k0_cond4 v1_0 = 1#1), ∀ a, (k0_off21 v245) a + S1x112x512.size a ≤ S27x112x2048.size a := fun v1_0 v245 k0_hw4 k0_h4 => k0_hw4.2.2.2 k0_h4

def k0_off22 : Fin 2 → Nat :=
  let c2_i32_156 : BitVec 32 := 2#32
  let c1_i32_7 : BitVec 32 := 1#32
  let c3_i32 : BitVec 32 := 3#32
  let v226 : BitVec 32 := Scalar.remsi c1_i32_7 c3_i32
  ![2, v226.toNat]
def k0_off23 : Fin 3 → Nat :=
  let c1_i32_7 : BitVec 32 := 1#32
  let c3_i32 : BitVec 32 := 3#32
  let v226 : BitVec 32 := Scalar.remsi c1_i32_7 c3_i32
  let c0_i32_158 : BitVec 32 := 0#32
  let c0_i32_159 : BitVec 32 := 0#32
  ![v226.toNat, 0, 0]
def k0_off24 (v250 : BitVec 32) : Fin 3 → Nat :=
  let c0_i32_146 : BitVec 32 := 0#32
  let v251 : BitVec 32 := Scalar.maxsi v250 c0_i32_146
  let c0_i32_160 : BitVec 32 := 0#32
  let c1_i32_7 : BitVec 32 := 1#32
  let c4_i32_145 : BitVec 32 := 4#32
  let v246 : BitVec 32 := Scalar.remsi c1_i32_7 c4_i32_145
  let c512_i32 : BitVec 32 := 512#32
  let v247 : BitVec 32 := Scalar.muli v246 c512_i32
  let v248 : BitVec 32 := v247
  ![v251.toNat, 0, v248.toNat]
def k0_cond5 (v250 : BitVec 32) : BitVec 1 :=
  let c0_i32_155 : BitVec 32 := 0#32
  let v264 : BitVec 1 := Scalar.cmpi .sge v250 c0_i32_155
  let v265 : BitVec 32 := Scalar.extui v264
  let c0_i32_157 : BitVec 32 := 0#32
  let v266 : BitVec 1 := Scalar.cmpi .ne v265 c0_i32_157
  v266

def k0_chk5 (v1_0 : BitVec 32) (v250 : BitVec 32) : Prop :=
  (∀ (k0_h4 : k0_cond4 v1_0 = 1#1), ∀ (k0_h5 : k0_cond5 v250 = 1#1), ∀ a, (k0_off24 v250) a + S1x1792x512.size a ≤ S17x1792x2048.size a) ∧
  (∀ (k0_h4 : k0_cond4 v1_0 = 1#1), ∀ (k0_h5 : k0_cond5 v250 = 1#1), ∀ (hinb : ∀ a, (k0_off24 v250) a + S1x1792x512.size a ≤ S17x1792x2048.size a), (Rect.unit (s := S17x1792x2048) (k0_off24 v250) S1x1792x512.size hinb).WholeWords (EltTy.packing .i8))
theorem k0_off24_inb : ∀ (v1_0 : BitVec 32) (v250 : BitVec 32) (k0_hw5 : k0_chk5 v1_0 v250), ∀ (k0_h4 : k0_cond4 v1_0 = 1#1), ∀ (k0_h5 : k0_cond5 v250 = 1#1), ∀ a, (k0_off24 v250) a + S1x1792x512.size a ≤ S17x1792x2048.size a := fun v1_0 v250 k0_hw5 k0_h4 k0_h5 => k0_hw5.1 k0_h4 k0_h5
theorem k0_off24_wordsi8 : ∀ (v1_0 : BitVec 32) (v250 : BitVec 32) (k0_hw5 : k0_chk5 v1_0 v250), ∀ (k0_h4 : k0_cond4 v1_0 = 1#1), ∀ (k0_h5 : k0_cond5 v250 = 1#1), (Rect.unit (s := S17x1792x2048) (k0_off24 v250) S1x1792x512.size (k0_off24_inb v1_0 v250 k0_hw5 k0_h4 k0_h5)).WholeWords (EltTy.packing .i8) := fun v1_0 v250 k0_hw5 k0_h4 k0_h5 => k0_hw5.2 k0_h4 k0_h5 (k0_off24_inb v1_0 v250 k0_hw5 k0_h4 k0_h5)

@[reducible] def k0_t2_loop (v1_0 : BitVec 32) : Scf.Loop 32 :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_132 : BitVec 32 := 1#32
  ⟨c0_i32_129, v220, c1_i32_132⟩

def k0_off25 (v1_0 : BitVec 32) (k0_t2 : Fin (k0_t2_loop v1_0).trips) : Fin 1 → Nat :=
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c0_i32_181 : BitVec 32 := 0#32
  let v321 : BitVec 1 := Scalar.cmpi .sgt v227 c0_i32_181
  let v322 : BitVec 32 := Scalar.extui v321
  let c0_i32_182 : BitVec 32 := 0#32
  let v323 : BitVec 1 := Scalar.cmpi .slt v227 c0_i32_182
  let v324 : BitVec 32 := Scalar.extui v323
  let v325 : BitVec 32 := Scalar.subi v322 v324
  let c4_i32_180 : BitVec 32 := 4#32
  let c0_i32_183 : BitVec 32 := 0#32
  let v326 : BitVec 1 := Scalar.cmpi .sgt c4_i32_180 c0_i32_183
  let v327 : BitVec 32 := Scalar.extui v326
  let c0_i32_184 : BitVec 32 := 0#32
  let v328 : BitVec 1 := Scalar.cmpi .slt c4_i32_180 c0_i32_184
  let v329 : BitVec 32 := Scalar.extui v328
  let v330 : BitVec 32 := Scalar.subi v327 v329
  let v331 : BitVec 1 := Scalar.cmpi .ne v325 v330
  let v332 : BitVec 32 := Scalar.remsi v227 c4_i32_180
  let c0_i32_185 : BitVec 32 := 0#32
  let v333 : BitVec 1 := Scalar.cmpi .ne v332 c0_i32_185
  let v334 : BitVec 1 := Scalar.andi v331 v333
  let v320 : BitVec 32 := Scalar.divsi v227 c4_i32_180
  let c1_i32_186 : BitVec 32 := 1#32
  let v335 : BitVec 32 := Scalar.subi v320 c1_i32_186
  let v336 : BitVec 32 := Scalar.select v334 v335 v320
  let v337 : Index := Scalar.indexCast v336
  ![v337.toNat]
def k0_cond6 (v1_0 : BitVec 32) (k0_t2 : Fin (k0_t2_loop v1_0).trips) : BitVec 1 :=
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c4_i32 : BitVec 32 := 4#32
  let v2 : BitVec 32 := Scalar.muli v1_0 c4_i32
  let v228 : BitVec 1 := Scalar.cmpi .slt v227 v2
  let v229 : BitVec 32 := Scalar.extui v228
  let c0_i32_139 : BitVec 32 := 0#32
  let v230 : BitVec 1 := Scalar.cmpi .ne v229 c0_i32_139
  v230

def k0_mult3 (v1_0 : BitVec 32) (k0_t2 : Fin (k0_t2_loop v1_0).trips) : BitVec 32 :=
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  v340
def k0_off26 (v338 : BitVec 32) : Fin 1 → Nat :=
  let v342 : Index := Scalar.indexCast v338
  ![v342.toNat]

def k0_off27 (v1_0 : BitVec 32) (k0_t2 : Fin (k0_t2_loop v1_0).trips) : Fin 2 → Nat :=
  let c0_i32_190 : BitVec 32 := 0#32
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  ![0, v319.toNat]
def k0_off28 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  let c0_i32_191 : BitVec 32 := 0#32
  let c0_i32_192 : BitVec 32 := 0#32
  ![v319.toNat, 0, 0]
def k0_off29 (v1_0 : BitVec 32) (k0_t2 : Fin (k0_t2_loop v1_0).trips) (v338 : BitVec 32) : Fin 3 → Nat :=
  let c0_i32_193 : BitVec 32 := 0#32
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  let v341 : BitVec 32 := v340
  ![v338.toNat, 0, v341.toNat]
def k0_off30 (v1_0 : BitVec 32) (k0_t2 : Fin (k0_t2_loop v1_0).trips) : Fin 2 → Nat :=
  let c1_i32_194 : BitVec 32 := 1#32
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  ![1, v319.toNat]
def k0_off31 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  let c0_i32_195 : BitVec 32 := 0#32
  let c0_i32_196 : BitVec 32 := 0#32
  ![v319.toNat, 0, 0]
def k0_off32 (v1_0 : BitVec 32) (k0_t2 : Fin (k0_t2_loop v1_0).trips) (v338 : BitVec 32) : Fin 3 → Nat :=
  let c0_i32_197 : BitVec 32 := 0#32
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  let v341 : BitVec 32 := v340
  ![v338.toNat, 0, v341.toNat]

def k0_chk7 (v1_0 : BitVec 32) (k0_t2 : Fin (k0_t2_loop v1_0).trips) (v338 : BitVec 32) : Prop :=
  (∀ (k0_h6 : k0_cond6 v1_0 k0_t2 = 1#1), ∀ a, (k0_off26 v338) a + S1.size a ≤ S27.size a) ∧
  (∀ (k0_h6 : k0_cond6 v1_0 k0_t2 = 1#1), ∀ a, (k0_off29 v1_0 k0_t2 v338) a + S1x1792x512.size a ≤ S27x1792x2048.size a) ∧
  (∀ (k0_h6 : k0_cond6 v1_0 k0_t2 = 1#1), ∀ (hinb : ∀ a, (k0_off29 v1_0 k0_t2 v338) a + S1x1792x512.size a ≤ S27x1792x2048.size a), (Rect.unit (s := S27x1792x2048) (k0_off29 v1_0 k0_t2 v338) S1x1792x512.size hinb).WholeWords (EltTy.packing .i8)) ∧
  (∀ (k0_h6 : k0_cond6 v1_0 k0_t2 = 1#1), ∀ a, (k0_off32 v1_0 k0_t2 v338) a + S1x112x512.size a ≤ S27x112x2048.size a)
theorem k0_off26_inb : ∀ (v1_0 : BitVec 32) (k0_t2 : Fin (k0_t2_loop v1_0).trips) (v338 : BitVec 32) (k0_hw7 : k0_chk7 v1_0 k0_t2 v338), ∀ (k0_h6 : k0_cond6 v1_0 k0_t2 = 1#1), ∀ a, (k0_off26 v338) a + S1.size a ≤ S27.size a := fun v1_0 k0_t2 v338 k0_hw7 k0_h6 => k0_hw7.1 k0_h6
theorem k0_off29_inb : ∀ (v1_0 : BitVec 32) (k0_t2 : Fin (k0_t2_loop v1_0).trips) (v338 : BitVec 32) (k0_hw7 : k0_chk7 v1_0 k0_t2 v338), ∀ (k0_h6 : k0_cond6 v1_0 k0_t2 = 1#1), ∀ a, (k0_off29 v1_0 k0_t2 v338) a + S1x1792x512.size a ≤ S27x1792x2048.size a := fun v1_0 k0_t2 v338 k0_hw7 k0_h6 => k0_hw7.2.1 k0_h6
theorem k0_off29_wordsi8 : ∀ (v1_0 : BitVec 32) (k0_t2 : Fin (k0_t2_loop v1_0).trips) (v338 : BitVec 32) (k0_hw7 : k0_chk7 v1_0 k0_t2 v338), ∀ (k0_h6 : k0_cond6 v1_0 k0_t2 = 1#1), (Rect.unit (s := S27x1792x2048) (k0_off29 v1_0 k0_t2 v338) S1x1792x512.size (k0_off29_inb v1_0 k0_t2 v338 k0_hw7 k0_h6)).WholeWords (EltTy.packing .i8) := fun v1_0 k0_t2 v338 k0_hw7 k0_h6 => k0_hw7.2.2.1 k0_h6 (k0_off29_inb v1_0 k0_t2 v338 k0_hw7 k0_h6)
theorem k0_off32_inb : ∀ (v1_0 : BitVec 32) (k0_t2 : Fin (k0_t2_loop v1_0).trips) (v338 : BitVec 32) (k0_hw7 : k0_chk7 v1_0 k0_t2 v338), ∀ (k0_h6 : k0_cond6 v1_0 k0_t2 = 1#1), ∀ a, (k0_off32 v1_0 k0_t2 v338) a + S1x112x512.size a ≤ S27x112x2048.size a := fun v1_0 k0_t2 v338 k0_hw7 k0_h6 => k0_hw7.2.2.2 k0_h6

def k0_off33 (v1_0 : BitVec 32) (k0_t2 : Fin (k0_t2_loop v1_0).trips) : Fin 2 → Nat :=
  let c2_i32_199 : BitVec 32 := 2#32
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  ![2, v319.toNat]
def k0_cond7 (v343 : BitVec 32) : BitVec 1 :=
  let c0_i32_198 : BitVec 32 := 0#32
  let v357 : BitVec 1 := Scalar.cmpi .sge v343 c0_i32_198
  let v358 : BitVec 32 := Scalar.extui v357
  let c0_i32_200 : BitVec 32 := 0#32
  let v359 : BitVec 1 := Scalar.cmpi .ne v358 c0_i32_200
  v359

def k0_off34 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  let c0_i32_201 : BitVec 32 := 0#32
  let c0_i32_202 : BitVec 32 := 0#32
  ![v319.toNat, 0, 0]
def k0_off35 (v1_0 : BitVec 32) (k0_t2 : Fin (k0_t2_loop v1_0).trips) (v343 : BitVec 32) : Fin 3 → Nat :=
  let c0_i32_189 : BitVec 32 := 0#32
  let v344 : BitVec 32 := Scalar.maxsi v343 c0_i32_189
  let c0_i32_203 : BitVec 32 := 0#32
  let c0_i32_129 : BitVec 32 := 0#32
  let c1_i32_132 : BitVec 32 := 1#32
  let arg16 : BitVec 32 := Scf.iv c0_i32_129 c1_i32_132 k0_t2
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  let v341 : BitVec 32 := v340
  ![v344.toNat, 0, v341.toNat]

def k0_chk8 (v1_0 : BitVec 32) (k0_t2 : Fin (k0_t2_loop v1_0).trips) (v343 : BitVec 32) : Prop :=
  (∀ (k0_h6 : k0_cond6 v1_0 k0_t2 = 1#1), ∀ (k0_h7 : k0_cond7 v343 = 1#1), ∀ a, (k0_off33 v1_0 k0_t2) a + S1x1.size a ≤ S3x3.size a) ∧
  (∀ (k0_h6 : k0_cond6 v1_0 k0_t2 = 1#1), ∀ (k0_h7 : k0_cond7 v343 = 1#1), ∀ a, (k0_off34 v1_0 k0_t2) a + S1x1792x512.size a ≤ S3x1792x512.size a) ∧
  (∀ (k0_h6 : k0_cond6 v1_0 k0_t2 = 1#1), ∀ (k0_h7 : k0_cond7 v343 = 1#1), ∀ a, (k0_off35 v1_0 k0_t2 v343) a + S1x1792x512.size a ≤ S17x1792x2048.size a) ∧
  (∀ (k0_h6 : k0_cond6 v1_0 k0_t2 = 1#1), ∀ (k0_h7 : k0_cond7 v343 = 1#1), ∀ (hinb : ∀ a, (k0_off35 v1_0 k0_t2 v343) a + S1x1792x512.size a ≤ S17x1792x2048.size a), (Rect.unit (s := S17x1792x2048) (k0_off35 v1_0 k0_t2 v343) S1x1792x512.size hinb).WholeWords (EltTy.packing .i8)) ∧
  (∀ (k0_h6 : k0_cond6 v1_0 k0_t2 = 1#1), ∀ (k0_h7 : k0_cond7 v343 = 1#1), ∀ (hinb : ∀ a, (k0_off34 v1_0 k0_t2) a + S1x1792x512.size a ≤ S3x1792x512.size a), (Rect.unit (s := S3x1792x512) (k0_off34 v1_0 k0_t2) S1x1792x512.size hinb).WholeWords (EltTy.packing .i8))
theorem k0_off33_inb : ∀ (v1_0 : BitVec 32) (k0_t2 : Fin (k0_t2_loop v1_0).trips) (v343 : BitVec 32) (k0_hw8 : k0_chk8 v1_0 k0_t2 v343), ∀ (k0_h6 : k0_cond6 v1_0 k0_t2 = 1#1), ∀ (k0_h7 : k0_cond7 v343 = 1#1), ∀ a, (k0_off33 v1_0 k0_t2) a + S1x1.size a ≤ S3x3.size a := fun v1_0 k0_t2 v343 k0_hw8 k0_h6 k0_h7 => k0_hw8.1 k0_h6 k0_h7
theorem k0_off34_inb : ∀ (v1_0 : BitVec 32) (k0_t2 : Fin (k0_t2_loop v1_0).trips) (v343 : BitVec 32) (k0_hw8 : k0_chk8 v1_0 k0_t2 v343), ∀ (k0_h6 : k0_cond6 v1_0 k0_t2 = 1#1), ∀ (k0_h7 : k0_cond7 v343 = 1#1), ∀ a, (k0_off34 v1_0 k0_t2) a + S1x1792x512.size a ≤ S3x1792x512.size a := fun v1_0 k0_t2 v343 k0_hw8 k0_h6 k0_h7 => k0_hw8.2.1 k0_h6 k0_h7
theorem k0_off35_inb : ∀ (v1_0 : BitVec 32) (k0_t2 : Fin (k0_t2_loop v1_0).trips) (v343 : BitVec 32) (k0_hw8 : k0_chk8 v1_0 k0_t2 v343), ∀ (k0_h6 : k0_cond6 v1_0 k0_t2 = 1#1), ∀ (k0_h7 : k0_cond7 v343 = 1#1), ∀ a, (k0_off35 v1_0 k0_t2 v343) a + S1x1792x512.size a ≤ S17x1792x2048.size a := fun v1_0 k0_t2 v343 k0_hw8 k0_h6 k0_h7 => k0_hw8.2.2.1 k0_h6 k0_h7
theorem k0_off35_wordsi8 : ∀ (v1_0 : BitVec 32) (k0_t2 : Fin (k0_t2_loop v1_0).trips) (v343 : BitVec 32) (k0_hw8 : k0_chk8 v1_0 k0_t2 v343), ∀ (k0_h6 : k0_cond6 v1_0 k0_t2 = 1#1), ∀ (k0_h7 : k0_cond7 v343 = 1#1), (Rect.unit (s := S17x1792x2048) (k0_off35 v1_0 k0_t2 v343) S1x1792x512.size (k0_off35_inb v1_0 k0_t2 v343 k0_hw8 k0_h6 k0_h7)).WholeWords (EltTy.packing .i8) := fun v1_0 k0_t2 v343 k0_hw8 k0_h6 k0_h7 => k0_hw8.2.2.2.1 k0_h6 k0_h7 (k0_off35_inb v1_0 k0_t2 v343 k0_hw8 k0_h6 k0_h7)
theorem k0_off34_wordsi8 : ∀ (v1_0 : BitVec 32) (k0_t2 : Fin (k0_t2_loop v1_0).trips) (v343 : BitVec 32) (k0_hw8 : k0_chk8 v1_0 k0_t2 v343), ∀ (k0_h6 : k0_cond6 v1_0 k0_t2 = 1#1), ∀ (k0_h7 : k0_cond7 v343 = 1#1), (Rect.unit (s := S3x1792x512) (k0_off34 v1_0 k0_t2) S1x1792x512.size (k0_off34_inb v1_0 k0_t2 v343 k0_hw8 k0_h6 k0_h7)).WholeWords (EltTy.packing .i8) := fun v1_0 k0_t2 v343 k0_hw8 k0_h6 k0_h7 => k0_hw8.2.2.2.2 k0_h6 k0_h7 (k0_off34_inb v1_0 k0_t2 v343 k0_hw8 k0_h6 k0_h7)

def k0_off36 (v1_0 : BitVec 32) (k0_t2 : Fin (k0_t2_loop v1_0).trips) : Fin 1 → Nat :=
  let c0_i32_129 : BitVec 32 := 0#32
  let c1_i32_132 : BitVec 32 := 1#32
  let arg16 : BitVec 32 := Scf.iv c0_i32_129 c1_i32_132 k0_t2
  let c0_i32_150 : BitVec 32 := 0#32
  let v251 : BitVec 1 := Scalar.cmpi .sgt arg16 c0_i32_150
  let v252 : BitVec 32 := Scalar.extui v251
  let c0_i32_151 : BitVec 32 := 0#32
  let v253 : BitVec 1 := Scalar.cmpi .slt arg16 c0_i32_151
  let v254 : BitVec 32 := Scalar.extui v253
  let v255 : BitVec 32 := Scalar.subi v252 v254
  let c4_i32_149 : BitVec 32 := 4#32
  let c0_i32_152 : BitVec 32 := 0#32
  let v256 : BitVec 1 := Scalar.cmpi .sgt c4_i32_149 c0_i32_152
  let v257 : BitVec 32 := Scalar.extui v256
  let c0_i32_153 : BitVec 32 := 0#32
  let v258 : BitVec 1 := Scalar.cmpi .slt c4_i32_149 c0_i32_153
  let v259 : BitVec 32 := Scalar.extui v258
  let v260 : BitVec 32 := Scalar.subi v257 v259
  let v261 : BitVec 1 := Scalar.cmpi .ne v255 v260
  let v262 : BitVec 32 := Scalar.remsi arg16 c4_i32_149
  let c0_i32_154 : BitVec 32 := 0#32
  let v263 : BitVec 1 := Scalar.cmpi .ne v262 c0_i32_154
  let v264 : BitVec 1 := Scalar.andi v261 v263
  let v250 : BitVec 32 := Scalar.divsi arg16 c4_i32_149
  let c1_i32_155 : BitVec 32 := 1#32
  let v265 : BitVec 32 := Scalar.subi v250 c1_i32_155
  let v266 : BitVec 32 := Scalar.select v264 v265 v250
  let v267 : Index := Scalar.indexCast v266
  ![v267.toNat]
def k0_mult4 (v1_0 : BitVec 32) (k0_t2 : Fin (k0_t2_loop v1_0).trips) : BitVec 32 :=
  let c0_i32_129 : BitVec 32 := 0#32
  let c1_i32_132 : BitVec 32 := 1#32
  let arg16 : BitVec 32 := Scf.iv c0_i32_129 c1_i32_132 k0_t2
  let c4_i32_156 : BitVec 32 := 4#32
  let v269 : BitVec 32 := Scalar.remsi arg16 c4_i32_156
  let c512_i32 : BitVec 32 := 512#32
  let v270 : BitVec 32 := Scalar.muli v269 c512_i32
  v270
def k0_off37 (v268 : BitVec 32) : Fin 1 → Nat :=
  let v272 : Index := Scalar.indexCast v268
  ![v272.toNat]

def k0_off38 (v1_0 : BitVec 32) (k0_t2 : Fin (k0_t2_loop v1_0).trips) : Fin 2 → Nat :=
  let c0_i32_158 : BitVec 32 := 0#32
  let c0_i32_129 : BitVec 32 := 0#32
  let c1_i32_132 : BitVec 32 := 1#32
  let arg16 : BitVec 32 := Scf.iv c0_i32_129 c1_i32_132 k0_t2
  let c3_i32_148 : BitVec 32 := 3#32
  let v249 : BitVec 32 := Scalar.remsi arg16 c3_i32_148
  ![0, v249.toNat]
def k0_off39 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_148 : BitVec 32 := 3#32
  let v249 : BitVec 32 := Scalar.remsi arg16 c3_i32_148
  let c0_i32_159 : BitVec 32 := 0#32
  let c0_i32_160 : BitVec 32 := 0#32
  ![v249.toNat, 0, 0]
def k0_off40 (v1_0 : BitVec 32) (k0_t2 : Fin (k0_t2_loop v1_0).trips) (v268 : BitVec 32) : Fin 3 → Nat :=
  let c0_i32_161 : BitVec 32 := 0#32
  let c0_i32_129 : BitVec 32 := 0#32
  let c1_i32_132 : BitVec 32 := 1#32
  let arg16 : BitVec 32 := Scf.iv c0_i32_129 c1_i32_132 k0_t2
  let c4_i32_156 : BitVec 32 := 4#32
  let v269 : BitVec 32 := Scalar.remsi arg16 c4_i32_156
  let c512_i32 : BitVec 32 := 512#32
  let v270 : BitVec 32 := Scalar.muli v269 c512_i32
  let v271 : BitVec 32 := v270
  ![v268.toNat, 0, v271.toNat]
def k0_off41 (v1_0 : BitVec 32) (k0_t2 : Fin (k0_t2_loop v1_0).trips) : Fin 2 → Nat :=
  let c1_i32_162 : BitVec 32 := 1#32
  let c0_i32_129 : BitVec 32 := 0#32
  let c1_i32_132 : BitVec 32 := 1#32
  let arg16 : BitVec 32 := Scf.iv c0_i32_129 c1_i32_132 k0_t2
  let c3_i32_148 : BitVec 32 := 3#32
  let v249 : BitVec 32 := Scalar.remsi arg16 c3_i32_148
  ![1, v249.toNat]
def k0_off42 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_148 : BitVec 32 := 3#32
  let v249 : BitVec 32 := Scalar.remsi arg16 c3_i32_148
  let c0_i32_163 : BitVec 32 := 0#32
  let c0_i32_164 : BitVec 32 := 0#32
  ![v249.toNat, 0, 0]
def k0_off43 (v1_0 : BitVec 32) (k0_t2 : Fin (k0_t2_loop v1_0).trips) (v268 : BitVec 32) : Fin 3 → Nat :=
  let c0_i32_165 : BitVec 32 := 0#32
  let c0_i32_129 : BitVec 32 := 0#32
  let c1_i32_132 : BitVec 32 := 1#32
  let arg16 : BitVec 32 := Scf.iv c0_i32_129 c1_i32_132 k0_t2
  let c4_i32_156 : BitVec 32 := 4#32
  let v269 : BitVec 32 := Scalar.remsi arg16 c4_i32_156
  let c512_i32 : BitVec 32 := 512#32
  let v270 : BitVec 32 := Scalar.muli v269 c512_i32
  let v271 : BitVec 32 := v270
  ![v268.toNat, 0, v271.toNat]

def k0_chk9 (v1_0 : BitVec 32) (k0_t2 : Fin (k0_t2_loop v1_0).trips) (v268 : BitVec 32) : Prop :=
  (∀ a, (k0_off37 v268) a + S1.size a ≤ S27.size a) ∧
  (∀ a, (k0_off40 v1_0 k0_t2 v268) a + S1x1792x512.size a ≤ S27x1792x2048.size a) ∧
  (∀ (hinb : ∀ a, (k0_off40 v1_0 k0_t2 v268) a + S1x1792x512.size a ≤ S27x1792x2048.size a), (Rect.unit (s := S27x1792x2048) (k0_off40 v1_0 k0_t2 v268) S1x1792x512.size hinb).WholeWords (EltTy.packing .i8)) ∧
  (∀ a, (k0_off43 v1_0 k0_t2 v268) a + S1x112x512.size a ≤ S27x112x2048.size a)
theorem k0_off37_inb : ∀ (v1_0 : BitVec 32) (k0_t2 : Fin (k0_t2_loop v1_0).trips) (v268 : BitVec 32) (k0_hw9 : k0_chk9 v1_0 k0_t2 v268), ∀ a, (k0_off37 v268) a + S1.size a ≤ S27.size a := fun v1_0 k0_t2 v268 k0_hw9 => k0_hw9.1
theorem k0_off40_inb : ∀ (v1_0 : BitVec 32) (k0_t2 : Fin (k0_t2_loop v1_0).trips) (v268 : BitVec 32) (k0_hw9 : k0_chk9 v1_0 k0_t2 v268), ∀ a, (k0_off40 v1_0 k0_t2 v268) a + S1x1792x512.size a ≤ S27x1792x2048.size a := fun v1_0 k0_t2 v268 k0_hw9 => k0_hw9.2.1
theorem k0_off40_wordsi8 : ∀ (v1_0 : BitVec 32) (k0_t2 : Fin (k0_t2_loop v1_0).trips) (v268 : BitVec 32) (k0_hw9 : k0_chk9 v1_0 k0_t2 v268), (Rect.unit (s := S27x1792x2048) (k0_off40 v1_0 k0_t2 v268) S1x1792x512.size (k0_off40_inb v1_0 k0_t2 v268 k0_hw9)).WholeWords (EltTy.packing .i8) := fun v1_0 k0_t2 v268 k0_hw9 => k0_hw9.2.2.1 (k0_off40_inb v1_0 k0_t2 v268 k0_hw9)
theorem k0_off43_inb : ∀ (v1_0 : BitVec 32) (k0_t2 : Fin (k0_t2_loop v1_0).trips) (v268 : BitVec 32) (k0_hw9 : k0_chk9 v1_0 k0_t2 v268), ∀ a, (k0_off43 v1_0 k0_t2 v268) a + S1x112x512.size a ≤ S27x112x2048.size a := fun v1_0 k0_t2 v268 k0_hw9 => k0_hw9.2.2.2

def k0_off44 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v287 : Index := Scalar.indexCast v231
  let c0_166 : Index := 0#32
  let c0_167 : Index := 0#32
  ![v287.toNat, 0, 0]
def k0_off45 (v1_0 : BitVec 32) (k0_t2 : Fin (k0_t2_loop v1_0).trips) : Fin 1 → Nat :=
  let c0_i32_129 : BitVec 32 := 0#32
  let c1_i32_132 : BitVec 32 := 1#32
  let arg16 : BitVec 32 := Scf.iv c0_i32_129 c1_i32_132 k0_t2
  let c0_i32_142 : BitVec 32 := 0#32
  let v233 : BitVec 1 := Scalar.cmpi .sgt arg16 c0_i32_142
  let v234 : BitVec 32 := Scalar.extui v233
  let c0_i32_143 : BitVec 32 := 0#32
  let v235 : BitVec 1 := Scalar.cmpi .slt arg16 c0_i32_143
  let v236 : BitVec 32 := Scalar.extui v235
  let v237 : BitVec 32 := Scalar.subi v234 v236
  let c4_i32_141 : BitVec 32 := 4#32
  let c0_i32_144 : BitVec 32 := 0#32
  let v238 : BitVec 1 := Scalar.cmpi .sgt c4_i32_141 c0_i32_144
  let v239 : BitVec 32 := Scalar.extui v238
  let c0_i32_145 : BitVec 32 := 0#32
  let v240 : BitVec 1 := Scalar.cmpi .slt c4_i32_141 c0_i32_145
  let v241 : BitVec 32 := Scalar.extui v240
  let v242 : BitVec 32 := Scalar.subi v239 v241
  let v243 : BitVec 1 := Scalar.cmpi .ne v237 v242
  let v244 : BitVec 32 := Scalar.remsi arg16 c4_i32_141
  let c0_i32_146 : BitVec 32 := 0#32
  let v245 : BitVec 1 := Scalar.cmpi .ne v244 c0_i32_146
  let v246 : BitVec 1 := Scalar.andi v243 v245
  let v232 : BitVec 32 := Scalar.divsi arg16 c4_i32_141
  let c1_i32_147 : BitVec 32 := 1#32
  let v247 : BitVec 32 := Scalar.subi v232 c1_i32_147
  let v248 : BitVec 32 := Scalar.select v246 v247 v232
  let v297 : Index := Scalar.indexCast v248
  ![v297.toNat]
def k0_off46 (v300 : BitVec 32) : Fin 1 → Nat :=
  let v301 : Index := Scalar.indexCast v300
  ![v301.toNat]

def k0_chk10 (v300 : BitVec 32) : Prop :=
  (∀ a, (k0_off46 v300) a + S1.size a ≤ S27.size a)
theorem k0_off46_inb : ∀ (v300 : BitVec 32) (k0_hw10 : k0_chk10 v300), ∀ a, (k0_off46 v300) a + S1.size a ≤ S27.size a := fun v300 k0_hw10 => k0_hw10

def k0_mult5 (v1_0 : BitVec 32) (k0_t2 : Fin (k0_t2_loop v1_0).trips) : BitVec 32 :=
  let c0_i32_129 : BitVec 32 := 0#32
  let c1_i32_132 : BitVec 32 := 1#32
  let arg16 : BitVec 32 := Scf.iv c0_i32_129 c1_i32_132 k0_t2
  let c4_i32_171 : BitVec 32 := 4#32
  let v310 : BitVec 32 := Scalar.remsi arg16 c4_i32_171
  let c512_i32_172 : BitVec 32 := 512#32
  let v311 : BitVec 32 := Scalar.muli v310 c512_i32_172
  v311
def k0_off47 (v1_0 : BitVec 32) (k0_t2 : Fin (k0_t2_loop v1_0).trips) : Fin 2 → Nat :=
  let c2_i32_174 : BitVec 32 := 2#32
  let c0_i32_129 : BitVec 32 := 0#32
  let c1_i32_132 : BitVec 32 := 1#32
  let arg16 : BitVec 32 := Scf.iv c0_i32_129 c1_i32_132 k0_t2
  let c3_i32_148 : BitVec 32 := 3#32
  let v249 : BitVec 32 := Scalar.remsi arg16 c3_i32_148
  ![2, v249.toNat]
def k0_cond8 (v273 : BitVec 32) : BitVec 1 :=
  let c0_i32_173 : BitVec 32 := 0#32
  let v313 : BitVec 1 := Scalar.cmpi .sge v273 c0_i32_173
  let v314 : BitVec 32 := Scalar.extui v313
  let c0_i32_175 : BitVec 32 := 0#32
  let v315 : BitVec 1 := Scalar.cmpi .ne v314 c0_i32_175
  v315

def k0_off48 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_148 : BitVec 32 := 3#32
  let v249 : BitVec 32 := Scalar.remsi arg16 c3_i32_148
  let c0_i32_179 : BitVec 32 := 0#32
  let c0_i32_180 : BitVec 32 := 0#32
  ![v249.toNat, 0, 0]
def k0_off49 (v1_0 : BitVec 32) (k0_t2 : Fin (k0_t2_loop v1_0).trips) (v273 : BitVec 32) : Fin 3 → Nat :=
  let c0_i32_157 : BitVec 32 := 0#32
  let v274 : BitVec 32 := Scalar.maxsi v273 c0_i32_157
  let c0_i32_181 : BitVec 32 := 0#32
  let c0_i32_129 : BitVec 32 := 0#32
  let c1_i32_132 : BitVec 32 := 1#32
  let arg16 : BitVec 32 := Scf.iv c0_i32_129 c1_i32_132 k0_t2
  let c4_i32_156 : BitVec 32 := 4#32
  let v269 : BitVec 32 := Scalar.remsi arg16 c4_i32_156
  let c512_i32 : BitVec 32 := 512#32
  let v270 : BitVec 32 := Scalar.muli v269 c512_i32
  let v271 : BitVec 32 := v270
  ![v274.toNat, 0, v271.toNat]
def k0_off50 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v325 : Index := Scalar.indexCast v231
  let c0_182 : Index := 0#32
  let c0_183 : Index := 0#32
  ![v325.toNat, 0, 0]
def k0_off51 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v411 : Index := Scalar.indexCast v231
  let c64 : Index := 64#32
  let c0_206 : Index := 0#32
  ![v411.toNat, 64, 0]
def k0_off52 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v497 : Index := Scalar.indexCast v231
  let c128 : Index := 128#32
  let c0_230 : Index := 0#32
  ![v497.toNat, 128, 0]
def k0_off53 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v583 : Index := Scalar.indexCast v231
  let c192 : Index := 192#32
  let c0_254 : Index := 0#32
  ![v583.toNat, 192, 0]
def k0_off54 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v669 : Index := Scalar.indexCast v231
  let c256_278 : Index := 256#32
  let c0_279 : Index := 0#32
  ![v669.toNat, 256, 0]
def k0_off55 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v755 : Index := Scalar.indexCast v231
  let c320 : Index := 320#32
  let c0_303 : Index := 0#32
  ![v755.toNat, 320, 0]
def k0_off56 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v841 : Index := Scalar.indexCast v231
  let c384 : Index := 384#32
  let c0_327 : Index := 0#32
  ![v841.toNat, 384, 0]
def k0_off57 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v930 : Index := Scalar.indexCast v231
  let c448 : Index := 448#32
  let c0_354 : Index := 0#32
  ![v930.toNat, 448, 0]
def k0_off58 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1016 : Index := Scalar.indexCast v231
  let c512_378 : Index := 512#32
  let c0_379 : Index := 0#32
  ![v1016.toNat, 512, 0]
def k0_off59 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1102 : Index := Scalar.indexCast v231
  let c576 : Index := 576#32
  let c0_403 : Index := 0#32
  ![v1102.toNat, 576, 0]
def k0_off60 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1188 : Index := Scalar.indexCast v231
  let c640 : Index := 640#32
  let c0_427 : Index := 0#32
  ![v1188.toNat, 640, 0]
def k0_off61 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1274 : Index := Scalar.indexCast v231
  let c704 : Index := 704#32
  let c0_451 : Index := 0#32
  ![v1274.toNat, 704, 0]
def k0_off62 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1360 : Index := Scalar.indexCast v231
  let c768_475 : Index := 768#32
  let c0_476 : Index := 0#32
  ![v1360.toNat, 768, 0]
def k0_off63 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1446 : Index := Scalar.indexCast v231
  let c832 : Index := 832#32
  let c0_500 : Index := 0#32
  ![v1446.toNat, 832, 0]
def k0_off64 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1536 : Index := Scalar.indexCast v231
  let c896 : Index := 896#32
  let c0_527 : Index := 0#32
  ![v1536.toNat, 896, 0]
def k0_off65 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1622 : Index := Scalar.indexCast v231
  let c960 : Index := 960#32
  let c0_551 : Index := 0#32
  ![v1622.toNat, 960, 0]
def k0_off66 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1708 : Index := Scalar.indexCast v231
  let c1024_575 : Index := 1024#32
  let c0_576 : Index := 0#32
  ![v1708.toNat, 1024, 0]
def k0_off67 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1794 : Index := Scalar.indexCast v231
  let c1088 : Index := 1088#32
  let c0_601 : Index := 0#32
  ![v1794.toNat, 1088, 0]
def k0_off68 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1880 : Index := Scalar.indexCast v231
  let c1152 : Index := 1152#32
  let c0_625 : Index := 0#32
  ![v1880.toNat, 1152, 0]
def k0_off69 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1966 : Index := Scalar.indexCast v231
  let c1216 : Index := 1216#32
  let c0_649 : Index := 0#32
  ![v1966.toNat, 1216, 0]
def k0_off70 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2052 : Index := Scalar.indexCast v231
  let c1280_673 : Index := 1280#32
  let c0_674 : Index := 0#32
  ![v2052.toNat, 1280, 0]
def k0_off71 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2142 : Index := Scalar.indexCast v231
  let c1344 : Index := 1344#32
  let c0_701 : Index := 0#32
  ![v2142.toNat, 1344, 0]
def k0_off72 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2228 : Index := Scalar.indexCast v231
  let c1408 : Index := 1408#32
  let c0_725 : Index := 0#32
  ![v2228.toNat, 1408, 0]
def k0_off73 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2314 : Index := Scalar.indexCast v231
  let c1472 : Index := 1472#32
  let c0_749 : Index := 0#32
  ![v2314.toNat, 1472, 0]
def k0_off74 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2400 : Index := Scalar.indexCast v231
  let c1536_773 : Index := 1536#32
  let c0_774 : Index := 0#32
  ![v2400.toNat, 1536, 0]
def k0_off75 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2486 : Index := Scalar.indexCast v231
  let c1600 : Index := 1600#32
  let c0_798 : Index := 0#32
  ![v2486.toNat, 1600, 0]
def k0_off76 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2572 : Index := Scalar.indexCast v231
  let c1664 : Index := 1664#32
  let c0_822 : Index := 0#32
  ![v2572.toNat, 1664, 0]
def k0_off77 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2658 : Index := Scalar.indexCast v231
  let c1728 : Index := 1728#32
  let c0_846 : Index := 0#32
  ![v2658.toNat, 1728, 0]
def k0_off78 (v1_0 : BitVec 32) (k0_t2 : Fin (k0_t2_loop v1_0).trips) : Fin 2 → Nat :=
  let c0_873 : Index := 0#32
  let c0_i32_129 : BitVec 32 := 0#32
  let c1_i32_132 : BitVec 32 := 1#32
  let arg16 : BitVec 32 := Scf.iv c0_i32_129 c1_i32_132 k0_t2
  let c4_i32_171 : BitVec 32 := 4#32
  let v310 : BitVec 32 := Scalar.remsi arg16 c4_i32_171
  let c512_i32_172 : BitVec 32 := 512#32
  let v311 : BitVec 32 := Scalar.muli v310 c512_i32_172
  let v312 : BitVec 32 := v311
  let v2748 : Index := Scalar.indexCast v312
  ![0, v2748.toNat]
def k0_off79 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v319 : Index := Scalar.indexCast v231
  let c0_179 : Index := 0#32
  let c0_180 : Index := 0#32
  ![v319.toNat, 0, 0]
def k0_cond9 (v273 : BitVec 32) : BitVec 1 :=
  let c0_i32_176 : BitVec 32 := 0#32
  let v316 : BitVec 1 := Scalar.cmpi .slt v273 c0_i32_176
  let v317 : BitVec 32 := Scalar.extui v316
  let c0_i32_177 : BitVec 32 := 0#32
  let v318 : BitVec 1 := Scalar.cmpi .ne v317 c0_i32_177
  v318

def k0_off80 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v402 : Index := Scalar.indexCast v231
  let c64 : Index := 64#32
  let c0_202 : Index := 0#32
  ![v402.toNat, 64, 0]
def k0_off81 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v485 : Index := Scalar.indexCast v231
  let c128 : Index := 128#32
  let c0_226 : Index := 0#32
  ![v485.toNat, 128, 0]
def k0_off82 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v568 : Index := Scalar.indexCast v231
  let c192 : Index := 192#32
  let c0_250 : Index := 0#32
  ![v568.toNat, 192, 0]
def k0_off83 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v651 : Index := Scalar.indexCast v231
  let c256_274 : Index := 256#32
  let c0_275 : Index := 0#32
  ![v651.toNat, 256, 0]
def k0_off84 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v734 : Index := Scalar.indexCast v231
  let c320 : Index := 320#32
  let c0_299 : Index := 0#32
  ![v734.toNat, 320, 0]
def k0_off85 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v817 : Index := Scalar.indexCast v231
  let c384 : Index := 384#32
  let c0_323 : Index := 0#32
  ![v817.toNat, 384, 0]
def k0_off86 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v903 : Index := Scalar.indexCast v231
  let c448 : Index := 448#32
  let c0_350 : Index := 0#32
  ![v903.toNat, 448, 0]
def k0_off87 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v986 : Index := Scalar.indexCast v231
  let c512_374 : Index := 512#32
  let c0_375 : Index := 0#32
  ![v986.toNat, 512, 0]
def k0_off88 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1069 : Index := Scalar.indexCast v231
  let c576 : Index := 576#32
  let c0_399 : Index := 0#32
  ![v1069.toNat, 576, 0]
def k0_off89 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1152 : Index := Scalar.indexCast v231
  let c640 : Index := 640#32
  let c0_423 : Index := 0#32
  ![v1152.toNat, 640, 0]
def k0_off90 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1235 : Index := Scalar.indexCast v231
  let c704 : Index := 704#32
  let c0_447 : Index := 0#32
  ![v1235.toNat, 704, 0]
def k0_off91 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1318 : Index := Scalar.indexCast v231
  let c768_471 : Index := 768#32
  let c0_472 : Index := 0#32
  ![v1318.toNat, 768, 0]
def k0_off92 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1401 : Index := Scalar.indexCast v231
  let c832 : Index := 832#32
  let c0_496 : Index := 0#32
  ![v1401.toNat, 832, 0]
def k0_off93 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1488 : Index := Scalar.indexCast v231
  let c896 : Index := 896#32
  let c0_523 : Index := 0#32
  ![v1488.toNat, 896, 0]
def k0_off94 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1571 : Index := Scalar.indexCast v231
  let c960 : Index := 960#32
  let c0_547 : Index := 0#32
  ![v1571.toNat, 960, 0]
def k0_off95 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1654 : Index := Scalar.indexCast v231
  let c1024_571 : Index := 1024#32
  let c0_572 : Index := 0#32
  ![v1654.toNat, 1024, 0]
def k0_off96 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1737 : Index := Scalar.indexCast v231
  let c1088 : Index := 1088#32
  let c0_597 : Index := 0#32
  ![v1737.toNat, 1088, 0]
def k0_off97 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1820 : Index := Scalar.indexCast v231
  let c1152 : Index := 1152#32
  let c0_621 : Index := 0#32
  ![v1820.toNat, 1152, 0]
def k0_off98 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1903 : Index := Scalar.indexCast v231
  let c1216 : Index := 1216#32
  let c0_645 : Index := 0#32
  ![v1903.toNat, 1216, 0]
def k0_off99 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v1986 : Index := Scalar.indexCast v231
  let c1280_669 : Index := 1280#32
  let c0_670 : Index := 0#32
  ![v1986.toNat, 1280, 0]
def k0_off100 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2073 : Index := Scalar.indexCast v231
  let c1344 : Index := 1344#32
  let c0_697 : Index := 0#32
  ![v2073.toNat, 1344, 0]
def k0_off101 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2156 : Index := Scalar.indexCast v231
  let c1408 : Index := 1408#32
  let c0_721 : Index := 0#32
  ![v2156.toNat, 1408, 0]
def k0_off102 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2239 : Index := Scalar.indexCast v231
  let c1472 : Index := 1472#32
  let c0_745 : Index := 0#32
  ![v2239.toNat, 1472, 0]
def k0_off103 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2322 : Index := Scalar.indexCast v231
  let c1536_769 : Index := 1536#32
  let c0_770 : Index := 0#32
  ![v2322.toNat, 1536, 0]
def k0_off104 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2405 : Index := Scalar.indexCast v231
  let c1600 : Index := 1600#32
  let c0_794 : Index := 0#32
  ![v2405.toNat, 1600, 0]
def k0_off105 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2488 : Index := Scalar.indexCast v231
  let c1664 : Index := 1664#32
  let c0_818 : Index := 0#32
  ![v2488.toNat, 1664, 0]
def k0_off106 (v1_0 : BitVec 32) (k0_t2 : Fin (k0_t2_loop v1_0).trips) : Fin 3 → Nat :=
  let c0_i32_129 : BitVec 32 := 0#32
  let c1_i32_132 : BitVec 32 := 1#32
  let arg16 : BitVec 32 := Scf.iv c0_i32_129 c1_i32_132 k0_t2
  let c3_i32_140 : BitVec 32 := 3#32
  let v231 : BitVec 32 := Scalar.remsi arg16 c3_i32_140
  let v2571 : Index := Scalar.indexCast v231
  let c1728 : Index := 1728#32
  let c0_842 : Index := 0#32
  ![v2571.toNat, 1728, 0]
def k0_off107 (v1_0 : BitVec 32) (k0_t2 : Fin (k0_t2_loop v1_0).trips) : Fin 2 → Nat :=
  let c0_869 : Index := 0#32
  let c0_i32_129 : BitVec 32 := 0#32
  let c1_i32_132 : BitVec 32 := 1#32
  let arg16 : BitVec 32 := Scf.iv c0_i32_129 c1_i32_132 k0_t2
  let c4_i32_171 : BitVec 32 := 4#32
  let v310 : BitVec 32 := Scalar.remsi arg16 c4_i32_171
  let c512_i32_172 : BitVec 32 := 512#32
  let v311 : BitVec 32 := Scalar.muli v310 c512_i32_172
  let v312 : BitVec 32 := v311
  let v2658 : Index := Scalar.indexCast v312
  ![0, v2658.toNat]

def k0_chk11_0 (v1_0 : BitVec 32) (k0_t2 : Fin (k0_t2_loop v1_0).trips) (v273 : BitVec 32) : Prop :=
  (∀ (k0_h8 : k0_cond8 v273 = 1#1), ∀ a, (k0_off47 v1_0 k0_t2) a + S1x1.size a ≤ S3x3.size a) ∧
  (∀ (k0_h8 : k0_cond8 v273 = 1#1), ∀ a, (k0_off48 v1_0 k0_t2) a + S1x1792x512.size a ≤ S3x1792x512.size a) ∧
  (∀ (k0_h8 : k0_cond8 v273 = 1#1), ∀ a, (k0_off49 v1_0 k0_t2 v273) a + S1x1792x512.size a ≤ S17x1792x2048.size a) ∧
  (∀ (k0_h8 : k0_cond8 v273 = 1#1), ∀ (hinb : ∀ a, (k0_off49 v1_0 k0_t2 v273) a + S1x1792x512.size a ≤ S17x1792x2048.size a), (Rect.unit (s := S17x1792x2048) (k0_off49 v1_0 k0_t2 v273) S1x1792x512.size hinb).WholeWords (EltTy.packing .i8)) ∧
  (∀ (k0_h8 : k0_cond8 v273 = 1#1), ∀ (hinb : ∀ a, (k0_off48 v1_0 k0_t2) a + S1x1792x512.size a ≤ S3x1792x512.size a), (Rect.unit (s := S3x1792x512) (k0_off48 v1_0 k0_t2) S1x1792x512.size hinb).WholeWords (EltTy.packing .i8)) ∧
  (∀ (k0_h8 : k0_cond8 v273 = 1#1), ∀ a, (k0_off50 v1_0 k0_t2) a + S1x64x512.size a ≤ S3x1792x512.size a) ∧
  (∀ (k0_h8 : k0_cond8 v273 = 1#1), ∀ a, (k0_off51 v1_0 k0_t2) a + S1x64x512.size a ≤ S3x1792x512.size a) ∧
  (∀ (k0_h8 : k0_cond8 v273 = 1#1), ∀ a, (k0_off52 v1_0 k0_t2) a + S1x64x512.size a ≤ S3x1792x512.size a) ∧
  (∀ (k0_h8 : k0_cond8 v273 = 1#1), ∀ a, (k0_off53 v1_0 k0_t2) a + S1x64x512.size a ≤ S3x1792x512.size a) ∧
  (∀ (k0_h8 : k0_cond8 v273 = 1#1), ∀ a, (k0_off54 v1_0 k0_t2) a + S1x64x512.size a ≤ S3x1792x512.size a) ∧
  (∀ (k0_h8 : k0_cond8 v273 = 1#1), ∀ a, (k0_off55 v1_0 k0_t2) a + S1x64x512.size a ≤ S3x1792x512.size a) ∧
  (∀ (k0_h8 : k0_cond8 v273 = 1#1), ∀ a, (k0_off56 v1_0 k0_t2) a + S1x64x512.size a ≤ S3x1792x512.size a) ∧
  (∀ (k0_h8 : k0_cond8 v273 = 1#1), ∀ a, (k0_off57 v1_0 k0_t2) a + S1x64x512.size a ≤ S3x1792x512.size a) ∧
  (∀ (k0_h8 : k0_cond8 v273 = 1#1), ∀ a, (k0_off58 v1_0 k0_t2) a + S1x64x512.size a ≤ S3x1792x512.size a) ∧
  (∀ (k0_h8 : k0_cond8 v273 = 1#1), ∀ a, (k0_off59 v1_0 k0_t2) a + S1x64x512.size a ≤ S3x1792x512.size a) ∧
  (∀ (k0_h8 : k0_cond8 v273 = 1#1), ∀ a, (k0_off60 v1_0 k0_t2) a + S1x64x512.size a ≤ S3x1792x512.size a) ∧
  (∀ (k0_h8 : k0_cond8 v273 = 1#1), ∀ a, (k0_off61 v1_0 k0_t2) a + S1x64x512.size a ≤ S3x1792x512.size a) ∧
  (∀ (k0_h8 : k0_cond8 v273 = 1#1), ∀ a, (k0_off62 v1_0 k0_t2) a + S1x64x512.size a ≤ S3x1792x512.size a) ∧
  (∀ (k0_h8 : k0_cond8 v273 = 1#1), ∀ a, (k0_off63 v1_0 k0_t2) a + S1x64x512.size a ≤ S3x1792x512.size a) ∧
  (∀ (k0_h8 : k0_cond8 v273 = 1#1), ∀ a, (k0_off64 v1_0 k0_t2) a + S1x64x512.size a ≤ S3x1792x512.size a) ∧
  (∀ (k0_h8 : k0_cond8 v273 = 1#1), ∀ a, (k0_off65 v1_0 k0_t2) a + S1x64x512.size a ≤ S3x1792x512.size a) ∧
  (∀ (k0_h8 : k0_cond8 v273 = 1#1), ∀ a, (k0_off66 v1_0 k0_t2) a + S1x64x512.size a ≤ S3x1792x512.size a) ∧
  (∀ (k0_h8 : k0_cond8 v273 = 1#1), ∀ a, (k0_off67 v1_0 k0_t2) a + S1x64x512.size a ≤ S3x1792x512.size a) ∧
  (∀ (k0_h8 : k0_cond8 v273 = 1#1), ∀ a, (k0_off68 v1_0 k0_t2) a + S1x64x512.size a ≤ S3x1792x512.size a) ∧
  (∀ (k0_h8 : k0_cond8 v273 = 1#1), ∀ a, (k0_off69 v1_0 k0_t2) a + S1x64x512.size a ≤ S3x1792x512.size a) ∧
  (∀ (k0_h8 : k0_cond8 v273 = 1#1), ∀ a, (k0_off70 v1_0 k0_t2) a + S1x64x512.size a ≤ S3x1792x512.size a) ∧
  (∀ (k0_h8 : k0_cond8 v273 = 1#1), ∀ a, (k0_off71 v1_0 k0_t2) a + S1x64x512.size a ≤ S3x1792x512.size a) ∧
  (∀ (k0_h8 : k0_cond8 v273 = 1#1), ∀ a, (k0_off72 v1_0 k0_t2) a + S1x64x512.size a ≤ S3x1792x512.size a) ∧
  (∀ (k0_h8 : k0_cond8 v273 = 1#1), ∀ a, (k0_off73 v1_0 k0_t2) a + S1x64x512.size a ≤ S3x1792x512.size a) ∧
  (∀ (k0_h8 : k0_cond8 v273 = 1#1), ∀ a, (k0_off74 v1_0 k0_t2) a + S1x64x512.size a ≤ S3x1792x512.size a) ∧
  (∀ (k0_h8 : k0_cond8 v273 = 1#1), ∀ a, (k0_off75 v1_0 k0_t2) a + S1x64x512.size a ≤ S3x1792x512.size a) ∧
  (∀ (k0_h8 : k0_cond8 v273 = 1#1), ∀ a, (k0_off76 v1_0 k0_t2) a + S1x64x512.size a ≤ S3x1792x512.size a)
def k0_chk11_1 (v1_0 : BitVec 32) (k0_t2 : Fin (k0_t2_loop v1_0).trips) (v273 : BitVec 32) : Prop :=
  (∀ (k0_h8 : k0_cond8 v273 = 1#1), ∀ a, (k0_off77 v1_0 k0_t2) a + S1x64x512.size a ≤ S3x1792x512.size a) ∧
  (∀ (k0_h8 : k0_cond8 v273 = 1#1), ∀ a, (k0_off78 v1_0 k0_t2) a + S24x512.size a ≤ S24x2048.size a) ∧
  (∀ (k0_h9 : k0_cond9 v273 = 1#1), ∀ a, (k0_off79 v1_0 k0_t2) a + S1x64x512.size a ≤ S3x1792x512.size a) ∧
  (∀ (k0_h9 : k0_cond9 v273 = 1#1), ∀ a, (k0_off80 v1_0 k0_t2) a + S1x64x512.size a ≤ S3x1792x512.size a) ∧
  (∀ (k0_h9 : k0_cond9 v273 = 1#1), ∀ a, (k0_off81 v1_0 k0_t2) a + S1x64x512.size a ≤ S3x1792x512.size a) ∧
  (∀ (k0_h9 : k0_cond9 v273 = 1#1), ∀ a, (k0_off82 v1_0 k0_t2) a + S1x64x512.size a ≤ S3x1792x512.size a) ∧
  (∀ (k0_h9 : k0_cond9 v273 = 1#1), ∀ a, (k0_off83 v1_0 k0_t2) a + S1x64x512.size a ≤ S3x1792x512.size a) ∧
  (∀ (k0_h9 : k0_cond9 v273 = 1#1), ∀ a, (k0_off84 v1_0 k0_t2) a + S1x64x512.size a ≤ S3x1792x512.size a) ∧
  (∀ (k0_h9 : k0_cond9 v273 = 1#1), ∀ a, (k0_off85 v1_0 k0_t2) a + S1x64x512.size a ≤ S3x1792x512.size a) ∧
  (∀ (k0_h9 : k0_cond9 v273 = 1#1), ∀ a, (k0_off86 v1_0 k0_t2) a + S1x64x512.size a ≤ S3x1792x512.size a) ∧
  (∀ (k0_h9 : k0_cond9 v273 = 1#1), ∀ a, (k0_off87 v1_0 k0_t2) a + S1x64x512.size a ≤ S3x1792x512.size a) ∧
  (∀ (k0_h9 : k0_cond9 v273 = 1#1), ∀ a, (k0_off88 v1_0 k0_t2) a + S1x64x512.size a ≤ S3x1792x512.size a) ∧
  (∀ (k0_h9 : k0_cond9 v273 = 1#1), ∀ a, (k0_off89 v1_0 k0_t2) a + S1x64x512.size a ≤ S3x1792x512.size a) ∧
  (∀ (k0_h9 : k0_cond9 v273 = 1#1), ∀ a, (k0_off90 v1_0 k0_t2) a + S1x64x512.size a ≤ S3x1792x512.size a) ∧
  (∀ (k0_h9 : k0_cond9 v273 = 1#1), ∀ a, (k0_off91 v1_0 k0_t2) a + S1x64x512.size a ≤ S3x1792x512.size a) ∧
  (∀ (k0_h9 : k0_cond9 v273 = 1#1), ∀ a, (k0_off92 v1_0 k0_t2) a + S1x64x512.size a ≤ S3x1792x512.size a) ∧
  (∀ (k0_h9 : k0_cond9 v273 = 1#1), ∀ a, (k0_off93 v1_0 k0_t2) a + S1x64x512.size a ≤ S3x1792x512.size a) ∧
  (∀ (k0_h9 : k0_cond9 v273 = 1#1), ∀ a, (k0_off94 v1_0 k0_t2) a + S1x64x512.size a ≤ S3x1792x512.size a) ∧
  (∀ (k0_h9 : k0_cond9 v273 = 1#1), ∀ a, (k0_off95 v1_0 k0_t2) a + S1x64x512.size a ≤ S3x1792x512.size a) ∧
  (∀ (k0_h9 : k0_cond9 v273 = 1#1), ∀ a, (k0_off96 v1_0 k0_t2) a + S1x64x512.size a ≤ S3x1792x512.size a) ∧
  (∀ (k0_h9 : k0_cond9 v273 = 1#1), ∀ a, (k0_off97 v1_0 k0_t2) a + S1x64x512.size a ≤ S3x1792x512.size a) ∧
  (∀ (k0_h9 : k0_cond9 v273 = 1#1), ∀ a, (k0_off98 v1_0 k0_t2) a + S1x64x512.size a ≤ S3x1792x512.size a) ∧
  (∀ (k0_h9 : k0_cond9 v273 = 1#1), ∀ a, (k0_off99 v1_0 k0_t2) a + S1x64x512.size a ≤ S3x1792x512.size a) ∧
  (∀ (k0_h9 : k0_cond9 v273 = 1#1), ∀ a, (k0_off100 v1_0 k0_t2) a + S1x64x512.size a ≤ S3x1792x512.size a) ∧
  (∀ (k0_h9 : k0_cond9 v273 = 1#1), ∀ a, (k0_off101 v1_0 k0_t2) a + S1x64x512.size a ≤ S3x1792x512.size a) ∧
  (∀ (k0_h9 : k0_cond9 v273 = 1#1), ∀ a, (k0_off102 v1_0 k0_t2) a + S1x64x512.size a ≤ S3x1792x512.size a) ∧
  (∀ (k0_h9 : k0_cond9 v273 = 1#1), ∀ a, (k0_off103 v1_0 k0_t2) a + S1x64x512.size a ≤ S3x1792x512.size a) ∧
  (∀ (k0_h9 : k0_cond9 v273 = 1#1), ∀ a, (k0_off104 v1_0 k0_t2) a + S1x64x512.size a ≤ S3x1792x512.size a) ∧
  (∀ (k0_h9 : k0_cond9 v273 = 1#1), ∀ a, (k0_off105 v1_0 k0_t2) a + S1x64x512.size a ≤ S3x1792x512.size a) ∧
  (∀ (k0_h9 : k0_cond9 v273 = 1#1), ∀ a, (k0_off106 v1_0 k0_t2) a + S1x64x512.size a ≤ S3x1792x512.size a) ∧
  (∀ (k0_h9 : k0_cond9 v273 = 1#1), ∀ a, (k0_off107 v1_0 k0_t2) a + S24x512.size a ≤ S24x2048.size a)
def k0_chk11 (v1_0 : BitVec 32) (k0_t2 : Fin (k0_t2_loop v1_0).trips) (v273 : BitVec 32) : Prop :=
  k0_chk11_0 v1_0 k0_t2 v273 ∧
  k0_chk11_1 v1_0 k0_t2 v273
theorem k0_off47_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off47 v1_0 k0_t2) a + S1x1.size a ≤ S3x3.size a := fun v1_0 k0_t2 v273 k0_hw11 k0_h8 => k0_hw11.1.1 k0_h8
theorem k0_off48_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off48 v1_0 k0_t2) a + S1x1792x512.size a ≤ S3x1792x512.size a := fun v1_0 k0_t2 v273 k0_hw11 k0_h8 => k0_hw11.1.2.1 k0_h8
theorem k0_off49_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off49 v1_0 k0_t2 v273) a + S1x1792x512.size a ≤ S17x1792x2048.size a := fun v1_0 k0_t2 v273 k0_hw11 k0_h8 => k0_hw11.1.2.2.1 k0_h8
theorem k0_off49_wordsi8 : ∀ (v1_0 : BitVec 32) (k0_t2 : Fin (k0_t2_loop v1_0).trips) (v273 : BitVec 32) (k0_hw11 : k0_chk11 v1_0 k0_t2 v273), ∀ (k0_h8 : k0_cond8 v273 = 1#1), (Rect.unit (s := S17x1792x2048) (k0_off49 v1_0 k0_t2 v273) S1x1792x512.size (k0_off49_inb v1_0 k0_t2 v273 k0_hw11 k0_h8)).WholeWords (EltTy.packing .i8) := fun v1_0 k0_t2 v273 k0_hw11 k0_h8 => k0_hw11.1.2.2.2.1 k0_h8 (k0_off49_inb v1_0 k0_t2 v273 k0_hw11 k0_h8)
theorem k0_off48_wordsi8 : ∀ (v1_0 : BitVec 32) (k0_t2 : Fin (k0_t2_loop v1_0).trips) (v273 : BitVec 32) (k0_hw11 : k0_chk11 v1_0 k0_t2 v273), ∀ (k0_h8 : k0_cond8 v273 = 1#1), (Rect.unit (s := S3x1792x512) (k0_off48 v1_0 k0_t2) S1x1792x512.size (k0_off48_inb v1_0 k0_t2 v273 k0_hw11 k0_h8)).WholeWords (EltTy.packing .i8) := fun v1_0 k0_t2 v273 k0_hw11 k0_h8 => k0_hw11.1.2.2.2.2.1 k0_h8 (k0_off48_inb v1_0 k0_t2 v273 k0_hw11 k0_h8)
theorem k0_off50_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off50 v1_0 k0_t2) a + S1x64x512.size a ≤ S3x1792x512.size a := fun v1_0 k0_t2 v273 k0_hw11 k0_h8 => k0_hw11.1.2.2.2.2.2.1 k0_h8
theorem k0_off51_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off51 v1_0 k0_t2) a + S1x64x512.size a ≤ S3x1792x512.size a := fun v1_0 k0_t2 v273 k0_hw11 k0_h8 => k0_hw11.1.2.2.2.2.2.2.1 k0_h8
theorem k0_off52_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off52 v1_0 k0_t2) a + S1x64x512.size a ≤ S3x1792x512.size a := fun v1_0 k0_t2 v273 k0_hw11 k0_h8 => k0_hw11.1.2.2.2.2.2.2.2.1 k0_h8
theorem k0_off53_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off53 v1_0 k0_t2) a + S1x64x512.size a ≤ S3x1792x512.size a := fun v1_0 k0_t2 v273 k0_hw11 k0_h8 => k0_hw11.1.2.2.2.2.2.2.2.2.1 k0_h8
theorem k0_off54_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off54 v1_0 k0_t2) a + S1x64x512.size a ≤ S3x1792x512.size a := fun v1_0 k0_t2 v273 k0_hw11 k0_h8 => k0_hw11.1.2.2.2.2.2.2.2.2.2.1 k0_h8
theorem k0_off55_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off55 v1_0 k0_t2) a + S1x64x512.size a ≤ S3x1792x512.size a := fun v1_0 k0_t2 v273 k0_hw11 k0_h8 => k0_hw11.1.2.2.2.2.2.2.2.2.2.2.1 k0_h8
theorem k0_off56_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off56 v1_0 k0_t2) a + S1x64x512.size a ≤ S3x1792x512.size a := fun v1_0 k0_t2 v273 k0_hw11 k0_h8 => k0_hw11.1.2.2.2.2.2.2.2.2.2.2.2.1 k0_h8
theorem k0_off57_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off57 v1_0 k0_t2) a + S1x64x512.size a ≤ S3x1792x512.size a := fun v1_0 k0_t2 v273 k0_hw11 k0_h8 => k0_hw11.1.2.2.2.2.2.2.2.2.2.2.2.2.1 k0_h8
theorem k0_off58_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off58 v1_0 k0_t2) a + S1x64x512.size a ≤ S3x1792x512.size a := fun v1_0 k0_t2 v273 k0_hw11 k0_h8 => k0_hw11.1.2.2.2.2.2.2.2.2.2.2.2.2.2.1 k0_h8
theorem k0_off59_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off59 v1_0 k0_t2) a + S1x64x512.size a ≤ S3x1792x512.size a := fun v1_0 k0_t2 v273 k0_hw11 k0_h8 => k0_hw11.1.2.2.2.2.2.2.2.2.2.2.2.2.2.2.1 k0_h8
theorem k0_off60_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off60 v1_0 k0_t2) a + S1x64x512.size a ≤ S3x1792x512.size a := fun v1_0 k0_t2 v273 k0_hw11 k0_h8 => k0_hw11.1.2.2.2.2.2.2.2.2.2.2.2.2.2.2.2.1 k0_h8
theorem k0_off61_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off61 v1_0 k0_t2) a + S1x64x512.size a ≤ S3x1792x512.size a := fun v1_0 k0_t2 v273 k0_hw11 k0_h8 => k0_hw11.1.2.2.2.2.2.2.2.2.2.2.2.2.2.2.2.2.1 k0_h8
theorem k0_off62_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off62 v1_0 k0_t2) a + S1x64x512.size a ≤ S3x1792x512.size a := fun v1_0 k0_t2 v273 k0_hw11 k0_h8 => k0_hw11.1.2.2.2.2.2.2.2.2.2.2.2.2.2.2.2.2.2.1 k0_h8
theorem k0_off63_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off63 v1_0 k0_t2) a + S1x64x512.size a ≤ S3x1792x512.size a := fun v1_0 k0_t2 v273 k0_hw11 k0_h8 => k0_hw11.1.2.2.2.2.2.2.2.2.2.2.2.2.2.2.2.2.2.2.1 k0_h8
theorem k0_off64_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off64 v1_0 k0_t2) a + S1x64x512.size a ≤ S3x1792x512.size a := fun v1_0 k0_t2 v273 k0_hw11 k0_h8 => k0_hw11.1.2.2.2.2.2.2.2.2.2.2.2.2.2.2.2.2.2.2.2.1 k0_h8
theorem k0_off65_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off65 v1_0 k0_t2) a + S1x64x512.size a ≤ S3x1792x512.size a := fun v1_0 k0_t2 v273 k0_hw11 k0_h8 => k0_hw11.1.2.2.2.2.2.2.2.2.2.2.2.2.2.2.2.2.2.2.2.2.1 k0_h8
theorem k0_off66_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off66 v1_0 k0_t2) a + S1x64x512.size a ≤ S3x1792x512.size a := fun v1_0 k0_t2 v273 k0_hw11 k0_h8 => k0_hw11.1.2.2.2.2.2.2.2.2.2.2.2.2.2.2.2.2.2.2.2.2.2.1 k0_h8
theorem k0_off67_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off67 v1_0 k0_t2) a + S1x64x512.size a ≤ S3x1792x512.size a := fun v1_0 k0_t2 v273 k0_hw11 k0_h8 => k0_hw11.1.2.2.2.2.2.2.2.2.2.2.2.2.2.2.2.2.2.2.2.2.2.2.1 k0_h8
theorem k0_off68_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off68 v1_0 k0_t2) a + S1x64x512.size a ≤ S3x1792x512.size a := fun v1_0 k0_t2 v273 k0_hw11 k0_h8 => k0_hw11.1.2.2.2.2.2.2.2.2.2.2.2.2.2.2.2.2.2.2.2.2.2.2.2.1 k0_h8
theorem k0_off69_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off69 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.1 k0_h8
theorem k0_off70_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off70 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.1 k0_h8
theorem k0_off71_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off71 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.2.1 k0_h8
theorem k0_off72_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off72 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.2.2.1 k0_h8
theorem k0_off73_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off73 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.2.2.2.1 k0_h8
theorem k0_off74_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off74 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.2.2.2.2.1 k0_h8
theorem k0_off75_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off75 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.2.2.2.2.2.1 k0_h8
theorem k0_off76_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off76 v1_0 k0_t2) a + S1x64x512.size a ≤ S3x1792x512.size a := fun v1_0 k0_t2 v273 k0_hw11 k0_h8 => k0_hw11.1.2.2.2.2.2.2.2.2.2.2.2.2.2.2.2.2.2.2.2.2.2.2.2.2.2.2.2.2.2.2.2 k0_h8
theorem k0_off77_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off77 v1_0 k0_t2) a + S1x64x512.size a ≤ S3x1792x512.size a := fun v1_0 k0_t2 v273 k0_hw11 k0_h8 => k0_hw11.2.1 k0_h8
theorem k0_off78_inb : ∀ (v1_0 : BitVec 32) (k0_t2 : Fin (k0_t2_loop v1_0).trips) (v273 : BitVec 32) (k0_hw11 : k0_chk11 v1_0 k0_t2 v273), ∀ (k0_h8 : k0_cond8 v273 = 1#1), ∀ a, (k0_off78 v1_0 k0_t2) a + S24x512.size a ≤ S24x2048.size a := fun v1_0 k0_t2 v273 k0_hw11 k0_h8 => k0_hw11.2.2.1 k0_h8
theorem k0_off79_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off79 v1_0 k0_t2) a + S1x64x512.size a ≤ S3x1792x512.size a := fun v1_0 k0_t2 v273 k0_hw11 k0_h9 => k0_hw11.2.2.2.1 k0_h9
theorem k0_off80_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off80 v1_0 k0_t2) a + S1x64x512.size a ≤ S3x1792x512.size a := fun v1_0 k0_t2 v273 k0_hw11 k0_h9 => k0_hw11.2.2.2.2.1 k0_h9
theorem k0_off81_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off81 v1_0 k0_t2) a + S1x64x512.size a ≤ S3x1792x512.size a := fun v1_0 k0_t2 v273 k0_hw11 k0_h9 => k0_hw11.2.2.2.2.2.1 k0_h9
theorem k0_off82_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off82 v1_0 k0_t2) a + S1x64x512.size a ≤ S3x1792x512.size a := fun v1_0 k0_t2 v273 k0_hw11 k0_h9 => k0_hw11.2.2.2.2.2.2.1 k0_h9
theorem k0_off83_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off83 v1_0 k0_t2) a + S1x64x512.size a ≤ S3x1792x512.size a := fun v1_0 k0_t2 v273 k0_hw11 k0_h9 => k0_hw11.2.2.2.2.2.2.2.1 k0_h9
theorem k0_off84_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off84 v1_0 k0_t2) a + S1x64x512.size a ≤ S3x1792x512.size a := fun v1_0 k0_t2 v273 k0_hw11 k0_h9 => k0_hw11.2.2.2.2.2.2.2.2.1 k0_h9
theorem k0_off85_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off85 v1_0 k0_t2) a + S1x64x512.size a ≤ S3x1792x512.size a := fun v1_0 k0_t2 v273 k0_hw11 k0_h9 => k0_hw11.2.2.2.2.2.2.2.2.2.1 k0_h9
theorem k0_off86_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off86 v1_0 k0_t2) a + S1x64x512.size a ≤ S3x1792x512.size a := fun v1_0 k0_t2 v273 k0_hw11 k0_h9 => k0_hw11.2.2.2.2.2.2.2.2.2.2.1 k0_h9
theorem k0_off87_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off87 v1_0 k0_t2) a + S1x64x512.size a ≤ S3x1792x512.size a := fun v1_0 k0_t2 v273 k0_hw11 k0_h9 => k0_hw11.2.2.2.2.2.2.2.2.2.2.2.1 k0_h9
theorem k0_off88_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off88 v1_0 k0_t2) a + S1x64x512.size a ≤ S3x1792x512.size a := fun v1_0 k0_t2 v273 k0_hw11 k0_h9 => k0_hw11.2.2.2.2.2.2.2.2.2.2.2.2.1 k0_h9
theorem k0_off89_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off89 v1_0 k0_t2) a + S1x64x512.size a ≤ S3x1792x512.size a := fun v1_0 k0_t2 v273 k0_hw11 k0_h9 => k0_hw11.2.2.2.2.2.2.2.2.2.2.2.2.2.1 k0_h9
theorem k0_off90_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off90 v1_0 k0_t2) a + S1x64x512.size a ≤ S3x1792x512.size a := fun v1_0 k0_t2 v273 k0_hw11 k0_h9 => k0_hw11.2.2.2.2.2.2.2.2.2.2.2.2.2.2.1 k0_h9
theorem k0_off91_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off91 v1_0 k0_t2) a + S1x64x512.size a ≤ S3x1792x512.size a := fun v1_0 k0_t2 v273 k0_hw11 k0_h9 => k0_hw11.2.2.2.2.2.2.2.2.2.2.2.2.2.2.2.1 k0_h9
theorem k0_off92_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off92 v1_0 k0_t2) a + S1x64x512.size a ≤ S3x1792x512.size a := fun v1_0 k0_t2 v273 k0_hw11 k0_h9 => k0_hw11.2.2.2.2.2.2.2.2.2.2.2.2.2.2.2.2.1 k0_h9
theorem k0_off93_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off93 v1_0 k0_t2) a + S1x64x512.size a ≤ S3x1792x512.size a := fun v1_0 k0_t2 v273 k0_hw11 k0_h9 => k0_hw11.2.2.2.2.2.2.2.2.2.2.2.2.2.2.2.2.2.1 k0_h9
theorem k0_off94_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off94 v1_0 k0_t2) a + S1x64x512.size a ≤ S3x1792x512.size a := fun v1_0 k0_t2 v273 k0_hw11 k0_h9 => k0_hw11.2.2.2.2.2.2.2.2.2.2.2.2.2.2.2.2.2.2.1 k0_h9
theorem k0_off95_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off95 v1_0 k0_t2) a + S1x64x512.size a ≤ S3x1792x512.size a := fun v1_0 k0_t2 v273 k0_hw11 k0_h9 => k0_hw11.2.2.2.2.2.2.2.2.2.2.2.2.2.2.2.2.2.2.2.1 k0_h9
theorem k0_off96_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off96 v1_0 k0_t2) a + S1x64x512.size a ≤ S3x1792x512.size a := fun v1_0 k0_t2 v273 k0_hw11 k0_h9 => k0_hw11.2.2.2.2.2.2.2.2.2.2.2.2.2.2.2.2.2.2.2.2.1 k0_h9
theorem k0_off97_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off97 v1_0 k0_t2) a + S1x64x512.size a ≤ S3x1792x512.size a := fun v1_0 k0_t2 v273 k0_hw11 k0_h9 => k0_hw11.2.2.2.2.2.2.2.2.2.2.2.2.2.2.2.2.2.2.2.2.2.1 k0_h9
theorem k0_off98_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off98 v1_0 k0_t2) a + S1x64x512.size a ≤ S3x1792x512.size a := fun v1_0 k0_t2 v273 k0_hw11 k0_h9 => k0_hw11.2.2.2.2.2.2.2.2.2.2.2.2.2.2.2.2.2.2.2.2.2.2.1 k0_h9
theorem k0_off99_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off99 v1_0 k0_t2) a + S1x64x512.size a ≤ S3x1792x512.size a := fun v1_0 k0_t2 v273 k0_hw11 k0_h9 => k0_hw11.2.2.2.2.2.2.2.2.2.2.2.2.2.2.2.2.2.2.2.2.2.2.2.1 k0_h9
theorem k0_off100_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off100 v1_0 k0_t2) a + S1x64x512.size a ≤ S3x1792x512.size a := fun v1_0 k0_t2 v273 k0_hw11 k0_h9 => k0_hw11.2.2.2.2.2.2.2.2.2.2.2.2.2.2.2.2.2.2.2.2.2.2.2.2.1 k0_h9
theorem k0_off101_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off101 v1_0 k0_t2) a + S1x64x512.size a ≤ S3x1792x512.size a := fun v1_0 k0_t2 v273 k0_hw11 k0_h9 => k0_hw11.2.2.2.2.2.2.2.2.2.2.2.2.2.2.2.2.2.2.2.2.2.2.2.2.2.1 k0_h9
theorem k0_off102_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off102 v1_0 k0_t2) a + S1x64x512.size a ≤ S3x1792x512.size a := fun v1_0 k0_t2 v273 k0_hw11 k0_h9 => k0_hw11.2.2.2.2.2.2.2.2.2.2.2.2.2.2.2.2.2.2.2.2.2.2.2.2.2.2.1 k0_h9
theorem k0_off103_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off103 v1_0 k0_t2) a + S1x64x512.size a ≤ S3x1792x512.size a := fun v1_0 k0_t2 v273 k0_hw11 k0_h9 => k0_hw11.2.2.2.2.2.2.2.2.2.2.2.2.2.2.2.2.2.2.2.2.2.2.2.2.2.2.2.1 k0_h9
theorem k0_off104_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off104 v1_0 k0_t2) a + S1x64x512.size a ≤ S3x1792x512.size a := fun v1_0 k0_t2 v273 k0_hw11 k0_h9 => k0_hw11.2.2.2.2.2.2.2.2.2.2.2.2.2.2.2.2.2.2.2.2.2.2.2.2.2.2.2.2.1 k0_h9
theorem k0_off105_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off105 v1_0 k0_t2) a + S1x64x512.size a ≤ S3x1792x512.size a := fun v1_0 k0_t2 v273 k0_hw11 k0_h9 => k0_hw11.2.2.2.2.2.2.2.2.2.2.2.2.2.2.2.2.2.2.2.2.2.2.2.2.2.2.2.2.2.1 k0_h9
theorem k0_off106_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off106 v1_0 k0_t2) a + S1x64x512.size a ≤ S3x1792x512.size a := fun v1_0 k0_t2 v273 k0_hw11 k0_h9 => k0_hw11.2.2.2.2.2.2.2.2.2.2.2.2.2.2.2.2.2.2.2.2.2.2.2.2.2.2.2.2.2.2.1 k0_h9
theorem k0_off107_inb : ∀ (v1_0 : BitVec 32) (k0_t2 : Fin (k0_t2_loop v1_0).trips) (v273 : BitVec 32) (k0_hw11 : k0_chk11 v1_0 k0_t2 v273), ∀ (k0_h9 : k0_cond9 v273 = 1#1), ∀ a, (k0_off107 v1_0 k0_t2) a + S24x512.size a ≤ S24x2048.size a := fun v1_0 k0_t2 v273 k0_hw11 k0_h9 => k0_hw11.2.2.2.2.2.2.2.2.2.2.2.2.2.2.2.2.2.2.2.2.2.2.2.2.2.2.2.2.2.2.2 k0_h9

@[reducible] def k0_t3_loop (v1_0 : BitVec 32) : Scf.Loop 32 :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let v217 : BitVec 32 := Scalar.addi c0_i32_129 v216
  let c1_i32_133 : BitVec 32 := 1#32
  ⟨v220, v217, c1_i32_133⟩
def k0_off108 (v1_0 : BitVec 32) (k0_t3 : Fin (k0_t3_loop v1_0).trips) : Fin 1 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c0_i32_181 : BitVec 32 := 0#32
  let v321 : BitVec 1 := Scalar.cmpi .sgt v227 c0_i32_181
  let v322 : BitVec 32 := Scalar.extui v321
  let c0_i32_182 : BitVec 32 := 0#32
  let v323 : BitVec 1 := Scalar.cmpi .slt v227 c0_i32_182
  let v324 : BitVec 32 := Scalar.extui v323
  let v325 : BitVec 32 := Scalar.subi v322 v324
  let c4_i32_180 : BitVec 32 := 4#32
  let c0_i32_183 : BitVec 32 := 0#32
  let v326 : BitVec 1 := Scalar.cmpi .sgt c4_i32_180 c0_i32_183
  let v327 : BitVec 32 := Scalar.extui v326
  let c0_i32_184 : BitVec 32 := 0#32
  let v328 : BitVec 1 := Scalar.cmpi .slt c4_i32_180 c0_i32_184
  let v329 : BitVec 32 := Scalar.extui v328
  let v330 : BitVec 32 := Scalar.subi v327 v329
  let v331 : BitVec 1 := Scalar.cmpi .ne v325 v330
  let v332 : BitVec 32 := Scalar.remsi v227 c4_i32_180
  let c0_i32_185 : BitVec 32 := 0#32
  let v333 : BitVec 1 := Scalar.cmpi .ne v332 c0_i32_185
  let v334 : BitVec 1 := Scalar.andi v331 v333
  let v320 : BitVec 32 := Scalar.divsi v227 c4_i32_180
  let c1_i32_186 : BitVec 32 := 1#32
  let v335 : BitVec 32 := Scalar.subi v320 c1_i32_186
  let v336 : BitVec 32 := Scalar.select v334 v335 v320
  let v337 : Index := Scalar.indexCast v336
  ![v337.toNat]
def k0_cond10 (v1_0 : BitVec 32) (k0_t3 : Fin (k0_t3_loop v1_0).trips) : BitVec 1 :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let v228 : BitVec 1 := Scalar.cmpi .slt v227 v2
  let v229 : BitVec 32 := Scalar.extui v228
  let c0_i32_139 : BitVec 32 := 0#32
  let v230 : BitVec 1 := Scalar.cmpi .ne v229 c0_i32_139
  v230

def k0_mult6 (v1_0 : BitVec 32) (k0_t3 : Fin (k0_t3_loop v1_0).trips) : BitVec 32 :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  v340
def k0_off109 (v338 : BitVec 32) : Fin 1 → Nat :=
  let v342 : Index := Scalar.indexCast v338
  ![v342.toNat]

def k0_off110 (v1_0 : BitVec 32) (k0_t3 : Fin (k0_t3_loop v1_0).trips) : Fin 2 → Nat :=
  let c0_i32_190 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  ![0, v319.toNat]
def k0_off111 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  let c0_i32_191 : BitVec 32 := 0#32
  let c0_i32_192 : BitVec 32 := 0#32
  ![v319.toNat, 0, 0]
def k0_off112 (v1_0 : BitVec 32) (k0_t3 : Fin (k0_t3_loop v1_0).trips) (v338 : BitVec 32) : Fin 3 → Nat :=
  let c0_i32_193 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  let v341 : BitVec 32 := v340
  ![v338.toNat, 0, v341.toNat]
def k0_off113 (v1_0 : BitVec 32) (k0_t3 : Fin (k0_t3_loop v1_0).trips) : Fin 2 → Nat :=
  let c1_i32_194 : BitVec 32 := 1#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  ![1, v319.toNat]
def k0_off114 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  let c0_i32_195 : BitVec 32 := 0#32
  let c0_i32_196 : BitVec 32 := 0#32
  ![v319.toNat, 0, 0]
def k0_off115 (v1_0 : BitVec 32) (k0_t3 : Fin (k0_t3_loop v1_0).trips) (v338 : BitVec 32) : Fin 3 → Nat :=
  let c0_i32_197 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  let v341 : BitVec 32 := v340
  ![v338.toNat, 0, v341.toNat]

def k0_chk12 (v1_0 : BitVec 32) (k0_t3 : Fin (k0_t3_loop v1_0).trips) (v338 : BitVec 32) : Prop :=
  (∀ (k0_h10 : k0_cond10 v1_0 k0_t3 = 1#1), ∀ a, (k0_off109 v338) a + S1.size a ≤ S27.size a) ∧
  (∀ (k0_h10 : k0_cond10 v1_0 k0_t3 = 1#1), ∀ a, (k0_off112 v1_0 k0_t3 v338) a + S1x1792x512.size a ≤ S27x1792x2048.size a) ∧
  (∀ (k0_h10 : k0_cond10 v1_0 k0_t3 = 1#1), ∀ (hinb : ∀ a, (k0_off112 v1_0 k0_t3 v338) a + S1x1792x512.size a ≤ S27x1792x2048.size a), (Rect.unit (s := S27x1792x2048) (k0_off112 v1_0 k0_t3 v338) S1x1792x512.size hinb).WholeWords (EltTy.packing .i8)) ∧
  (∀ (k0_h10 : k0_cond10 v1_0 k0_t3 = 1#1), ∀ a, (k0_off115 v1_0 k0_t3 v338) a + S1x112x512.size a ≤ S27x112x2048.size a)
theorem k0_off109_inb : ∀ (v1_0 : BitVec 32) (k0_t3 : Fin (k0_t3_loop v1_0).trips) (v338 : BitVec 32) (k0_hw12 : k0_chk12 v1_0 k0_t3 v338), ∀ (k0_h10 : k0_cond10 v1_0 k0_t3 = 1#1), ∀ a, (k0_off109 v338) a + S1.size a ≤ S27.size a := fun v1_0 k0_t3 v338 k0_hw12 k0_h10 => k0_hw12.1 k0_h10
theorem k0_off112_inb : ∀ (v1_0 : BitVec 32) (k0_t3 : Fin (k0_t3_loop v1_0).trips) (v338 : BitVec 32) (k0_hw12 : k0_chk12 v1_0 k0_t3 v338), ∀ (k0_h10 : k0_cond10 v1_0 k0_t3 = 1#1), ∀ a, (k0_off112 v1_0 k0_t3 v338) a + S1x1792x512.size a ≤ S27x1792x2048.size a := fun v1_0 k0_t3 v338 k0_hw12 k0_h10 => k0_hw12.2.1 k0_h10
theorem k0_off112_wordsi8 : ∀ (v1_0 : BitVec 32) (k0_t3 : Fin (k0_t3_loop v1_0).trips) (v338 : BitVec 32) (k0_hw12 : k0_chk12 v1_0 k0_t3 v338), ∀ (k0_h10 : k0_cond10 v1_0 k0_t3 = 1#1), (Rect.unit (s := S27x1792x2048) (k0_off112 v1_0 k0_t3 v338) S1x1792x512.size (k0_off112_inb v1_0 k0_t3 v338 k0_hw12 k0_h10)).WholeWords (EltTy.packing .i8) := fun v1_0 k0_t3 v338 k0_hw12 k0_h10 => k0_hw12.2.2.1 k0_h10 (k0_off112_inb v1_0 k0_t3 v338 k0_hw12 k0_h10)
theorem k0_off115_inb : ∀ (v1_0 : BitVec 32) (k0_t3 : Fin (k0_t3_loop v1_0).trips) (v338 : BitVec 32) (k0_hw12 : k0_chk12 v1_0 k0_t3 v338), ∀ (k0_h10 : k0_cond10 v1_0 k0_t3 = 1#1), ∀ a, (k0_off115 v1_0 k0_t3 v338) a + S1x112x512.size a ≤ S27x112x2048.size a := fun v1_0 k0_t3 v338 k0_hw12 k0_h10 => k0_hw12.2.2.2 k0_h10

def k0_off116 (v1_0 : BitVec 32) (k0_t3 : Fin (k0_t3_loop v1_0).trips) : Fin 2 → Nat :=
  let c2_i32_199 : BitVec 32 := 2#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  ![2, v319.toNat]
def k0_cond11 (v343 : BitVec 32) : BitVec 1 :=
  let c0_i32_198 : BitVec 32 := 0#32
  let v357 : BitVec 1 := Scalar.cmpi .sge v343 c0_i32_198
  let v358 : BitVec 32 := Scalar.extui v357
  let c0_i32_200 : BitVec 32 := 0#32
  let v359 : BitVec 1 := Scalar.cmpi .ne v358 c0_i32_200
  v359

def k0_off117 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c3_i32_179 : BitVec 32 := 3#32
  let v319 : BitVec 32 := Scalar.remsi v227 c3_i32_179
  let c0_i32_201 : BitVec 32 := 0#32
  let c0_i32_202 : BitVec 32 := 0#32
  ![v319.toNat, 0, 0]
def k0_off118 (v1_0 : BitVec 32) (k0_t3 : Fin (k0_t3_loop v1_0).trips) (v343 : BitVec 32) : Fin 3 → Nat :=
  let c0_i32_189 : BitVec 32 := 0#32
  let v344 : BitVec 32 := Scalar.maxsi v343 c0_i32_189
  let c0_i32_203 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32 : BitVec 32 := 3#32
  let v226 : BitVec 32 := Scalar.addi arg16 c3_i32
  let c1_i32_138 : BitVec 32 := 1#32
  let v227 : BitVec 32 := Scalar.subi v226 c1_i32_138
  let c4_i32_187 : BitVec 32 := 4#32
  let v339 : BitVec 32 := Scalar.remsi v227 c4_i32_187
  let c512_i32_188 : BitVec 32 := 512#32
  let v340 : BitVec 32 := Scalar.muli v339 c512_i32_188
  let v341 : BitVec 32 := v340
  ![v344.toNat, 0, v341.toNat]

def k0_chk13 (v1_0 : BitVec 32) (k0_t3 : Fin (k0_t3_loop v1_0).trips) (v343 : BitVec 32) : Prop :=
  (∀ (k0_h10 : k0_cond10 v1_0 k0_t3 = 1#1), ∀ (k0_h11 : k0_cond11 v343 = 1#1), ∀ a, (k0_off116 v1_0 k0_t3) a + S1x1.size a ≤ S3x3.size a) ∧
  (∀ (k0_h10 : k0_cond10 v1_0 k0_t3 = 1#1), ∀ (k0_h11 : k0_cond11 v343 = 1#1), ∀ a, (k0_off117 v1_0 k0_t3) a + S1x1792x512.size a ≤ S3x1792x512.size a) ∧
  (∀ (k0_h10 : k0_cond10 v1_0 k0_t3 = 1#1), ∀ (k0_h11 : k0_cond11 v343 = 1#1), ∀ a, (k0_off118 v1_0 k0_t3 v343) a + S1x1792x512.size a ≤ S17x1792x2048.size a) ∧
  (∀ (k0_h10 : k0_cond10 v1_0 k0_t3 = 1#1), ∀ (k0_h11 : k0_cond11 v343 = 1#1), ∀ (hinb : ∀ a, (k0_off118 v1_0 k0_t3 v343) a + S1x1792x512.size a ≤ S17x1792x2048.size a), (Rect.unit (s := S17x1792x2048) (k0_off118 v1_0 k0_t3 v343) S1x1792x512.size hinb).WholeWords (EltTy.packing .i8)) ∧
  (∀ (k0_h10 : k0_cond10 v1_0 k0_t3 = 1#1), ∀ (k0_h11 : k0_cond11 v343 = 1#1), ∀ (hinb : ∀ a, (k0_off117 v1_0 k0_t3) a + S1x1792x512.size a ≤ S3x1792x512.size a), (Rect.unit (s := S3x1792x512) (k0_off117 v1_0 k0_t3) S1x1792x512.size hinb).WholeWords (EltTy.packing .i8))
theorem k0_off116_inb : ∀ (v1_0 : BitVec 32) (k0_t3 : Fin (k0_t3_loop v1_0).trips) (v343 : BitVec 32) (k0_hw13 : k0_chk13 v1_0 k0_t3 v343), ∀ (k0_h10 : k0_cond10 v1_0 k0_t3 = 1#1), ∀ (k0_h11 : k0_cond11 v343 = 1#1), ∀ a, (k0_off116 v1_0 k0_t3) a + S1x1.size a ≤ S3x3.size a := fun v1_0 k0_t3 v343 k0_hw13 k0_h10 k0_h11 => k0_hw13.1 k0_h10 k0_h11
theorem k0_off117_inb : ∀ (v1_0 : BitVec 32) (k0_t3 : Fin (k0_t3_loop v1_0).trips) (v343 : BitVec 32) (k0_hw13 : k0_chk13 v1_0 k0_t3 v343), ∀ (k0_h10 : k0_cond10 v1_0 k0_t3 = 1#1), ∀ (k0_h11 : k0_cond11 v343 = 1#1), ∀ a, (k0_off117 v1_0 k0_t3) a + S1x1792x512.size a ≤ S3x1792x512.size a := fun v1_0 k0_t3 v343 k0_hw13 k0_h10 k0_h11 => k0_hw13.2.1 k0_h10 k0_h11
theorem k0_off118_inb : ∀ (v1_0 : BitVec 32) (k0_t3 : Fin (k0_t3_loop v1_0).trips) (v343 : BitVec 32) (k0_hw13 : k0_chk13 v1_0 k0_t3 v343), ∀ (k0_h10 : k0_cond10 v1_0 k0_t3 = 1#1), ∀ (k0_h11 : k0_cond11 v343 = 1#1), ∀ a, (k0_off118 v1_0 k0_t3 v343) a + S1x1792x512.size a ≤ S17x1792x2048.size a := fun v1_0 k0_t3 v343 k0_hw13 k0_h10 k0_h11 => k0_hw13.2.2.1 k0_h10 k0_h11
theorem k0_off118_wordsi8 : ∀ (v1_0 : BitVec 32) (k0_t3 : Fin (k0_t3_loop v1_0).trips) (v343 : BitVec 32) (k0_hw13 : k0_chk13 v1_0 k0_t3 v343), ∀ (k0_h10 : k0_cond10 v1_0 k0_t3 = 1#1), ∀ (k0_h11 : k0_cond11 v343 = 1#1), (Rect.unit (s := S17x1792x2048) (k0_off118 v1_0 k0_t3 v343) S1x1792x512.size (k0_off118_inb v1_0 k0_t3 v343 k0_hw13 k0_h10 k0_h11)).WholeWords (EltTy.packing .i8) := fun v1_0 k0_t3 v343 k0_hw13 k0_h10 k0_h11 => k0_hw13.2.2.2.1 k0_h10 k0_h11 (k0_off118_inb v1_0 k0_t3 v343 k0_hw13 k0_h10 k0_h11)
theorem k0_off117_wordsi8 : ∀ (v1_0 : BitVec 32) (k0_t3 : Fin (k0_t3_loop v1_0).trips) (v343 : BitVec 32) (k0_hw13 : k0_chk13 v1_0 k0_t3 v343), ∀ (k0_h10 : k0_cond10 v1_0 k0_t3 = 1#1), ∀ (k0_h11 : k0_cond11 v343 = 1#1), (Rect.unit (s := S3x1792x512) (k0_off117 v1_0 k0_t3) S1x1792x512.size (k0_off117_inb v1_0 k0_t3 v343 k0_hw13 k0_h10 k0_h11)).WholeWords (EltTy.packing .i8) := fun v1_0 k0_t3 v343 k0_hw13 k0_h10 k0_h11 => k0_hw13.2.2.2.2 k0_h10 k0_h11 (k0_off117_inb v1_0 k0_t3 v343 k0_hw13 k0_h10 k0_h11)

def k0_off119 (v1_0 : BitVec 32) (k0_t3 : Fin (k0_t3_loop v1_0).trips) : Fin 1 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c0_i32_150 : BitVec 32 := 0#32
  let v251 : BitVec 1 := Scalar.cmpi .sgt arg16 c0_i32_150
  let v252 : BitVec 32 := Scalar.extui v251
  let c0_i32_151 : BitVec 32 := 0#32
  let v253 : BitVec 1 := Scalar.cmpi .slt arg16 c0_i32_151
  let v254 : BitVec 32 := Scalar.extui v253
  let v255 : BitVec 32 := Scalar.subi v252 v254
  let c4_i32_149 : BitVec 32 := 4#32
  let c0_i32_152 : BitVec 32 := 0#32
  let v256 : BitVec 1 := Scalar.cmpi .sgt c4_i32_149 c0_i32_152
  let v257 : BitVec 32 := Scalar.extui v256
  let c0_i32_153 : BitVec 32 := 0#32
  let v258 : BitVec 1 := Scalar.cmpi .slt c4_i32_149 c0_i32_153
  let v259 : BitVec 32 := Scalar.extui v258
  let v260 : BitVec 32 := Scalar.subi v257 v259
  let v261 : BitVec 1 := Scalar.cmpi .ne v255 v260
  let v262 : BitVec 32 := Scalar.remsi arg16 c4_i32_149
  let c0_i32_154 : BitVec 32 := 0#32
  let v263 : BitVec 1 := Scalar.cmpi .ne v262 c0_i32_154
  let v264 : BitVec 1 := Scalar.andi v261 v263
  let v250 : BitVec 32 := Scalar.divsi arg16 c4_i32_149
  let c1_i32_155 : BitVec 32 := 1#32
  let v265 : BitVec 32 := Scalar.subi v250 c1_i32_155
  let v266 : BitVec 32 := Scalar.select v264 v265 v250
  let v267 : Index := Scalar.indexCast v266
  ![v267.toNat]
def k0_mult7 (v1_0 : BitVec 32) (k0_t3 : Fin (k0_t3_loop v1_0).trips) : BitVec 32 :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_156 : BitVec 32 := 4#32
  let v269 : BitVec 32 := Scalar.remsi arg16 c4_i32_156
  let c512_i32 : BitVec 32 := 512#32
  let v270 : BitVec 32 := Scalar.muli v269 c512_i32
  v270
def k0_off120 (v268 : BitVec 32) : Fin 1 → Nat :=
  let v272 : Index := Scalar.indexCast v268
  ![v272.toNat]

def k0_off121 (v1_0 : BitVec 32) (k0_t3 : Fin (k0_t3_loop v1_0).trips) : Fin 2 → Nat :=
  let c0_i32_158 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_148 : BitVec 32 := 3#32
  let v249 : BitVec 32 := Scalar.remsi arg16 c3_i32_148
  ![0, v249.toNat]
def k0_off122 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_148 : BitVec 32 := 3#32
  let v249 : BitVec 32 := Scalar.remsi arg16 c3_i32_148
  let c0_i32_159 : BitVec 32 := 0#32
  let c0_i32_160 : BitVec 32 := 0#32
  ![v249.toNat, 0, 0]
def k0_off123 (v1_0 : BitVec 32) (k0_t3 : Fin (k0_t3_loop v1_0).trips) (v268 : BitVec 32) : Fin 3 → Nat :=
  let c0_i32_161 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_156 : BitVec 32 := 4#32
  let v269 : BitVec 32 := Scalar.remsi arg16 c4_i32_156
  let c512_i32 : BitVec 32 := 512#32
  let v270 : BitVec 32 := Scalar.muli v269 c512_i32
  let v271 : BitVec 32 := v270
  ![v268.toNat, 0, v271.toNat]
def k0_off124 (v1_0 : BitVec 32) (k0_t3 : Fin (k0_t3_loop v1_0).trips) : Fin 2 → Nat :=
  let c1_i32_162 : BitVec 32 := 1#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_148 : BitVec 32 := 3#32
  let v249 : BitVec 32 := Scalar.remsi arg16 c3_i32_148
  ![1, v249.toNat]
def k0_off125 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_148 : BitVec 32 := 3#32
  let v249 : BitVec 32 := Scalar.remsi arg16 c3_i32_148
  let c0_i32_163 : BitVec 32 := 0#32
  let c0_i32_164 : BitVec 32 := 0#32
  ![v249.toNat, 0, 0]
def k0_off126 (v1_0 : BitVec 32) (k0_t3 : Fin (k0_t3_loop v1_0).trips) (v268 : BitVec 32) : Fin 3 → Nat :=
  let c0_i32_165 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_156 : BitVec 32 := 4#32
  let v269 : BitVec 32 := Scalar.remsi arg16 c4_i32_156
  let c512_i32 : BitVec 32 := 512#32
  let v270 : BitVec 32 := Scalar.muli v269 c512_i32
  let v271 : BitVec 32 := v270
  ![v268.toNat, 0, v271.toNat]

def k0_chk14 (v1_0 : BitVec 32) (k0_t3 : Fin (k0_t3_loop v1_0).trips) (v268 : BitVec 32) : Prop :=
  (∀ a, (k0_off120 v268) a + S1.size a ≤ S27.size a) ∧
  (∀ a, (k0_off123 v1_0 k0_t3 v268) a + S1x1792x512.size a ≤ S27x1792x2048.size a) ∧
  (∀ (hinb : ∀ a, (k0_off123 v1_0 k0_t3 v268) a + S1x1792x512.size a ≤ S27x1792x2048.size a), (Rect.unit (s := S27x1792x2048) (k0_off123 v1_0 k0_t3 v268) S1x1792x512.size hinb).WholeWords (EltTy.packing .i8)) ∧
  (∀ a, (k0_off126 v1_0 k0_t3 v268) a + S1x112x512.size a ≤ S27x112x2048.size a)
theorem k0_off120_inb : ∀ (v1_0 : BitVec 32) (k0_t3 : Fin (k0_t3_loop v1_0).trips) (v268 : BitVec 32) (k0_hw14 : k0_chk14 v1_0 k0_t3 v268), ∀ a, (k0_off120 v268) a + S1.size a ≤ S27.size a := fun v1_0 k0_t3 v268 k0_hw14 => k0_hw14.1
theorem k0_off123_inb : ∀ (v1_0 : BitVec 32) (k0_t3 : Fin (k0_t3_loop v1_0).trips) (v268 : BitVec 32) (k0_hw14 : k0_chk14 v1_0 k0_t3 v268), ∀ a, (k0_off123 v1_0 k0_t3 v268) a + S1x1792x512.size a ≤ S27x1792x2048.size a := fun v1_0 k0_t3 v268 k0_hw14 => k0_hw14.2.1
theorem k0_off123_wordsi8 : ∀ (v1_0 : BitVec 32) (k0_t3 : Fin (k0_t3_loop v1_0).trips) (v268 : BitVec 32) (k0_hw14 : k0_chk14 v1_0 k0_t3 v268), (Rect.unit (s := S27x1792x2048) (k0_off123 v1_0 k0_t3 v268) S1x1792x512.size (k0_off123_inb v1_0 k0_t3 v268 k0_hw14)).WholeWords (EltTy.packing .i8) := fun v1_0 k0_t3 v268 k0_hw14 => k0_hw14.2.2.1 (k0_off123_inb v1_0 k0_t3 v268 k0_hw14)
theorem k0_off126_inb : ∀ (v1_0 : BitVec 32) (k0_t3 : Fin (k0_t3_loop v1_0).trips) (v268 : BitVec 32) (k0_hw14 : k0_chk14 v1_0 k0_t3 v268), ∀ a, (k0_off126 v1_0 k0_t3 v268) a + S1x112x512.size a ≤ S27x112x2048.size a := fun v1_0 k0_t3 v268 k0_hw14 => k0_hw14.2.2.2

def k0_off127 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v287 : Index := Scalar.indexCast v231
  let c0_166 : Index := 0#32
  let c0_167 : Index := 0#32
  ![v287.toNat, 0, 0]
def k0_off128 (v1_0 : BitVec 32) (k0_t3 : Fin (k0_t3_loop v1_0).trips) : Fin 1 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c0_i32_142 : BitVec 32 := 0#32
  let v233 : BitVec 1 := Scalar.cmpi .sgt arg16 c0_i32_142
  let v234 : BitVec 32 := Scalar.extui v233
  let c0_i32_143 : BitVec 32 := 0#32
  let v235 : BitVec 1 := Scalar.cmpi .slt arg16 c0_i32_143
  let v236 : BitVec 32 := Scalar.extui v235
  let v237 : BitVec 32 := Scalar.subi v234 v236
  let c4_i32_141 : BitVec 32 := 4#32
  let c0_i32_144 : BitVec 32 := 0#32
  let v238 : BitVec 1 := Scalar.cmpi .sgt c4_i32_141 c0_i32_144
  let v239 : BitVec 32 := Scalar.extui v238
  let c0_i32_145 : BitVec 32 := 0#32
  let v240 : BitVec 1 := Scalar.cmpi .slt c4_i32_141 c0_i32_145
  let v241 : BitVec 32 := Scalar.extui v240
  let v242 : BitVec 32 := Scalar.subi v239 v241
  let v243 : BitVec 1 := Scalar.cmpi .ne v237 v242
  let v244 : BitVec 32 := Scalar.remsi arg16 c4_i32_141
  let c0_i32_146 : BitVec 32 := 0#32
  let v245 : BitVec 1 := Scalar.cmpi .ne v244 c0_i32_146
  let v246 : BitVec 1 := Scalar.andi v243 v245
  let v232 : BitVec 32 := Scalar.divsi arg16 c4_i32_141
  let c1_i32_147 : BitVec 32 := 1#32
  let v247 : BitVec 32 := Scalar.subi v232 c1_i32_147
  let v248 : BitVec 32 := Scalar.select v246 v247 v232
  let v297 : Index := Scalar.indexCast v248
  ![v297.toNat]
def k0_off129 (v300 : BitVec 32) : Fin 1 → Nat :=
  let v301 : Index := Scalar.indexCast v300
  ![v301.toNat]

def k0_chk15 (v300 : BitVec 32) : Prop :=
  (∀ a, (k0_off129 v300) a + S1.size a ≤ S27.size a)
theorem k0_off129_inb : ∀ (v300 : BitVec 32) (k0_hw15 : k0_chk15 v300), ∀ a, (k0_off129 v300) a + S1.size a ≤ S27.size a := fun v300 k0_hw15 => k0_hw15

def k0_mult8 (v1_0 : BitVec 32) (k0_t3 : Fin (k0_t3_loop v1_0).trips) : BitVec 32 :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_171 : BitVec 32 := 4#32
  let v310 : BitVec 32 := Scalar.remsi arg16 c4_i32_171
  let c512_i32_172 : BitVec 32 := 512#32
  let v311 : BitVec 32 := Scalar.muli v310 c512_i32_172
  v311

def k0_chk6_0 (v1_0 : BitVec 32) : Prop :=
  ((k0_t2_loop v1_0).OK) ∧
  (∀ k0_t2 : Fin (k0_t2_loop v1_0).trips, ∀ (k0_h6 : k0_cond6 v1_0 k0_t2 = 1#1), ∀ a, (k0_off25 v1_0 k0_t2) a + S1.size a ≤ S27.size a) ∧
  (∀ k0_t2 : Fin (k0_t2_loop v1_0).trips, ∀ (k0_h6 : k0_cond6 v1_0 k0_t2 = 1#1), 512 ∣ (k0_mult3 v1_0 k0_t2).toNat) ∧
  (∀ k0_t2 : Fin (k0_t2_loop v1_0).trips, ∀ (k0_h6 : k0_cond6 v1_0 k0_t2 = 1#1), ∀ a, (k0_off27 v1_0 k0_t2) a + S1x1.size a ≤ S3x3.size a) ∧
  (∀ k0_t2 : Fin (k0_t2_loop v1_0).trips, ∀ (k0_h6 : k0_cond6 v1_0 k0_t2 = 1#1), ∀ a, (k0_off28 v1_0 k0_t2) a + S1x1792x512.size a ≤ S3x1792x512.size a) ∧
  (∀ k0_t2 : Fin (k0_t2_loop v1_0).trips, ∀ (k0_h6 : k0_cond6 v1_0 k0_t2 = 1#1), ∀ (hinb : ∀ a, (k0_off28 v1_0 k0_t2) a + S1x1792x512.size a ≤ S3x1792x512.size a), (Rect.unit (s := S3x1792x512) (k0_off28 v1_0 k0_t2) S1x1792x512.size hinb).WholeWords (EltTy.packing .i8)) ∧
  (∀ k0_t2 : Fin (k0_t2_loop v1_0).trips, ∀ (k0_h6 : k0_cond6 v1_0 k0_t2 = 1#1), ∀ a, (k0_off30 v1_0 k0_t2) a + S1x1.size a ≤ S3x3.size a) ∧
  (∀ k0_t2 : Fin (k0_t2_loop v1_0).trips, ∀ (k0_h6 : k0_cond6 v1_0 k0_t2 = 1#1), ∀ a, (k0_off31 v1_0 k0_t2) a + S1x112x512.size a ≤ S3x112x512.size a) ∧
  (∀ k0_t2 : Fin (k0_t2_loop v1_0).trips, ∀ a, (k0_off36 v1_0 k0_t2) a + S1.size a ≤ S27.size a) ∧
  (∀ k0_t2 : Fin (k0_t2_loop v1_0).trips, 512 ∣ (k0_mult4 v1_0 k0_t2).toNat) ∧
  (∀ k0_t2 : Fin (k0_t2_loop v1_0).trips, ∀ a, (k0_off38 v1_0 k0_t2) a + S1x1.size a ≤ S3x3.size a) ∧
  (∀ k0_t2 : Fin (k0_t2_loop v1_0).trips, ∀ a, (k0_off39 v1_0 k0_t2) a + S1x1792x512.size a ≤ S3x1792x512.size a) ∧
  (∀ k0_t2 : Fin (k0_t2_loop v1_0).trips, ∀ (hinb : ∀ a, (k0_off39 v1_0 k0_t2) a + S1x1792x512.size a ≤ S3x1792x512.size a), (Rect.unit (s := S3x1792x512) (k0_off39 v1_0 k0_t2) S1x1792x512.size hinb).WholeWords (EltTy.packing .i8)) ∧
  (∀ k0_t2 : Fin (k0_t2_loop v1_0).trips, ∀ a, (k0_off41 v1_0 k0_t2) a + S1x1.size a ≤ S3x3.size a) ∧
  (∀ k0_t2 : Fin (k0_t2_loop v1_0).trips, ∀ a, (k0_off42 v1_0 k0_t2) a + S1x112x512.size a ≤ S3x112x512.size a) ∧
  (∀ k0_t2 : Fin (k0_t2_loop v1_0).trips, ∀ a, (k0_off44 v1_0 k0_t2) a + S1x112x512.size a ≤ S3x112x512.size a) ∧
  (∀ k0_t2 : Fin (k0_t2_loop v1_0).trips, ∀ a, (k0_off45 v1_0 k0_t2) a + S1.size a ≤ S27.size a) ∧
  (∀ k0_t2 : Fin (k0_t2_loop v1_0).trips, 512 ∣ (k0_mult5 v1_0 k0_t2).toNat) ∧
  ((k0_t3_loop v1_0).OK) ∧
  (∀ k0_t3 : Fin (k0_t3_loop v1_0).trips, ∀ (k0_h10 : k0_cond10 v1_0 k0_t3 = 1#1), ∀ a, (k0_off108 v1_0 k0_t3) a + S1.size a ≤ S27.size a) ∧
  (∀ k0_t3 : Fin (k0_t3_loop v1_0).trips, ∀ (k0_h10 : k0_cond10 v1_0 k0_t3 = 1#1), 512 ∣ (k0_mult6 v1_0 k0_t3).toNat) ∧
  (∀ k0_t3 : Fin (k0_t3_loop v1_0).trips, ∀ (k0_h10 : k0_cond10 v1_0 k0_t3 = 1#1), ∀ a, (k0_off110 v1_0 k0_t3) a + S1x1.size a ≤ S3x3.size a) ∧
  (∀ k0_t3 : Fin (k0_t3_loop v1_0).trips, ∀ (k0_h10 : k0_cond10 v1_0 k0_t3 = 1#1), ∀ a, (k0_off111 v1_0 k0_t3) a + S1x1792x512.size a ≤ S3x1792x512.size a) ∧
  (∀ k0_t3 : Fin (k0_t3_loop v1_0).trips, ∀ (k0_h10 : k0_cond10 v1_0 k0_t3 = 1#1), ∀ (hinb : ∀ a, (k0_off111 v1_0 k0_t3) a + S1x1792x512.size a ≤ S3x1792x512.size a), (Rect.unit (s := S3x1792x512) (k0_off111 v1_0 k0_t3) S1x1792x512.size hinb).WholeWords (EltTy.packing .i8)) ∧
  (∀ k0_t3 : Fin (k0_t3_loop v1_0).trips, ∀ (k0_h10 : k0_cond10 v1_0 k0_t3 = 1#1), ∀ a, (k0_off113 v1_0 k0_t3) a + S1x1.size a ≤ S3x3.size a) ∧
  (∀ k0_t3 : Fin (k0_t3_loop v1_0).trips, ∀ (k0_h10 : k0_cond10 v1_0 k0_t3 = 1#1), ∀ a, (k0_off114 v1_0 k0_t3) a + S1x112x512.size a ≤ S3x112x512.size a) ∧
  (∀ k0_t3 : Fin (k0_t3_loop v1_0).trips, ∀ a, (k0_off119 v1_0 k0_t3) a + S1.size a ≤ S27.size a) ∧
  (∀ k0_t3 : Fin (k0_t3_loop v1_0).trips, 512 ∣ (k0_mult7 v1_0 k0_t3).toNat) ∧
  (∀ k0_t3 : Fin (k0_t3_loop v1_0).trips, ∀ a, (k0_off121 v1_0 k0_t3) a + S1x1.size a ≤ S3x3.size a) ∧
  (∀ k0_t3 : Fin (k0_t3_loop v1_0).trips, ∀ a, (k0_off122 v1_0 k0_t3) a + S1x1792x512.size a ≤ S3x1792x512.size a) ∧
  (∀ k0_t3 : Fin (k0_t3_loop v1_0).trips, ∀ (hinb : ∀ a, (k0_off122 v1_0 k0_t3) a + S1x1792x512.size a ≤ S3x1792x512.size a), (Rect.unit (s := S3x1792x512) (k0_off122 v1_0 k0_t3) S1x1792x512.size hinb).WholeWords (EltTy.packing .i8)) ∧
  (∀ k0_t3 : Fin (k0_t3_loop v1_0).trips, ∀ a, (k0_off124 v1_0 k0_t3) a + S1x1.size a ≤ S3x3.size a)
def k0_chk6_1 (v1_0 : BitVec 32) : Prop :=
  (∀ k0_t3 : Fin (k0_t3_loop v1_0).trips, ∀ a, (k0_off125 v1_0 k0_t3) a + S1x112x512.size a ≤ S3x112x512.size a) ∧
  (∀ k0_t3 : Fin (k0_t3_loop v1_0).trips, ∀ a, (k0_off127 v1_0 k0_t3) a + S1x112x512.size a ≤ S3x112x512.size a) ∧
  (∀ k0_t3 : Fin (k0_t3_loop v1_0).trips, ∀ a, (k0_off128 v1_0 k0_t3) a + S1.size a ≤ S27.size a) ∧
  (∀ k0_t3 : Fin (k0_t3_loop v1_0).trips, 512 ∣ (k0_mult8 v1_0 k0_t3).toNat)
def k0_chk6 (v1_0 : BitVec 32) : Prop :=
  k0_chk6_0 v1_0 ∧
  k0_chk6_1 v1_0
theorem k0_t2_ok : ∀ (v1_0 : BitVec 32) (k0_hw6 : k0_chk6 v1_0), (k0_t2_loop v1_0).OK := fun v1_0 k0_hw6 => k0_hw6.1.1
theorem k0_off25_inb : ∀ (v1_0 : BitVec 32) (k0_hw6 : k0_chk6 v1_0) (k0_t2 : Fin (k0_t2_loop v1_0).trips), ∀ (k0_h6 : k0_cond6 v1_0 k0_t2 = 1#1), ∀ a, (k0_off25 v1_0 k0_t2) a + S1.size a ≤ S27.size a := fun v1_0 k0_hw6 k0_t2 k0_h6 => k0_hw6.1.2.1 k0_t2 k0_h6
theorem k0_mult3_dvd : ∀ (v1_0 : BitVec 32) (k0_hw6 : k0_chk6 v1_0) (k0_t2 : Fin (k0_t2_loop v1_0).trips), ∀ (k0_h6 : k0_cond6 v1_0 k0_t2 = 1#1), 512 ∣ (k0_mult3 v1_0 k0_t2).toNat := fun v1_0 k0_hw6 k0_t2 k0_h6 => k0_hw6.1.2.2.1 k0_t2 k0_h6
theorem k0_off27_inb : ∀ (v1_0 : BitVec 32) (k0_hw6 : k0_chk6 v1_0) (k0_t2 : Fin (k0_t2_loop v1_0).trips), ∀ (k0_h6 : k0_cond6 v1_0 k0_t2 = 1#1), ∀ a, (k0_off27 v1_0 k0_t2) a + S1x1.size a ≤ S3x3.size a := fun v1_0 k0_hw6 k0_t2 k0_h6 => k0_hw6.1.2.2.2.1 k0_t2 k0_h6
theorem k0_off28_inb : ∀ (v1_0 : BitVec 32) (k0_hw6 : k0_chk6 v1_0) (k0_t2 : Fin (k0_t2_loop v1_0).trips), ∀ (k0_h6 : k0_cond6 v1_0 k0_t2 = 1#1), ∀ a, (k0_off28 v1_0 k0_t2) a + S1x1792x512.size a ≤ S3x1792x512.size a := fun v1_0 k0_hw6 k0_t2 k0_h6 => k0_hw6.1.2.2.2.2.1 k0_t2 k0_h6
theorem k0_off28_wordsi8 : ∀ (v1_0 : BitVec 32) (k0_hw6 : k0_chk6 v1_0) (k0_t2 : Fin (k0_t2_loop v1_0).trips), ∀ (k0_h6 : k0_cond6 v1_0 k0_t2 = 1#1), (Rect.unit (s := S3x1792x512) (k0_off28 v1_0 k0_t2) S1x1792x512.size (k0_off28_inb v1_0 k0_hw6 k0_t2 k0_h6)).WholeWords (EltTy.packing .i8) := fun v1_0 k0_hw6 k0_t2 k0_h6 => k0_hw6.1.2.2.2.2.2.1 k0_t2 k0_h6 (k0_off28_inb v1_0 k0_hw6 k0_t2 k0_h6)
theorem k0_off30_inb : ∀ (v1_0 : BitVec 32) (k0_hw6 : k0_chk6 v1_0) (k0_t2 : Fin (k0_t2_loop v1_0).trips), ∀ (k0_h6 : k0_cond6 v1_0 k0_t2 = 1#1), ∀ a, (k0_off30 v1_0 k0_t2) a + S1x1.size a ≤ S3x3.size a := fun v1_0 k0_hw6 k0_t2 k0_h6 => k0_hw6.1.2.2.2.2.2.2.1 k0_t2 k0_h6
theorem k0_off31_inb : ∀ (v1_0 : BitVec 32) (k0_hw6 : k0_chk6 v1_0) (k0_t2 : Fin (k0_t2_loop v1_0).trips), ∀ (k0_h6 : k0_cond6 v1_0 k0_t2 = 1#1), ∀ a, (k0_off31 v1_0 k0_t2) a + S1x112x512.size a ≤ S3x112x512.size a := fun v1_0 k0_hw6 k0_t2 k0_h6 => k0_hw6.1.2.2.2.2.2.2.2.1 k0_t2 k0_h6
theorem k0_off36_inb : ∀ (v1_0 : BitVec 32) (k0_hw6 : k0_chk6 v1_0) (k0_t2 : Fin (k0_t2_loop v1_0).trips), ∀ a, (k0_off36 v1_0 k0_t2) a + S1.size a ≤ S27.size a := fun v1_0 k0_hw6 k0_t2 => k0_hw6.1.2.2.2.2.2.2.2.2.1 k0_t2
theorem k0_mult4_dvd : ∀ (v1_0 : BitVec 32) (k0_hw6 : k0_chk6 v1_0) (k0_t2 : Fin (k0_t2_loop v1_0).trips), 512 ∣ (k0_mult4 v1_0 k0_t2).toNat := fun v1_0 k0_hw6 k0_t2 => k0_hw6.1.2.2.2.2.2.2.2.2.2.1 k0_t2
theorem k0_off38_inb : ∀ (v1_0 : BitVec 32) (k0_hw6 : k0_chk6 v1_0) (k0_t2 : Fin (k0_t2_loop v1_0).trips), ∀ a, (k0_off38 v1_0 k0_t2) a + S1x1.size a ≤ S3x3.size a := fun v1_0 k0_hw6 k0_t2 => k0_hw6.1.2.2.2.2.2.2.2.2.2.2.1 k0_t2
theorem k0_off39_inb : ∀ (v1_0 : BitVec 32) (k0_hw6 : k0_chk6 v1_0) (k0_t2 : Fin (k0_t2_loop v1_0).trips), ∀ a, (k0_off39 v1_0 k0_t2) a + S1x1792x512.size a ≤ S3x1792x512.size a := fun v1_0 k0_hw6 k0_t2 => k0_hw6.1.2.2.2.2.2.2.2.2.2.2.2.1 k0_t2
theorem k0_off39_wordsi8 : ∀ (v1_0 : BitVec 32) (k0_hw6 : k0_chk6 v1_0) (k0_t2 : Fin (k0_t2_loop v1_0).trips), (Rect.unit (s := S3x1792x512) (k0_off39 v1_0 k0_t2) S1x1792x512.size (k0_off39_inb v1_0 k0_hw6 k0_t2)).WholeWords (EltTy.packing .i8) := fun v1_0 k0_hw6 k0_t2 => k0_hw6.1.2.2.2.2.2.2.2.2.2.2.2.2.1 k0_t2 (k0_off39_inb v1_0 k0_hw6 k0_t2)
theorem k0_off41_inb : ∀ (v1_0 : BitVec 32) (k0_hw6 : k0_chk6 v1_0) (k0_t2 : Fin (k0_t2_loop v1_0).trips), ∀ a, (k0_off41 v1_0 k0_t2) a + S1x1.size a ≤ S3x3.size a := fun v1_0 k0_hw6 k0_t2 => k0_hw6.1.2.2.2.2.2.2.2.2.2.2.2.2.2.1 k0_t2
theorem k0_off42_inb : ∀ (v1_0 : BitVec 32) (k0_hw6 : k0_chk6 v1_0) (k0_t2 : Fin (k0_t2_loop v1_0).trips), ∀ a, (k0_off42 v1_0 k0_t2) a + S1x112x512.size a ≤ S3x112x512.size a := fun v1_0 k0_hw6 k0_t2 => k0_hw6.1.2.2.2.2.2.2.2.2.2.2.2.2.2.2.1 k0_t2
theorem k0_off44_inb : ∀ (v1_0 : BitVec 32) (k0_hw6 : k0_chk6 v1_0) (k0_t2 : Fin (k0_t2_loop v1_0).trips), ∀ a, (k0_off44 v1_0 k0_t2) a + S1x112x512.size a ≤ S3x112x512.size a := fun v1_0 k0_hw6 k0_t2 => k0_hw6.1.2.2.2.2.2.2.2.2.2.2.2.2.2.2.2.1 k0_t2
theorem k0_off45_inb : ∀ (v1_0 : BitVec 32) (k0_hw6 : k0_chk6 v1_0) (k0_t2 : Fin (k0_t2_loop v1_0).trips), ∀ a, (k0_off45 v1_0 k0_t2) a + S1.size a ≤ S27.size a := fun v1_0 k0_hw6 k0_t2 => k0_hw6.1.2.2.2.2.2.2.2.2.2.2.2.2.2.2.2.2.1 k0_t2
theorem k0_mult5_dvd : ∀ (v1_0 : BitVec 32) (k0_hw6 : k0_chk6 v1_0) (k0_t2 : Fin (k0_t2_loop v1_0).trips), 512 ∣ (k0_mult5 v1_0 k0_t2).toNat := fun v1_0 k0_hw6 k0_t2 => k0_hw6.1.2.2.2.2.2.2.2.2.2.2.2.2.2.2.2.2.2.1 k0_t2
theorem k0_t3_ok : ∀ (v1_0 : BitVec 32) (k0_hw6 : k0_chk6 v1_0), (k0_t3_loop v1_0).OK := fun v1_0 k0_hw6 => k0_hw6.1.2.2.2.2.2.2.2.2.2.2.2.2.2.2.2.2.2.2.1
theorem k0_off108_inb : ∀ (v1_0 : BitVec 32) (k0_hw6 : k0_chk6 v1_0) (k0_t3 : Fin (k0_t3_loop v1_0).trips), ∀ (k0_h10 : k0_cond10 v1_0 k0_t3 = 1#1), ∀ a, (k0_off108 v1_0 k0_t3) a + S1.size a ≤ S27.size a := fun v1_0 k0_hw6 k0_t3 k0_h10 => k0_hw6.1.2.2.2.2.2.2.2.2.2.2.2.2.2.2.2.2.2.2.2.1 k0_t3 k0_h10
theorem k0_mult6_dvd : ∀ (v1_0 : BitVec 32) (k0_hw6 : k0_chk6 v1_0) (k0_t3 : Fin (k0_t3_loop v1_0).trips), ∀ (k0_h10 : k0_cond10 v1_0 k0_t3 = 1#1), 512 ∣ (k0_mult6 v1_0 k0_t3).toNat := fun v1_0 k0_hw6 k0_t3 k0_h10 => k0_hw6.1.2.2.2.2.2.2.2.2.2.2.2.2.2.2.2.2.2.2.2.2.1 k0_t3 k0_h10
theorem k0_off110_inb : ∀ (v1_0 : BitVec 32) (k0_hw6 : k0_chk6 v1_0) (k0_t3 : Fin (k0_t3_loop v1_0).trips), ∀ (k0_h10 : k0_cond10 v1_0 k0_t3 = 1#1), ∀ a, (k0_off110 v1_0 k0_t3) a + S1x1.size a ≤ S3x3.size a := fun v1_0 k0_hw6 k0_t3 k0_h10 => k0_hw6.1.2.2.2.2.2.2.2.2.2.2.2.2.2.2.2.2.2.2.2.2.2.1 k0_t3 k0_h10
theorem k0_off111_inb : ∀ (v1_0 : BitVec 32) (k0_hw6 : k0_chk6 v1_0) (k0_t3 : Fin (k0_t3_loop v1_0).trips), ∀ (k0_h10 : k0_cond10 v1_0 k0_t3 = 1#1), ∀ a, (k0_off111 v1_0 k0_t3) a + S1x1792x512.size a ≤ S3x1792x512.size a := fun v1_0 k0_hw6 k0_t3 k0_h10 => k0_hw6.1.2.2.2.2.2.2.2.2.2.2.2.2.2.2.2.2.2.2.2.2.2.2.1 k0_t3 k0_h10
theorem k0_off111_wordsi8 : ∀ (v1_0 : BitVec 32) (k0_hw6 : k0_chk6 v1_0) (k0_t3 : Fin (k0_t3_loop v1_0).trips), ∀ (k0_h10 : k0_cond10 v1_0 k0_t3 = 1#1), (Rect.unit (s := S3x1792x512) (k0_off111 v1_0 k0_t3) S1x1792x512.size (k0_off111_inb v1_0 k0_hw6 k0_t3 k0_h10)).WholeWords (EltTy.packing .i8) := fun v1_0 k0_hw6 k0_t3 k0_h10 => k0_hw6.1.2.2.2.2.2.2.2.2.2.2.2.2.2.2.2.2.2.2.2.2.2.2.2.1 k0_t3 k0_h10 (k0_off111_inb v1_0 k0_hw6 k0_t3 k0_h10)
theorem k0_off113_inb : ∀ (v1_0 : BitVec 32) (k0_hw6 : k0_chk6 v1_0) (k0_t3 : Fin (k0_t3_loop v1_0).trips), ∀ (k0_h10 : k0_cond10 v1_0 k0_t3 = 1#1), ∀ a, (k0_off113 v1_0 k0_t3) a + S1x1.size a ≤ S3x3.size a := fun v1_0 k0_hw6 k0_t3 k0_h10 => k0_hw6.1.2.2.2.2.2.2.2.2.2.2.2.2.2.2.2.2.2.2.2.2.2.2.2.2.1 k0_t3 k0_h10
theorem k0_off114_inb : ∀ (v1_0 : BitVec 32) (k0_hw6 : k0_chk6 v1_0) (k0_t3 : Fin (k0_t3_loop v1_0).trips), ∀ (k0_h10 : k0_cond10 v1_0 k0_t3 = 1#1), ∀ a, (k0_off114 v1_0 k0_t3) a + S1x112x512.size a ≤ S3x112x512.size a := fun v1_0 k0_hw6 k0_t3 k0_h10 => k0_hw6.1.2.2.2.2.2.2.2.2.2.2.2.2.2.2.2.2.2.2.2.2.2.2.2.2.2.1 k0_t3 k0_h10
theorem k0_off119_inb : ∀ (v1_0 : BitVec 32) (k0_hw6 : k0_chk6 v1_0) (k0_t3 : Fin (k0_t3_loop v1_0).trips), ∀ a, (k0_off119 v1_0 k0_t3) a + S1.size a ≤ S27.size a := fun v1_0 k0_hw6 k0_t3 => k0_hw6.1.2.2.2.2.2.2.2.2.2.2.2.2.2.2.2.2.2.2.2.2.2.2.2.2.2.2.1 k0_t3
theorem k0_mult7_dvd : ∀ (v1_0 : BitVec 32) (k0_hw6 : k0_chk6 v1_0) (k0_t3 : Fin (k0_t3_loop v1_0).trips), 512 ∣ (k0_mult7 v1_0 k0_t3).toNat := fun v1_0 k0_hw6 k0_t3 => k0_hw6.1.2.2.2.2.2.2.2.2.2.2.2.2.2.2.2.2.2.2.2.2.2.2.2.2.2.2.2.1 k0_t3
theorem k0_off121_inb : ∀ (v1_0 : BitVec 32) (k0_hw6 : k0_chk6 v1_0) (k0_t3 : Fin (k0_t3_loop v1_0).trips), ∀ a, (k0_off121 v1_0 k0_t3) a + S1x1.size a ≤ S3x3.size a := fun v1_0 k0_hw6 k0_t3 => k0_hw6.1.2.2.2.2.2.2.2.2.2.2.2.2.2.2.2.2.2.2.2.2.2.2.2.2.2.2.2.2.1 k0_t3
theorem k0_off122_inb : ∀ (v1_0 : BitVec 32) (k0_hw6 : k0_chk6 v1_0) (k0_t3 : Fin (k0_t3_loop v1_0).trips), ∀ a, (k0_off122 v1_0 k0_t3) a + S1x1792x512.size a ≤ S3x1792x512.size a := fun v1_0 k0_hw6 k0_t3 => k0_hw6.1.2.2.2.2.2.2.2.2.2.2.2.2.2.2.2.2.2.2.2.2.2.2.2.2.2.2.2.2.2.1 k0_t3
theorem k0_off122_wordsi8 : ∀ (v1_0 : BitVec 32) (k0_hw6 : k0_chk6 v1_0) (k0_t3 : Fin (k0_t3_loop v1_0).trips), (Rect.unit (s := S3x1792x512) (k0_off122 v1_0 k0_t3) S1x1792x512.size (k0_off122_inb v1_0 k0_hw6 k0_t3)).WholeWords (EltTy.packing .i8) := fun v1_0 k0_hw6 k0_t3 => k0_hw6.1.2.2.2.2.2.2.2.2.2.2.2.2.2.2.2.2.2.2.2.2.2.2.2.2.2.2.2.2.2.2.1 k0_t3 (k0_off122_inb v1_0 k0_hw6 k0_t3)
theorem k0_off124_inb : ∀ (v1_0 : BitVec 32) (k0_hw6 : k0_chk6 v1_0) (k0_t3 : Fin (k0_t3_loop v1_0).trips), ∀ a, (k0_off124 v1_0 k0_t3) a + S1x1.size a ≤ S3x3.size a := fun v1_0 k0_hw6 k0_t3 => k0_hw6.1.2.2.2.2.2.2.2.2.2.2.2.2.2.2.2.2.2.2.2.2.2.2.2.2.2.2.2.2.2.2.2 k0_t3
theorem k0_off125_inb : ∀ (v1_0 : BitVec 32) (k0_hw6 : k0_chk6 v1_0) (k0_t3 : Fin (k0_t3_loop v1_0).trips), ∀ a, (k0_off125 v1_0 k0_t3) a + S1x112x512.size a ≤ S3x112x512.size a := fun v1_0 k0_hw6 k0_t3 => k0_hw6.2.1 k0_t3
theorem k0_off127_inb : ∀ (v1_0 : BitVec 32) (k0_hw6 : k0_chk6 v1_0) (k0_t3 : Fin (k0_t3_loop v1_0).trips), ∀ a, (k0_off127 v1_0 k0_t3) a + S1x112x512.size a ≤ S3x112x512.size a := fun v1_0 k0_hw6 k0_t3 => k0_hw6.2.2.1 k0_t3
theorem k0_off128_inb : ∀ (v1_0 : BitVec 32) (k0_hw6 : k0_chk6 v1_0) (k0_t3 : Fin (k0_t3_loop v1_0).trips), ∀ a, (k0_off128 v1_0 k0_t3) a + S1.size a ≤ S27.size a := fun v1_0 k0_hw6 k0_t3 => k0_hw6.2.2.2.1 k0_t3
theorem k0_mult8_dvd : ∀ (v1_0 : BitVec 32) (k0_hw6 : k0_chk6 v1_0) (k0_t3 : Fin (k0_t3_loop v1_0).trips), 512 ∣ (k0_mult8 v1_0 k0_t3).toNat := fun v1_0 k0_hw6 k0_t3 => k0_hw6.2.2.2.2 k0_t3

def k0_off130 (v1_0 : BitVec 32) (k0_t3 : Fin (k0_t3_loop v1_0).trips) : Fin 2 → Nat :=
  let c2_i32_174 : BitVec 32 := 2#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_148 : BitVec 32 := 3#32
  let v249 : BitVec 32 := Scalar.remsi arg16 c3_i32_148
  ![2, v249.toNat]
def k0_cond12 (v273 : BitVec 32) : BitVec 1 :=
  let c0_i32_173 : BitVec 32 := 0#32
  let v313 : BitVec 1 := Scalar.cmpi .sge v273 c0_i32_173
  let v314 : BitVec 32 := Scalar.extui v313
  let c0_i32_175 : BitVec 32 := 0#32
  let v315 : BitVec 1 := Scalar.cmpi .ne v314 c0_i32_175
  v315

def k0_off131 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_148 : BitVec 32 := 3#32
  let v249 : BitVec 32 := Scalar.remsi arg16 c3_i32_148
  let c0_i32_179 : BitVec 32 := 0#32
  let c0_i32_180 : BitVec 32 := 0#32
  ![v249.toNat, 0, 0]
def k0_off132 (v1_0 : BitVec 32) (k0_t3 : Fin (k0_t3_loop v1_0).trips) (v273 : BitVec 32) : Fin 3 → Nat :=
  let c0_i32_157 : BitVec 32 := 0#32
  let v274 : BitVec 32 := Scalar.maxsi v273 c0_i32_157
  let c0_i32_181 : BitVec 32 := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_156 : BitVec 32 := 4#32
  let v269 : BitVec 32 := Scalar.remsi arg16 c4_i32_156
  let c512_i32 : BitVec 32 := 512#32
  let v270 : BitVec 32 := Scalar.muli v269 c512_i32
  let v271 : BitVec 32 := v270
  ![v274.toNat, 0, v271.toNat]
def k0_off133 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v325 : Index := Scalar.indexCast v231
  let c0_182 : Index := 0#32
  let c0_183 : Index := 0#32
  ![v325.toNat, 0, 0]
def k0_off134 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v411 : Index := Scalar.indexCast v231
  let c64 : Index := 64#32
  let c0_206 : Index := 0#32
  ![v411.toNat, 64, 0]
def k0_off135 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v497 : Index := Scalar.indexCast v231
  let c128 : Index := 128#32
  let c0_230 : Index := 0#32
  ![v497.toNat, 128, 0]
def k0_off136 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v583 : Index := Scalar.indexCast v231
  let c192 : Index := 192#32
  let c0_254 : Index := 0#32
  ![v583.toNat, 192, 0]
def k0_off137 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v669 : Index := Scalar.indexCast v231
  let c256_278 : Index := 256#32
  let c0_279 : Index := 0#32
  ![v669.toNat, 256, 0]
def k0_off138 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v755 : Index := Scalar.indexCast v231
  let c320 : Index := 320#32
  let c0_303 : Index := 0#32
  ![v755.toNat, 320, 0]
def k0_off139 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v841 : Index := Scalar.indexCast v231
  let c384 : Index := 384#32
  let c0_327 : Index := 0#32
  ![v841.toNat, 384, 0]
def k0_off140 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v930 : Index := Scalar.indexCast v231
  let c448 : Index := 448#32
  let c0_354 : Index := 0#32
  ![v930.toNat, 448, 0]
def k0_off141 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1016 : Index := Scalar.indexCast v231
  let c512_378 : Index := 512#32
  let c0_379 : Index := 0#32
  ![v1016.toNat, 512, 0]
def k0_off142 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1102 : Index := Scalar.indexCast v231
  let c576 : Index := 576#32
  let c0_403 : Index := 0#32
  ![v1102.toNat, 576, 0]
def k0_off143 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1188 : Index := Scalar.indexCast v231
  let c640 : Index := 640#32
  let c0_427 : Index := 0#32
  ![v1188.toNat, 640, 0]
def k0_off144 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1274 : Index := Scalar.indexCast v231
  let c704 : Index := 704#32
  let c0_451 : Index := 0#32
  ![v1274.toNat, 704, 0]
def k0_off145 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1360 : Index := Scalar.indexCast v231
  let c768_475 : Index := 768#32
  let c0_476 : Index := 0#32
  ![v1360.toNat, 768, 0]
def k0_off146 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1446 : Index := Scalar.indexCast v231
  let c832 : Index := 832#32
  let c0_500 : Index := 0#32
  ![v1446.toNat, 832, 0]
def k0_off147 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1536 : Index := Scalar.indexCast v231
  let c896 : Index := 896#32
  let c0_527 : Index := 0#32
  ![v1536.toNat, 896, 0]
def k0_off148 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1622 : Index := Scalar.indexCast v231
  let c960 : Index := 960#32
  let c0_551 : Index := 0#32
  ![v1622.toNat, 960, 0]
def k0_off149 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1708 : Index := Scalar.indexCast v231
  let c1024_575 : Index := 1024#32
  let c0_576 : Index := 0#32
  ![v1708.toNat, 1024, 0]
def k0_off150 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1794 : Index := Scalar.indexCast v231
  let c1088 : Index := 1088#32
  let c0_601 : Index := 0#32
  ![v1794.toNat, 1088, 0]
def k0_off151 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1880 : Index := Scalar.indexCast v231
  let c1152 : Index := 1152#32
  let c0_625 : Index := 0#32
  ![v1880.toNat, 1152, 0]
def k0_off152 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1966 : Index := Scalar.indexCast v231
  let c1216 : Index := 1216#32
  let c0_649 : Index := 0#32
  ![v1966.toNat, 1216, 0]
def k0_off153 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2052 : Index := Scalar.indexCast v231
  let c1280_673 : Index := 1280#32
  let c0_674 : Index := 0#32
  ![v2052.toNat, 1280, 0]
def k0_off154 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2142 : Index := Scalar.indexCast v231
  let c1344 : Index := 1344#32
  let c0_701 : Index := 0#32
  ![v2142.toNat, 1344, 0]
def k0_off155 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2228 : Index := Scalar.indexCast v231
  let c1408 : Index := 1408#32
  let c0_725 : Index := 0#32
  ![v2228.toNat, 1408, 0]
def k0_off156 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2314 : Index := Scalar.indexCast v231
  let c1472 : Index := 1472#32
  let c0_749 : Index := 0#32
  ![v2314.toNat, 1472, 0]
def k0_off157 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2400 : Index := Scalar.indexCast v231
  let c1536_773 : Index := 1536#32
  let c0_774 : Index := 0#32
  ![v2400.toNat, 1536, 0]
def k0_off158 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2486 : Index := Scalar.indexCast v231
  let c1600 : Index := 1600#32
  let c0_798 : Index := 0#32
  ![v2486.toNat, 1600, 0]
def k0_off159 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2572 : Index := Scalar.indexCast v231
  let c1664 : Index := 1664#32
  let c0_822 : Index := 0#32
  ![v2572.toNat, 1664, 0]
def k0_off160 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2658 : Index := Scalar.indexCast v231
  let c1728 : Index := 1728#32
  let c0_846 : Index := 0#32
  ![v2658.toNat, 1728, 0]
def k0_off161 (v1_0 : BitVec 32) (k0_t3 : Fin (k0_t3_loop v1_0).trips) : Fin 2 → Nat :=
  let c0_873 : Index := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_171 : BitVec 32 := 4#32
  let v310 : BitVec 32 := Scalar.remsi arg16 c4_i32_171
  let c512_i32_172 : BitVec 32 := 512#32
  let v311 : BitVec 32 := Scalar.muli v310 c512_i32_172
  let v312 : BitVec 32 := v311
  let v2748 : Index := Scalar.indexCast v312
  ![0, v2748.toNat]
def k0_off162 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v319 : Index := Scalar.indexCast v231
  let c0_179 : Index := 0#32
  let c0_180 : Index := 0#32
  ![v319.toNat, 0, 0]
def k0_cond13 (v273 : BitVec 32) : BitVec 1 :=
  let c0_i32_176 : BitVec 32 := 0#32
  let v316 : BitVec 1 := Scalar.cmpi .slt v273 c0_i32_176
  let v317 : BitVec 32 := Scalar.extui v316
  let c0_i32_177 : BitVec 32 := 0#32
  let v318 : BitVec 1 := Scalar.cmpi .ne v317 c0_i32_177
  v318

def k0_off163 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v402 : Index := Scalar.indexCast v231
  let c64 : Index := 64#32
  let c0_202 : Index := 0#32
  ![v402.toNat, 64, 0]
def k0_off164 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v485 : Index := Scalar.indexCast v231
  let c128 : Index := 128#32
  let c0_226 : Index := 0#32
  ![v485.toNat, 128, 0]
def k0_off165 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v568 : Index := Scalar.indexCast v231
  let c192 : Index := 192#32
  let c0_250 : Index := 0#32
  ![v568.toNat, 192, 0]
def k0_off166 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v651 : Index := Scalar.indexCast v231
  let c256_274 : Index := 256#32
  let c0_275 : Index := 0#32
  ![v651.toNat, 256, 0]
def k0_off167 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v734 : Index := Scalar.indexCast v231
  let c320 : Index := 320#32
  let c0_299 : Index := 0#32
  ![v734.toNat, 320, 0]
def k0_off168 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v817 : Index := Scalar.indexCast v231
  let c384 : Index := 384#32
  let c0_323 : Index := 0#32
  ![v817.toNat, 384, 0]
def k0_off169 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v903 : Index := Scalar.indexCast v231
  let c448 : Index := 448#32
  let c0_350 : Index := 0#32
  ![v903.toNat, 448, 0]
def k0_off170 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v986 : Index := Scalar.indexCast v231
  let c512_374 : Index := 512#32
  let c0_375 : Index := 0#32
  ![v986.toNat, 512, 0]
def k0_off171 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1069 : Index := Scalar.indexCast v231
  let c576 : Index := 576#32
  let c0_399 : Index := 0#32
  ![v1069.toNat, 576, 0]
def k0_off172 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1152 : Index := Scalar.indexCast v231
  let c640 : Index := 640#32
  let c0_423 : Index := 0#32
  ![v1152.toNat, 640, 0]
def k0_off173 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1235 : Index := Scalar.indexCast v231
  let c704 : Index := 704#32
  let c0_447 : Index := 0#32
  ![v1235.toNat, 704, 0]
def k0_off174 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1318 : Index := Scalar.indexCast v231
  let c768_471 : Index := 768#32
  let c0_472 : Index := 0#32
  ![v1318.toNat, 768, 0]
def k0_off175 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1401 : Index := Scalar.indexCast v231
  let c832 : Index := 832#32
  let c0_496 : Index := 0#32
  ![v1401.toNat, 832, 0]
def k0_off176 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1488 : Index := Scalar.indexCast v231
  let c896 : Index := 896#32
  let c0_523 : Index := 0#32
  ![v1488.toNat, 896, 0]
def k0_off177 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1571 : Index := Scalar.indexCast v231
  let c960 : Index := 960#32
  let c0_547 : Index := 0#32
  ![v1571.toNat, 960, 0]
def k0_off178 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1654 : Index := Scalar.indexCast v231
  let c1024_571 : Index := 1024#32
  let c0_572 : Index := 0#32
  ![v1654.toNat, 1024, 0]
def k0_off179 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1737 : Index := Scalar.indexCast v231
  let c1088 : Index := 1088#32
  let c0_597 : Index := 0#32
  ![v1737.toNat, 1088, 0]
def k0_off180 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1820 : Index := Scalar.indexCast v231
  let c1152 : Index := 1152#32
  let c0_621 : Index := 0#32
  ![v1820.toNat, 1152, 0]
def k0_off181 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1903 : Index := Scalar.indexCast v231
  let c1216 : Index := 1216#32
  let c0_645 : Index := 0#32
  ![v1903.toNat, 1216, 0]
def k0_off182 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v1986 : Index := Scalar.indexCast v231
  let c1280_669 : Index := 1280#32
  let c0_670 : Index := 0#32
  ![v1986.toNat, 1280, 0]
def k0_off183 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2073 : Index := Scalar.indexCast v231
  let c1344 : Index := 1344#32
  let c0_697 : Index := 0#32
  ![v2073.toNat, 1344, 0]
def k0_off184 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2156 : Index := Scalar.indexCast v231
  let c1408 : Index := 1408#32
  let c0_721 : Index := 0#32
  ![v2156.toNat, 1408, 0]
def k0_off185 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2239 : Index := Scalar.indexCast v231
  let c1472 : Index := 1472#32
  let c0_745 : Index := 0#32
  ![v2239.toNat, 1472, 0]
def k0_off186 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2322 : Index := Scalar.indexCast v231
  let c1536_769 : Index := 1536#32
  let c0_770 : Index := 0#32
  ![v2322.toNat, 1536, 0]
def k0_off187 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2405 : Index := Scalar.indexCast v231
  let c1600 : Index := 1600#32
  let c0_794 : Index := 0#32
  ![v2405.toNat, 1600, 0]
def k0_off188 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2488 : Index := Scalar.indexCast v231
  let c1664 : Index := 1664#32
  let c0_818 : Index := 0#32
  ![v2488.toNat, 1664, 0]
def k0_off189 (v1_0 : BitVec 32) (k0_t3 : Fin (k0_t3_loop v1_0).trips) : Fin 3 → Nat :=
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c3_i32_140 : BitVec 32 := 3#32
  let v231 : BitVec 32 := Scalar.remsi arg16 c3_i32_140
  let v2571 : Index := Scalar.indexCast v231
  let c1728 : Index := 1728#32
  let c0_842 : Index := 0#32
  ![v2571.toNat, 1728, 0]
def k0_off190 (v1_0 : BitVec 32) (k0_t3 : Fin (k0_t3_loop v1_0).trips) : Fin 2 → Nat :=
  let c0_869 : Index := 0#32
  let c0_i32_129 : BitVec 32 := 0#32
  let c4_i32 : BitVec 32 := 4#32
  let v2 : BitVec 32 := Scalar.muli v1_0 c4_i32
  let v216 : BitVec 32 := Scalar.subi v2 c0_i32_129
  let c1_i32_131 : BitVec 32 := 1#32
  let v218 : BitVec 32 := Scalar.divsi v216 c1_i32_131
  let v219 : BitVec 32 := Scalar.muli v218 c1_i32_131
  let v220 : BitVec 32 := Scalar.addi c0_i32_129 v219
  let c1_i32_133 : BitVec 32 := 1#32
  let arg16 : BitVec 32 := Scf.iv v220 c1_i32_133 k0_t3
  let c4_i32_171 : BitVec 32 := 4#32
  let v310 : BitVec 32 := Scalar.remsi arg16 c4_i32_171
  let c512_i32_172 : BitVec 32 := 512#32
  let v311 : BitVec 32 := Scalar.muli v310 c512_i32_172
  let v312 : BitVec 32 := v311
  let v2658 : Index := Scalar.indexCast v312
  ![0, v2658.toNat]

def k0_chk16_0 (v1_0 : BitVec 32) (k0_t3 : Fin (k0_t3_loop v1_0).trips) (v273 : BitVec 32) : Prop :=
  (∀ (k0_h12 : k0_cond12 v273 = 1#1), ∀ a, (k0_off130 v1_0 k0_t3) a + S1x1.size a ≤ S3x3.size a) ∧
  (∀ (k0_h12 : k0_cond12 v273 = 1#1), ∀ a, (k0_off131 v1_0 k0_t3) a + S1x1792x512.size a ≤ S3x1792x512.size a) ∧
  (∀ (k0_h12 : k0_cond12 v273 = 1#1), ∀ a, (k0_off132 v1_0 k0_t3 v273) a + S1x1792x512.size a ≤ S17x1792x2048.size a) ∧
  (∀ (k0_h12 : k0_cond12 v273 = 1#1), ∀ (hinb : ∀ a, (k0_off132 v1_0 k0_t3 v273) a + S1x1792x512.size a ≤ S17x1792x2048.size a), (Rect.unit (s := S17x1792x2048) (k0_off132 v1_0 k0_t3 v273) S1x1792x512.size hinb).WholeWords (EltTy.packing .i8)) ∧
  (∀ (k0_h12 : k0_cond12 v273 = 1#1), ∀ (hinb : ∀ a, (k0_off131 v1_0 k0_t3) a + S1x1792x512.size a ≤ S3x1792x512.size a), (Rect.unit (s := S3x1792x512) (k0_off131 v1_0 k0_t3) S1x1792x512.size hinb).WholeWords (EltTy.packing .i8)) ∧
  (∀ (k0_h12 : k0_cond12 v273 = 1#1), ∀ a, (k0_off133 v1_0 k0_t3) a + S1x64x512.size a ≤ S3x1792x512.size a) ∧
  (∀ (k0_h12 : k0_cond12 v273 = 1#1), ∀ a, (k0_off134 v1_0 k0_t3) a + S1x64x512.size a ≤ S3x1792x512.size a) ∧
  (∀ (k0_h12 : k0_cond12 v273 = 1#1), ∀ a, (k0_off135 v1_0 k0_t3) a + S1x64x512.size a ≤ S3x1792x512.size a) ∧
  (∀ (k0_h12 : k0_cond12 v273 = 1#1), ∀ a, (k0_off136 v1_0 k0_t3) a + S1x64x512.size a ≤ S3x1792x512.size a) ∧
  (∀ (k0_h12 : k0_cond12 v273 = 1#1), ∀ a, (k0_off137 v1_0 k0_t3) a + S1x64x512.size a ≤ S3x1792x512.size a) ∧
  (∀ (k0_h12 : k0_cond12 v273 = 1#1), ∀ a, (k0_off138 v1_0 k0_t3) a + S1x64x512.size a ≤ S3x1792x512.size a) ∧
  (∀ (k0_h12 : k0_cond12 v273 = 1#1), ∀ a, (k0_off139 v1_0 k0_t3) a + S1x64x512.size a ≤ S3x1792x512.size a) ∧
  (∀ (k0_h12 : k0_cond12 v273 = 1#1), ∀ a, (k0_off140 v1_0 k0_t3) a + S1x64x512.size a ≤ S3x1792x512.size a) ∧
  (∀ (k0_h12 : k0_cond12 v273 = 1#1), ∀ a, (k0_off141 v1_0 k0_t3) a + S1x64x512.size a ≤ S3x1792x512.size a) ∧
  (∀ (k0_h12 : k0_cond12 v273 = 1#1), ∀ a, (k0_off142 v1_0 k0_t3) a + S1x64x512.size a ≤ S3x1792x512.size a) ∧
  (∀ (k0_h12 : k0_cond12 v273 = 1#1), ∀ a, (k0_off143 v1_0 k0_t3) a + S1x64x512.size a ≤ S3x1792x512.size a) ∧
  (∀ (k0_h12 : k0_cond12 v273 = 1#1), ∀ a, (k0_off144 v1_0 k0_t3) a + S1x64x512.size a ≤ S3x1792x512.size a) ∧
  (∀ (k0_h12 : k0_cond12 v273 = 1#1), ∀ a, (k0_off145 v1_0 k0_t3) a + S1x64x512.size a ≤ S3x1792x512.size a) ∧
  (∀ (k0_h12 : k0_cond12 v273 = 1#1), ∀ a, (k0_off146 v1_0 k0_t3) a + S1x64x512.size a ≤ S3x1792x512.size a) ∧
  (∀ (k0_h12 : k0_cond12 v273 = 1#1), ∀ a, (k0_off147 v1_0 k0_t3) a + S1x64x512.size a ≤ S3x1792x512.size a) ∧
  (∀ (k0_h12 : k0_cond12 v273 = 1#1), ∀ a, (k0_off148 v1_0 k0_t3) a + S1x64x512.size a ≤ S3x1792x512.size a) ∧
  (∀ (k0_h12 : k0_cond12 v273 = 1#1), ∀ a, (k0_off149 v1_0 k0_t3) a + S1x64x512.size a ≤ S3x1792x512.size a) ∧
  (∀ (k0_h12 : k0_cond12 v273 = 1#1), ∀ a, (k0_off150 v1_0 k0_t3) a + S1x64x512.size a ≤ S3x1792x512.size a) ∧
  (∀ (k0_h12 : k0_cond12 v273 = 1#1), ∀ a, (k0_off151 v1_0 k0_t3) a + S1x64x512.size a ≤ S3x1792x512.size a) ∧
  (∀ (k0_h12 : k0_cond12 v273 = 1#1), ∀ a, (k0_off152 v1_0 k0_t3) a + S1x64x512.size a ≤ S3x1792x512.size a) ∧
  (∀ (k0_h12 : k0_cond12 v273 = 1#1), ∀ a, (k0_off153 v1_0 k0_t3) a + S1x64x512.size a ≤ S3x1792x512.size a) ∧
  (∀ (k0_h12 : k0_cond12 v273 = 1#1), ∀ a, (k0_off154 v1_0 k0_t3) a + S1x64x512.size a ≤ S3x1792x512.size a) ∧
  (∀ (k0_h12 : k0_cond12 v273 = 1#1), ∀ a, (k0_off155 v1_0 k0_t3) a + S1x64x512.size a ≤ S3x1792x512.size a) ∧
  (∀ (k0_h12 : k0_cond12 v273 = 1#1), ∀ a, (k0_off156 v1_0 k0_t3) a + S1x64x512.size a ≤ S3x1792x512.size a) ∧
  (∀ (k0_h12 : k0_cond12 v273 = 1#1), ∀ a, (k0_off157 v1_0 k0_t3) a + S1x64x512.size a ≤ S3x1792x512.size a) ∧
  (∀ (k0_h12 : k0_cond12 v273 = 1#1), ∀ a, (k0_off158 v1_0 k0_t3) a + S1x64x512.size a ≤ S3x1792x512.size a) ∧
  (∀ (k0_h12 : k0_cond12 v273 = 1#1), ∀ a, (k0_off159 v1_0 k0_t3) a + S1x64x512.size a ≤ S3x1792x512.size a)
def k0_chk16_1 (v1_0 : BitVec 32) (k0_t3 : Fin (k0_t3_loop v1_0).trips) (v273 : BitVec 32) : Prop :=
  (∀ (k0_h12 : k0_cond12 v273 = 1#1), ∀ a, (k0_off160 v1_0 k0_t3) a + S1x64x512.size a ≤ S3x1792x512.size a) ∧
  (∀ (k0_h12 : k0_cond12 v273 = 1#1), ∀ a, (k0_off161 v1_0 k0_t3) a + S24x512.size a ≤ S24x2048.size a) ∧
  (∀ (k0_h13 : k0_cond13 v273 = 1#1), ∀ a, (k0_off162 v1_0 k0_t3) a + S1x64x512.size a ≤ S3x1792x512.size a) ∧
  (∀ (k0_h13 : k0_cond13 v273 = 1#1), ∀ a, (k0_off163 v1_0 k0_t3) a + S1x64x512.size a ≤ S3x1792x512.size a) ∧
  (∀ (k0_h13 : k0_cond13 v273 = 1#1), ∀ a, (k0_off164 v1_0 k0_t3) a + S1x64x512.size a ≤ S3x1792x512.size a) ∧
  (∀ (k0_h13 : k0_cond13 v273 = 1#1), ∀ a, (k0_off165 v1_0 k0_t3) a + S1x64x512.size a ≤ S3x1792x512.size a) ∧
  (∀ (k0_h13 : k0_cond13 v273 = 1#1), ∀ a, (k0_off166 v1_0 k0_t3) a + S1x64x512.size a ≤ S3x1792x512.size a) ∧
  (∀ (k0_h13 : k0_cond13 v273 = 1#1), ∀ a, (k0_off167 v1_0 k0_t3) a + S1x64x512.size a ≤ S3x1792x512.size a) ∧
  (∀ (k0_h13 : k0_cond13 v273 = 1#1), ∀ a, (k0_off168 v1_0 k0_t3) a + S1x64x512.size a ≤ S3x1792x512.size a) ∧
  (∀ (k0_h13 : k0_cond13 v273 = 1#1), ∀ a, (k0_off169 v1_0 k0_t3) a + S1x64x512.size a ≤ S3x1792x512.size a) ∧
  (∀ (k0_h13 : k0_cond13 v273 = 1#1), ∀ a, (k0_off170 v1_0 k0_t3) a + S1x64x512.size a ≤ S3x1792x512.size a) ∧
  (∀ (k0_h13 : k0_cond13 v273 = 1#1), ∀ a, (k0_off171 v1_0 k0_t3) a + S1x64x512.size a ≤ S3x1792x512.size a) ∧
  (∀ (k0_h13 : k0_cond13 v273 = 1#1), ∀ a, (k0_off172 v1_0 k0_t3) a + S1x64x512.size a ≤ S3x1792x512.size a) ∧
  (∀ (k0_h13 : k0_cond13 v273 = 1#1), ∀ a, (k0_off173 v1_0 k0_t3) a + S1x64x512.size a ≤ S3x1792x512.size a) ∧
  (∀ (k0_h13 : k0_cond13 v273 = 1#1), ∀ a, (k0_off174 v1_0 k0_t3) a + S1x64x512.size a ≤ S3x1792x512.size a) ∧
  (∀ (k0_h13 : k0_cond13 v273 = 1#1), ∀ a, (k0_off175 v1_0 k0_t3) a + S1x64x512.size a ≤ S3x1792x512.size a) ∧
  (∀ (k0_h13 : k0_cond13 v273 = 1#1), ∀ a, (k0_off176 v1_0 k0_t3) a + S1x64x512.size a ≤ S3x1792x512.size a) ∧
  (∀ (k0_h13 : k0_cond13 v273 = 1#1), ∀ a, (k0_off177 v1_0 k0_t3) a + S1x64x512.size a ≤ S3x1792x512.size a) ∧
  (∀ (k0_h13 : k0_cond13 v273 = 1#1), ∀ a, (k0_off178 v1_0 k0_t3) a + S1x64x512.size a ≤ S3x1792x512.size a) ∧
  (∀ (k0_h13 : k0_cond13 v273 = 1#1), ∀ a, (k0_off179 v1_0 k0_t3) a + S1x64x512.size a ≤ S3x1792x512.size a) ∧
  (∀ (k0_h13 : k0_cond13 v273 = 1#1), ∀ a, (k0_off180 v1_0 k0_t3) a + S1x64x512.size a ≤ S3x1792x512.size a) ∧
  (∀ (k0_h13 : k0_cond13 v273 = 1#1), ∀ a, (k0_off181 v1_0 k0_t3) a + S1x64x512.size a ≤ S3x1792x512.size a) ∧
  (∀ (k0_h13 : k0_cond13 v273 = 1#1), ∀ a, (k0_off182 v1_0 k0_t3) a + S1x64x512.size a ≤ S3x1792x512.size a) ∧
  (∀ (k0_h13 : k0_cond13 v273 = 1#1), ∀ a, (k0_off183 v1_0 k0_t3) a + S1x64x512.size a ≤ S3x1792x512.size a) ∧
  (∀ (k0_h13 : k0_cond13 v273 = 1#1), ∀ a, (k0_off184 v1_0 k0_t3) a + S1x64x512.size a ≤ S3x1792x512.size a) ∧
  (∀ (k0_h13 : k0_cond13 v273 = 1#1), ∀ a, (k0_off185 v1_0 k0_t3) a + S1x64x512.size a ≤ S3x1792x512.size a) ∧
  (∀ (k0_h13 : k0_cond13 v273 = 1#1), ∀ a, (k0_off186 v1_0 k0_t3) a + S1x64x512.size a ≤ S3x1792x512.size a) ∧
  (∀ (k0_h13 : k0_cond13 v273 = 1#1), ∀ a, (k0_off187 v1_0 k0_t3) a + S1x64x512.size a ≤ S3x1792x512.size a) ∧
  (∀ (k0_h13 : k0_cond13 v273 = 1#1), ∀ a, (k0_off188 v1_0 k0_t3) a + S1x64x512.size a ≤ S3x1792x512.size a) ∧
  (∀ (k0_h13 : k0_cond13 v273 = 1#1), ∀ a, (k0_off189 v1_0 k0_t3) a + S1x64x512.size a ≤ S3x1792x512.size a) ∧
  (∀ (k0_h13 : k0_cond13 v273 = 1#1), ∀ a, (k0_off190 v1_0 k0_t3) a + S24x512.size a ≤ S24x2048.size a)
def k0_chk16 (v1_0 : BitVec 32) (k0_t3 : Fin (k0_t3_loop v1_0).trips) (v273 : BitVec 32) : Prop :=
  k0_chk16_0 v1_0 k0_t3 v273 ∧
  k0_chk16_1 v1_0 k0_t3 v273
theorem k0_off130_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off130 v1_0 k0_t3) a + S1x1.size a ≤ S3x3.size a := fun v1_0 k0_t3 v273 k0_hw16 k0_h12 => k0_hw16.1.1 k0_h12
theorem k0_off131_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off131 v1_0 k0_t3) a + S1x1792x512.size a ≤ S3x1792x512.size a := fun v1_0 k0_t3 v273 k0_hw16 k0_h12 => k0_hw16.1.2.1 k0_h12
theorem k0_off132_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off132 v1_0 k0_t3 v273) a + S1x1792x512.size a ≤ S17x1792x2048.size a := fun v1_0 k0_t3 v273 k0_hw16 k0_h12 => k0_hw16.1.2.2.1 k0_h12
theorem k0_off132_wordsi8 : ∀ (v1_0 : BitVec 32) (k0_t3 : Fin (k0_t3_loop v1_0).trips) (v273 : BitVec 32) (k0_hw16 : k0_chk16 v1_0 k0_t3 v273), ∀ (k0_h12 : k0_cond12 v273 = 1#1), (Rect.unit (s := S17x1792x2048) (k0_off132 v1_0 k0_t3 v273) S1x1792x512.size (k0_off132_inb v1_0 k0_t3 v273 k0_hw16 k0_h12)).WholeWords (EltTy.packing .i8) := fun v1_0 k0_t3 v273 k0_hw16 k0_h12 => k0_hw16.1.2.2.2.1 k0_h12 (k0_off132_inb v1_0 k0_t3 v273 k0_hw16 k0_h12)
theorem k0_off131_wordsi8 : ∀ (v1_0 : BitVec 32) (k0_t3 : Fin (k0_t3_loop v1_0).trips) (v273 : BitVec 32) (k0_hw16 : k0_chk16 v1_0 k0_t3 v273), ∀ (k0_h12 : k0_cond12 v273 = 1#1), (Rect.unit (s := S3x1792x512) (k0_off131 v1_0 k0_t3) S1x1792x512.size (k0_off131_inb v1_0 k0_t3 v273 k0_hw16 k0_h12)).WholeWords (EltTy.packing .i8) := fun v1_0 k0_t3 v273 k0_hw16 k0_h12 => k0_hw16.1.2.2.2.2.1 k0_h12 (k0_off131_inb v1_0 k0_t3 v273 k0_hw16 k0_h12)
theorem k0_off133_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off133 v1_0 k0_t3) a + S1x64x512.size a ≤ S3x1792x512.size a := fun v1_0 k0_t3 v273 k0_hw16 k0_h12 => k0_hw16.1.2.2.2.2.2.1 k0_h12
theorem k0_off134_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off134 v1_0 k0_t3) a + S1x64x512.size a ≤ S3x1792x512.size a := fun v1_0 k0_t3 v273 k0_hw16 k0_h12 => k0_hw16.1.2.2.2.2.2.2.1 k0_h12
theorem k0_off135_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off135 v1_0 k0_t3) a + S1x64x512.size a ≤ S3x1792x512.size a := fun v1_0 k0_t3 v273 k0_hw16 k0_h12 => k0_hw16.1.2.2.2.2.2.2.2.1 k0_h12
theorem k0_off136_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off136 v1_0 k0_t3) a + S1x64x512.size a ≤ S3x1792x512.size a := fun v1_0 k0_t3 v273 k0_hw16 k0_h12 => k0_hw16.1.2.2.2.2.2.2.2.2.1 k0_h12
theorem k0_off137_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off137 v1_0 k0_t3) a + S1x64x512.size a ≤ S3x1792x512.size a := fun v1_0 k0_t3 v273 k0_hw16 k0_h12 => k0_hw16.1.2.2.2.2.2.2.2.2.2.1 k0_h12
theorem k0_off138_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off138 v1_0 k0_t3) a + S1x64x512.size a ≤ S3x1792x512.size a := fun v1_0 k0_t3 v273 k0_hw16 k0_h12 => k0_hw16.1.2.2.2.2.2.2.2.2.2.2.1 k0_h12
theorem k0_off139_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off139 v1_0 k0_t3) a + S1x64x512.size a ≤ S3x1792x512.size a := fun v1_0 k0_t3 v273 k0_hw16 k0_h12 => k0_hw16.1.2.2.2.2.2.2.2.2.2.2.2.1 k0_h12
theorem k0_off140_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off140 v1_0 k0_t3) a + S1x64x512.size a ≤ S3x1792x512.size a := fun v1_0 k0_t3 v273 k0_hw16 k0_h12 => k0_hw16.1.2.2.2.2.2.2.2.2.2.2.2.2.1 k0_h12
theorem k0_off141_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off141 v1_0 k0_t3) a + S1x64x512.size a ≤ S3x1792x512.size a := fun v1_0 k0_t3 v273 k0_hw16 k0_h12 => k0_hw16.1.2.2.2.2.2.2.2.2.2.2.2.2.2.1 k0_h12
theorem k0_off142_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off142 v1_0 k0_t3) a + S1x64x512.size a ≤ S3x1792x512.size a := fun v1_0 k0_t3 v273 k0_hw16 k0_h12 => k0_hw16.1.2.2.2.2.2.2.2.2.2.2.2.2.2.2.1 k0_h12
theorem k0_off143_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off143 v1_0 k0_t3) a + S1x64x512.size a ≤ S3x1792x512.size a := fun v1_0 k0_t3 v273 k0_hw16 k0_h12 => k0_hw16.1.2.2.2.2.2.2.2.2.2.2.2.2.2.2.2.1 k0_h12
theorem k0_off144_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off144 v1_0 k0_t3) a + S1x64x512.size a ≤ S3x1792x512.size a := fun v1_0 k0_t3 v273 k0_hw16 k0_h12 => k0_hw16.1.2.2.2.2.2.2.2.2.2.2.2.2.2.2.2.2.1 k0_h12
theorem k0_off145_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off145 v1_0 k0_t3) a + S1x64x512.size a ≤ S3x1792x512.size a := fun v1_0 k0_t3 v273 k0_hw16 k0_h12 => k0_hw16.1.2.2.2.2.2.2.2.2.2.2.2.2.2.2.2.2.2.1 k0_h12
theorem k0_off146_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off146 v1_0 k0_t3) a + S1x64x512.size a ≤ S3x1792x512.size a := fun v1_0 k0_t3 v273 k0_hw16 k0_h12 => k0_hw16.1.2.2.2.2.2.2.2.2.2.2.2.2.2.2.2.2.2.2.1 k0_h12
theorem k0_off147_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off147 v1_0 k0_t3) a + S1x64x512.size a ≤ S3x1792x512.size a := fun v1_0 k0_t3 v273 k0_hw16 k0_h12 => k0_hw16.1.2.2.2.2.2.2.2.2.2.2.2.2.2.2.2.2.2.2.2.1 k0_h12
theorem k0_off148_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off148 v1_0 k0_t3) a + S1x64x512.size a ≤ S3x1792x512.size a := fun v1_0 k0_t3 v273 k0_hw16 k0_h12 => k0_hw16.1.2.2.2.2.2.2.2.2.2.2.2.2.2.2.2.2.2.2.2.2.1 k0_h12
theorem k0_off149_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off149 v1_0 k0_t3) a + S1x64x512.size a ≤ S3x1792x512.size a := fun v1_0 k0_t3 v273 k0_hw16 k0_h12 => k0_hw16.1.2.2.2.2.2.2.2.2.2.2.2.2.2.2.2.2.2.2.2.2.2.1 k0_h12
theorem k0_off150_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off150 v1_0 k0_t3) a + S1x64x512.size a ≤ S3x1792x512.size a := fun v1_0 k0_t3 v273 k0_hw16 k0_h12 => k0_hw16.1.2.2.2.2.2.2.2.2.2.2.2.2.2.2.2.2.2.2.2.2.2.2.1 k0_h12
theorem k0_off151_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off151 v1_0 k0_t3) a + S1x64x512.size a ≤ S3x1792x512.size a := fun v1_0 k0_t3 v273 k0_hw16 k0_h12 => k0_hw16.1.2.2.2.2.2.2.2.2.2.2.2.2.2.2.2.2.2.2.2.2.2.2.2.1 k0_h12
theorem k0_off152_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off152 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.1 k0_h12
theorem k0_off153_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off153 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.1 k0_h12
theorem k0_off154_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off154 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.2.1 k0_h12
theorem k0_off155_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off155 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.2.2.1 k0_h12
theorem k0_off156_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off156 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.2.2.2.1 k0_h12
theorem k0_off157_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off157 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.2.2.2.2.1 k0_h12
theorem k0_off158_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off158 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.2.2.2.2.2.1 k0_h12
theorem k0_off159_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off159 v1_0 k0_t3) a + S1x64x512.size a ≤ S3x1792x512.size a := fun v1_0 k0_t3 v273 k0_hw16 k0_h12 => k0_hw16.1.2.2.2.2.2.2.2.2.2.2.2.2.2.2.2.2.2.2.2.2.2.2.2.2.2.2.2.2.2.2.2 k0_h12
theorem k0_off160_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off160 v1_0 k0_t3) a + S1x64x512.size a ≤ S3x1792x512.size a := fun v1_0 k0_t3 v273 k0_hw16 k0_h12 => k0_hw16.2.1 k0_h12
theorem k0_off161_inb : ∀ (v1_0 : BitVec 32) (k0_t3 : Fin (k0_t3_loop v1_0).trips) (v273 : BitVec 32) (k0_hw16 : k0_chk16 v1_0 k0_t3 v273), ∀ (k0_h12 : k0_cond12 v273 = 1#1), ∀ a, (k0_off161 v1_0 k0_t3) a + S24x512.size a ≤ S24x2048.size a := fun v1_0 k0_t3 v273 k0_hw16 k0_h12 => k0_hw16.2.2.1 k0_h12
theorem k0_off162_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off162 v1_0 k0_t3) a + S1x64x512.size a ≤ S3x1792x512.size a := fun v1_0 k0_t3 v273 k0_hw16 k0_h13 => k0_hw16.2.2.2.1 k0_h13
theorem k0_off163_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off163 v1_0 k0_t3) a + S1x64x512.size a ≤ S3x1792x512.size a := fun v1_0 k0_t3 v273 k0_hw16 k0_h13 => k0_hw16.2.2.2.2.1 k0_h13
theorem k0_off164_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off164 v1_0 k0_t3) a + S1x64x512.size a ≤ S3x1792x512.size a := fun v1_0 k0_t3 v273 k0_hw16 k0_h13 => k0_hw16.2.2.2.2.2.1 k0_h13
theorem k0_off165_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off165 v1_0 k0_t3) a + S1x64x512.size a ≤ S3x1792x512.size a := fun v1_0 k0_t3 v273 k0_hw16 k0_h13 => k0_hw16.2.2.2.2.2.2.1 k0_h13
theorem k0_off166_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off166 v1_0 k0_t3) a + S1x64x512.size a ≤ S3x1792x512.size a := fun v1_0 k0_t3 v273 k0_hw16 k0_h13 => k0_hw16.2.2.2.2.2.2.2.1 k0_h13
theorem k0_off167_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off167 v1_0 k0_t3) a + S1x64x512.size a ≤ S3x1792x512.size a := fun v1_0 k0_t3 v273 k0_hw16 k0_h13 => k0_hw16.2.2.2.2.2.2.2.2.1 k0_h13
theorem k0_off168_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off168 v1_0 k0_t3) a + S1x64x512.size a ≤ S3x1792x512.size a := fun v1_0 k0_t3 v273 k0_hw16 k0_h13 => k0_hw16.2.2.2.2.2.2.2.2.2.1 k0_h13
theorem k0_off169_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off169 v1_0 k0_t3) a + S1x64x512.size a ≤ S3x1792x512.size a := fun v1_0 k0_t3 v273 k0_hw16 k0_h13 => k0_hw16.2.2.2.2.2.2.2.2.2.2.1 k0_h13
theorem k0_off170_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off170 v1_0 k0_t3) a + S1x64x512.size a ≤ S3x1792x512.size a := fun v1_0 k0_t3 v273 k0_hw16 k0_h13 => k0_hw16.2.2.2.2.2.2.2.2.2.2.2.1 k0_h13
theorem k0_off171_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off171 v1_0 k0_t3) a + S1x64x512.size a ≤ S3x1792x512.size a := fun v1_0 k0_t3 v273 k0_hw16 k0_h13 => k0_hw16.2.2.2.2.2.2.2.2.2.2.2.2.1 k0_h13
theorem k0_off172_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off172 v1_0 k0_t3) a + S1x64x512.size a ≤ S3x1792x512.size a := fun v1_0 k0_t3 v273 k0_hw16 k0_h13 => k0_hw16.2.2.2.2.2.2.2.2.2.2.2.2.2.1 k0_h13
theorem k0_off173_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off173 v1_0 k0_t3) a + S1x64x512.size a ≤ S3x1792x512.size a := fun v1_0 k0_t3 v273 k0_hw16 k0_h13 => k0_hw16.2.2.2.2.2.2.2.2.2.2.2.2.2.2.1 k0_h13
theorem k0_off174_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off174 v1_0 k0_t3) a + S1x64x512.size a ≤ S3x1792x512.size a := fun v1_0 k0_t3 v273 k0_hw16 k0_h13 => k0_hw16.2.2.2.2.2.2.2.2.2.2.2.2.2.2.2.1 k0_h13
theorem k0_off175_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off175 v1_0 k0_t3) a + S1x64x512.size a ≤ S3x1792x512.size a := fun v1_0 k0_t3 v273 k0_hw16 k0_h13 => k0_hw16.2.2.2.2.2.2.2.2.2.2.2.2.2.2.2.2.1 k0_h13
theorem k0_off176_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off176 v1_0 k0_t3) a + S1x64x512.size a ≤ S3x1792x512.size a := fun v1_0 k0_t3 v273 k0_hw16 k0_h13 => k0_hw16.2.2.2.2.2.2.2.2.2.2.2.2.2.2.2.2.2.1 k0_h13
theorem k0_off177_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off177 v1_0 k0_t3) a + S1x64x512.size a ≤ S3x1792x512.size a := fun v1_0 k0_t3 v273 k0_hw16 k0_h13 => k0_hw16.2.2.2.2.2.2.2.2.2.2.2.2.2.2.2.2.2.2.1 k0_h13
theorem k0_off178_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off178 v1_0 k0_t3) a + S1x64x512.size a ≤ S3x1792x512.size a := fun v1_0 k0_t3 v273 k0_hw16 k0_h13 => k0_hw16.2.2.2.2.2.2.2.2.2.2.2.2.2.2.2.2.2.2.2.1 k0_h13
theorem k0_off179_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off179 v1_0 k0_t3) a + S1x64x512.size a ≤ S3x1792x512.size a := fun v1_0 k0_t3 v273 k0_hw16 k0_h13 => k0_hw16.2.2.2.2.2.2.2.2.2.2.2.2.2.2.2.2.2.2.2.2.1 k0_h13
theorem k0_off180_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off180 v1_0 k0_t3) a + S1x64x512.size a ≤ S3x1792x512.size a := fun v1_0 k0_t3 v273 k0_hw16 k0_h13 => k0_hw16.2.2.2.2.2.2.2.2.2.2.2.2.2.2.2.2.2.2.2.2.2.1 k0_h13
theorem k0_off181_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off181 v1_0 k0_t3) a + S1x64x512.size a ≤ S3x1792x512.size a := fun v1_0 k0_t3 v273 k0_hw16 k0_h13 => k0_hw16.2.2.2.2.2.2.2.2.2.2.2.2.2.2.2.2.2.2.2.2.2.2.1 k0_h13
theorem k0_off182_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off182 v1_0 k0_t3) a + S1x64x512.size a ≤ S3x1792x512.size a := fun v1_0 k0_t3 v273 k0_hw16 k0_h13 => k0_hw16.2.2.2.2.2.2.2.2.2.2.2.2.2.2.2.2.2.2.2.2.2.2.2.1 k0_h13
theorem k0_off183_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off183 v1_0 k0_t3) a + S1x64x512.size a ≤ S3x1792x512.size a := fun v1_0 k0_t3 v273 k0_hw16 k0_h13 => k0_hw16.2.2.2.2.2.2.2.2.2.2.2.2.2.2.2.2.2.2.2.2.2.2.2.2.1 k0_h13
theorem k0_off184_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off184 v1_0 k0_t3) a + S1x64x512.size a ≤ S3x1792x512.size a := fun v1_0 k0_t3 v273 k0_hw16 k0_h13 => k0_hw16.2.2.2.2.2.2.2.2.2.2.2.2.2.2.2.2.2.2.2.2.2.2.2.2.2.1 k0_h13
theorem k0_off185_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off185 v1_0 k0_t3) a + S1x64x512.size a ≤ S3x1792x512.size a := fun v1_0 k0_t3 v273 k0_hw16 k0_h13 => k0_hw16.2.2.2.2.2.2.2.2.2.2.2.2.2.2.2.2.2.2.2.2.2.2.2.2.2.2.1 k0_h13
theorem k0_off186_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off186 v1_0 k0_t3) a + S1x64x512.size a ≤ S3x1792x512.size a := fun v1_0 k0_t3 v273 k0_hw16 k0_h13 => k0_hw16.2.2.2.2.2.2.2.2.2.2.2.2.2.2.2.2.2.2.2.2.2.2.2.2.2.2.2.1 k0_h13
theorem k0_off187_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off187 v1_0 k0_t3) a + S1x64x512.size a ≤ S3x1792x512.size a := fun v1_0 k0_t3 v273 k0_hw16 k0_h13 => k0_hw16.2.2.2.2.2.2.2.2.2.2.2.2.2.2.2.2.2.2.2.2.2.2.2.2.2.2.2.2.1 k0_h13
theorem k0_off188_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off188 v1_0 k0_t3) a + S1x64x512.size a ≤ S3x1792x512.size a := fun v1_0 k0_t3 v273 k0_hw16 k0_h13 => k0_hw16.2.2.2.2.2.2.2.2.2.2.2.2.2.2.2.2.2.2.2.2.2.2.2.2.2.2.2.2.2.1 k0_h13
theorem k0_off189_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off189 v1_0 k0_t3) a + S1x64x512.size a ≤ S3x1792x512.size a := fun v1_0 k0_t3 v273 k0_hw16 k0_h13 => k0_hw16.2.2.2.2.2.2.2.2.2.2.2.2.2.2.2.2.2.2.2.2.2.2.2.2.2.2.2.2.2.2.1 k0_h13
theorem k0_off190_inb : ∀ (v1_0 : BitVec 32) (k0_t3 : Fin (k0_t3_loop v1_0).trips) (v273 : BitVec 32) (k0_hw16 : k0_chk16 v1_0 k0_t3 v273), ∀ (k0_h13 : k0_cond13 v273 = 1#1), ∀ a, (k0_off190 v1_0 k0_t3) a + S24x512.size a ≤ S24x2048.size a := fun v1_0 k0_t3 v273 k0_hw16 k0_h13 => k0_hw16.2.2.2.2.2.2.2.2.2.2.2.2.2.2.2.2.2.2.2.2.2.2.2.2.2.2.2.2.2.2.2 k0_h13

abbrev stage0_0 : Fin 1 → Memref sig .tc .smem S27 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S27 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S24x7168 : Shape := ⟨2, ![24, 7168]⟩
abbrev S27 : Shape := ⟨1, ![27]⟩
abbrev S27x1792x2048 : Shape := ⟨3, ![27, 1792, 2048]⟩
abbrev S27x112x2048 : Shape := ⟨3, ![27, 112, 2048]⟩
abbrev S17x1792x2048 : Shape := ⟨3, ![17, 1792, 2048]⟩
abbrev S_ : Shape := ⟨0, ![]⟩
abbrev S27x1x1 : Shape := ⟨3, ![27, 1, 1]⟩
abbrev S27x1 : Shape := ⟨2, ![27, 1]⟩
abbrev S27x112x1x2048 : Shape := ⟨4, ![27, 112, 1, 2048]⟩
abbrev S27x27 : Shape := ⟨2, ![27, 27]⟩
abbrev S1x27 : Shape := ⟨2, ![1, 27]⟩
abbrev S27x24 : Shape := ⟨2, ![27, 24]⟩
abbrev S27x112x16x2048 : Shape := ⟨4, ![27, 112, 16, 2048]⟩
abbrev S27x24x1 : Shape := ⟨3, ![27, 24, 1]⟩
abbrev S24x1792 : Shape := ⟨2, ![24, 1792]⟩
abbrev S1x24x1792 : Shape := ⟨3, ![1, 24, 1792]⟩
abbrev S27x24x1792 : Shape := ⟨3, ![27, 24, 1792]⟩
abbrev S24x2048 : Shape := ⟨2, ![24, 2048]⟩

abbrev nBuf : Space → Nat
  | .hbm => 211
  | .vmem => 0
  | .smem => 0
  | _ => 0

abbrev hbmTy0_0 (i : Nat) : BufTy := match i % 128 with
  | 0 => ⟨S24x7168, .bf16⟩
  | 1 => ⟨S27, .i32⟩
  | 2 => ⟨S27x1792x2048, .i8⟩
  | 3 => ⟨S27x112x2048, .f32⟩
  | 4 => ⟨S17x1792x2048, .i8⟩
  | 5 => ⟨S27, .i32⟩
  | 6 => ⟨S_, .i32⟩
  | 7 => ⟨S27, .i32⟩
  | 8 => ⟨S27, .i1⟩
  | 9 => ⟨S27x1x1, .i1⟩
  | 10 => ⟨S_, .i32⟩
  | 11 => ⟨S27, .i32⟩
  | 12 => ⟨S27, .i32⟩
  | 13 => ⟨S_, .i32⟩
  | 14 => ⟨S27, .i32⟩
  | 15 => ⟨S27, .i1⟩
  | 16 => ⟨S_, .i32⟩
  | 17 => ⟨S27, .i32⟩
  | 18 => ⟨S27, .i32⟩
  | 19 => ⟨S27, .i32⟩
  | 20 => ⟨S27x1, .i32⟩
  | 21 => ⟨S27x1792x2048, .i8⟩
  | 22 => ⟨S27x112x2048, .bf16⟩
  | 23 => ⟨S_, .bf16⟩
  | 24 => ⟨S27x112x2048, .bf16⟩
  | 25 => ⟨S27x112x2048, .bf16⟩
  | 26 => ⟨S27x112x1x2048, .bf16⟩
  | 27 => ⟨S27x27, .i32⟩
  | 28 => ⟨S27x27, .i32⟩
  | 29 => ⟨S27x27, .i1⟩
  | 30 => ⟨S1x27, .i32⟩
  | 31 => ⟨S_, .i32⟩
  | 32 => ⟨S_, .i32⟩
  | 33 => ⟨S27x27, .i32⟩
  | 34 => ⟨S27x27, .i32⟩
  | 35 => ⟨S27x27, .i32⟩
  | 36 => ⟨S_, .i32⟩
  | 37 => ⟨S27, .i32⟩
  | 38 => ⟨S27x1, .i32⟩
  | 39 => ⟨S27x24, .i32⟩
  | 40 => ⟨S27x24, .i32⟩
  | 41 => ⟨S27x24, .i1⟩
  | 42 => ⟨S27x1, .i32⟩
  | 43 => ⟨S27x1, .i32⟩
  | 44 => ⟨S27x24, .i32⟩
  | 45 => ⟨S27x24, .i1⟩
  | 46 => ⟨S27x24, .i1⟩
  | 47 => ⟨S27x1792x2048, .i32⟩
  | 48 => ⟨S_, .i32⟩
  | 49 => ⟨S27x1792x2048, .i32⟩
  | 50 => ⟨S27x1792x2048, .i32⟩
  | 51 => ⟨S_, .i32⟩
  | 52 => ⟨S27x1792x2048, .i32⟩
  | 53 => ⟨S27x1792x2048, .i32⟩
  | 54 => ⟨S27x1792x2048, .bf16⟩
  | 55 => ⟨S27x1792x2048, .i32⟩
  | 56 => ⟨S_, .i32⟩
  | 57 => ⟨S27x1792x2048, .i32⟩
  | 58 => ⟨S27x1792x2048, .i32⟩
  | 59 => ⟨S_, .i32⟩
  | 60 => ⟨S27x1792x2048, .i32⟩
  | 61 => ⟨S27x1792x2048, .i32⟩
  | 62 => ⟨S27x1792x2048, .bf16⟩
  | 63 => ⟨S_, .bf16⟩
  | 64 => ⟨S27x1792x2048, .bf16⟩
  | 65 => ⟨S27x1792x2048, .bf16⟩
  | 66 => ⟨S_, .bf16⟩
  | 67 => ⟨S27x1792x2048, .i1⟩
  | 68 => ⟨S27x1792x2048, .bf16⟩
  | 69 => ⟨S27x1792x2048, .bf16⟩
  | 70 => ⟨S27x1792x2048, .bf16⟩
  | 71 => ⟨S_, .bf16⟩
  | 72 => ⟨S27x1792x2048, .bf16⟩
  | 73 => ⟨S27x1792x2048, .bf16⟩
  | 74 => ⟨S27x112x16x2048, .bf16⟩
  | 75 => ⟨S27x112x16x2048, .bf16⟩
  | 76 => ⟨S27x112x16x2048, .bf16⟩
  | 77 => ⟨S27x1792x2048, .bf16⟩
  | 78 => ⟨S27x24x1, .i1⟩
  | 79 => ⟨S24x1792, .bf16⟩
  | 80 => ⟨S1x24x1792, .bf16⟩
  | 81 => ⟨S_, .bf16⟩
  | 82 => ⟨S27x24x1792, .i1⟩
  | 83 => ⟨S27x24x1792, .bf16⟩
  | 84 => ⟨S27x24x1792, .bf16⟩
  | 85 => ⟨S27x24x1792, .bf16⟩
  | 86 => ⟨S24x2048, .f32⟩
  | 87 => ⟨S27x1792x2048, .i32⟩
  | 88 => ⟨S_, .i32⟩
  | 89 => ⟨S27x1792x2048, .i32⟩
  | 90 => ⟨S27x1792x2048, .i32⟩
  | 91 => ⟨S_, .i32⟩
  | 92 => ⟨S27x1792x2048, .i32⟩
  | 93 => ⟨S27x1792x2048, .i32⟩
  | 94 => ⟨S27x1792x2048, .bf16⟩
  | 95 => ⟨S27x1792x2048, .i32⟩
  | 96 => ⟨S_, .i32⟩
  | 97 => ⟨S27x1792x2048, .i32⟩
  | 98 => ⟨S27x1792x2048, .i32⟩
  | 99 => ⟨S_, .i32⟩
  | 100 => ⟨S27x1792x2048, .i32⟩
  | 101 => ⟨S27x1792x2048, .i32⟩
  | 102 => ⟨S27x1792x2048, .bf16⟩
  | 103 => ⟨S_, .bf16⟩
  | 104 => ⟨S27x1792x2048, .bf16⟩
  | 105 => ⟨S27x1792x2048, .bf16⟩
  | 106 => ⟨S_, .bf16⟩
  | 107 => ⟨S27x1792x2048, .i1⟩
  | 108 => ⟨S27x1792x2048, .bf16⟩
  | 109 => ⟨S27x1792x2048, .bf16⟩
  | 110 => ⟨S27x1792x2048, .bf16⟩
  | 111 => ⟨S_, .bf16⟩
  | 112 => ⟨S27x1792x2048, .bf16⟩
  | 113 => ⟨S27x1792x2048, .bf16⟩
  | 114 => ⟨S27x112x16x2048, .bf16⟩
  | 115 => ⟨S27x112x16x2048, .bf16⟩
  | 116 => ⟨S27x112x16x2048, .bf16⟩
  | 117 => ⟨S27x1792x2048, .bf16⟩
  | 118 => ⟨S27x24x1, .i1⟩
  | 119 => ⟨S24x1792, .bf16⟩
  | 120 => ⟨S1x24x1792, .bf16⟩
  | 121 => ⟨S_, .bf16⟩
  | 122 => ⟨S27x24x1792, .i1⟩
  | 123 => ⟨S27x24x1792, .bf16⟩
  | 124 => ⟨S27x24x1792, .bf16⟩
  | 125 => ⟨S27x24x1792, .bf16⟩
  | 126 => ⟨S24x2048, .f32⟩
  | 127 => ⟨S24x2048, .f32⟩
  | _ => ⟨S24x7168, .bf16⟩

abbrev hbmTy0_1 (i : Nat) : BufTy := match i % 128 with
  | 0 => ⟨S27x1792x2048, .i32⟩
  | 1 => ⟨S_, .i32⟩
  | 2 => ⟨S27x1792x2048, .i32⟩
  | 3 => ⟨S27x1792x2048, .i32⟩
  | 4 => ⟨S_, .i32⟩
  | 5 => ⟨S27x1792x2048, .i32⟩
  | 6 => ⟨S27x1792x2048, .i32⟩
  | 7 => ⟨S27x1792x2048, .bf16⟩
  | 8 => ⟨S27x1792x2048, .i32⟩
  | 9 => ⟨S_, .i32⟩
  | 10 => ⟨S27x1792x2048, .i32⟩
  | 11 => ⟨S27x1792x2048, .i32⟩
  | 12 => ⟨S_, .i32⟩
  | 13 => ⟨S27x1792x2048, .i32⟩
  | 14 => ⟨S27x1792x2048, .i32⟩
  | 15 => ⟨S27x1792x2048, .bf16⟩
  | 16 => ⟨S_, .bf16⟩
  | 17 => ⟨S27x1792x2048, .bf16⟩
  | 18 => ⟨S27x1792x2048, .bf16⟩
  | 19 => ⟨S_, .bf16⟩
  | 20 => ⟨S27x1792x2048, .i1⟩
  | 21 => ⟨S27x1792x2048, .bf16⟩
  | 22 => ⟨S27x1792x2048, .bf16⟩
  | 23 => ⟨S27x1792x2048, .bf16⟩
  | 24 => ⟨S_, .bf16⟩
  | 25 => ⟨S27x1792x2048, .bf16⟩
  | 26 => ⟨S27x1792x2048, .bf16⟩
  | 27 => ⟨S27x112x16x2048, .bf16⟩
  | 28 => ⟨S27x112x16x2048, .bf16⟩
  | 29 => ⟨S27x112x16x2048, .bf16⟩
  | 30 => ⟨S27x1792x2048, .bf16⟩
  | 31 => ⟨S27x24x1, .i1⟩
  | 32 => ⟨S24x1792, .bf16⟩
  | 33 => ⟨S1x24x1792, .bf16⟩
  | 34 => ⟨S_, .bf16⟩
  | 35 => ⟨S27x24x1792, .i1⟩
  | 36 => ⟨S27x24x1792, .bf16⟩
  | 37 => ⟨S27x24x1792, .bf16⟩
  | 38 => ⟨S27x24x1792, .bf16⟩
  | 39 => ⟨S24x2048, .f32⟩
  | 40 => ⟨S24x2048, .f32⟩
  | 41 => ⟨S27x1792x2048, .i32⟩
  | 42 => ⟨S_, .i32⟩
  | 43 => ⟨S27x1792x2048, .i32⟩
  | 44 => ⟨S27x1792x2048, .i32⟩
  | 45 => ⟨S_, .i32⟩
  | 46 => ⟨S27x1792x2048, .i32⟩
  | 47 => ⟨S27x1792x2048, .i32⟩
  | 48 => ⟨S27x1792x2048, .bf16⟩
  | 49 => ⟨S27x1792x2048, .i32⟩
  | 50 => ⟨S_, .i32⟩
  | 51 => ⟨S27x1792x2048, .i32⟩
  | 52 => ⟨S27x1792x2048, .i32⟩
  | 53 => ⟨S_, .i32⟩
  | 54 => ⟨S27x1792x2048, .i32⟩
  | 55 => ⟨S27x1792x2048, .i32⟩
  | 56 => ⟨S27x1792x2048, .bf16⟩
  | 57 => ⟨S_, .bf16⟩
  | 58 => ⟨S27x1792x2048, .bf16⟩
  | 59 => ⟨S27x1792x2048, .bf16⟩
  | 60 => ⟨S_, .bf16⟩
  | 61 => ⟨S27x1792x2048, .i1⟩
  | 62 => ⟨S27x1792x2048, .bf16⟩
  | 63 => ⟨S27x1792x2048, .bf16⟩
  | 64 => ⟨S27x1792x2048, .bf16⟩
  | 65 => ⟨S_, .bf16⟩
  | 66 => ⟨S27x1792x2048, .bf16⟩
  | 67 => ⟨S27x1792x2048, .bf16⟩
  | 68 => ⟨S27x112x16x2048, .bf16⟩
  | 69 => ⟨S27x112x16x2048, .bf16⟩
  | 70 => ⟨S27x112x16x2048, .bf16⟩
  | 71 => ⟨S27x1792x2048, .bf16⟩
  | 72 => ⟨S27x24x1, .i1⟩
  | 73 => ⟨S24x1792, .bf16⟩
  | 74 => ⟨S1x24x1792, .bf16⟩
  | 75 => ⟨S_, .bf16⟩
  | 76 => ⟨S27x24x1792, .i1⟩
  | 77 => ⟨S27x24x1792, .bf16⟩
  | 78 => ⟨S27x24x1792, .bf16⟩
  | 79 => ⟨S27x24x1792, .bf16⟩
  | 80 => ⟨S24x2048, .f32⟩
  | 81 => ⟨S24x2048, .f32⟩
  | 82 => ⟨S24x2048, .bf16⟩
  | _ => ⟨S24x7168, .bf16⟩

abbrev hbmTy (i : Nat) : BufTy := match i / 128 with
  | 0 => hbmTy0_0 i
  | 1 => hbmTy0_1 i
  | _ => ⟨S24x7168, .bf16⟩

abbrev bufTy : (tb : Table) → Fin (tcTables nBuf tb) → BufTy
  | .hbm, ⟨i, _⟩ => hbmTy i
  | _, _ => ⟨S24x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_cst_18 : Ref sig .tc := ⟨.hbm, 106, rfl⟩
abbrev main_call3_v0 : Ref sig .tc := ⟨.hbm, 107, rfl⟩
abbrev main_call3_v1 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_20 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_21 : Ref sig .tc := ⟨.hbm, 129, rfl⟩
abbrev main_v87 : Ref sig .tc := ⟨.hbm, 130, rfl⟩
abbrev main_v88 : Ref sig .tc := ⟨.hbm, 131, rfl⟩
abbrev main_c_22 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_23 : Ref sig .tc := ⟨.hbm, 137, rfl⟩
abbrev main_v93 : Ref sig .tc := ⟨.hbm, 138, rfl⟩
abbrev main_v94 : Ref sig .tc := ⟨.hbm, 139, rfl⟩
abbrev main_c_24 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_25 : Ref sig .tc := ⟨.hbm, 144, rfl⟩
abbrev main_v98 : Ref sig .tc := ⟨.hbm, 145, rfl⟩
abbrev main_v99 : Ref sig .tc := ⟨.hbm, 146, rfl⟩
abbrev main_cst_26 : Ref sig .tc := ⟨.hbm, 147, rfl⟩
abbrev main_call5_v0 : Ref sig .tc := ⟨.hbm, 148, rfl⟩
abbrev main_call5_v1 : Ref sig .tc := ⟨.hbm, 149, rfl⟩
abbrev main_v100 : Ref sig .tc := ⟨.hbm, 150, rfl⟩
abbrev main_v101 : Ref sig .tc := ⟨.hbm, 151, rfl⟩
abbrev main_cst_27 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_28 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_29 : Ref sig .tc := ⟨.hbm, 170, rfl⟩
abbrev main_v115 : Ref sig .tc := ⟨.hbm, 171, rfl⟩
abbrev main_v116 : Ref sig .tc := ⟨.hbm, 172, rfl⟩
abbrev main_c_30 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c_31 : Ref sig .tc := ⟨.hbm, 178, rfl⟩
abbrev main_v121 : Ref sig .tc := ⟨.hbm, 179, rfl⟩
abbrev main_v122 : Ref sig .tc := ⟨.hbm, 180, rfl⟩
abbrev main_c_32 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_33 : Ref sig .tc := ⟨.hbm, 185, rfl⟩
abbrev main_v126 : Ref sig .tc := ⟨.hbm, 186, rfl⟩
abbrev main_v127 : Ref sig .tc := ⟨.hbm, 187, rfl⟩
abbrev main_cst_34 : Ref sig .tc := ⟨.hbm, 188, rfl⟩
abbrev main_call7_v0 : Ref sig .tc := ⟨.hbm, 189, rfl⟩
abbrev main_call7_v1 : Ref sig .tc := ⟨.hbm, 190, rfl⟩
abbrev main_v128 : Ref sig .tc := ⟨.hbm, 191, rfl⟩
abbrev main_v129 : Ref sig .tc := ⟨.hbm, 192, rfl⟩
abbrev main_cst_35 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_36 : Ref sig .tc := ⟨.hbm, 203, rfl⟩
abbrev main_call8_v0 : Ref sig .tc := ⟨.hbm, 204, rfl⟩
abbrev main_call8_v1 : Ref sig .tc := ⟨.hbm, 205, rfl⟩
abbrev main_call8_v2 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩

abbrev nD : Nat := 1
abbrev τ : Topo := Topo.v7x

variable {F : FTy → Type} [FloatOps F]
-- ==== Proof.Struct.lean ====
/- The kernel's projection written once per tile: the same loads and the same arithmetic as the printed windows,
   with the tile number a parameter. -/
module

public import proofs.«01_k».proof.KernelIdeal

@[expose] public section

noncomputable section

namespace Cert.Proof.Kern

open Cert.KernelIdeal
open Idealize.ShloMosaic Idealize.SL.Sem
open Facts₀ Facts

variable {F : FTy → Type} [FloatOps F]
variable [Facts]

/-- Programs of the TensorCore body. -/
abbrev P (F : FTy → Type) [FloatOps F] (α : Type) := Prog (TpuEff nD τ sig (Elt F) Λ₀ .tc) α

/-! ## The arithmetic of one tile -/

/-- The eight nibbles of each word, read unsigned, minus 7.5. -/
def nibC (w : IVec S16x512 32) : FVec F S128x512 .bf16 :=
  subf (truncf .bf16 (sitofp .f32 (shapeCast S128x512
      (andi (shrui (broadcastTo S16x8x512 (shapeCast S16x1x512 (shapeCast S16x1x512 w shapeCasts_S16x512_S16x1x512) shapeCasts_S16x1x512_S16x1x512) broadcasts_S16x1x512_S16x8x512)
        (muli (broadcast S16x8x512 4#32) (iota .tc S16x8x512 32 [1] iota_S16x8x512_d1_w32))) (broadcast S16x8x512 15#32))
      shapeCasts_S16x8x512_S128x512)) bitsLt_bf16_f32) (broadcast S128x512 (Scalar.ofBits .bf16 0x40F0#16))

/-- The eight nibbles of each word, read signed. -/
def nibU (w : IVec S16x512 32) : FVec F S128x512 .bf16 :=
  truncf .bf16 (sitofp .f32 (shapeCast S128x512
      (shrsi (shli (broadcastTo S16x8x512 (shapeCast S16x1x512 (shapeCast S16x1x512 w shapeCasts_S16x512_S16x1x512) shapeCasts_S16x1x512_S16x1x512) broadcasts_S16x1x512_S16x8x512)
        (subi (broadcast S16x8x512 28#32) (muli (broadcast S16x8x512 4#32) (iota .tc S16x8x512 32 [1] iota_S16x8x512_d1_w32)))) (broadcast S16x8x512 28#32))
      shapeCasts_S16x8x512_S128x512)) bitsLt_bf16_f32

/-- Eight rows of scales repeated to thirty-two. -/
def four (s : Vec F S8x512 .f32) : FVec F S32x512 .bf16 :=
  concatenate S32x512 0 [⟨S8x512, truncf .bf16 s bitsLt_bf16_f32⟩, ⟨S8x512, truncf .bf16 s bitsLt_bf16_f32⟩, ⟨S8x512, truncf .bf16 s bitsLt_bf16_f32⟩, ⟨S8x512, truncf .bf16 s bitsLt_bf16_f32⟩]
    concatenates_S8x512_S8x512_S8x512_S8x512_S32x512_d0

/-- The 256 decoded rows of one tile, from its nibbles and its eight reads of the step rows. -/
def tileV (ev od : FVec F S128x512 .bf16) (s0 s1 s2 s3 s4 s5 s6 s7 : Vec F S8x512 .f32) : FVec F S256x512 .bf16 :=
  concatenate S256x512 0
    [⟨S32x512, mulf (extractStridedSlice S32x512 ![0, 0] ev slices_S128x512_o0_0_S32x512) (four s0)⟩,
     ⟨S32x512, mulf (extractStridedSlice S32x512 ![32, 0] ev slices_S128x512_o32_0_S32x512) (four s1)⟩,
     ⟨S32x512, mulf (extractStridedSlice S32x512 ![64, 0] ev slices_S128x512_o64_0_S32x512) (four s2)⟩,
     ⟨S32x512, mulf (extractStridedSlice S32x512 ![96, 0] ev slices_S128x512_o96_0_S32x512) (four s3)⟩,
     ⟨S32x512, mulf (extractStridedSlice S32x512 ![0, 0] od slices_S128x512_o0_0_S32x512) (four s4)⟩,
     ⟨S32x512, mulf (extractStridedSlice S32x512 ![32, 0] od slices_S128x512_o32_0_S32x512) (four s5)⟩,
     ⟨S32x512, mulf (extractStridedSlice S32x512 ![64, 0] od slices_S128x512_o64_0_S32x512) (four s6)⟩,
     ⟨S32x512, mulf (extractStridedSlice S32x512 ![96, 0] od slices_S128x512_o96_0_S32x512) (four s7)⟩]
    concatenates_S32x512_S32x512_S32x512_S32x512_S32x512_S32x512_S32x512_S32x512_S256x512_d0

/-- A tile's 64 packed rows as 16 rows of words. -/
def words (b : Vec F S1x64x512 .i8) : IVec S16x512 32 :=
  bitcast S16x512 32 (shapeCast S64x512 b shapeCasts_S1x64x512_S64x512) bitcasts_S64x512_w8_S16x512_w32

/-- The bits the two planes exchange. -/
def swapW (b r : IVec S16x512 32) : IVec S16x512 32 :=
  andi (xori (shrui r (broadcast S16x512 2#32)) b) (broadcast S16x512 858993459#32)
def oddC (b r : IVec S16x512 32) : IVec S16x512 32 := xori b (swapW b r)
def evenC (b r : IVec S16x512 32) : IVec S16x512 32 := xori r (shli (swapW b r) (broadcast S16x512 2#32))
def oddU (b : IVec S16x512 32) : IVec S16x512 32 :=
  xori (andi b (broadcast S16x512 3435973836#32)) (broadcast S16x512 2863311530#32)
def evenU (b : IVec S16x512 32) : IVec S16x512 32 :=
  xori (andi (shli b (broadcast S16x512 2#32)) (broadcast S16x512 3435973836#32)) (broadcast S16x512 2863311530#32)

/-- Seven tiles make one contraction's operand. -/
def opnd (t : Fin 7 → FVec F S256x512 .bf16) : FVec F S1792x512 .bf16 :=
  concatenate S1792x512 0 [⟨S256x512, t 0⟩, ⟨S256x512, t 1⟩, ⟨S256x512, t 2⟩, ⟨S256x512, t 3⟩, ⟨S256x512, t 4⟩, ⟨S256x512, t 5⟩, ⟨S256x512, t 6⟩]
    concatenates_S256x512_S256x512_S256x512_S256x512_S256x512_S256x512_S256x512_S1792x512_d0

/-- One of the four contractions. -/
def dotV (x : Vec F S24x1792 .bf16) (t : Fin 7 → FVec F S256x512 .bf16) : FVec F S24x512 .f32 :=
  matmul dot_S24x1792_S1792x512_S24x512_1_0_0_1_n_n none x (opnd t) (constant S24x512 .f32 0x00000000#32)

/-! ## The loads -/

theorem tile_inb {v t : ℕ} (hv : v < 3) (ht : t < 28) :
    ∀ a, (![v, 64 * t, 0] : Fin 3 → ℕ) a + S1x64x512.size a ≤ S3x1792x512.size a := by
  intro a; fin_cases a
  · show v + 1 ≤ 3; omega
  · show 64 * t + 64 ≤ 1792; omega
  · show 0 + 512 ≤ 512; omega

theorem row_inb {g : ℕ} (hg : g < 112) :
    ∀ a, S8x512.size a = 0 ∨ (![g, 0] : Fin 2 → ℕ) a + (![0, 1] : Fin 2 → ℕ) a * (S8x512.size a - 1) < S112x512.size a := by
  intro a; right; fin_cases a
  · show g + 0 * 7 < 112; omega
  · show 0 + 1 * 511 < 512; omega

theorem xcol_inb {k : ℕ} (hk : k < 4) :
    ∀ a, (![0, 1792 * k] : Fin 2 → ℕ) a + S24x1792.size a ≤ S24x7168.size a := by
  intro a; fin_cases a
  · show 0 + 24 ≤ 24; omega
  · show 1792 * k + 1792 ≤ 7168; omega

variable (a7 : Memref sig .tc .vmem S3x1792x512 .i8) (a8 : Memref sig .tc .vmem S3x1792x512 .i8)
  (a10 : Memref sig .tc .vmem S112x512 .f32) (a11 : Memref sig .tc .vmem S24x7168 .bf16)

/-- Load tile `t` of ring slot `v`. -/
def ldT {v : ℕ} (hv : v < 3) (t : ℕ) (ht : t < 28) : P F (Vec F S1x64x512 .i8) :=
  Prog.lift (.load a7 (Rect.unit (s := S3x1792x512) ![v, 64 * t, 0] S1x64x512.size (tile_inb hv ht)).toLoadRect (View.loadsAt_vmem h_S1x64x512))

/-- Load row `g` of the steps, eight times over. -/
def ldS (g : ℕ) (hg : g < 112) : P F (Vec F S8x512 .f32) :=
  Prog.lift (.load a10 (⟨![g, 0], S8x512.size, ![0, 1], row_inb hg⟩ : LoadRect S112x512) (View.loadsAt_vmem h_S8x512))

/-- Load the `k`-th quarter of the permuted tokens. -/
def ldX (k : ℕ) (hk : k < 4) : P F (Vec F S24x1792 .bf16) :=
  Prog.lift (.load a11 (Rect.unit (s := S24x7168) ![0, 1792 * k] S24x1792.size (xcol_inb hk)).toLoadRect (View.loadsAt_vmem h_S24x1792))

/-- The eight reads of the step rows of tile `t`, then the tile. -/
def scaled (t : ℕ) (ht : t < 28) (ev od : FVec F S128x512 .bf16) : P F (FVec F S256x512 .bf16) := do
  let s0 ← ldS a10 (4 * t + 0) (by omega)
  let s1 ← ldS a10 (4 * t + 1) (by omega)
  let s2 ← ldS a10 (4 * t + 2) (by omega)
  let s3 ← ldS a10 (4 * t + 3) (by omega)
  let s4 ← ldS a10 (4 * t + 0) (by omega)
  let s5 ← ldS a10 (4 * t + 1) (by omega)
  let s6 ← ldS a10 (4 * t + 2) (by omega)
  let s7 ← ldS a10 (4 * t + 3) (by omega)
  pure (tileV ev od s0 s1 s2 s3 s4 s5 s6 s7)

/-- Decode tile `t` of a cached expert. -/
def tileC {v : ℕ} (hv : v < 3) (t : ℕ) (ht : t < 28) : P F (FVec F S256x512 .bf16) := do
  let b ← ldT a7 hv t ht
  let r ← ldT a8 hv t ht
  scaled a10 t ht (nibC (evenC (words b) (words r))) (nibC (oddC (words b) (words r)))

/-- Decode tile `t` of an expert with no residual plane. -/
def tileU {v : ℕ} (hv : v < 3) (t : ℕ) (ht : t < 28) : P F (FVec F S256x512 .bf16) := do
  let b ← ldT a7 hv t ht
  scaled a10 t ht (nibU (evenU (words b))) (nibU (oddU (words b)))

/-- One contraction: seven tiles, the tokens' quarter, the product. -/
def dotP (tile : (t : ℕ) → t < 28 → P F (FVec F S256x512 .bf16)) (k : ℕ) (hk : k < 4) : P F (FVec F S24x512 .f32) := do
  let t0 ← tile (7 * k + 0) (by omega)
  let t1 ← tile (7 * k + 1) (by omega)
  let t2 ← tile (7 * k + 2) (by omega)
  let t3 ← tile (7 * k + 3) (by omega)
  let t4 ← tile (7 * k + 4) (by omega)
  let t5 ← tile (7 * k + 5) (by omega)
  let t6 ← tile (7 * k + 6) (by omega)
  let x ← ldX a11 k hk
  pure (dotV x ![t0, t1, t2, t3, t4, t5, t6])

/-- The whole projection: four contractions added from left to right. -/
def projP (tile : (t : ℕ) → t < 28 → P F (FVec F S256x512 .bf16)) : P F (FVec F S24x512 .f32) := do
  let d0 ← dotP a11 tile 0 (by omega)
  let d1 ← dotP a11 tile 1 (by omega)
  let d2 ← dotP a11 tile 2 (by omega)
  let d3 ← dotP a11 tile 3 (by omega)
  pure (addf (addf (addf d0 d1) d2) d3)

/-- Put a projection into its columns of the accumulator, on the expert's own rows. -/
def putP (a12 : Memref sig .tc .vmem S24x2048 .f32) (off : Fin 2 → ℕ) (h : ∀ a, off a + S24x512.size a ≤ S24x2048.size a)
    (mine : IVec S24x512 1) (d : FVec F S24x512 .f32) : P F PUnit := do
  let old : Vec F S24x512 .f32 ← Prog.lift (.load a12 (Rect.unit (s := S24x2048) off S24x512.size h).toLoadRect (View.loadsAt_vmem h_S24x512))
  let _old : Vec F S24x512 .f32 ← Prog.lift (.load a12 (Rect.unit (s := S24x2048) off S24x512.size h).toLoadRect (View.loadsAt_vmem h_S24x512))
  Prog.lift (.store a12 (Rect.unit (s := S24x2048) off S24x512.size h) (shapeCast S24x512 (select mine d old) shapeCasts_S24x512_S24x512) Finset.univ (View.stores_vmem_bits_univ h_S24x512 rfl) (.inl rfl))
  pure ⟨⟩

end Cert.Proof.Kern

end
-- ==== Proof.Wp.lean ====
/- The program logic's pieces the kernel's proof is put together from: one local copy held from its issue to its
   wait, and programs that only read. -/
module

public import proofs.«01_k».proof.Proof.Struct
public import proofs.«01_k».proof.Proof.Gen.KernelIdeal.Launch
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

variable [Facts]

/-- The weakest precondition of a body program on core `c`. -/
abbrev WP (c : Dev nD) {α : Type} (p : P F α) (Q : α → sProp 𝕄) : sProp 𝕄 :=
  wp frame (wpE (defs₀ (F := F)) 𝒱₀ (c : Thread nD τ) none) Set.univ p Q

/-! ## One copy -/

section Copy
variable (c : Dev nD) {sp sp' : Space} {s : Shape} {e : EltTy}
  (src : Memref sig .tc sp s e) (dst : Memref sig .tc sp' s e) (sem : DmaSem sig)
  (q : PosShare TreeShare) (H : Buf (Elt F) (src.view.loc (c : Thread nD τ)))

/-- The destination holding what the copy brought. -/
def landed : sProp 𝕄 :=
  iprop(∃ f : Buf (Elt F) (dst.view.loc (c : Thread nD τ)), ⌜dst.view.read (Elt F) f = src.view.read (Elt F) H⌝
    ∗ (dst.view.loc (c : Thread nD τ) ↦[dst.view.set]{fullShare} f))
/-- The destination free to be overwritten. -/
def freeDst : sProp 𝕄 :=
  iprop(∃ f : Buf (Elt F) (dst.view.loc (c : Thread nD τ)), (dst.view.loc (c : Thread nD τ) ↦[dst.view.set]{fullShare} f))
/-- A share of the whole source. -/
def srcAll : sProp 𝕄 := (src.view.loc (c : Thread nD τ) ↦[Finset.univ]{q} H)
/-- A copy between its issue and its wait: the flight, and the part of the source's share it does not read. -/
def inFlight : sProp 𝕄 :=
  iprop(Transfers.Flight countersEmb (c : Thread nD τ) (.dma sem) () dst.view.dmaCredit
      iprop(landed c src dst H ∗ (src.view.loc (c : Thread nD τ) ↦[src.view.set]{q} H))
    ∗ (src.view.loc (c : Thread nD τ) ↦[Finset.univ \ src.view.set]{q} H))

/-- Issue a copy. -/
theorem copy_start (hpos : 0 < dst.view.dmaCredit) {α : Type} {Q : α → sProp 𝕄}
    {hsrc : src.view.WordExact} {hdst : dst.view.WordExact} {hsem : DmaTarget.Typed sp (.dma sem) (DmaTarget.here (nD := nD) (τ := τ) (p := .tc) dst)}
    {k : PUnit → P F α} :
    iprop(freeDst c dst ∗ semVal ((c : Thread nD τ), .dma sem) 0 ∗ srcAll c src q H)
      ⊢ iprop((inFlight c src dst sem q H -∗ WP c (k ⟨⟩) Q)
        -∗ WP c (.op (TpuEff.enqueueDma (p := .tc) src (.here dst) (.dma sem) hsrc hdst hsem) k) Q) := by
  unfold freeDst srcAll inFlight
  iintro ⟨⟨%f, Hd⟩, Hv, Hs⟩ Hk
  ihave Hs' := (pointsTo_split_subset (Finset.subset_univ src.view.set)).1 $$ Hs
  icases Hs' with ⟨Hs1, Hs2⟩
  iapply (Transfers.wp_dmaLocal countersEmb 𝒱₀ (c : Thread nD τ) none () dst.view.dmaCredit rfl hpos (Finset.Subset.refl _)) $$ [Hd Hv Hs1]
  · isplitl [Hs1]; · iexact Hs1
    isplitl [Hd] <;> iassumption
  iintro Hf
  iapply Hk
  isplitl [Hf]
  · iapply (Transfers.Flight_mono countersEmb (c : Thread nD τ)) $$ Hf
    unfold landed
    iintro ⟨Hd, Hs⟩
    isplitl [Hd]
    · iexists _
      isplitr; rotate_left
      · iexact Hd
      · ipureintro; exact View.read_write_univ _ _
    · iexact Hs
  · iexact Hs2

/-- Wait for it. -/
theorem copy_wait {sp₁ : Space} {s₁ : Shape} {e₁ : EltTy} {srcw : Memref sig .tc sp₁ s₁ e₁} {α : Type} {Q : α → sProp 𝕄}
    {hsrc : srcw.view.WordExact} {hdst : dst.view.WordExact}
    {k : PUnit → P F α} {W : Waits sig Unit} :
    iprop(inFlight c src dst sem q H ∗ owes (c : Thread nD τ) 0 W)
      ⊢ iprop((iprop(landed c src dst H ∗ semVal ((c : Thread nD τ), .dma sem) 0 ∗ srcAll c src q H
            ∗ owes (c : Thread nD τ) 0 (insert (SemLoc.dma sem, ()) W)) -∗ WP c (k ⟨⟩) Q)
        -∗ WP c (.op (.waitDma2 sem srcw dst hsrc hdst) k) Q) := by
  unfold inFlight srcAll
  iintro ⟨⟨Hf, Hr⟩, HO⟩ Hk
  iapply (Transfers.wp_waitLocal countersEmb 𝒱₀ (c : Thread nD τ) none () rfl) $$ [Hf HO]
  · isplitl [Hf] <;> iassumption
  iintro ⟨⟨Hl, Hs⟩, Hv, HO⟩
  iapply Hk
  isplitl [Hl]; · iexact Hl
  isplitl [Hv]; · iexact Hv
  isplitl [Hs Hr]
  · iapply (pointsTo_split_subset (Finset.subset_univ src.view.set)).2
    isplitl [Hs] <;> iassumption
  · iexact HO
end Copy

/-! ## Programs that only read -/

/-- Under `R`, kept, the program returns `v`. -/
def Ev (c : Dev nD) (R : sProp 𝕄) {α : Type} (p : P F α) (v : α) : Prop :=
  ∀ (Q : α → sProp 𝕄), iprop(R ∗ (R -∗ Q v)) ⊢ WP c p Q

theorem Ev.pure {c : Dev nD} {R : sProp 𝕄} {α : Type} (v : α) : Ev c R (Pure.pure v : P F α) v := by
  intro Q
  iintro ⟨H, Hk⟩
  iapply (le_wp_ret _ _ _ _ _)
  iapply Hk; iexact H

theorem Ev.bind {c : Dev nD} {R : sProp 𝕄} {α β : Type} {p : P F α} {k : α → P F β} {v : α} {w : β}
    (h : Ev c R p v) (h' : Ev c R (k v) w) : Ev c R (p >>= k) w := by
  intro Q
  have := h (fun a => WP c (k a) Q)
  refine BIBase.Entails.trans ?_ (entails_of_eq (wp_bind _ _ _ p k Q).symm)
  refine BIBase.Entails.trans ?_ this
  iintro ⟨H, Hk⟩
  isplitl [H]; · iexact H
  iintro H
  iapply (h' Q)
  isplitl [H] <;> iassumption

/-- A load under a resource that holds the buffer. -/
theorem Ev.load {c : Dev nD} {R : sProp 𝕄} {cs : CoreSpace} {s : Shape} {e : EltTy} {m : Memref sig .tc cs s e}
    {r : LoadRect s} {hl : m.view.LoadsAt r} {S : Finset (Idx (m.view.loc (c : Thread nD τ)))} {q : PosShare TreeShare}
    {f : Buf (Elt F) (m.view.loc (c : Thread nD τ))} (hS : m.view.setOn r.set ⊆ S) {R' : sProp 𝕄}
    (hR : R ⊢ iprop((m.view.loc (c : Thread nD τ) ↦[S]{q} f) ∗ R')) (hR' : iprop((m.view.loc (c : Thread nD τ) ↦[S]{q} f) ∗ R') ⊢ R)
    {v : r.shape.Idx → Elt F e} (hv : m.view.readAt (Elt F) r f = v) :
    Ev c R (Prog.lift (.load m r hl) : P F _) v := by
  intro Q
  iintro ⟨H, Hk⟩
  ihave H' := hR $$ H
  icases H' with ⟨Hm, Hr⟩
  iapply (wp_load 𝒱₀ (c : Thread nD τ) none Set.univ hS) $$ Hm
  iintro Hm
  iapply (le_wp_ret _ _ _ _ _)
  rw [hv]
  iapply Hk
  iapply hR'
  isplitl [Hm] <;> iassumption

end Cert.Proof.Kern

end
-- ==== Proof.Ring.lean ====
/- The ring of three buffers: where a step's blocks lie, what a buffer holds while its copy is under way and after,
   and the program that issues one step's copies. -/
module

public import proofs.«01_k».proof.Proof.Wp

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]
local notation "𝕄" => MT nD τ sig Unit (Elt F) ℕ (UU nD τ) ℕ
variable [Facts]

/-! ## Stepping a program -/

/-- One part of a program, then the rest. -/
theorem wp_seq {c : Dev nD} {α β : Type} {R : sProp 𝕄} {p : P F α} {k : α → P F β} {Q' : α → sProp 𝕄} {Q : β → sProp 𝕄}
    (h : R ⊢ WP c p Q') (h' : ∀ a, Q' a ⊢ WP c (k a) Q) : R ⊢ WP c (p >>= k) Q := by
  refine BIBase.Entails.trans ?_ (entails_of_eq (wp_bind _ _ _ p k Q).symm)
  refine h.trans ?_
  exact wp_mono _ _ _ h'

/-- A program that only reads, then the rest. -/
theorem Ev.seq {c : Dev nD} {R : sProp 𝕄} {α β : Type} {p : P F α} {k : α → P F β} {v : α} {Q : β → sProp 𝕄}
    (h : Ev c R p v) : R ⊢ iprop((R -∗ WP c (k v) Q) -∗ WP c (p >>= k) Q) := by
  iintro H Hk
  have := (h (fun a => WP c (k a) Q)).trans (entails_of_eq (wp_bind _ _ _ p k Q).symm)
  iapply this
  isplitl [H] <;> iassumption

/-- More may be held than is read. -/
theorem Ev.mono {c : Dev nD} {R R₁ R₂ : sProp 𝕄} {α : Type} {p : P F α} {v : α} (h : Ev c R₁ p v)
    (hR : R ⊢ iprop(R₁ ∗ R₂)) (hR' : iprop(R₁ ∗ R₂) ⊢ R) : Ev c R p v := by
  intro Q
  iintro ⟨H, Hk⟩
  ihave H' := hR $$ H
  icases H' with ⟨H1, H2⟩
  iapply (h Q)
  isplitl [H1]; · iexact H1
  iintro H1
  iapply Hk
  iapply hR'
  isplitl [H1] <;> iassumption

/-- One word of scalar memory. -/
theorem Ev.smem {c : Dev nD} {m : Memref sig .tc .smem S27 .i32} {off : Fin 1 → ℕ} {h : ∀ a, off a + S1.size a ≤ S27.size a}
    {S : Finset (Idx (m.view.loc (c : Thread nD τ)))} {q : PosShare TreeShare}
    {f : Buf (Elt F) (m.view.loc (c : Thread nD τ))} (hS : m.view.set ⊆ S) {v : BitVec 32}
    (hv : ∀ x, m.view.readAt (Elt F) (Rect.unit (s := S27) off S1.size h).toLoadRect f x = v) :
    Ev c (m.view.loc (c : Thread nD τ) ↦[S]{q} f) (smemLoad m (Rect.unit (s := S27) off S1.size h) numel1_S1 rfl : P F (Elt F .i32)) v := by
  intro Q
  iintro ⟨H, Hk⟩
  unfold smemLoad smemLoadElt
  iapply (wp_load 𝒱₀ (c : Thread nD τ) none Set.univ ((View.setOn_subset_set _ _).trans hS)) $$ H
  iintro Hm
  iapply (le_wp_ret _ _ _ _ _)
  rw [hv]
  iapply Hk; iexact Hm

/-- A side condition that holds. -/
theorem Ev.assume {c : Dev nD} {R : sProp 𝕄} {A : Prop} {d : Decidable A} (h : A) :
    Ev c R (Prog.lift (TpuEff.assume A d) : P F (PLift A)) ⟨h⟩ := by
  intro Q
  iintro ⟨H, Hk⟩
  iapply (wp_assume 𝒱₀ (c : Thread nD τ) none Set.univ h)
  iapply (le_wp_ret _ _ _ _ _)
  iapply Hk; iexact H

/-! ## The blocks, the slots, the semaphores -/

def rawB (off : Fin 3 → ℕ) (h : ∀ a, off a + S1x1792x512.size a ≤ S27x1792x2048.size a) : Memref sig .tc .hbm S1792x512 .i8 :=
  ((Memref.whole main_arg2 : Memref sig .tc .hbm S27x1792x2048 .i8).slice (Rect.unit (s := S27x1792x2048) off S1x1792x512.size h) (fun _ => rfl)).squeeze S1792x512 squeezes_S1x1792x512_S1792x512
def rawS (off : Fin 3 → ℕ) (h : ∀ a, off a + S1x112x512.size a ≤ S27x112x2048.size a) : Memref sig .tc .hbm S112x512 .f32 :=
  ((Memref.whole main_arg3 : Memref sig .tc .hbm S27x112x2048 .f32).slice (Rect.unit (s := S27x112x2048) off S1x112x512.size h) (fun _ => rfl)).squeeze S112x512 squeezes_S1x112x512_S112x512
def rawR (off : Fin 3 → ℕ) (h : ∀ a, off a + S1x1792x512.size a ≤ S17x1792x2048.size a) : Memref sig .tc .hbm S1792x512 .i8 :=
  ((Memref.whole main_arg4 : Memref sig .tc .hbm S17x1792x2048 .i8).slice (Rect.unit (s := S17x1792x2048) off S1x1792x512.size h) (fun _ => rfl)).squeeze S1792x512 squeezes_S1x1792x512_S1792x512
def slotB (off : Fin 3 → ℕ) (h : ∀ a, off a + S1x1792x512.size a ≤ S3x1792x512.size a) : Memref sig .tc .vmem S1792x512 .i8 :=
  ((Memref.whole cc0_scratch0 : Memref sig .tc .vmem S3x1792x512 .i8).slice (Rect.unit (s := S3x1792x512) off S1x1792x512.size h) (fun _ => rfl)).squeeze S1792x512 squeezes_S1x1792x512_S1792x512
def slotR (off : Fin 3 → ℕ) (h : ∀ a, off a + S1x1792x512.size a ≤ S3x1792x512.size a) : Memref sig .tc .vmem S1792x512 .i8 :=
  ((Memref.whole cc0_scratch1 : Memref sig .tc .vmem S3x1792x512 .i8).slice (Rect.unit (s := S3x1792x512) off S1x1792x512.size h) (fun _ => rfl)).squeeze S1792x512 squeezes_S1x1792x512_S1792x512
def slotS (off : Fin 3 → ℕ) (h : ∀ a, off a + S1x112x512.size a ≤ S3x112x512.size a) : Memref sig .tc .vmem S112x512 .f32 :=
  ((Memref.whole cc0_scratch2 : Memref sig .tc .vmem S3x112x512 .f32).slice (Rect.unit (s := S3x112x512) off S1x112x512.size h) (fun _ => rfl)).squeeze S112x512 squeezes_S1x112x512_S112x512
def rawSem (off : Fin 2 → ℕ) (h : ∀ a, off a + S1x1.size a ≤ S3x3.size a) : DmaSem sig :=
  ((cc0_scratch8.slice (Rect.unit (s := S3x3) off S1x1.size h)).squeeze S_ squeezes_S1x1_S_).sem

/-- Slot numbers and expert numbers, brought into range. -/
theorem slot_inb (s : ℕ) : ∀ a, (![s % 3, 0, 0] : Fin 3 → ℕ) a + S1x1792x512.size a ≤ S3x1792x512.size a := by
  intro a; fin_cases a
  · show s % 3 + 1 ≤ 3; omega
  · show 0 + 1792 ≤ 1792; omega
  · show 0 + 512 ≤ 512; omega
theorem slotS_inb (s : ℕ) : ∀ a, (![s % 3, 0, 0] : Fin 3 → ℕ) a + S1x112x512.size a ≤ S3x112x512.size a := by
  intro a; fin_cases a
  · show s % 3 + 1 ≤ 3; omega
  · show 0 + 112 ≤ 112; omega
  · show 0 + 512 ≤ 512; omega
theorem sem_inb (k s : ℕ) : ∀ a, (![k % 3, s % 3] : Fin 2 → ℕ) a + S1x1.size a ≤ S3x3.size a := by
  intro a; fin_cases a
  · show k % 3 + 1 ≤ 3; omega
  · show s % 3 + 1 ≤ 3; omega
theorem blkB_inb (e j : ℕ) : ∀ a, (![e % 27, 0, 512 * (j % 4)] : Fin 3 → ℕ) a + S1x1792x512.size a ≤ S27x1792x2048.size a := by
  intro a; fin_cases a
  · show e % 27 + 1 ≤ 27; omega
  · show 0 + 1792 ≤ 1792; omega
  · show 512 * (j % 4) + 512 ≤ 2048; omega
theorem blkS_inb (e j : ℕ) : ∀ a, (![e % 27, 0, 512 * (j % 4)] : Fin 3 → ℕ) a + S1x112x512.size a ≤ S27x112x2048.size a := by
  intro a; fin_cases a
  · show e % 27 + 1 ≤ 27; omega
  · show 0 + 112 ≤ 112; omega
  · show 512 * (j % 4) + 512 ≤ 2048; omega
theorem blkR_inb (s j : ℕ) : ∀ a, (![s % 17, 0, 512 * (j % 4)] : Fin 3 → ℕ) a + S1x1792x512.size a ≤ S17x1792x2048.size a := by
  intro a; fin_cases a
  · show s % 17 + 1 ≤ 17; omega
  · show 0 + 1792 ≤ 1792; omega
  · show 512 * (j % 4) + 512 ≤ 2048; omega

abbrev cB (e j : ℕ) := rawB _ (blkB_inb e j)
abbrev cS (e j : ℕ) := rawS _ (blkS_inb e j)
abbrev cR (t j : ℕ) := rawR _ (blkR_inb t j)
abbrev slB (s : ℕ) := slotB _ (slot_inb s)
abbrev slR (s : ℕ) := slotR _ (slot_inb s)
abbrev slS (s : ℕ) := slotS _ (slotS_inb s)
abbrev smB (s : ℕ) := rawSem _ (sem_inb 0 s)
abbrev smS (s : ℕ) := rawSem _ (sem_inb 1 s)
abbrev smR (s : ℕ) := rawSem _ (sem_inb 2 s)

/-! ## A slot at rest and under way -/

section State
variable (c : Dev nD) (BB : Buf (Elt F) ((c : Thread nD τ).loc main_arg2)) (SS : Buf (Elt F) ((c : Thread nD τ).loc main_arg3))
  (RR : Buf (Elt F) ((c : Thread nD τ).loc main_arg4))

/-- The share of the operands that slot `s` reads with. -/
def shr (s : ℕ) : PosShare TreeShare := Transfers.shareTokN fullShare (s % 3)

def idleB (s : ℕ) : sProp 𝕄 := iprop(freeDst c (slB s) ∗ semVal ((c : Thread nD τ), .dma (smB s)) 0 ∗ srcAll c (cB 0 0) (shr s) BB)
def idleS (s : ℕ) : sProp 𝕄 := iprop(freeDst c (slS s) ∗ semVal ((c : Thread nD τ), .dma (smS s)) 0 ∗ srcAll c (cS 0 0) (shr s) SS)
def idleR (s : ℕ) : sProp 𝕄 := iprop(freeDst c (slR s) ∗ semVal ((c : Thread nD τ), .dma (smR s)) 0 ∗ srcAll c (cR 0 0) (shr s) RR)
def busyB (s e j : ℕ) : sProp 𝕄 := inFlight c (cB e j) (slB s) (smB s) (shr s) BB
def busyS (s e j : ℕ) : sProp 𝕄 := inFlight c (cS e j) (slS s) (smS s) (shr s) SS
def busyR (s t j : ℕ) : sProp 𝕄 := inFlight c (cR t j) (slR s) (smR s) (shr s) RR
/-- The residual plane is under way exactly when the expert has one. -/
def mayR (s : ℕ) (w : BitVec 32) (j : ℕ) : sProp 𝕄 := if k0_cond3 w = 1#1 then busyR c RR s w.toNat j else idleR c RR s
def idle (s : ℕ) : sProp 𝕄 := iprop(idleB c BB s ∗ idleS c SS s ∗ idleR c RR s)
def busy (s e : ℕ) (w : BitVec 32) (j : ℕ) : sProp 𝕄 := iprop(busyB c BB s e j ∗ busyS c SS s e j ∗ mayR c RR s w j)
end State

/-! ## Issuing one step's copies -/

section Fetch
variable (a1 : Memref sig .tc .smem S27 .i32)
  (oE : Fin 1 → ℕ) (hE : ∀ a, oE a + S1.size a ≤ S27.size a)
  (C : BitVec 32 → Prop) (dC : ∀ v, Decidable (C v)) (oS : BitVec 32 → Fin 1 → ℕ) (hS : ∀ v, C v → ∀ a, oS v a + S1.size a ≤ S27.size a)
  (C' : BitVec 32 → Prop) (dC' : ∀ v, Decidable (C' v))
  (sB sS sR : Fin 2 → ℕ) (hsB : ∀ a, sB a + S1x1.size a ≤ S3x3.size a) (hsS : ∀ a, sS a + S1x1.size a ≤ S3x3.size a)
  (hsR : ∀ v, C' v → k0_cond3 v = 1#1 → ∀ a, sR a + S1x1.size a ≤ S3x3.size a)
  (dB dS dR : Fin 3 → ℕ) (hdB : ∀ a, dB a + S1x1792x512.size a ≤ S3x1792x512.size a) (hdS : ∀ a, dS a + S1x112x512.size a ≤ S3x112x512.size a)
  (hdR : ∀ v, C' v → k0_cond3 v = 1#1 → ∀ a, dR a + S1x1792x512.size a ≤ S3x1792x512.size a)
  (bB bS bR : BitVec 32 → Fin 3 → ℕ) (hbB : ∀ v, C v → ∀ a, bB v a + S1x1792x512.size a ≤ S27x1792x2048.size a)
  (hbS : ∀ v, C v → ∀ a, bS v a + S1x112x512.size a ≤ S27x112x2048.size a)
  (hbR : ∀ v, C' v → k0_cond3 v = 1#1 → ∀ a, bR v a + S1x1792x512.size a ≤ S17x1792x2048.size a)
  (wbB : ∀ v h, (rawB (bB v) (hbB v h)).view.WordExact) (wdB : (slotB dB hdB).view.WordExact)
  (wbS : ∀ v h, (rawS (bS v) (hbS v h)).view.WordExact) (wdS : (slotS dS hdS).view.WordExact)
  (wbR : ∀ v h h', (rawR (bR v) (hbR v h h')).view.WordExact) (wdR : ∀ v h h', (slotR dR (hdR v h h')).view.WordExact)

/-- Read the step's expert and its slot, then issue the base block, the scales, and the residual plane when there is one. -/
def fetchP : P F PUnit := do
  let ev : Elt F .i32 ← smemLoad (Memref.whole cc0_scratch6 : Memref sig .tc .smem S27 .i32) (Rect.unit (s := S27) oE S1.size hE) numel1_S1 rfl
  let h := (← Prog.lift (TpuEff.assume (C ev) (dC ev))).down
  let sv : Elt F .i32 ← smemLoad a1 (Rect.unit (s := S27) (oS ev) S1.size (hS ev h)) numel1_S1 rfl
  let h' := (← Prog.lift (TpuEff.assume (C' sv) (dC' sv))).down
  Prog.lift (.enqueueDma (p := .tc) (rawB (bB ev) (hbB ev h)) (.here (slotB dB hdB)) (.dma (rawSem sB hsB)) (wbB ev h) wdB ⟨Or.inl rfl, trivial⟩)
  Prog.lift (.enqueueDma (p := .tc) (rawS (bS ev) (hbS ev h)) (.here (slotS dS hdS)) (.dma (rawSem sS hsS)) (wbS ev h) wdS ⟨Or.inl rfl, trivial⟩)
  if h3 : k0_cond3 sv = 1#1 then do
    Prog.lift (.enqueueDma (p := .tc) (rawR (bR sv) (hbR sv h' h3)) (.here (slotR dR (hdR sv h' h3))) (.dma (rawSem sR (hsR sv h' h3))) (wbR sv h' h3) (wdR sv h' h3) ⟨Or.inl rfl, trivial⟩)
    pure ⟨⟩
  else pure ⟨⟩
  pure ⟨⟩

/-- The same program with what follows it in place, as the printed kernel has it. -/
def fetchK {β : Type} (k : P F β) : P F β := do
  let ev : Elt F .i32 ← smemLoad (Memref.whole cc0_scratch6 : Memref sig .tc .smem S27 .i32) (Rect.unit (s := S27) oE S1.size hE) numel1_S1 rfl
  let h := (← Prog.lift (TpuEff.assume (C ev) (dC ev))).down
  let sv : Elt F .i32 ← smemLoad a1 (Rect.unit (s := S27) (oS ev) S1.size (hS ev h)) numel1_S1 rfl
  let h' := (← Prog.lift (TpuEff.assume (C' sv) (dC' sv))).down
  Prog.lift (.enqueueDma (p := .tc) (rawB (bB ev) (hbB ev h)) (.here (slotB dB hdB)) (.dma (rawSem sB hsB)) (wbB ev h) wdB ⟨Or.inl rfl, trivial⟩)
  Prog.lift (.enqueueDma (p := .tc) (rawS (bS ev) (hbS ev h)) (.here (slotS dS hdS)) (.dma (rawSem sS hsS)) (wbS ev h) wdS ⟨Or.inl rfl, trivial⟩)
  if h3 : k0_cond3 sv = 1#1 then do
    Prog.lift (.enqueueDma (p := .tc) (rawR (bR sv) (hbR sv h' h3)) (.here (slotR dR (hdR sv h' h3))) (.dma (rawSem sR (hsR sv h' h3))) (wbR sv h' h3) (wdR sv h' h3) ⟨Or.inl rfl, trivial⟩)
    pure ⟨⟩
  else pure ⟨⟩
  k

theorem fetchK_eq {β : Type} (k : P F β) :
    fetchK (F := F) a1 oE hE C dC oS hS C' dC' sB sS sR hsB hsS hsR dB dS dR hdB hdS hdR bB bS bR hbB hbS hbR wbB wdB wbS wdS wbR wdR k
      = fetchP (F := F) a1 oE hE C dC oS hS C' dC' sB sS sR hsB hsS hsR dB dS dR hdB hdS hdR bB bS bR hbB hbS hbR wbB wdB wbS wdS wbR wdR >>= fun _ => k := by
  unfold fetchK fetchP
  simp only [bind_assoc]
  refine congrArg _ (funext fun ev => congrArg _ (funext fun h => congrArg _ (funext fun sv => congrArg _ (funext fun h' =>
    congrArg _ (funext fun _ => congrArg _ (funext fun _ => ?_))))))
  split <;> simp only [bind_assoc, pure_bind]

variable (c : Dev nD) (BB : Buf (Elt F) ((c : Thread nD τ).loc main_arg2)) (SS : Buf (Elt F) ((c : Thread nD τ).loc main_arg3))
  (RR : Buf (Elt F) ((c : Thread nD τ).loc main_arg4))

theorem credB (s : ℕ) : 0 < (slB s).view.dmaCredit := by
  exact View.dmaCredit_pos _ (by decide)
theorem credR (s : ℕ) : 0 < (slR s).view.dmaCredit := by
  exact View.dmaCredit_pos _ (by decide)
theorem credS (s : ℕ) : 0 < (slS s).view.dmaCredit := by
  exact View.dmaCredit_pos _ (by decide)

/-- What issuing a step's copies does: slot `s` goes from rest to under way with expert `e`'s blocks of step `j`. -/
theorem fetch_spec (s j : ℕ) (ev sv : BitVec 32)
    {fe : Buf (Elt F) ((Memref.whole cc0_scratch6 : Memref sig .tc .smem S27 .i32).view.loc (c : Thread nD τ))}
    {gs : Buf (Elt F) (a1.view.loc (c : Thread nD τ))}
    (he : ∀ x, (Memref.whole cc0_scratch6 : Memref sig .tc .smem S27 .i32).view.readAt (Elt F) (Rect.unit (s := S27) oE S1.size hE).toLoadRect fe x = ev)
    (hs : ∀ h x, a1.view.readAt (Elt F) (Rect.unit (s := S27) (oS ev) S1.size (hS ev h)).toLoadRect gs x = sv)
    (hC : C ev) (hC' : C' sv)
    (esB : sB = ![0 % 3, s % 3]) (esS : sS = ![1 % 3, s % 3]) (esR : sR = ![2 % 3, s % 3])
    (edB : dB = ![s % 3, 0, 0]) (edS : dS = ![s % 3, 0, 0]) (edR : dR = ![s % 3, 0, 0])
    (ebB : bB ev = ![ev.toNat % 27, 0, 512 * (j % 4)]) (ebS : bS ev = ![ev.toNat % 27, 0, 512 * (j % 4)])
    (ebR : k0_cond3 sv = 1#1 → bR sv = ![sv.toNat % 17, 0, 512 * (j % 4)]) (Q : PUnit → sProp 𝕄) :
    iprop(((Memref.whole cc0_scratch6 : Memref sig .tc .smem S27 .i32).view.loc (c : Thread nD τ) ↦[(Memref.whole cc0_scratch6 : Memref sig .tc .smem S27 .i32).view.set]{fullShare} fe)
        ∗ (a1.view.loc (c : Thread nD τ) ↦[a1.view.set]{fullShare} gs) ∗ idle c BB SS RR s
        ∗ (((Memref.whole cc0_scratch6 : Memref sig .tc .smem S27 .i32).view.loc (c : Thread nD τ) ↦[(Memref.whole cc0_scratch6 : Memref sig .tc .smem S27 .i32).view.set]{fullShare} fe)
          -∗ (a1.view.loc (c : Thread nD τ) ↦[a1.view.set]{fullShare} gs) -∗ busy c BB SS RR s ev.toNat sv j -∗ Q ⟨⟩))
      ⊢ WP c (fetchP (F := F) a1 oE hE C dC oS hS C' dC' sB sS sR hsB hsS hsR dB dS dR hdB hdS hdR bB bS bR hbB hbS hbR wbB wdB wbS wdS wbR wdR) Q := by
  subst esB esS esR edB edS edR
  unfold fetchP idle busy mayR
  iintro ⟨HE, HT, ⟨HB, HS, HR⟩, Hk⟩
  iapply (Ev.seq (Ev.smem (Finset.Subset.refl _) he)) $$ HE
  iintro HE
  iapply (Ev.seq (R := iprop(emp)) (Ev.assume hC)) $$ []
  · iempintro
  iintro -
  iapply (Ev.seq (Ev.smem (Finset.Subset.refl _) (hs hC))) $$ HT
  iintro HT
  iapply (Ev.seq (R := iprop(emp)) (Ev.assume hC')) $$ []
  · iempintro
  iintro -
  dsimp only
  generalize hbB ev hC = p1, wbB ev hC = p2, hbS ev hC = p3, wbS ev hC = p4
  revert p1 p2 p3 p4
  rw [ebB, ebS]
  intro p1 p2 p3 p4
  unfold idleB idleS
  iapply (copy_start c (rawB _ p1) _ _ (shr s) BB (credB s)) $$ [HB]
  · iexact HB
  iintro HB
  iapply (copy_start c (rawS _ p3) _ _ (shr s) SS (credS s)) $$ [HS]
  · iexact HS
  iintro HS
  by_cases h3 : k0_cond3 sv = 1#1
  · rw [dif_pos h3, if_pos h3]
    generalize hbR sv hC' h3 = p5, wbR sv hC' h3 = p6
    revert p5 p6
    rw [ebR h3]
    intro p5 p6
    unfold idleR
    iapply (copy_start c (rawR _ p5) _ _ (shr s) RR (credR s)) $$ [HR]
    · iexact HR
    iintro HR
    iapply (le_wp_ret _ _ _ _ _)
    iapply Hk $$ HE HT
    unfold busyB busyS busyR
    isplitl [HB]; · iexact HB
    isplitl [HS]; · iexact HS
    iexact HR
  · rw [dif_neg h3, if_neg h3]
    iapply (le_wp_ret _ _ _ _ _)
    iapply Hk $$ HE HT
    unfold busyB busyS
    isplitl [HB]; · iexact HB
    isplitl [HS]; · iexact HS
    iexact HR
end Fetch

end Cert.Proof.Kern

end
-- ==== Proof.Trip.lean ====
/- One trip of the main loop, written over the ring's programs. -/
module

public import proofs.«01_k».proof.Proof.Ring

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]
local notation "𝕄" => MT nD τ sig Unit (Elt F) ℕ (UU nD τ) ℕ
variable [Facts]

abbrev T6 : Memref sig .tc .smem S27 .i32 := Memref.whole cc0_scratch6
abbrev T7 : Memref sig .tc .smem S27 .i32 := Memref.whole cc0_scratch7

/-- The word facts of a whole buffer's slices. -/
theorem wordB (off h) (hw : (Rect.unit (s := S27x1792x2048) off S1x1792x512.size h).WholeWords (EltTy.packing .i8)) : (rawB off h).view.WordExact :=
  ((Memref.isWhole_whole main_arg2).wordExact_slice rfl _ hw).reshape _ _
theorem wordR (off h) (hw : (Rect.unit (s := S17x1792x2048) off S1x1792x512.size h).WholeWords (EltTy.packing .i8)) : (rawR off h).view.WordExact :=
  ((Memref.isWhole_whole main_arg4).wordExact_slice rfl _ hw).reshape _ _
theorem wordS (off h) : (rawS off h).view.WordExact := (View.wordExact_bits rfl).reshape _ _
theorem wordTB (off h) (hw : (Rect.unit (s := S3x1792x512) off S1x1792x512.size h).WholeWords (EltTy.packing .i8)) : (slotB off h).view.WordExact :=
  ((Memref.isWhole_whole cc0_scratch0).wordExact_slice rfl _ hw).reshape _ _
theorem wordTR (off h) (hw : (Rect.unit (s := S3x1792x512) off S1x1792x512.size h).WholeWords (EltTy.packing .i8)) : (slotR off h).view.WordExact :=
  ((Memref.isWhole_whole cc0_scratch1).wordExact_slice rfl _ hw).reshape _ _
theorem wordTS (off h) : (slotS off h).view.WordExact := (View.wordExact_bits rfl).reshape _ _

/-- A step's scale, as the step buffer keeps it: a quarter of the rounded scale. -/
def stepV (v : Vec F S1x112x512 .f32) : Vec F S112x512 .f32 :=
  shapeCast S112x512 (extf .f32 (mulf (truncf .bf16 (shapeCast S112x512 v shapeCasts_S1x112x512_S112x512) bitsLt_bf16_f32)
    (broadcast S112x512 (Scalar.ofBits .bf16 0x3E80#16))) bitsLt_bf16_f32) shapeCasts_S112x512_S112x512

/-- The rows from `f` on, `g` of them. -/
def mineV (f g : BitVec 32) : IVec S24x512 1 :=
  andi (cmpi .sge (iota .tc S24x512 32 [0] iota_S24x512_d0_w32) (broadcast S24x512 f)) (cmpi .slt (iota .tc S24x512 32 [0] iota_S24x512_d0_w32) (broadcast S24x512 (Scalar.addi f g)))

variable (a0 a1 : Memref sig .tc .smem S27 .i32)

/-- One trip's issue of the copies two steps ahead. -/
def aheadP (n : BitVec 32) (hn : k0_chk6 n) (k : Fin (k0_t2_loop n).trips) (h6 : k0_cond6 n k = 1#1) : P F PUnit :=
  fetchP a1 (k0_off25 n k) (k0_off25_inb n hn k h6) (k0_chk7 n k) (k0_chk7.dec n k)
    k0_off26 (fun v h => k0_off26_inb n k v h h6) (k0_chk8 n k) (k0_chk8.dec n k)
    (k0_off27 n k) (k0_off30 n k) (k0_off33 n k) (k0_off27_inb n hn k h6) (k0_off30_inb n hn k h6) (fun v h h3 => k0_off33_inb n k v h h6 h3)
    (k0_off28 n k) (k0_off31 n k) (k0_off34 n k) (k0_off28_inb n hn k h6) (k0_off31_inb n hn k h6) (fun v h h3 => k0_off34_inb n k v h h6 h3)
    (k0_off29 n k) (k0_off32 n k) (k0_off35 n k) (fun v h => k0_off29_inb n k v h h6) (fun v h => k0_off32_inb n k v h h6)
    (fun v h h3 => k0_off35_inb n k v h h6 h3)
    (fun v h => wordB _ _ (k0_off29_wordsi8 n k v h h6)) (wordTB _ _ (k0_off28_wordsi8 n hn k h6))
    (fun _ _ => wordS _ _) (wordTS _ _)
    (fun v h h3 => wordR _ _ (k0_off35_wordsi8 n k v h h6 h3)) (fun v h h3 => wordTR _ _ (k0_off34_wordsi8 n k v h h6 h3))

def aheadK {β : Type} (n : BitVec 32) (hn : k0_chk6 n) (k : Fin (k0_t2_loop n).trips) (h6 : k0_cond6 n k = 1#1) (q : P F β) : P F β :=
  fetchK a1 (k0_off25 n k) (k0_off25_inb n hn k h6) (k0_chk7 n k) (k0_chk7.dec n k)
    k0_off26 (fun v h => k0_off26_inb n k v h h6) (k0_chk8 n k) (k0_chk8.dec n k)
    (k0_off27 n k) (k0_off30 n k) (k0_off33 n k) (k0_off27_inb n hn k h6) (k0_off30_inb n hn k h6) (fun v h h3 => k0_off33_inb n k v h h6 h3)
    (k0_off28 n k) (k0_off31 n k) (k0_off34 n k) (k0_off28_inb n hn k h6) (k0_off31_inb n hn k h6) (fun v h h3 => k0_off34_inb n k v h h6 h3)
    (k0_off29 n k) (k0_off32 n k) (k0_off35 n k) (fun v h => k0_off29_inb n k v h h6) (fun v h => k0_off32_inb n k v h h6)
    (fun v h h3 => k0_off35_inb n k v h h6 h3)
    (fun v h => wordB _ _ (k0_off29_wordsi8 n k v h h6)) (wordTB _ _ (k0_off28_wordsi8 n hn k h6))
    (fun _ _ => wordS _ _) (wordTS _ _)
    (fun v h h3 => wordR _ _ (k0_off35_wordsi8 n k v h h6 h3)) (fun v h h3 => wordTR _ _ (k0_off34_wordsi8 n k v h h6 h3)) q

theorem aheadK_eq {β : Type} (n : BitVec 32) (hn : k0_chk6 n) (k : Fin (k0_t2_loop n).trips) (h6 : k0_cond6 n k = 1#1) (q : P F β) : aheadK (F := F) a1 n hn k h6 q = aheadP (F := F) a1 n hn k h6 >>= fun _ => q := fetchK_eq _ _ _ _ _ _ _ _ _ _ _ _ _ _ _ _ _ _ _ _ _ _ _ _ _ _ _ _ _ _ _ _ _ _

/-- The first step's copies. -/
def first0P (n : BitVec 32) (h2 : k0_cond2 n = 1#1) : P F PUnit :=
  fetchP a1 k0_off3 k0_off3_inb (k0_chk2 n) (k0_chk2.dec n)
    k0_off4 (fun v h => k0_off4_inb n v h h2) (k0_chk3 n) (k0_chk3.dec n)
    k0_off5 k0_off8 k0_off11 k0_off5_inb k0_off8_inb (fun _ _ _ => k0_off11_inb)
    k0_off6 k0_off9 k0_off12 k0_off6_inb k0_off9_inb (fun _ _ _ => k0_off12_inb)
    k0_off7 k0_off10 k0_off13 (fun v h => k0_off7_inb n v h h2) (fun v h => k0_off10_inb n v h h2)
    (fun v h h3 => k0_off13_inb n v h h2 h3)
    (fun v h => wordB _ _ (k0_off7_wordsi8 n v h h2)) (wordTB _ _ k0_off6_wordsi8)
    (fun _ _ => wordS _ _) (wordTS _ _)
    (fun v h h3 => wordR _ _ (k0_off13_wordsi8 n v h h2 h3)) (fun v h h3 => wordTR _ _ k0_off12_wordsi8)

def first0K {β : Type} (n : BitVec 32) (h2 : k0_cond2 n = 1#1) (q : P F β) : P F β :=
  fetchK a1 k0_off3 k0_off3_inb (k0_chk2 n) (k0_chk2.dec n)
    k0_off4 (fun v h => k0_off4_inb n v h h2) (k0_chk3 n) (k0_chk3.dec n)
    k0_off5 k0_off8 k0_off11 k0_off5_inb k0_off8_inb (fun _ _ _ => k0_off11_inb)
    k0_off6 k0_off9 k0_off12 k0_off6_inb k0_off9_inb (fun _ _ _ => k0_off12_inb)
    k0_off7 k0_off10 k0_off13 (fun v h => k0_off7_inb n v h h2) (fun v h => k0_off10_inb n v h h2)
    (fun v h h3 => k0_off13_inb n v h h2 h3)
    (fun v h => wordB _ _ (k0_off7_wordsi8 n v h h2)) (wordTB _ _ k0_off6_wordsi8)
    (fun _ _ => wordS _ _) (wordTS _ _)
    (fun v h h3 => wordR _ _ (k0_off13_wordsi8 n v h h2 h3)) (fun v h h3 => wordTR _ _ k0_off12_wordsi8) q

theorem first0K_eq {β : Type} (n : BitVec 32) (h2 : k0_cond2 n = 1#1) (q : P F β) : first0K (F := F) a1 n h2 q = first0P (F := F) a1 n h2 >>= fun _ => q := fetchK_eq _ _ _ _ _ _ _ _ _ _ _ _ _ _ _ _ _ _ _ _ _ _ _ _ _ _ _ _ _ _ _ _ _ _

/-- The second step's copies. -/
def first1P (n : BitVec 32) (h2 : k0_cond4 n = 1#1) : P F PUnit :=
  fetchP a1 k0_off14 k0_off14_inb (k0_chk4 n) (k0_chk4.dec n)
    k0_off15 (fun v h => k0_off15_inb n v h h2) (k0_chk5 n) (k0_chk5.dec n)
    k0_off16 k0_off19 k0_off22 k0_off16_inb k0_off19_inb (fun _ _ _ => k0_off22_inb)
    k0_off17 k0_off20 k0_off23 k0_off17_inb k0_off20_inb (fun _ _ _ => k0_off23_inb)
    k0_off18 k0_off21 k0_off24 (fun v h => k0_off18_inb n v h h2) (fun v h => k0_off21_inb n v h h2)
    (fun v h h3 => k0_off24_inb n v h h2 h3)
    (fun v h => wordB _ _ (k0_off18_wordsi8 n v h h2)) (wordTB _ _ k0_off17_wordsi8)
    (fun _ _ => wordS _ _) (wordTS _ _)
    (fun v h h3 => wordR _ _ (k0_off24_wordsi8 n v h h2 h3)) (fun v h h3 => wordTR _ _ k0_off23_wordsi8)

def first1K {β : Type} (n : BitVec 32) (h2 : k0_cond4 n = 1#1) (q : P F β) : P F β :=
  fetchK a1 k0_off14 k0_off14_inb (k0_chk4 n) (k0_chk4.dec n)
    k0_off15 (fun v h => k0_off15_inb n v h h2) (k0_chk5 n) (k0_chk5.dec n)
    k0_off16 k0_off19 k0_off22 k0_off16_inb k0_off19_inb (fun _ _ _ => k0_off22_inb)
    k0_off17 k0_off20 k0_off23 k0_off17_inb k0_off20_inb (fun _ _ _ => k0_off23_inb)
    k0_off18 k0_off21 k0_off24 (fun v h => k0_off18_inb n v h h2) (fun v h => k0_off21_inb n v h h2)
    (fun v h h3 => k0_off24_inb n v h h2 h3)
    (fun v h => wordB _ _ (k0_off18_wordsi8 n v h h2)) (wordTB _ _ k0_off17_wordsi8)
    (fun _ _ => wordS _ _) (wordTS _ _)
    (fun v h h3 => wordR _ _ (k0_off24_wordsi8 n v h h2 h3)) (fun v h h3 => wordTR _ _ k0_off23_wordsi8) q

theorem first1K_eq {β : Type} (n : BitVec 32) (h2 : k0_cond4 n = 1#1) (q : P F β) : first1K (F := F) a1 n h2 q = first1P (F := F) a1 n h2 >>= fun _ => q := fetchK_eq _ _ _ _ _ _ _ _ _ _ _ _ _ _ _ _ _ _ _ _ _ _ _ _ _ _ _ _ _ _ _ _ _ _

/-- The loads, waits and stores of a trip before its projection: the slot word, the first row and the group's size. -/
def readyP (n : BitVec 32) (hn : k0_chk6 n) (k : Fin (k0_t2_loop n).trips) :
    P F (Σ' (sv : Elt F .i32) (_ : k0_chk11 n k sv) (_ : Elt F .i32), Elt F .i32) := do
  let ev : Elt F .i32 ← smemLoad T6 (Rect.unit (s := S27) (k0_off36 n k) S1.size (k0_off36_inb n hn k)) numel1_S1 rfl
  let h9 := (← Prog.lift (TpuEff.assume (k0_chk9 n k ev) (k0_chk9.dec n k ev))).down
  let sv : Elt F .i32 ← smemLoad a1 (Rect.unit (s := S27) (k0_off37 ev) S1.size (k0_off37_inb n k ev h9)) numel1_S1 rfl
  let h11 := (← Prog.lift (TpuEff.assume (k0_chk11 n k sv) (k0_chk11.dec n k sv))).down
  Prog.lift (.waitDma2 (p := .tc) (rawSem (k0_off38 n k) (k0_off38_inb n hn k)) (rawB (k0_off40 n k ev) (k0_off40_inb n k ev h9))
    (slotB (k0_off39 n k) (k0_off39_inb n hn k)) (wordB _ _ (k0_off40_wordsi8 n k ev h9)) (wordTB _ _ (k0_off39_wordsi8 n hn k)))
  Prog.lift (.waitDma2 (p := .tc) (rawSem (k0_off41 n k) (k0_off41_inb n hn k)) (rawS (k0_off43 n k ev) (k0_off43_inb n k ev h9))
    (slotS (k0_off42 n k) (k0_off42_inb n hn k)) (wordS _ _) (wordTS _ _))
  let s : Vec F S1x112x512 .f32 ← Prog.lift (.load (Memref.whole cc0_scratch2) (Rect.unit (s := S3x112x512) (k0_off44 n k) S1x112x512.size (k0_off44_inb n hn k)).toLoadRect (View.loadsAt_vmem h_S1x112x512))
  let _old : Vec F S112x512 .f32 ← Prog.lift (.load (Memref.whole cc0_scratch3) (Rect.unit (s := S112x512) ![0, 0] S112x512.size inb_S112x512_S112x512_0_0).toLoadRect (View.loadsAt_vmem h_S112x512))
  Prog.lift (.store (Memref.whole cc0_scratch3) (Rect.unit (s := S112x512) ![0, 0] S112x512.size inb_S112x512_S112x512_0_0) (stepV s) Finset.univ (View.stores_vmem_bits_univ h_S112x512 rfl) (.inl rfl))
  let f : Elt F .i32 ← smemLoad T7 (Rect.unit (s := S27) (k0_off45 n k) S1.size (k0_off45_inb n hn k)) numel1_S1 rfl
  let e : Elt F .i32 ← smemLoad T6 (Rect.unit (s := S27) (k0_off45 n k) S1.size (k0_off45_inb n hn k)) numel1_S1 rfl
  let h10 := (← Prog.lift (TpuEff.assume (k0_chk10 e) (k0_chk10.dec e))).down
  let g : Elt F .i32 ← smemLoad a0 (Rect.unit (s := S27) (k0_off46 e) S1.size (k0_off46_inb e h10)) numel1_S1 rfl
  pure ⟨sv, h11, f, g⟩

/-- The projection with a residual plane. -/
def planeP (n : BitVec 32) (k : Fin (k0_t2_loop n).trips) (sv : BitVec 32) (h11 : k0_chk11 n k sv) (h8 : k0_cond8 sv = 1#1)
    (hv : (k0_off50 n k) 0 < 3) (mine : IVec S24x512 1) : P F PUnit := do
  Prog.lift (.waitDma2 (p := .tc) (rawSem (k0_off47 n k) (k0_off47_inb n k sv h11 h8)) (rawR (k0_off49 n k sv) (k0_off49_inb n k sv h11 h8))
    (slotR (k0_off48 n k) (k0_off48_inb n k sv h11 h8)) (wordR _ _ (k0_off49_wordsi8 n k sv h11 h8)) (wordTR _ _ (k0_off48_wordsi8 n k sv h11 h8)))
  let d ← projP (Memref.whole cc0_scratch4) (fun t ht => tileC (Memref.whole cc0_scratch0) (Memref.whole cc0_scratch1) (Memref.whole cc0_scratch3) hv t ht)
  putP (Memref.whole cc0_scratch5) (k0_off78 n k) (k0_off78_inb n k sv h11 h8) mine d

/-- The projection without one. -/
def plainP (n : BitVec 32) (k : Fin (k0_t2_loop n).trips) (sv : BitVec 32) (h11 : k0_chk11 n k sv) (h9 : k0_cond9 sv = 1#1)
    (hv : (k0_off50 n k) 0 < 3) (mine : IVec S24x512 1) : P F PUnit := do
  let d ← projP (Memref.whole cc0_scratch4) (fun t ht => tileU (Memref.whole cc0_scratch0) (Memref.whole cc0_scratch3) hv t ht)
  putP (Memref.whole cc0_scratch5) (k0_off107 n k) (k0_off107_inb n k sv h11 h9) mine d

/-- What the first part of a trip hands on: the step number, its buffer and its block. -/
def aheadRet (n : BitVec 32) (k : Fin (k0_t2_loop n).trips) : (Σ' (_ : BitVec 32) (_ : BitVec 32) (_ : BitVec 32) (_ : BitVec 32) (_ : BitVec 1), BitVec 32) :=
  let v1_0 := n
  let k0_t2 := k
  let v2 := Scalar.muli v1_0 4#32
  let c0_i32_129 : BitVec 32 := 0#32
  let c1_i32_132 : BitVec 32 := 1#32
  let arg16 := Scf.iv c0_i32_129 c1_i32_132 k0_t2
  let c3_i32 := 3#32
  let v226 := Scalar.addi arg16 c3_i32
  let c1_i32_138 := 1#32
  let v227 := Scalar.subi v226 c1_i32_138
  let v228 := Scalar.cmpi .slt v227 v2
  let v229 := Scalar.extui v228
  let c0_i32_139 := 0#32
  let v230 := Scalar.cmpi .ne v229 c0_i32_139
  let c3_i32_140 := 3#32
  let v231 := Scalar.remsi arg16 c3_i32_140
  let c4_i32_141 := 4#32
  let v232 := Scalar.divsi arg16 c4_i32_141
  let c0_i32_142 := 0#32
  let v233 := Scalar.cmpi .sgt arg16 c0_i32_142
  let v234 := Scalar.extui v233
  let c0_i32_143 := 0#32
  let v235 := Scalar.cmpi .slt arg16 c0_i32_143
  let v236 := Scalar.extui v235
  let v237 := Scalar.subi v234 v236
  let c0_i32_144 := 0#32
  let v238 := Scalar.cmpi .sgt c4_i32_141 c0_i32_144
  let v239 := Scalar.extui v238
  let c0_i32_145 := 0#32
  let v240 := Scalar.cmpi .slt c4_i32_141 c0_i32_145
  let v241 := Scalar.extui v240
  let v242 := Scalar.subi v239 v241
  let v243 := Scalar.cmpi .ne v237 v242
  let v244 := Scalar.remsi arg16 c4_i32_141
  let c0_i32_146 := 0#32
  let v245 := Scalar.cmpi .ne v244 c0_i32_146
  let v246 := Scalar.andi v243 v245
  let c1_i32_147 := 1#32
  let v247 := Scalar.subi v232 c1_i32_147
  let v248 := Scalar.select v246 v247 v232
  let c3_i32_148 := 3#32
  let v249 := Scalar.remsi arg16 c3_i32_148
  let c4_i32_149 := 4#32
  let v250 := Scalar.divsi arg16 c4_i32_149
  let c0_i32_150 := 0#32
  let v251 := Scalar.cmpi .sgt arg16 c0_i32_150
  let v252 := Scalar.extui v251
  let c0_i32_151 := 0#32
  let v253 := Scalar.cmpi .slt arg16 c0_i32_151
  let v254 := Scalar.extui v253
  let v255 := Scalar.subi v252 v254
  let c0_i32_152 := 0#32
  let v256 := Scalar.cmpi .sgt c4_i32_149 c0_i32_152
  let v257 := Scalar.extui v256
  let c0_i32_153 := 0#32
  let v258 := Scalar.cmpi .slt c4_i32_149 c0_i32_153
  let v259 := Scalar.extui v258
  let v260 := Scalar.subi v257 v259
  let v261 := Scalar.cmpi .ne v255 v260
  let v262 := Scalar.remsi arg16 c4_i32_149
  let c0_i32_154 := 0#32
  let v263 := Scalar.cmpi .ne v262 c0_i32_154
  let v264 := Scalar.andi v261 v263
  let c1_i32_155 := 1#32
  ⟨arg16, v231, v248, v250, v264, c1_i32_155⟩

/-- The projection of a trip, by the slot word's sign. -/
def tailP (n : BitVec 32) (k : Fin (k0_t2_loop n).trips) (hv : (k0_off50 n k) 0 < 3) (sv : BitVec 32) (h11 : k0_chk11 n k sv) (f g : BitVec 32) : P F (BitVec 32) := do
  if h8 : k0_cond8 sv = 1#1 then do
    planeP n k sv h11 h8 hv (mineV f g)
    pure ⟨⟩
  else pure ⟨⟩
  if h9 : k0_cond9 sv = 1#1 then do
    plainP n k sv h11 h9 hv (mineV f g)
    pure ⟨⟩
  else pure ⟨⟩
  pure 0#32

section Printed
variable (arg0 arg1 : Memref sig .tc .smem S27 .i32) (arg2 : Memref sig .tc .vmem S24x7168 .bf16) (arg6 : Memref sig .tc .vmem S24x2048 .bf16)
  (harg0 : arg0.IsWhole) (harg1 : arg1.IsWhole) (harg2 : arg2.IsWhole) (harg6 : arg6.IsWhole)
  (v1_0 : BitVec 32) (k0_hw6 : k0_chk6 v1_0)
  (k0_t2 : Fin (k0_t2_loop v1_0).trips)

/-- The printed first part of a trip is the issue of the copies two steps ahead. -/
theorem part112_eq : k0_part112 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 v1_0 k0_hw6 (Scalar.muli v1_0 4#32) 0#32 1#32 k0_t2
   = if h6 : k0_cond6 v1_0 k0_t2 = 1#1 then aheadK arg1 v1_0 k0_hw6 k0_t2 h6 (pure (aheadRet v1_0 k0_t2)) else pure (aheadRet v1_0 k0_t2) := by
  sl_kernel_rfl

/-- The printed second part is the waits and the steps. -/
theorem part113_eq (a b c d : BitVec 32) (e : BitVec 1) (f : BitVec 32) : k0_part113 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 v1_0 k0_hw6 k0_t2 a b c d e f = readyP arg0 arg1 v1_0 k0_hw6 k0_t2 := by
  sl_kernel_rfl

end Printed

end Cert.Proof.Kern

end
-- ==== Proof.Head.lean ====
/- What the kernel does before its main loop: count the active experts, issue the first copies, gather the tokens' columns. -/
module

public import proofs.«01_k».proof.Proof.Trip

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]
local notation "𝕄" => MT nD τ sig Unit (Elt F) ℕ (UU nD τ) ℕ
variable [Facts]

/-- One trip of the count: an expert with rows enters the two tables. -/
def collectTrip (a0 : Memref sig .tc .smem S27 .i32) (k : Fin k0_t1_loop.trips) (n s : BitVec 32) : P F (BitVec 32 × BitVec 32) := do
  let g : Elt F .i32 ← smemLoad a0 (Rect.unit (s := S27) (k0_off1 k) S1.size (k0_off1_inb k)) numel1_S1 rfl
  let h : k0_chk1 n g := (← Prog.lift (TpuEff.assume (k0_chk1 n g) (k0_chk1.dec n g))).down
  if h1 : k0_cond1 g = 1#1 then do
    let _e : Elt F .i32 ← smemLoad T6 (Rect.unit (s := S27) (k0_off2 n) S1.size (k0_off2_inb n g h h1)) numel1_S1 rfl
    Prog.lift (.store T6 (Rect.unit (s := S27) (k0_off2 n) S1.size (k0_off2_inb n g h h1)) (fun _ => Scf.iv 0#32 1#32 k) Finset.univ (View.stores_smem_one rfl numel1_S1) (.inl rfl))
    let _f : Elt F .i32 ← smemLoad T7 (Rect.unit (s := S27) (k0_off2 n) S1.size (k0_off2_inb n g h h1)) numel1_S1 rfl
    Prog.lift (.store T7 (Rect.unit (s := S27) (k0_off2 n) S1.size (k0_off2_inb n g h h1)) (fun _ => s) Finset.univ (View.stores_smem_one rfl numel1_S1) (.inl rfl))
    pure ⟨⟩
  else do
    pure ⟨⟩
  pure (Scalar.addi n (Scalar.extui (Scalar.cmpi .sgt g 0#32)), Scalar.addi s g)

/-- The row and column numbers, the even slot of a column and its half, and whether the half wants a correction. -/
def permParts : (Σ' (_ : IVec S256x256 32) (_ : IVec S256x256 32) (_ : IVec S256x256 32), IVec S256x256 1) :=
  let v9 := iota .tc S256x256 32 [0] iota_S256x256_d0_w32
  let v10 := iota .tc S256x256 32 [1] iota_S256x256_d1_w32
  let c127_i32 := 127#32
  let v11 := broadcast S256x256 c127_i32
  let v12 := andi v10 v11
  let c2_i32 := 2#32
  let v13 := broadcast S256x256 c2_i32
  let v14 := muli v13 v12
  let c128_i32 := 128#32
  let v15 := broadcast S256x256 c128_i32
  let v16 := divsi v10 v15
  let c0_i32_9 := 0#32
  let v17 := broadcast S256x256 c0_i32_9
  let v18 := cmpi .sgt v10 v17
  let v19 := extui 32 v18 natLt_1_32
  let c0_i32_10 := 0#32
  let v20 := broadcast S256x256 c0_i32_10
  let v21 := cmpi .slt v10 v20
  let v22 := extui 32 v21 natLt_1_32
  let v23 := subi v19 v22
  let c0_i32_11 := 0#32
  let v24 := Scalar.cmpi .sgt c128_i32 c0_i32_11
  let v25 := Scalar.extui v24
  let c0_i32_12 := 0#32
  let v26 := Scalar.cmpi .slt c128_i32 c0_i32_12
  let v27 := Scalar.extui v26
  let v28 := Scalar.subi v25 v27
  let v29 := broadcast S256x256 v28
  let v30 := cmpi .ne v23 v29
  let v31 := broadcast S256x256 c128_i32
  let v32 := remsi v10 v31
  let c0_i32_13 := 0#32
  let v33 := broadcast S256x256 c0_i32_13
  let v34 := cmpi .ne v32 v33
  let v35 := andi v30 v34
  ⟨v9, v14, v16, v35⟩

/-- The first part: the count, then the copies of the first two steps. -/
def headP (a0 a1 : Memref sig .tc .smem S27 .i32) :
    P F (Σ' (n : BitVec 32) (_ : k0_chk6 n) (_ : BitVec 32) (_ : IVec S256x256 32) (_ : IVec S256x256 32) (_ : IVec S256x256 32), IVec S256x256 1) := do
  let (n, _) ← Scf.Loop.for k0_t1_loop k0_t1_ok (0#32, 0#32) fun k (n, s) => collectTrip a0 k n s
  let hn := (← Prog.lift (TpuEff.assume (k0_chk6 n) (k0_chk6.dec n))).down
  let second : P F _ := if h4 : k0_cond4 n = 1#1 then first1K a1 n h4 (pure ⟨n, hn, Scalar.muli n 4#32, permParts.1, permParts.2.1, permParts.2.2.1, permParts.2.2.2⟩)
    else pure ⟨n, hn, Scalar.muli n 4#32, permParts.1, permParts.2.1, permParts.2.2.1, permParts.2.2.2⟩
  if h2 : k0_cond2 n = 1#1 then first0K a1 n h2 second else second

/-- The one-hot matrix that gathers a tile's columns. -/
def hotV : FVec F S256x256 .bf16 :=
  truncf .bf16 (sitofp .f32 (extui 32 (cmpi .eq permParts.1 (addi permParts.2.1 (select permParts.2.2.2 (subi permParts.2.2.1 (broadcast S256x256 1#32)) permParts.2.2.1))) natLt_1_32)) bitsLt_bf16_f32

theorem xt_inb (t : ℕ) : ∀ a, (![0, 256 * (t % 28)] : Fin 2 → ℕ) a + S24x256.size a ≤ S24x7168.size a := by
  intro a; fin_cases a
  · show 0 + 24 ≤ 24; decide
  · show 256 * (t % 28) + 256 ≤ 7168; omega

theorem xt_packed (t : ℕ) : (Rect.unit (s := S24x7168) ![0, 256 * (t % 28)] S24x256.size (xt_inb t)).PackedRows (EltTy.packing .bf16) :=
  .inr ⟨by decide, rfl, .inl ⟨⟨0, rfl⟩, ⟨12, rfl⟩⟩⟩

/-- Load tile `t` of the tokens. -/
def xtLd (a2 : Memref sig .tc .vmem S24x7168 .bf16) (t : ℕ) : P F (Vec F S24x256 .bf16) :=
  Prog.lift (.load a2 (Rect.unit (s := S24x7168) ![0, 256 * (t % 28)] S24x256.size (xt_inb t)).toLoadRect (View.loadsAt_vmem h_S24x256))

/-- A tile with its columns gathered. -/
def gather (v43 : FVec F S256x256 .bf16) (x : Vec F S24x256 .bf16) : Vec F S24x256 .bf16 :=
  shapeCast S24x256 (truncf .bf16 (matmul dot_S24x256_S256x256_S24x256_1_0_0_1_n_n none x v43 (constant S24x256 .f32 0x00000000#32)) bitsLt_bf16_f32) shapeCasts_S24x256_S24x256

/-- Store tile `t` of the gathered tokens. -/
def xtSt (v43 : FVec F S256x256 .bf16) (t : ℕ) (x : Vec F S24x256 .bf16) : P F PUnit := do
  let _old : Vec F S24x256 .bf16 ← Prog.lift (.load (Memref.whole cc0_scratch4) (Rect.unit (s := S24x7168) ![0, 256 * (t % 28)] S24x256.size (xt_inb t)).toLoadRect (View.loadsAt_vmem h_S24x256))
  Prog.lift (.store (Memref.whole cc0_scratch4) (Rect.unit (s := S24x7168) ![0, 256 * (t % 28)] S24x256.size (xt_inb t)) (gather v43 x) Finset.univ
    (View.stores_vmem h_S24x256 ((Memref.isWhole_whole cc0_scratch4).storeExact_slice rfl _ (xt_packed t)) (fun _ => rfl)) (.inl rfl))

/-- `n` tiles from tile `t` on, the first already loaded; hands on the tile after them. -/
def permSeg (a2 : Memref sig .tc .vmem S24x7168 .bf16) (v43 : FVec F S256x256 .bf16) : (n t : ℕ) → Vec F S24x256 .bf16 → P F (Vec F S24x256 .bf16)
  | 0, _, x => pure x
  | n + 1, t, x => do
    xtSt v43 t x
    let x' ← xtLd a2 (t + 1)
    permSeg a2 v43 n (t + 1) x'

/-- The sum starts from zero. -/
def zeroP : P F PUnit := do
  let _old : Vec F S24x2048 .f32 ← Prog.lift (.load (Memref.whole cc0_scratch5) (Rect.unit (s := S24x2048) ![0, 0] S24x2048.size inb_S24x2048_S24x2048_0_0).toLoadRect (View.loadsAt_vmem h_S24x2048))
  Prog.lift (.store (Memref.whole cc0_scratch5) (Rect.unit (s := S24x2048) ![0, 0] S24x2048.size inb_S24x2048_S24x2048_0_0) (shapeCast S24x2048 (broadcast S24x2048 (Scalar.ofBits .f32 0x00000000#32)) shapeCasts_S24x2048_S24x2048) Finset.univ (View.stores_vmem_bits_univ h_S24x2048 rfl) (.inl rfl))

/-- The result leaves rounded. -/
def outP (a6 : Memref sig .tc .vmem S24x2048 .bf16) (ha6 : a6.IsWhole) : P F PUnit := do
  let v : Vec F S24x2048 .f32 ← Prog.lift (.load (Memref.whole cc0_scratch5) (Rect.unit (s := S24x2048) ![0, 0] S24x2048.size inb_S24x2048_S24x2048_0_0).toLoadRect (View.loadsAt_vmem h_S24x2048))
  let _old : Vec F S24x2048 .bf16 ← Prog.lift (.load a6 (Rect.unit (s := S24x2048) ![0, 0] S24x2048.size inb_S24x2048_S24x2048_0_0).toLoadRect (View.loadsAt_vmem h_S24x2048))
  Prog.lift (.store a6 (Rect.unit (s := S24x2048) ![0, 0] S24x2048.size inb_S24x2048_S24x2048_0_0) (truncf .bf16 v bitsLt_bf16_f32) Finset.univ (View.stores_vmem h_S24x2048 (ha6.storeExact_slice rfl _ packedbf16_S24x2048_S24x2048_0_0) (fun _ => rfl)) (.inl rfl))
  pure ⟨⟩

section Printed
variable (arg0 arg1 : Memref sig .tc .smem S27 .i32) (arg2 : Memref sig .tc .vmem S24x7168 .bf16) (arg6 : Memref sig .tc .vmem S24x2048 .bf16)
  (harg0 : arg0.IsWhole) (harg1 : arg1.IsWhole) (harg2 : arg2.IsWhole) (harg6 : arg6.IsWhole)

theorem part225_eq : k0_part225 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 = headP arg0 arg1 := by
  sl_kernel_rfl
theorem part226_eq : k0_part226 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 permParts.1 permParts.2.1 permParts.2.2.1 permParts.2.2.2
    = (xtLd arg2 0 >>= fun x => permSeg arg2 hotV 4 0 x >>= fun x' => pure ⟨hotV, x'⟩) := by
  sl_kernel_rfl
theorem part227_eq (v : FVec F S256x256 .bf16) (x : Vec F S24x256 .bf16) : k0_part227 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 v x = permSeg arg2 v 5 4 x := by
  sl_kernel_rfl
theorem part228_eq (v : FVec F S256x256 .bf16) (x : Vec F S24x256 .bf16) : k0_part228 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 v x = permSeg arg2 v 5 9 x := by
  sl_kernel_rfl
theorem part229_eq (v : FVec F S256x256 .bf16) (x : Vec F S24x256 .bf16) : k0_part229 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 v x = permSeg arg2 v 5 14 x := by
  sl_kernel_rfl
theorem part230_eq (v : FVec F S256x256 .bf16) (x : Vec F S24x256 .bf16) : k0_part230 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 v x = permSeg arg2 v 5 19 x := by
  sl_kernel_rfl
theorem part231_eq (n : BitVec 32) (v : FVec F S256x256 .bf16) (x : Vec F S24x256 .bf16) : k0_part231 (F := F) arg0 harg0 arg1 harg1 arg2 harg2 (Memref.whole main_arg2) (Memref.isWhole_whole main_arg2) (Memref.whole main_arg3) (Memref.isWhole_whole main_arg3) (Memref.whole main_arg4) (Memref.isWhole_whole main_arg4) arg6 harg6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8 (Scalar.muli n 4#32) v x
    = (permSeg arg2 v 3 24 x >>= fun x' => xtSt v 27 x' >>= fun _ => zeroP >>= fun _ =>
        pure ⟨0#32, 0#32, Scalar.muli (Scalar.divsi (Scalar.subi (Scalar.muli n 4#32) 0#32) 1#32) 1#32⟩) := by
  sl_kernel_rfl

end Printed

end Cert.Proof.Kern

end
-- ==== Proof.Arith.lean ====
/- The kernel's index arithmetic in closed form. -/
module

public import proofs.«01_k».proof.Proof.Head

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The step number -/

theorem word27 {n : BitVec 32} (h : n.toNat ≤ 27) : ∃ m : Fin 28, n = BitVec.ofNat 32 m :=
  ⟨⟨n.toNat, by omega⟩, by apply BitVec.eq_of_toNat_eq; rw [BitVec.toNat_ofNat]; exact (Nat.mod_eq_of_lt n.isLt).symm⟩

theorem trips_lit : ∀ m : Fin 28, (k0_t2_loop (BitVec.ofNat 32 m)).trips = 4 * m.val := by decide +kernel
theorem trips3_lit : ∀ m : Fin 28, (k0_t3_loop (BitVec.ofNat 32 m)).trips = 0 := by decide +kernel

theorem trips_eq {n : BitVec 32} (h : n.toNat ≤ 27) : (k0_t2_loop n).trips = 4 * n.toNat := by
  obtain ⟨m, rfl⟩ := word27 h
  rw [trips_lit, BitVec.toNat_ofNat, Nat.mod_eq_of_lt (by omega)]

theorem trips3_eq {n : BitVec 32} (h : n.toNat ≤ 27) : (k0_t3_loop n).trips = 0 := by
  obtain ⟨m, rfl⟩ := word27 h
  exact trips3_lit m

theorem trips27 : (k0_t2_loop 27#32).trips = 108 := by decide +kernel

/-- Step `j` of the longest run. -/
def stepJ (j : Fin 108) : Fin (k0_t2_loop 27#32).trips := ⟨j, lt_of_lt_of_eq j.2 trips27.symm⟩

theorem step_lt {n : BitVec 32} (h : n.toNat ≤ 27) (k : Fin (k0_t2_loop n).trips) : k.val < 108 := by
  have := lt_of_lt_of_eq k.2 (trips_eq h); omega

theorem stepJ_val (j : Fin 108) : (stepJ j).val = j.val := rfl
theorem step_nat (i : ℕ) (h : i < 108) : ∃ j : Fin 108, i = (stepJ j).val ∧ i = j.val := ⟨⟨i, h⟩, (stepJ_val ⟨i, h⟩).symm, rfl⟩

theorem step_of {n : BitVec 32} (h : n.toNat ≤ 27) (k : Fin (k0_t2_loop n).trips) : ∃ j : Fin 108, k.val = (stepJ j).val ∧ k.val = j.val :=
  step_nat k.val (step_lt h k)

theorem cond2_lit : ∀ m : Fin 28, (k0_cond2 (BitVec.ofNat 32 m) = 1#1 ↔ 0 < m.val) := by decide +kernel
theorem cond4_lit : ∀ m : Fin 28, (k0_cond4 (BitVec.ofNat 32 m) = 1#1 ↔ 0 < m.val) := by decide +kernel
theorem cond6_lit : ∀ m : Fin 28, ∀ k : Fin (k0_t2_loop (BitVec.ofNat 32 m)).trips, (k0_cond6 (BitVec.ofNat 32 m) k = 1#1 ↔ k.val + 2 < 4 * m.val) := by decide +kernel

theorem cond2_iff {n : BitVec 32} (h : n.toNat ≤ 27) : k0_cond2 n = 1#1 ↔ 0 < n.toNat := by
  obtain ⟨m, rfl⟩ := word27 h
  rw [cond2_lit, BitVec.toNat_ofNat, Nat.mod_eq_of_lt (by omega)]
theorem cond4_iff {n : BitVec 32} (h : n.toNat ≤ 27) : k0_cond4 n = 1#1 ↔ 0 < n.toNat := by
  obtain ⟨m, rfl⟩ := word27 h
  rw [cond4_lit, BitVec.toNat_ofNat, Nat.mod_eq_of_lt (by omega)]
theorem cond6_iff {n : BitVec 32} (h : n.toNat ≤ 27) (k : Fin (k0_t2_loop n).trips) : k0_cond6 n k = 1#1 ↔ k.val + 2 < 4 * n.toNat := by
  obtain ⟨m, rfl⟩ := word27 h
  rw [cond6_lit, BitVec.toNat_ofNat, Nat.mod_eq_of_lt (by omega)]

/-! ## The offsets of one step -/

section Off
variable {n : BitVec 32} (hn : n.toNat ≤ 27) (k : Fin (k0_t2_loop n).trips)
include hn
theorem off25_eq : k0_off25 n k = ![(k.val + 2) / 4] := by
  obtain ⟨j, h, e⟩ := step_of hn k
  have hs : k0_off25 n k = k0_off25 27#32 (stepJ j) := by unfold k0_off25; simp only [h]
  rw [hs, e]
  exact funext fun a => (by decide +kernel : ∀ j : Fin 108, ∀ a, k0_off25 27#32 (stepJ j) a = (![(j.val + 2) / 4] : Fin _ → ℕ) a) j a
theorem off27_eq : k0_off27 n k = ![0 % 3, (k.val + 2) % 3] := by
  obtain ⟨j, h, e⟩ := step_of hn k
  have hs : k0_off27 n k = k0_off27 27#32 (stepJ j) := by unfold k0_off27; simp only [h]
  rw [hs, e]
  exact funext fun a => (by decide +kernel : ∀ j : Fin 108, ∀ a, k0_off27 27#32 (stepJ j) a = (![0 % 3, (j.val + 2) % 3] : Fin _ → ℕ) a) j a
theorem off30_eq : k0_off30 n k = ![1 % 3, (k.val + 2) % 3] := by
  obtain ⟨j, h, e⟩ := step_of hn k
  have hs : k0_off30 n k = k0_off30 27#32 (stepJ j) := by unfold k0_off30; simp only [h]
  rw [hs, e]
  exact funext fun a => (by decide +kernel : ∀ j : Fin 108, ∀ a, k0_off30 27#32 (stepJ j) a = (![1 % 3, (j.val + 2) % 3] : Fin _ → ℕ) a) j a
theorem off33_eq : k0_off33 n k = ![2 % 3, (k.val + 2) % 3] := by
  obtain ⟨j, h, e⟩ := step_of hn k
  have hs : k0_off33 n k = k0_off33 27#32 (stepJ j) := by unfold k0_off33; simp only [h]
  rw [hs, e]
  exact funext fun a => (by decide +kernel : ∀ j : Fin 108, ∀ a, k0_off33 27#32 (stepJ j) a = (![2 % 3, (j.val + 2) % 3] : Fin _ → ℕ) a) j a
theorem off28_eq : k0_off28 n k = ![(k.val + 2) % 3, 0, 0] := by
  obtain ⟨j, h, e⟩ := step_of hn k
  have hs : k0_off28 n k = k0_off28 27#32 (stepJ j) := by unfold k0_off28; simp only [h]
  rw [hs, e]
  exact funext fun a => (by decide +kernel : ∀ j : Fin 108, ∀ a, k0_off28 27#32 (stepJ j) a = (![(j.val + 2) % 3, 0, 0] : Fin _ → ℕ) a) j a
theorem off31_eq : k0_off31 n k = ![(k.val + 2) % 3, 0, 0] := by
  obtain ⟨j, h, e⟩ := step_of hn k
  have hs : k0_off31 n k = k0_off31 27#32 (stepJ j) := by unfold k0_off31; simp only [h]
  rw [hs, e]
  exact funext fun a => (by decide +kernel : ∀ j : Fin 108, ∀ a, k0_off31 27#32 (stepJ j) a = (![(j.val + 2) % 3, 0, 0] : Fin _ → ℕ) a) j a
theorem off34_eq : k0_off34 n k = ![(k.val + 2) % 3, 0, 0] := by
  obtain ⟨j, h, e⟩ := step_of hn k
  have hs : k0_off34 n k = k0_off34 27#32 (stepJ j) := by unfold k0_off34; simp only [h]
  rw [hs, e]
  exact funext fun a => (by decide +kernel : ∀ j : Fin 108, ∀ a, k0_off34 27#32 (stepJ j) a = (![(j.val + 2) % 3, 0, 0] : Fin _ → ℕ) a) j a
theorem off36_eq : k0_off36 n k = ![k.val / 4] := by
  obtain ⟨j, h, e⟩ := step_of hn k
  have hs : k0_off36 n k = k0_off36 27#32 (stepJ j) := by unfold k0_off36; simp only [h]
  rw [hs, e]
  exact funext fun a => (by decide +kernel : ∀ j : Fin 108, ∀ a, k0_off36 27#32 (stepJ j) a = (![j.val / 4] : Fin _ → ℕ) a) j a
theorem off38_eq : k0_off38 n k = ![0 % 3, k.val % 3] := by
  obtain ⟨j, h, e⟩ := step_of hn k
  have hs : k0_off38 n k = k0_off38 27#32 (stepJ j) := by unfold k0_off38; simp only [h]
  rw [hs, e]
  exact funext fun a => (by decide +kernel : ∀ j : Fin 108, ∀ a, k0_off38 27#32 (stepJ j) a = (![0 % 3, j.val % 3] : Fin _ → ℕ) a) j a
theorem off41_eq : k0_off41 n k = ![1 % 3, k.val % 3] := by
  obtain ⟨j, h, e⟩ := step_of hn k
  have hs : k0_off41 n k = k0_off41 27#32 (stepJ j) := by unfold k0_off41; simp only [h]
  rw [hs, e]
  exact funext fun a => (by decide +kernel : ∀ j : Fin 108, ∀ a, k0_off41 27#32 (stepJ j) a = (![1 % 3, j.val % 3] : Fin _ → ℕ) a) j a
theorem off47_eq : k0_off47 n k = ![2 % 3, k.val % 3] := by
  obtain ⟨j, h, e⟩ := step_of hn k
  have hs : k0_off47 n k = k0_off47 27#32 (stepJ j) := by unfold k0_off47; simp only [h]
  rw [hs, e]
  exact funext fun a => (by decide +kernel : ∀ j : Fin 108, ∀ a, k0_off47 27#32 (stepJ j) a = (![2 % 3, j.val % 3] : Fin _ → ℕ) a) j a
theorem off39_eq : k0_off39 n k = ![k.val % 3, 0, 0] := by
  obtain ⟨j, h, e⟩ := step_of hn k
  have hs : k0_off39 n k = k0_off39 27#32 (stepJ j) := by unfold k0_off39; simp only [h]
  rw [hs, e]
  exact funext fun a => (by decide +kernel : ∀ j : Fin 108, ∀ a, k0_off39 27#32 (stepJ j) a = (![j.val % 3, 0, 0] : Fin _ → ℕ) a) j a
theorem off42_eq : k0_off42 n k = ![k.val % 3, 0, 0] := by
  obtain ⟨j, h, e⟩ := step_of hn k
  have hs : k0_off42 n k = k0_off42 27#32 (stepJ j) := by unfold k0_off42; simp only [h]
  rw [hs, e]
  exact funext fun a => (by decide +kernel : ∀ j : Fin 108, ∀ a, k0_off42 27#32 (stepJ j) a = (![j.val % 3, 0, 0] : Fin _ → ℕ) a) j a
theorem off48_eq : k0_off48 n k = ![k.val % 3, 0, 0] := by
  obtain ⟨j, h, e⟩ := step_of hn k
  have hs : k0_off48 n k = k0_off48 27#32 (stepJ j) := by unfold k0_off48; simp only [h]
  rw [hs, e]
  exact funext fun a => (by decide +kernel : ∀ j : Fin 108, ∀ a, k0_off48 27#32 (stepJ j) a = (![j.val % 3, 0, 0] : Fin _ → ℕ) a) j a
theorem off44_eq : k0_off44 n k = ![k.val % 3, 0, 0] := by
  obtain ⟨j, h, e⟩ := step_of hn k
  have hs : k0_off44 n k = k0_off44 27#32 (stepJ j) := by unfold k0_off44; simp only [h]
  rw [hs, e]
  exact funext fun a => (by decide +kernel : ∀ j : Fin 108, ∀ a, k0_off44 27#32 (stepJ j) a = (![j.val % 3, 0, 0] : Fin _ → ℕ) a) j a
theorem off45_eq : k0_off45 n k = ![k.val / 4] := by
  obtain ⟨j, h, e⟩ := step_of hn k
  have hs : k0_off45 n k = k0_off45 27#32 (stepJ j) := by unfold k0_off45; simp only [h]
  rw [hs, e]
  exact funext fun a => (by decide +kernel : ∀ j : Fin 108, ∀ a, k0_off45 27#32 (stepJ j) a = (![j.val / 4] : Fin _ → ℕ) a) j a
theorem off50_eq : k0_off50 n k = ![k.val % 3, 0, 0] := by
  obtain ⟨j, h, e⟩ := step_of hn k
  have hs : k0_off50 n k = k0_off50 27#32 (stepJ j) := by unfold k0_off50; simp only [h]
  rw [hs, e]
  exact funext fun a => (by decide +kernel : ∀ j : Fin 108, ∀ a, k0_off50 27#32 (stepJ j) a = (![j.val % 3, 0, 0] : Fin _ → ℕ) a) j a
theorem off78_eq : k0_off78 n k = ![0, 512 * (k.val % 4)] := by
  obtain ⟨j, h, e⟩ := step_of hn k
  have hs : k0_off78 n k = k0_off78 27#32 (stepJ j) := by unfold k0_off78; simp only [h]
  rw [hs, e]
  exact funext fun a => (by decide +kernel : ∀ j : Fin 108, ∀ a, k0_off78 27#32 (stepJ j) a = (![0, 512 * (j.val % 4)] : Fin _ → ℕ) a) j a
theorem off107_eq : k0_off107 n k = ![0, 512 * (k.val % 4)] := by
  obtain ⟨j, h, e⟩ := step_of hn k
  have hs : k0_off107 n k = k0_off107 27#32 (stepJ j) := by unfold k0_off107; simp only [h]
  rw [hs, e]
  exact funext fun a => (by decide +kernel : ∀ j : Fin 108, ∀ a, k0_off107 27#32 (stepJ j) a = (![0, 512 * (j.val % 4)] : Fin _ → ℕ) a) j a
theorem off29_eq (v : BitVec 32) : k0_off29 n k v = ![v.toNat, 0, 512 * ((k.val + 2) % 4)] := by
  obtain ⟨j, h, e⟩ := step_of hn k
  have hs : k0_off29 n k v 2 = k0_off29 27#32 (stepJ j) 0#32 2 := by unfold k0_off29; simp only [h]; rfl
  have h2 := (by decide +kernel : ∀ j : Fin 108, k0_off29 27#32 (stepJ j) 0#32 2 = 512 * ((j.val + 2) % 4)) j
  funext a; fin_cases a
  · rfl
  · rfl
  · refine (hs.trans h2).trans ?_; rw [e]; rfl
theorem off32_eq (v : BitVec 32) : k0_off32 n k v = ![v.toNat, 0, 512 * ((k.val + 2) % 4)] := by
  obtain ⟨j, h, e⟩ := step_of hn k
  have hs : k0_off32 n k v 2 = k0_off32 27#32 (stepJ j) 0#32 2 := by unfold k0_off32; simp only [h]; rfl
  have h2 := (by decide +kernel : ∀ j : Fin 108, k0_off32 27#32 (stepJ j) 0#32 2 = 512 * ((j.val + 2) % 4)) j
  funext a; fin_cases a
  · rfl
  · rfl
  · refine (hs.trans h2).trans ?_; rw [e]; rfl
theorem off40_eq (v : BitVec 32) : k0_off40 n k v = ![v.toNat, 0, 512 * (k.val % 4)] := by
  obtain ⟨j, h, e⟩ := step_of hn k
  have hs : k0_off40 n k v 2 = k0_off40 27#32 (stepJ j) 0#32 2 := by unfold k0_off40; simp only [h]; rfl
  have h2 := (by decide +kernel : ∀ j : Fin 108, k0_off40 27#32 (stepJ j) 0#32 2 = 512 * (j.val % 4)) j
  funext a; fin_cases a
  · rfl
  · rfl
  · refine (hs.trans h2).trans ?_; rw [e]; rfl
theorem off43_eq (v : BitVec 32) : k0_off43 n k v = ![v.toNat, 0, 512 * (k.val % 4)] := by
  obtain ⟨j, h, e⟩ := step_of hn k
  have hs : k0_off43 n k v 2 = k0_off43 27#32 (stepJ j) 0#32 2 := by unfold k0_off43; simp only [h]; rfl
  have h2 := (by decide +kernel : ∀ j : Fin 108, k0_off43 27#32 (stepJ j) 0#32 2 = 512 * (j.val % 4)) j
  funext a; fin_cases a
  · rfl
  · rfl
  · refine (hs.trans h2).trans ?_; rw [e]; rfl
omit hn in
theorem maxsi_pos {v : BitVec 32} (h : k0_cond3 v = 1#1) : (Scalar.maxsi v 0#32).toNat = v.toNat := by
  have h' : BitVec.slt 0#32 v = true ∨ v = 0#32 := by
    by_contra hc
    rw [not_or] at hc
    have : BitVec.sle 0#32 v = false := by
      rw [BitVec.sle_eq_slt_or_eq]
      simp only [Bool.or_eq_false_iff, beq_eq_false_iff_ne]
      exact ⟨by simpa using hc.1, fun e => hc.2 e.symm⟩
    have e : k0_cond3 v = 0#1 := by
      show Scalar.cmpi .ne (Scalar.extui (BitVec.ofBool (BitVec.sle 0#32 v))) 0#32 = 0#1
      rw [this]; decide
    rw [e] at h; exact absurd h (by decide)
  show (if BitVec.slt 0#32 v then v else 0#32).toNat = v.toNat
  rcases h' with h' | h'
  · rw [if_pos h']
  · rw [h']; rfl
theorem off35_eq (v : BitVec 32) (hv : k0_cond3 v = 1#1) : k0_off35 n k v = ![v.toNat, 0, 512 * ((k.val + 2) % 4)] := by
  obtain ⟨j, h, e⟩ := step_of hn k
  have hs : k0_off35 n k v 2 = k0_off35 27#32 (stepJ j) 0#32 2 := by unfold k0_off35; simp only [h]; rfl
  have h2 := (by decide +kernel : ∀ j : Fin 108, k0_off35 27#32 (stepJ j) 0#32 2 = 512 * ((j.val + 2) % 4)) j
  funext a; fin_cases a
  · exact maxsi_pos hv
  · rfl
  · refine (hs.trans h2).trans ?_; rw [e]; rfl
theorem off49_eq (v : BitVec 32) (hv : k0_cond3 v = 1#1) : k0_off49 n k v = ![v.toNat, 0, 512 * (k.val % 4)] := by
  obtain ⟨j, h, e⟩ := step_of hn k
  have hs : k0_off49 n k v 2 = k0_off49 27#32 (stepJ j) 0#32 2 := by unfold k0_off49; simp only [h]; rfl
  have h2 := (by decide +kernel : ∀ j : Fin 108, k0_off49 27#32 (stepJ j) 0#32 2 = 512 * (j.val % 4)) j
  funext a; fin_cases a
  · exact maxsi_pos hv
  · rfl
  · refine (hs.trans h2).trans ?_; rw [e]; rfl
theorem mult3_dvd : 512 ∣ (k0_mult3 n k).toNat := by
  obtain ⟨j, h, e⟩ := step_of hn k
  have hs : k0_mult3 n k = k0_mult3 27#32 (stepJ j) := by unfold k0_mult3; simp only [h]
  rw [hs]
  exact (by decide +kernel : ∀ j : Fin 108, 512 ∣ (k0_mult3 27#32 (stepJ j)).toNat) j
theorem mult4_dvd : 512 ∣ (k0_mult4 n k).toNat := by
  obtain ⟨j, h, e⟩ := step_of hn k
  have hs : k0_mult4 n k = k0_mult4 27#32 (stepJ j) := by unfold k0_mult4; simp only [h]
  rw [hs]
  exact (by decide +kernel : ∀ j : Fin 108, 512 ∣ (k0_mult4 27#32 (stepJ j)).toNat) j
theorem mult5_dvd : 512 ∣ (k0_mult5 n k).toNat := by
  obtain ⟨j, h, e⟩ := step_of hn k
  have hs : k0_mult5 n k = k0_mult5 27#32 (stepJ j) := by unfold k0_mult5; simp only [h]
  rw [hs]
  exact (by decide +kernel : ∀ j : Fin 108, 512 ∣ (k0_mult5 27#32 (stepJ j)).toNat) j

end Off

/-! ## The first two steps' offsets -/

theorem off3_eq : k0_off3 = ![0] := funext (by decide +kernel : ∀ a, k0_off3 a = (![0] : Fin _ → ℕ) a)
theorem off5_eq : k0_off5 = ![0 % 3, 0 % 3] := funext (by decide +kernel : ∀ a, k0_off5 a = (![0 % 3, 0 % 3] : Fin _ → ℕ) a)
theorem off8_eq : k0_off8 = ![1 % 3, 0 % 3] := funext (by decide +kernel : ∀ a, k0_off8 a = (![1 % 3, 0 % 3] : Fin _ → ℕ) a)
theorem off11_eq : k0_off11 = ![2 % 3, 0 % 3] := funext (by decide +kernel : ∀ a, k0_off11 a = (![2 % 3, 0 % 3] : Fin _ → ℕ) a)
theorem off6_eq : k0_off6 = ![0 % 3, 0, 0] := funext (by decide +kernel : ∀ a, k0_off6 a = (![0 % 3, 0, 0] : Fin _ → ℕ) a)
theorem off9_eq : k0_off9 = ![0 % 3, 0, 0] := funext (by decide +kernel : ∀ a, k0_off9 a = (![0 % 3, 0, 0] : Fin _ → ℕ) a)
theorem off12_eq : k0_off12 = ![0 % 3, 0, 0] := funext (by decide +kernel : ∀ a, k0_off12 a = (![0 % 3, 0, 0] : Fin _ → ℕ) a)
theorem off14_eq : k0_off14 = ![0] := funext (by decide +kernel : ∀ a, k0_off14 a = (![0] : Fin _ → ℕ) a)
theorem off16_eq : k0_off16 = ![0 % 3, 1 % 3] := funext (by decide +kernel : ∀ a, k0_off16 a = (![0 % 3, 1 % 3] : Fin _ → ℕ) a)
theorem off19_eq : k0_off19 = ![1 % 3, 1 % 3] := funext (by decide +kernel : ∀ a, k0_off19 a = (![1 % 3, 1 % 3] : Fin _ → ℕ) a)
theorem off22_eq : k0_off22 = ![2 % 3, 1 % 3] := funext (by decide +kernel : ∀ a, k0_off22 a = (![2 % 3, 1 % 3] : Fin _ → ℕ) a)
theorem off17_eq : k0_off17 = ![1 % 3, 0, 0] := funext (by decide +kernel : ∀ a, k0_off17 a = (![1 % 3, 0, 0] : Fin _ → ℕ) a)
theorem off20_eq : k0_off20 = ![1 % 3, 0, 0] := funext (by decide +kernel : ∀ a, k0_off20 a = (![1 % 3, 0, 0] : Fin _ → ℕ) a)
theorem off23_eq : k0_off23 = ![1 % 3, 0, 0] := funext (by decide +kernel : ∀ a, k0_off23 a = (![1 % 3, 0, 0] : Fin _ → ℕ) a)
theorem off7_eq (v : BitVec 32) : k0_off7 v = ![v.toNat, 0, 512 * (0 % 4)] := by
  funext a; fin_cases a
  · rfl
  · rfl
  · exact (by decide +kernel : k0_off7 0#32 2 = 512 * (0 % 4))
theorem off10_eq (v : BitVec 32) : k0_off10 v = ![v.toNat, 0, 512 * (0 % 4)] := by
  funext a; fin_cases a
  · rfl
  · rfl
  · exact (by decide +kernel : k0_off10 0#32 2 = 512 * (0 % 4))
theorem off18_eq (v : BitVec 32) : k0_off18 v = ![v.toNat, 0, 512 * (1 % 4)] := by
  funext a; fin_cases a
  · rfl
  · rfl
  · exact (by decide +kernel : k0_off18 0#32 2 = 512 * (1 % 4))
theorem off21_eq (v : BitVec 32) : k0_off21 v = ![v.toNat, 0, 512 * (1 % 4)] := by
  funext a; fin_cases a
  · rfl
  · rfl
  · exact (by decide +kernel : k0_off21 0#32 2 = 512 * (1 % 4))
theorem off13_eq (v : BitVec 32) (hv : k0_cond3 v = 1#1) : k0_off13 v = ![v.toNat, 0, 512 * (0 % 4)] := by
  funext a; fin_cases a
  · exact maxsi_pos hv
  · rfl
  · exact (by decide +kernel : k0_off13 0#32 2 = 512 * (0 % 4))
theorem off24_eq (v : BitVec 32) (hv : k0_cond3 v = 1#1) : k0_off24 v = ![v.toNat, 0, 512 * (1 % 4)] := by
  funext a; fin_cases a
  · exact maxsi_pos hv
  · rfl
  · exact (by decide +kernel : k0_off24 0#32 2 = 512 * (1 % 4))

end Cert.Proof.Kern

end
-- ==== Proof.Chk.lean ====
/- The conditions the kernel assumes hold. -/
module

public import proofs.«01_k».proof.Proof.Arith

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]
local notation "𝕄" => MT nD τ sig Unit (Elt F) ℕ (UU nD τ) ℕ
variable [Facts]

/-! ## The conditions the kernel assumes -/

theorem one_inb {e : ℕ} (h : e < 27) : ∀ a, (![e] : Fin 1 → ℕ) a + S1.size a ≤ S27.size a := by
  intro a; fin_cases a
  show e + 1 ≤ 27; omega
theorem B_inb {e : ℕ} (h : e < 27) (j : ℕ) : ∀ a, (![e, 0, 512 * (j % 4)] : Fin 3 → ℕ) a + S1x1792x512.size a ≤ S27x1792x2048.size a := by
  have := blkB_inb e j; rwa [Nat.mod_eq_of_lt h] at this
theorem S_inb {e : ℕ} (h : e < 27) (j : ℕ) : ∀ a, (![e, 0, 512 * (j % 4)] : Fin 3 → ℕ) a + S1x112x512.size a ≤ S27x112x2048.size a := by
  have := blkS_inb e j; rwa [Nat.mod_eq_of_lt h] at this
theorem R_inb {e : ℕ} (h : e < 17) (j : ℕ) : ∀ a, (![e, 0, 512 * (j % 4)] : Fin 3 → ℕ) a + S1x1792x512.size a ≤ S17x1792x2048.size a := by
  have := blkR_inb e j; rwa [Nat.mod_eq_of_lt h] at this
theorem col_inb (j : ℕ) : ∀ a, (![0, 512 * (j % 4)] : Fin 2 → ℕ) a + S24x512.size a ≤ S24x2048.size a := by
  intro a; fin_cases a
  · show 0 + 24 ≤ 24; omega
  · show 512 * (j % 4) + 512 ≤ 2048; omega
theorem tile_inb' (s : ℕ) {t : ℕ} (ht : t < 28) : ∀ a, (![s % 3, 64 * t, 0] : Fin 3 → ℕ) a + S1x64x512.size a ≤ S3x1792x512.size a := by
  intro a; fin_cases a
  · show s % 3 + 1 ≤ 3; omega
  · show 64 * t + 64 ≤ 1792; omega
  · show 0 + 512 ≤ 512; omega

/-- A block of whole rows is made of whole words. -/
theorem wordsB {A B C : ℕ} (off : Fin 3 → ℕ) (h0 : off 1 = 0) (h : ∀ a, off a + S1x1792x512.size a ≤ (⟨3, ![A, B, C]⟩ : Shape).size a) :
    (Rect.unit (s := ⟨3, ![A, B, C]⟩) off S1x1792x512.size h).WholeWords (EltTy.packing .i8) := by
  have h2 : 2 ≤ (⟨3, ![A, B, C]⟩ : Shape).rank := by show 2 ≤ 3; decide
  refine .inl (.inr ⟨h2, rfl, .inl ⟨?_, ?_⟩⟩)
  · show (4 : ℕ) ∣ off 1
    rw [h0]; exact dvd_zero 4
  · show (4 : ℕ) ∣ 1792
    exact ⟨448, rfl⟩

/-- A word that names an expert, and a slot word: one of the pool's planes, or none. -/
def SlotOk (v : BitVec 32) : Prop := k0_cond3 v = 1#1 → v.toNat < 17

section Chk
variable {n : BitVec 32} (hn : n.toNat ≤ 27) (k : Fin (k0_t2_loop n).trips)

theorem no3 {n : BitVec 32} (hn : n.toNat ≤ 27) (k : Fin (k0_t3_loop n).trips) : False := by
  have := k.2; exact absurd (lt_of_lt_of_eq this (trips3_eq hn)) (by omega)

theorem ok2_lit : ∀ m : Fin 28, (k0_t2_loop (BitVec.ofNat 32 m)).OK := by decide +kernel
theorem ok3_lit : ∀ m : Fin 28, (k0_t3_loop (BitVec.ofNat 32 m)).OK := by decide +kernel

theorem lt_trips {n : BitVec 32} (hn : n.toNat ≤ 27) (k : Fin (k0_t2_loop n).trips) : k.val < 4 * n.toNat := lt_of_lt_of_eq k.2 (trips_eq hn)

theorem chk6_ok {n : BitVec 32} (hn : n.toNat ≤ 27) : k0_chk6 n := by
  refine ⟨⟨?_, fun k h => ?_, fun k h => mult3_dvd hn k, fun k h => ?_, fun k h => ?_, fun k h hinb => wordsB _ rfl hinb, fun k h => ?_, fun k h => ?_,
    fun k => ?_, fun k => mult4_dvd hn k, fun k => ?_, fun k => ?_, fun k hinb => wordsB _ rfl hinb, fun k => ?_, fun k => ?_, fun k => ?_, fun k => ?_,
    fun k => mult5_dvd hn k, ?_, ?_⟩, ?_⟩
  · obtain ⟨m, rfl⟩ := word27 hn; exact ok2_lit m
  · rw [off25_eq hn k]; have := (cond6_iff hn k).mp h; exact one_inb (by omega)
  · rw [off27_eq hn k]; exact sem_inb 0 _
  · rw [off28_eq hn k]; exact slot_inb _
  · rw [off30_eq hn k]; exact sem_inb 1 _
  · rw [off31_eq hn k]; exact slotS_inb _
  · rw [off36_eq hn k]; have := lt_trips hn k; exact one_inb (by omega)
  · rw [off38_eq hn k]; exact sem_inb 0 _
  · rw [off39_eq hn k]; exact slot_inb _
  · rw [off41_eq hn k]; exact sem_inb 1 _
  · rw [off42_eq hn k]; exact slotS_inb _
  · rw [off44_eq hn k]; exact slotS_inb _
  · rw [off45_eq hn k]; have := lt_trips hn k; exact one_inb (by omega)
  · obtain ⟨m, rfl⟩ := word27 hn; exact ok3_lit m
  · repeat' apply And.intro
    all_goals exact fun k => (no3 hn k).elim
  · unfold k0_chk6_1
    repeat' apply And.intro
    all_goals exact fun k => (no3 hn k).elim

include hn
theorem chk7_ok {v : BitVec 32} (hv : v.toNat < 27) : k0_chk7 n k v :=
  ⟨fun _ => one_inb hv, fun _ => by rw [off29_eq hn k]; exact B_inb hv _, fun _ hinb => wordsB _ rfl hinb, fun _ => by rw [off32_eq hn k]; exact S_inb hv _⟩
theorem chk9_ok {v : BitVec 32} (hv : v.toNat < 27) : k0_chk9 n k v :=
  ⟨one_inb hv, by rw [off40_eq hn k]; exact B_inb hv _, fun hinb => wordsB _ rfl hinb, by rw [off43_eq hn k]; exact S_inb hv _⟩
theorem chk8_ok {v : BitVec 32} (hv : SlotOk v) : k0_chk8 n k v :=
  ⟨fun _ _ => by rw [off33_eq hn k]; exact sem_inb 2 _, fun _ _ => by rw [off34_eq hn k]; exact slot_inb _,
    fun _ h => by rw [off35_eq hn k v h]; exact R_inb (hv h) _, fun _ _ hinb => wordsB _ rfl hinb, fun _ _ hinb => wordsB _ rfl hinb⟩
omit hn
theorem chk10_ok {v : BitVec 32} (hv : v.toNat < 27) : k0_chk10 v := one_inb hv
theorem chk2_ok {v : BitVec 32} (hv : v.toNat < 27) : k0_chk2 n v :=
  ⟨fun _ => one_inb hv, fun _ => by rw [off7_eq]; exact B_inb hv _, fun _ hinb => wordsB _ rfl hinb, fun _ => by rw [off10_eq]; exact S_inb hv _⟩
theorem chk4_ok {v : BitVec 32} (hv : v.toNat < 27) : k0_chk4 n v :=
  ⟨fun _ => one_inb hv, fun _ => by rw [off18_eq]; exact B_inb hv _, fun _ hinb => wordsB _ rfl hinb, fun _ => by rw [off21_eq]; exact S_inb hv _⟩
theorem chk3_ok {v : BitVec 32} (hv : SlotOk v) : k0_chk3 n v :=
  ⟨fun _ h => by rw [off13_eq v h]; exact R_inb (hv h) _, fun _ _ hinb => wordsB _ rfl hinb⟩
theorem chk5_ok {v : BitVec 32} (hv : SlotOk v) : k0_chk5 n v :=
  ⟨fun _ h => by rw [off24_eq v h]; exact R_inb (hv h) _, fun _ _ hinb => wordsB _ rfl hinb⟩

theorem off50_lt {n : BitVec 32} (hn : n.toNat ≤ 27) (k : Fin (k0_t2_loop n).trips) : (k0_off50 n k) 0 < 3 := by
  rw [off50_eq hn k]; exact Nat.mod_lt _ (by omega)
theorem chk11_ok {n : BitVec 32} (hn : n.toNat ≤ 27) (k : Fin (k0_t2_loop n).trips) {v : BitVec 32} (hs : SlotOk v) : k0_chk11 n k v := by
  have hv := off50_lt hn k
  exact ⟨⟨fun _ => by rw [off47_eq hn k]; exact sem_inb 2 _,
    fun _ => by rw [off48_eq hn k]; exact slot_inb _,
    fun h => by rw [off49_eq hn k v h]; exact R_inb (hs h) _,
    fun _ hinb => wordsB _ rfl hinb,
    fun _ hinb => wordsB _ rfl hinb,
    fun _ => tile_inb hv (t := 0) (by omega),
    fun _ => tile_inb hv (t := 1) (by omega),
    fun _ => tile_inb hv (t := 2) (by omega),
    fun _ => tile_inb hv (t := 3) (by omega),
    fun _ => tile_inb hv (t := 4) (by omega),
    fun _ => tile_inb hv (t := 5) (by omega),
    fun _ => tile_inb hv (t := 6) (by omega),
    fun _ => tile_inb hv (t := 7) (by omega),
    fun _ => tile_inb hv (t := 8) (by omega),
    fun _ => tile_inb hv (t := 9) (by omega),
    fun _ => tile_inb hv (t := 10) (by omega),
    fun _ => tile_inb hv (t := 11) (by omega),
    fun _ => tile_inb hv (t := 12) (by omega),
    fun _ => tile_inb hv (t := 13) (by omega),
    fun _ => tile_inb hv (t := 14) (by omega),
    fun _ => tile_inb hv (t := 15) (by omega),
    fun _ => tile_inb hv (t := 16) (by omega),
    fun _ => tile_inb hv (t := 17) (by omega),
    fun _ => tile_inb hv (t := 18) (by omega),
    fun _ => tile_inb hv (t := 19) (by omega),
    fun _ => tile_inb hv (t := 20) (by omega),
    fun _ => tile_inb hv (t := 21) (by omega),
    fun _ => tile_inb hv (t := 22) (by omega),
    fun _ => tile_inb hv (t := 23) (by omega),
    fun _ => tile_inb hv (t := 24) (by omega),
    fun _ => tile_inb hv (t := 25) (by omega),
    fun _ => tile_inb hv (t := 26) (by omega)⟩,
   ⟨fun _ => tile_inb hv (t := 27) (by omega),
    fun _ => by rw [off78_eq hn k]; exact col_inb _,
    fun _ => tile_inb hv (t := 0) (by omega),
    fun _ => tile_inb hv (t := 1) (by omega),
    fun _ => tile_inb hv (t := 2) (by omega),
    fun _ => tile_inb hv (t := 3) (by omega),
    fun _ => tile_inb hv (t := 4) (by omega),
    fun _ => tile_inb hv (t := 5) (by omega),
    fun _ => tile_inb hv (t := 6) (by omega),
    fun _ => tile_inb hv (t := 7) (by omega),
    fun _ => tile_inb hv (t := 8) (by omega),
    fun _ => tile_inb hv (t := 9) (by omega),
    fun _ => tile_inb hv (t := 10) (by omega),
    fun _ => tile_inb hv (t := 11) (by omega),
    fun _ => tile_inb hv (t := 12) (by omega),
    fun _ => tile_inb hv (t := 13) (by omega),
    fun _ => tile_inb hv (t := 14) (by omega),
    fun _ => tile_inb hv (t := 15) (by omega),
    fun _ => tile_inb hv (t := 16) (by omega),
    fun _ => tile_inb hv (t := 17) (by omega),
    fun _ => tile_inb hv (t := 18) (by omega),
    fun _ => tile_inb hv (t := 19) (by omega),
    fun _ => tile_inb hv (t := 20) (by omega),
    fun _ => tile_inb hv (t := 21) (by omega),
    fun _ => tile_inb hv (t := 22) (by omega),
    fun _ => tile_inb hv (t := 23) (by omega),
    fun _ => tile_inb hv (t := 24) (by omega),
    fun _ => tile_inb hv (t := 25) (by omega),
    fun _ => tile_inb hv (t := 26) (by omega),
    fun _ => tile_inb hv (t := 27) (by omega),
    fun _ => by rw [off107_eq hn k]; exact col_inb _⟩⟩

end Chk

end Cert.Proof.Kern

end
-- ==== Proof.Data.lean ====
/- What the loads of a step bring. -/
module

public import proofs.«01_k».proof.Proof.Chk
public import Idealize.ShloMosaic.Lib.ValueLayout

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

/-! ## What a ring slot reads -/

abbrev M3 : Memref sig .tc .vmem S112x512 .f32 := Memref.whole cc0_scratch3
abbrev M4 : Memref sig .tc .vmem S24x7168 .bf16 := Memref.whole cc0_scratch4
abbrev M5 : Memref sig .tc .vmem S24x2048 .f32 := Memref.whole cc0_scratch5

/-- The elements a load names are the images of its indices. -/
theorem loadRect_idx {s : Shape} {r : LoadRect s} {i : s.Idx} (h : i ∈ r.set) : ∃ x, r.idx x = i := by
  have h' := r.mem_set.mp h
  choose j hj e using h'
  exact ⟨fun a => ⟨j a, hj a⟩, funext fun a => Fin.ext (e a).symm⟩

/-- An index of tile `t`, in the block. -/
def tileIx (t : ℕ) (ht : t < 28) (x : S1x64x512.Idx) : S1792x512.Idx :=
  ix2 ⟨64 * t + (x 1).val, by have : (x 1).val < 64 := (x 1).isLt; omega⟩ ⟨(x 2).val, (x 2).isLt⟩

/-- Tile `t` of a block of packed rows. -/
def tileOf (R : Vec F S1792x512 .i8) (t : ℕ) (ht : t < 28) : Vec F S1x64x512 .i8 := fun x => R (tileIx t ht x)

/-- A tile of the first ring buffer, seen through the slot. -/
theorem slB_idx (s t : ℕ) (ht : t < 28) (h : ∀ a, (![s % 3, 64 * t, 0] : Fin 3 → ℕ) a + S1x64x512.size a ≤ S3x1792x512.size a)
    (x : S1x64x512.Idx) : (Memref.whole cc0_scratch0 : Memref sig .tc .vmem S3x1792x512 .i8).view.emb ((Rect.unit (s := S3x1792x512) ![s % 3, 64 * t, 0] S1x64x512.size h).toLoadRect.idx x)
      = (slB s).view.emb (tileIx t ht x) := by
  refine funext fun a => Fin.ext ?_
  have hx0 : (x 0).val < 1 := (x 0).isLt
  have e := fun h => reshapeEquiv_ix2_1ab (a := 1792) (b := 512) h ⟨64 * t + (x 1).val, by have : (x 1).val < 64 := (x 1).isLt; omega⟩ ⟨(x 2).val, (x 2).isLt⟩
  refine Eq.trans ?_ (congrArg (fun y => ((Rect.unit (s := S3x1792x512) ![s % 3, 0, 0] S1x1792x512.size (slot_inb s)).idx y a).val) (e _)).symm
  fin_cases a
  · show s % 3 + 1 * (x 0).val = s % 3 + 1 * 0
    omega
  · show 64 * t + 1 * (x 1).val = 0 + 1 * (64 * t + (x 1).val)
    omega
  · show 0 + 1 * (x 2).val = 0 + 1 * (x 2).val
    rfl

/-- Loading a tile of the slot, as a program. -/
theorem slB_ldT (c : Dev nD) (s t : ℕ) (ht : t < 28) {v : ℕ} (hv : v < 3) (e : v = s % 3) {f : Buf (Elt F) ((slB s).view.loc (c : Thread nD τ))}
    {R' R : sProp 𝕄} (hR : R ⊢ iprop(((slB s).view.loc (c : Thread nD τ) ↦[(slB s).view.set]{fullShare} f) ∗ R')) (hR' : iprop(((slB s).view.loc (c : Thread nD τ) ↦[(slB s).view.set]{fullShare} f) ∗ R') ⊢ R) :
    Ev c R (ldT (F := F) (Memref.whole cc0_scratch0) hv t ht) (tileOf ((slB s).view.read (Elt F) f) t ht) := by
  subst e
  refine Ev.load (m := (Memref.whole cc0_scratch0 : Memref sig .tc .vmem S3x1792x512 .i8)) (S := (slB s).view.set) (q := fullShare) (f := f) (R' := R') ?_ hR hR' ?_
  · intro i hi
    obtain ⟨y, hy, rfl⟩ := Finset.mem_map.mp hi
    obtain ⟨x, rfl⟩ := loadRect_idx hy
    rw [slB_idx s t ht _ x]
    exact Finset.mem_map.mpr ⟨_, Finset.mem_univ _, rfl⟩
  · funext x
    exact congrArg f (slB_idx s t ht _ x)

/-- A tile of the second ring buffer, seen through the slot. -/
theorem slR_idx (s t : ℕ) (ht : t < 28) (h : ∀ a, (![s % 3, 64 * t, 0] : Fin 3 → ℕ) a + S1x64x512.size a ≤ S3x1792x512.size a)
    (x : S1x64x512.Idx) : (Memref.whole cc0_scratch1 : Memref sig .tc .vmem S3x1792x512 .i8).view.emb ((Rect.unit (s := S3x1792x512) ![s % 3, 64 * t, 0] S1x64x512.size h).toLoadRect.idx x)
      = (slR s).view.emb (tileIx t ht x) := by
  refine funext fun a => Fin.ext ?_
  have hx0 : (x 0).val < 1 := (x 0).isLt
  have e := fun h => reshapeEquiv_ix2_1ab (a := 1792) (b := 512) h ⟨64 * t + (x 1).val, by have : (x 1).val < 64 := (x 1).isLt; omega⟩ ⟨(x 2).val, (x 2).isLt⟩
  refine Eq.trans ?_ (congrArg (fun y => ((Rect.unit (s := S3x1792x512) ![s % 3, 0, 0] S1x1792x512.size (slot_inb s)).idx y a).val) (e _)).symm
  fin_cases a
  · show s % 3 + 1 * (x 0).val = s % 3 + 1 * 0
    omega
  · show 64 * t + 1 * (x 1).val = 0 + 1 * (64 * t + (x 1).val)
    omega
  · show 0 + 1 * (x 2).val = 0 + 1 * (x 2).val
    rfl

/-- Loading a tile of the slot, as a program. -/
theorem slR_ldT (c : Dev nD) (s t : ℕ) (ht : t < 28) {v : ℕ} (hv : v < 3) (e : v = s % 3) {f : Buf (Elt F) ((slR s).view.loc (c : Thread nD τ))}
    {R' R : sProp 𝕄} (hR : R ⊢ iprop(((slR s).view.loc (c : Thread nD τ) ↦[(slR s).view.set]{fullShare} f) ∗ R')) (hR' : iprop(((slR s).view.loc (c : Thread nD τ) ↦[(slR s).view.set]{fullShare} f) ∗ R') ⊢ R) :
    Ev c R (ldT (F := F) (Memref.whole cc0_scratch1) hv t ht) (tileOf ((slR s).view.read (Elt F) f) t ht) := by
  subst e
  refine Ev.load (m := (Memref.whole cc0_scratch1 : Memref sig .tc .vmem S3x1792x512 .i8)) (S := (slR s).view.set) (q := fullShare) (f := f) (R' := R') ?_ hR hR' ?_
  · intro i hi
    obtain ⟨y, hy, rfl⟩ := Finset.mem_map.mp hi
    obtain ⟨x, rfl⟩ := loadRect_idx hy
    rw [slR_idx s t ht _ x]
    exact Finset.mem_map.mpr ⟨_, Finset.mem_univ _, rfl⟩
  · funext x
    exact congrArg f (slR_idx s t ht _ x)

/-- A block of scales with a leading unit axis. -/
def oneIx (x : S1x112x512.Idx) : S112x512.Idx := ix2 ⟨(x 1).val, (x 1).isLt⟩ ⟨(x 2).val, (x 2).isLt⟩

theorem slS_idx (s : ℕ) (x : S1x112x512.Idx) : (Memref.whole cc0_scratch2 : Memref sig .tc .vmem S3x112x512 .f32).view.emb ((Rect.unit (s := S3x112x512) ![s % 3, 0, 0] S1x112x512.size (slotS_inb s)).toLoadRect.idx x)
      = (slS s).view.emb (oneIx x) := by
  refine funext fun a => Fin.ext ?_
  have hx0 : (x 0).val < 1 := (x 0).isLt
  have e := fun h => reshapeEquiv_ix2_1ab (a := 112) (b := 512) h ⟨(x 1).val, (x 1).isLt⟩ ⟨(x 2).val, (x 2).isLt⟩
  refine Eq.trans ?_ (congrArg (fun y => ((Rect.unit (s := S3x112x512) ![s % 3, 0, 0] S1x112x512.size (slotS_inb s)).idx y a).val) (e _)).symm
  fin_cases a
  · show s % 3 + 1 * (x 0).val = s % 3 + 1 * 0
    omega
  · show 0 + 1 * (x 1).val = 0 + 1 * (x 1).val
    rfl
  · show 0 + 1 * (x 2).val = 0 + 1 * (x 2).val
    rfl

/-- Loading a slot's scales, as a program. -/
theorem slS_ld (c : Dev nD) (s : ℕ) {off : Fin 3 → ℕ} (e : off = ![s % 3, 0, 0]) (h : ∀ a, off a + S1x112x512.size a ≤ S3x112x512.size a)
    {hl : (Memref.whole cc0_scratch2 : Memref sig .tc .vmem S3x112x512 .f32).view.LoadsAt (Rect.unit (s := S3x112x512) off S1x112x512.size h).toLoadRect} {f : Buf (Elt F) ((slS s).view.loc (c : Thread nD τ))} :
    Ev c ((slS s).view.loc (c : Thread nD τ) ↦[(slS s).view.set]{fullShare} f)
      (Prog.lift (.load (Memref.whole cc0_scratch2) (Rect.unit (s := S3x112x512) off S1x112x512.size h).toLoadRect hl) : P F (Vec F S1x112x512 .f32))
      (fun x => (slS s).view.read (Elt F) f (oneIx x)) := by
  subst e
  refine Ev.load (m := (Memref.whole cc0_scratch2 : Memref sig .tc .vmem S3x112x512 .f32)) (S := (slS s).view.set) (q := fullShare) (f := f) (R' := iprop(emp)) ?_ ?_ ?_ ?_
  · intro i hi
    obtain ⟨y, hy, rfl⟩ := Finset.mem_map.mp hi
    obtain ⟨x, rfl⟩ := loadRect_idx hy
    rw [slS_idx s x]
    exact Finset.mem_map.mpr ⟨_, Finset.mem_univ _, rfl⟩
  · iintro H
    isplitl [H]; · iexact H
    iempintro
  · iintro ⟨H, -⟩
    iexact H
  · funext x
    exact congrArg f (slS_idx s x)

/-! ## The value of a projection -/

/-- Row `g` of the steps, eight times over. -/
def stepRow (S : Vec F S112x512 .f32) (g : ℕ) (hg : g < 112) : Vec F S8x512 .f32 := fun x => S (ix2 ⟨g, hg⟩ ⟨(x 1).val, (x 1).isLt⟩)
/-- Quarter `k` of the permuted tokens. -/
def quarter (X : Vec F S24x7168 .bf16) (k : ℕ) (hk : k < 4) : Vec F S24x1792 .bf16 :=
  fun x => X (ix2 ⟨(x 0).val, (x 0).isLt⟩ ⟨1792 * k + (x 1).val, by have : (x 1).val < 1792 := (x 1).isLt; omega⟩)

/-- A decoded tile, from its nibbles and the steps. -/
def scaledV (S : Vec F S112x512 .f32) (t : ℕ) (ht : t < 28) (ev od : FVec F S128x512 .bf16) : FVec F S256x512 .bf16 :=
  tileV ev od (stepRow S (4 * t + 0) (by omega)) (stepRow S (4 * t + 1) (by omega)) (stepRow S (4 * t + 2) (by omega)) (stepRow S (4 * t + 3) (by omega))
    (stepRow S (4 * t + 0) (by omega)) (stepRow S (4 * t + 1) (by omega)) (stepRow S (4 * t + 2) (by omega)) (stepRow S (4 * t + 3) (by omega))
/-- A decoded tile of a cached expert. -/
def tileCV (B R : Vec F S1792x512 .i8) (S : Vec F S112x512 .f32) (t : ℕ) (ht : t < 28) : FVec F S256x512 .bf16 :=
  scaledV S t ht (nibC (evenC (words (tileOf B t ht)) (words (tileOf R t ht)))) (nibC (oddC (words (tileOf B t ht)) (words (tileOf R t ht))))
/-- A decoded tile of an expert with no residual plane. -/
def tileUV (B : Vec F S1792x512 .i8) (S : Vec F S112x512 .f32) (t : ℕ) (ht : t < 28) : FVec F S256x512 .bf16 :=
  scaledV S t ht (nibU (evenU (words (tileOf B t ht)))) (nibU (oddU (words (tileOf B t ht))))
/-- One contraction's value. -/
def dotKV (X : Vec F S24x7168 .bf16) (tv : (t : ℕ) → t < 28 → FVec F S256x512 .bf16) (k : ℕ) (hk : k < 4) : FVec F S24x512 .f32 :=
  dotV (quarter X k hk) ![tv (7 * k + 0) (by omega), tv (7 * k + 1) (by omega), tv (7 * k + 2) (by omega), tv (7 * k + 3) (by omega),
    tv (7 * k + 4) (by omega), tv (7 * k + 5) (by omega), tv (7 * k + 6) (by omega)]
/-- The projection's value. -/
def projV (X : Vec F S24x7168 .bf16) (tv : (t : ℕ) → t < 28 → FVec F S256x512 .bf16) : FVec F S24x512 .f32 :=
  addf (addf (addf (dotKV X tv 0 (by omega)) (dotKV X tv 1 (by omega))) (dotKV X tv 2 (by omega))) (dotKV X tv 3 (by omega))

section Eval

theorem ev_ldS {c : Dev nD} {R : sProp 𝕄} {S : Buf (Elt F) (M3.view.loc (c : Thread nD τ))} {R' : sProp 𝕄}
    (hR : R ⊢ iprop((M3.view.loc (c : Thread nD τ) ↦[Finset.univ]{fullShare} S) ∗ R')) (hR' : iprop((M3.view.loc (c : Thread nD τ) ↦[Finset.univ]{fullShare} S) ∗ R') ⊢ R)
    (g : ℕ) (hg : g < 112) : Ev c R (ldS (F := F) (Memref.whole cc0_scratch3) g hg) (stepRow S g hg) := by
  refine Ev.load (m := M3) (S := Finset.univ) (q := fullShare) (f := S) (R' := R') (Finset.subset_univ _) hR hR' ?_
  funext x
  show S _ = S _
  refine congrArg S (funext fun a => Fin.ext ?_)
  fin_cases a
  · show g + 0 * (x 0).val = g
    omega
  · show 0 + 1 * (x 1).val = (x 1).val
    omega

theorem ev_ldX {c : Dev nD} {R : sProp 𝕄} {X : Buf (Elt F) (M4.view.loc (c : Thread nD τ))} {R' : sProp 𝕄}
    (hR : R ⊢ iprop((M4.view.loc (c : Thread nD τ) ↦[Finset.univ]{fullShare} X) ∗ R')) (hR' : iprop((M4.view.loc (c : Thread nD τ) ↦[Finset.univ]{fullShare} X) ∗ R') ⊢ R)
    (k : ℕ) (hk : k < 4) : Ev c R (ldX (F := F) (Memref.whole cc0_scratch4) k hk) (quarter X k hk) := by
  refine Ev.load (m := M4) (S := Finset.univ) (q := fullShare) (f := X) (R' := R') (Finset.subset_univ _) hR hR' ?_
  funext x
  show X _ = X _
  refine congrArg X (funext fun a => Fin.ext ?_)
  fin_cases a
  · show 0 + 1 * (x 0).val = (x 0).val
    omega
  · show 1792 * k + 1 * (x 1).val = 1792 * k + (x 1).val
    omega

theorem ev_scaled {c : Dev nD} {R : sProp 𝕄} {S : Vec F S112x512 .f32} (hS : ∀ g hg, Ev c R (ldS (F := F) (Memref.whole cc0_scratch3) g hg) (stepRow S g hg))
    (t : ℕ) (ht : t < 28) (ev od : FVec F S128x512 .bf16) : Ev c R (scaled (F := F) (Memref.whole cc0_scratch3) t ht ev od) (scaledV S t ht ev od) :=
  Ev.bind (hS _ _) (Ev.bind (hS _ _) (Ev.bind (hS _ _) (Ev.bind (hS _ _) (Ev.bind (hS _ _) (Ev.bind (hS _ _) (Ev.bind (hS _ _) (Ev.bind (hS _ _) (Ev.pure _))))))))

theorem ev_dot {c : Dev nD} {R : sProp 𝕄} {X : Vec F S24x7168 .bf16} (hX : ∀ k hk, Ev c R (ldX (F := F) (Memref.whole cc0_scratch4) k hk) (quarter X k hk))
    {tile : (t : ℕ) → t < 28 → P F (FVec F S256x512 .bf16)} {tv : (t : ℕ) → t < 28 → FVec F S256x512 .bf16} (hT : ∀ t ht, Ev c R (tile t ht) (tv t ht))
    (k : ℕ) (hk : k < 4) : Ev c R (dotP (F := F) (Memref.whole cc0_scratch4) tile k hk) (dotKV X tv k hk) :=
  Ev.bind (hT _ _) (Ev.bind (hT _ _) (Ev.bind (hT _ _) (Ev.bind (hT _ _) (Ev.bind (hT _ _) (Ev.bind (hT _ _) (Ev.bind (hT _ _) (Ev.bind (hX _ _) (Ev.pure _))))))))

theorem ev_proj {c : Dev nD} {R : sProp 𝕄} {X : Vec F S24x7168 .bf16} (hX : ∀ k hk, Ev c R (ldX (F := F) (Memref.whole cc0_scratch4) k hk) (quarter X k hk))
    {tile : (t : ℕ) → t < 28 → P F (FVec F S256x512 .bf16)} {tv : (t : ℕ) → t < 28 → FVec F S256x512 .bf16} (hT : ∀ t ht, Ev c R (tile t ht) (tv t ht)) :
    Ev c R (projP (F := F) (Memref.whole cc0_scratch4) tile) (projV X tv) :=
  Ev.bind (ev_dot hX hT _ _) (Ev.bind (ev_dot hX hT _ _) (Ev.bind (ev_dot hX hT _ _) (Ev.bind (ev_dot hX hT _ _) (Ev.pure _))))
end Eval

section Slots
variable (c : Dev nD) (s : ℕ) (fB : Buf (Elt F) ((slB s).view.loc (c : Thread nD τ))) (fR : Buf (Elt F) ((slR s).view.loc (c : Thread nD τ)))
  (S : Buf (Elt F) (M3.view.loc (c : Thread nD τ))) (X : Buf (Elt F) (M4.view.loc (c : Thread nD τ)))

/-- What the projection reads when there is no residual plane. -/
def resU : sProp 𝕄 :=
  iprop(((slB s).view.loc (c : Thread nD τ) ↦[(slB s).view.set]{fullShare} fB) ∗ (M3.view.loc (c : Thread nD τ) ↦[Finset.univ]{fullShare} S)
    ∗ (M4.view.loc (c : Thread nD τ) ↦[Finset.univ]{fullShare} X))
/-- What the projection reads when there is one. -/
def resC : sProp 𝕄 :=
  iprop(((slB s).view.loc (c : Thread nD τ) ↦[(slB s).view.set]{fullShare} fB) ∗ ((slR s).view.loc (c : Thread nD τ) ↦[(slR s).view.set]{fullShare} fR)
    ∗ (M3.view.loc (c : Thread nD τ) ↦[Finset.univ]{fullShare} S) ∗ (M4.view.loc (c : Thread nD τ) ↦[Finset.univ]{fullShare} X))

theorem ev_projU {v : ℕ} (hv : v < 3) (e : v = s % 3) :
    Ev c (resU c s fB S X) (projP (F := F) (Memref.whole cc0_scratch4) (fun t ht => tileU (Memref.whole cc0_scratch0) (Memref.whole cc0_scratch3) hv t ht))
      (projV X (tileUV ((slB s).view.read (Elt F) fB) S)) := by
  refine ev_proj (F := F) (X := X) (ev_ldX (X := X) (R' := iprop(((slB s).view.loc (c : Thread nD τ) ↦[(slB s).view.set]{fullShare} fB) ∗ (M3.view.loc (c : Thread nD τ) ↦[Finset.univ]{fullShare} S))) ?_ ?_) fun t ht => ?_
  · unfold resU
    iintro ⟨A, B, C⟩
    isplitl [C]; · iexact C
    isplitl [A] <;> iassumption
  · unfold resU
    iintro ⟨C, A, B⟩
    isplitl [A]; · iexact A
    isplitl [B] <;> iassumption
  · refine Ev.bind (slB_ldT c s t ht hv e (f := fB) (R' := iprop((M3.view.loc (c : Thread nD τ) ↦[Finset.univ]{fullShare} S) ∗ (M4.view.loc (c : Thread nD τ) ↦[Finset.univ]{fullShare} X))) (.rfl) (.rfl)) ?_
    refine ev_scaled (F := F) (S := S) (ev_ldS (S := S) (R' := iprop(((slB s).view.loc (c : Thread nD τ) ↦[(slB s).view.set]{fullShare} fB) ∗ (M4.view.loc (c : Thread nD τ) ↦[Finset.univ]{fullShare} X))) ?_ ?_) t ht _ _
    · unfold resU
      iintro ⟨A, B, C⟩
      isplitl [B]; · iexact B
      isplitl [A] <;> iassumption
    · unfold resU
      iintro ⟨B, A, C⟩
      isplitl [A]; · iexact A
      isplitl [B] <;> iassumption

theorem ev_projC {v : ℕ} (hv : v < 3) (e : v = s % 3) :
    Ev c (resC c s fB fR S X) (projP (F := F) (Memref.whole cc0_scratch4) (fun t ht => tileC (Memref.whole cc0_scratch0) (Memref.whole cc0_scratch1) (Memref.whole cc0_scratch3) hv t ht))
      (projV X (tileCV ((slB s).view.read (Elt F) fB) ((slR s).view.read (Elt F) fR) S)) := by
  refine ev_proj (F := F) (X := X) (ev_ldX (X := X) (R' := iprop(((slB s).view.loc (c : Thread nD τ) ↦[(slB s).view.set]{fullShare} fB) ∗ ((slR s).view.loc (c : Thread nD τ) ↦[(slR s).view.set]{fullShare} fR) ∗ (M3.view.loc (c : Thread nD τ) ↦[Finset.univ]{fullShare} S))) ?_ ?_) fun t ht => ?_
  · unfold resC
    iintro ⟨A, B, C, D⟩
    isplitl [D]; · iexact D
    isplitl [A]; · iexact A
    isplitl [B] <;> iassumption
  · unfold resC
    iintro ⟨D, A, B, C⟩
    isplitl [A]; · iexact A
    isplitl [B]; · iexact B
    isplitl [C] <;> iassumption
  · refine Ev.bind (slB_ldT c s t ht hv e (f := fB) (R' := iprop(((slR s).view.loc (c : Thread nD τ) ↦[(slR s).view.set]{fullShare} fR) ∗ (M3.view.loc (c : Thread nD τ) ↦[Finset.univ]{fullShare} S) ∗ (M4.view.loc (c : Thread nD τ) ↦[Finset.univ]{fullShare} X))) (.rfl) (.rfl)) ?_
    refine Ev.bind (slR_ldT c s t ht hv e (f := fR) (R' := iprop(((slB s).view.loc (c : Thread nD τ) ↦[(slB s).view.set]{fullShare} fB) ∗ (M3.view.loc (c : Thread nD τ) ↦[Finset.univ]{fullShare} S) ∗ (M4.view.loc (c : Thread nD τ) ↦[Finset.univ]{fullShare} X))) ?_ ?_) ?_
    · unfold resC
      iintro ⟨A, B, C⟩
      isplitl [B]; · iexact B
      isplitl [A] <;> iassumption
    · unfold resC
      iintro ⟨B, A, C⟩
      isplitl [A]; · iexact A
      isplitl [B] <;> iassumption
    refine ev_scaled (F := F) (S := S) (ev_ldS (S := S) (R' := iprop(((slB s).view.loc (c : Thread nD τ) ↦[(slB s).view.set]{fullShare} fB) ∗ ((slR s).view.loc (c : Thread nD τ) ↦[(slR s).view.set]{fullShare} fR) ∗ (M4.view.loc (c : Thread nD τ) ↦[Finset.univ]{fullShare} X))) ?_ ?_) t ht _ _
    · unfold resC
      iintro ⟨A, B, C, D⟩
      isplitl [C]; · iexact C
      isplitl [A]; · iexact A
      isplitl [B] <;> iassumption
    · unfold resC
      iintro ⟨C, A, B, D⟩
      isplitl [A]; · iexact A
      isplitl [B]; · iexact B
      isplitl [C] <;> iassumption
end Slots

end Cert.Proof.Kern

end
-- ==== Proof.Step.lean ====
/- The first half of a step: its waits, its steps, its words. -/
module

public import proofs.«01_k».proof.Proof.Data
public import Idealize.ShloMosaic.Lib.VecWindow

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

/-! ## Reading a table of words -/

/-- Word `i` of a table. -/
def word (V : Vec F S27 .i32) (i : ℕ) : BitVec 32 := V (ix1 ⟨i % 27, Nat.mod_lt _ (by decide)⟩)

theorem read_word {c : Dev nD} {m : Memref sig .tc .smem S27 .i32} {f : Buf (Elt F) (m.view.loc (c : Thread nD τ))} {V : Vec F S27 .i32} (hf : m.view.read (Elt F) f = V)
    {off : Fin 1 → ℕ} {i : ℕ} (e : off = ![i]) (hi : i < 27) (h : ∀ a, off a + S1.size a ≤ S27.size a) (x) :
    m.view.readAt (Elt F) (Rect.unit (s := S27) off S1.size h).toLoadRect f x = word V i := by
  subst e
  subst hf
  show m.view.read (Elt F) f _ = m.view.read (Elt F) f _
  refine congrArg _ (funext fun a => Fin.ext ?_)
  have hx : (x 0).val < 1 := (x 0).isLt
  fin_cases a
  show i + 1 * (x 0).val = i % 27
  rw [Nat.mod_eq_of_lt hi]; omega

section Step
variable (c : Dev nD) (BB : Buf (Elt F) ((c : Thread nD τ).loc main_arg2)) (SS : Buf (Elt F) ((c : Thread nD τ).loc main_arg3))
  (RR : Buf (Elt F) ((c : Thread nD τ).loc main_arg4))

/-! ## Waits -/

theorem waitB {oS : Fin 2 → ℕ} {hS : ∀ a, oS a + S1x1.size a ≤ S3x3.size a} {oD : Fin 3 → ℕ} {hD} {oB : Fin 3 → ℕ} {hB} {w1 : (rawB oB hB).view.WordExact} {w2 : (slotB oD hD).view.WordExact}
    {α : Type} {k : PUnit → P F α} {W : Waits sig Unit} {Q : α → sProp 𝕄} (s e j : ℕ) (e1 : oS = ![0 % 3, s % 3]) (e2 : oD = ![s % 3, 0, 0]) :
    iprop(busyB c BB s e j ∗ owes (c : Thread nD τ) 0 W)
      ⊢ iprop((iprop(landed c (cB e j) (slB s) BB ∗ semVal ((c : Thread nD τ), .dma (smB s)) 0 ∗ srcAll c (cB e j) (shr s) BB
            ∗ owes (c : Thread nD τ) 0 (insert (SemLoc.dma (smB s), ()) W)) -∗ WP c (k ⟨⟩) Q)
        -∗ WP c (.op (.waitDma2 (p := .tc) (rawSem oS hS) (rawB oB hB) (slotB oD hD) w1 w2) k) Q) := by
  subst e1 e2
  exact copy_wait c (cB e j) (slB s) (smB s) (shr s) BB

theorem waitS {oS : Fin 2 → ℕ} {hS : ∀ a, oS a + S1x1.size a ≤ S3x3.size a} {oD : Fin 3 → ℕ} {hD} {oB : Fin 3 → ℕ} {hB} {w1 : (rawS oB hB).view.WordExact} {w2 : (slotS oD hD).view.WordExact}
    {α : Type} {k : PUnit → P F α} {W : Waits sig Unit} {Q : α → sProp 𝕄} (s e j : ℕ) (e1 : oS = ![1 % 3, s % 3]) (e2 : oD = ![s % 3, 0, 0]) :
    iprop(busyS c SS s e j ∗ owes (c : Thread nD τ) 0 W)
      ⊢ iprop((iprop(landed c (cS e j) (slS s) SS ∗ semVal ((c : Thread nD τ), .dma (smS s)) 0 ∗ srcAll c (cS e j) (shr s) SS
            ∗ owes (c : Thread nD τ) 0 (insert (SemLoc.dma (smS s), ()) W)) -∗ WP c (k ⟨⟩) Q)
        -∗ WP c (.op (.waitDma2 (p := .tc) (rawSem oS hS) (rawS oB hB) (slotS oD hD) w1 w2) k) Q) := by
  subst e1 e2
  exact copy_wait c (cS e j) (slS s) (smS s) (shr s) SS

theorem waitR {oS : Fin 2 → ℕ} {hS : ∀ a, oS a + S1x1.size a ≤ S3x3.size a} {oD : Fin 3 → ℕ} {hD} {oB : Fin 3 → ℕ} {hB} {w1 : (rawR oB hB).view.WordExact} {w2 : (slotR oD hD).view.WordExact}
    {α : Type} {k : PUnit → P F α} {W : Waits sig Unit} {Q : α → sProp 𝕄} (s e j : ℕ) (e1 : oS = ![2 % 3, s % 3]) (e2 : oD = ![s % 3, 0, 0]) :
    iprop(busyR c RR s e j ∗ owes (c : Thread nD τ) 0 W)
      ⊢ iprop((iprop(landed c (cR e j) (slR s) RR ∗ semVal ((c : Thread nD τ), .dma (smR s)) 0 ∗ srcAll c (cR e j) (shr s) RR
            ∗ owes (c : Thread nD τ) 0 (insert (SemLoc.dma (smR s), ()) W)) -∗ WP c (k ⟨⟩) Q)
        -∗ WP c (.op (.waitDma2 (p := .tc) (rawSem oS hS) (rawR oB hB) (slotR oD hD) w1 w2) k) Q) := by
  subst e1 e2
  exact copy_wait c (cR e j) (slR s) (smR s) (shr s) RR

/-! ## Stores -/

/-- A store into a whole buffer puts its payload there. -/
theorem whole_write {Val : EltTy → Type} (b : Ref sig .tc) (f : b.ty.Contents Val) (off size : Fin b.ty.shape.rank → ℕ) (h : ∀ a, off a + size a ≤ b.ty.shape.size a) (w : (Rect.unit off size h).shape.Idx → Val b.ty.elt) :
    ((Memref.whole b : Memref sig .tc _ _ _).access (Rect.unit off size h)).write Val f w Finset.univ = VecWindow.put (s := b.ty.shape) f off size w :=
  View.read_writes_cons_put (Memref.whole b : Memref sig .tc _ _ _).view f h w [] rfl

theorem m3_write (f : Buf (Elt F) (M3.view.loc (c : Thread nD τ))) (off : Fin _ → ℕ) (h : ∀ a, off a + S112x512.size a ≤ S112x512.size a) (w : (Rect.unit (s := S112x512) off S112x512.size h).shape.Idx → Elt F .f32) :
    (M3.access (Rect.unit (s := S112x512) off S112x512.size h)).write (Elt F) f w Finset.univ = (VecWindow.put (s := S112x512) f off S112x512.size w : Vec F S112x512 .f32) :=
  whole_write cc0_scratch3 f off _ h w

theorem m4_write (f : Buf (Elt F) (M4.view.loc (c : Thread nD τ))) (off : Fin _ → ℕ) (h : ∀ a, off a + S24x256.size a ≤ S24x7168.size a) (w : (Rect.unit (s := S24x7168) off S24x256.size h).shape.Idx → Elt F .bf16) :
    (M4.access (Rect.unit (s := S24x7168) off S24x256.size h)).write (Elt F) f w Finset.univ = (VecWindow.put (s := S24x7168) f off S24x256.size w : Vec F S24x7168 .bf16) :=
  whole_write cc0_scratch4 f off _ h w

theorem m5_write (f : Buf (Elt F) (M5.view.loc (c : Thread nD τ))) (off : Fin _ → ℕ) (h : ∀ a, off a + S24x512.size a ≤ S24x2048.size a) (w : (Rect.unit (s := S24x2048) off S24x512.size h).shape.Idx → Elt F .f32) :
    (M5.access (Rect.unit (s := S24x2048) off S24x512.size h)).write (Elt F) f w Finset.univ = (VecWindow.put (s := S24x2048) f off S24x512.size w : Vec F S24x2048 .f32) :=
  whole_write cc0_scratch5 f off _ h w

theorem m5all_write (f : Buf (Elt F) (M5.view.loc (c : Thread nD τ))) (off : Fin _ → ℕ) (h : ∀ a, off a + S24x2048.size a ≤ S24x2048.size a) (w : (Rect.unit (s := S24x2048) off S24x2048.size h).shape.Idx → Elt F .f32) :
    (M5.access (Rect.unit (s := S24x2048) off S24x2048.size h)).write (Elt F) f w Finset.univ = (VecWindow.put (s := S24x2048) f off S24x2048.size w : Vec F S24x2048 .f32) :=
  whole_write cc0_scratch5 f off _ h w

theorem t6_write (f : Buf (Elt F) (T6.view.loc (c : Thread nD τ))) (off : Fin _ → ℕ) (h : ∀ a, off a + S1.size a ≤ S27.size a) (w : (Rect.unit (s := S27) off S1.size h).shape.Idx → Elt F .i32) :
    (T6.access (Rect.unit (s := S27) off S1.size h)).write (Elt F) f w Finset.univ = (VecWindow.put (s := S27) f off S1.size w : Vec F S27 .i32) :=
  whole_write cc0_scratch6 f off _ h w

theorem t7_write (f : Buf (Elt F) (T7.view.loc (c : Thread nD τ))) (off : Fin _ → ℕ) (h : ∀ a, off a + S1.size a ≤ S27.size a) (w : (Rect.unit (s := S27) off S1.size h).shape.Idx → Elt F .i32) :
    (T7.access (Rect.unit (s := S27) off S1.size h)).write (Elt F) f w Finset.univ = (VecWindow.put (s := S27) f off S1.size w : Vec F S27 .i32) :=
  whole_write cc0_scratch7 f off _ h w

theorem put_full {s : Shape} {α : Type} (x : s.Idx → α) (off : Fin s.rank → ℕ) (h : ∀ a, off a + s.size a ≤ s.size a) (w : s.Idx → α) :
    VecWindow.put x off s.size w = w := by
  funext y
  have h0 : ∀ a, off a = 0 := fun a => by have := h a; omega
  unfold VecWindow.put
  rw [dif_pos fun a => ⟨by rw [h0 a]; omega, by rw [h0 a]; have : (y a).val < s.size a := (y a).isLt; omega⟩]
  refine congrArg w (funext fun a => Fin.ext ?_)
  show (y a).val - off a = (y a).val
  rw [h0 a]; omega

/-- The accumulator with a projection put into block `j`, on the rows of its group. -/
def accPut (j : ℕ) (mine : IVec S24x512 1) (d : FVec F S24x512 .f32) (A : Vec F S24x2048 .f32) : Vec F S24x2048 .f32 :=
  VecWindow.put (s := S24x2048) A ![0, 512 * (j % 4)] S24x512.size
    (shapeCast S24x512 (select mine d (VecWindow.window (s := S24x2048) A ![0, 512 * (j % 4)] S24x512.size (col_inb j))) shapeCasts_S24x512_S24x512)

theorem putP_spec (j : ℕ) {off : Fin 2 → ℕ} (e : off = ![0, 512 * (j % 4)]) (h : ∀ a, off a + S24x512.size a ≤ S24x2048.size a) (mine : IVec S24x512 1) (d : FVec F S24x512 .f32)
    (A : Buf (Elt F) (M5.view.loc (c : Thread nD τ))) (Q : PUnit → sProp 𝕄) :
    iprop((M5.view.loc (c : Thread nD τ) ↦[Finset.univ]{fullShare} A) ∗ ((M5.view.loc (c : Thread nD τ) ↦[Finset.univ]{fullShare} (accPut j mine d A : Vec F S24x2048 .f32)) -∗ Q ⟨⟩))
      ⊢ WP c (putP (F := F) M5 off h mine d) Q := by
  subst e
  unfold putP
  have hl : ∀ hl', Ev c (M5.view.loc (c : Thread nD τ) ↦[Finset.univ]{fullShare} A) (Prog.lift (.load M5 (Rect.unit (s := S24x2048) ![0, 512 * (j % 4)] S24x512.size h).toLoadRect hl') : P F (Vec F S24x512 .f32))
      (VecWindow.window (s := S24x2048) A ![0, 512 * (j % 4)] S24x512.size (col_inb j)) := fun hl' => by
    refine Ev.load (m := M5) (S := Finset.univ) (q := fullShare) (f := A) (R' := iprop(emp)) (Finset.subset_univ _) ?_ ?_ rfl
    · iintro H
      isplitl [H]; · iexact H
      iempintro
    · iintro ⟨H, -⟩
      iexact H
  iintro ⟨HA, Hk⟩
  iapply (Ev.seq (hl _)) $$ HA
  iintro HA
  iapply (Ev.seq (hl _)) $$ HA
  iintro HA
  iapply (wp_store 𝒱₀ (c : Thread nD τ) none Set.univ (m := M5) (r := Rect.unit (s := S24x2048) ![0, 512 * (j % 4)] S24x512.size h) (f := A) (Finset.subset_univ _)) $$ HA
  iintro HA
  iapply (le_wp_ret _ _ _ _ _)
  iapply Hk
  rw [m5_write]
  iexact HA

/-! ## The first half of a step -/

theorem ready_spec {a0 a1 : Memref sig .tc .smem S27 .i32} (n : BitVec 32) (hn : k0_chk6 n) (h27 : n.toNat ≤ 27) (k : Fin (k0_t2_loop n).trips)
    {f6 : Buf (Elt F) (T6.view.loc (c : Thread nD τ))} {f7 : Buf (Elt F) (T7.view.loc (c : Thread nD τ))} {gs : Buf (Elt F) (a0.view.loc (c : Thread nD τ))} {ss : Buf (Elt F) (a1.view.loc (c : Thread nD τ))}
    {G SL : Vec F S27 .i32} (hG : a0.view.read (Elt F) gs = G) (hSL : a1.view.read (Elt F) ss = SL)
    (ev : BitVec 32) (he : word (F := F) f6 (k.val / 4) = ev) (he' : ev.toNat < 27)
    (hok : SlotOk (word SL ev.toNat)) (W : Waits sig Unit) (Q) :
    iprop((T6.view.loc (c : Thread nD τ) ↦[T6.view.set]{fullShare} f6) ∗ (T7.view.loc (c : Thread nD τ) ↦[T7.view.set]{fullShare} f7)
        ∗ (a0.view.loc (c : Thread nD τ) ↦[a0.view.set]{fullShare} gs) ∗ (a1.view.loc (c : Thread nD τ) ↦[a1.view.set]{fullShare} ss)
        ∗ busyB c BB k.val ev.toNat k.val ∗ busyS c SS k.val ev.toNat k.val ∗ (∃ S : Buf (Elt F) (M3.view.loc (c : Thread nD τ)), (M3.view.loc (c : Thread nD τ) ↦[Finset.univ]{fullShare} S)) ∗ owes (c : Thread nD τ) 0 W
        ∗ ((T6.view.loc (c : Thread nD τ) ↦[T6.view.set]{fullShare} f6) -∗ (T7.view.loc (c : Thread nD τ) ↦[T7.view.set]{fullShare} f7)
          -∗ (a0.view.loc (c : Thread nD τ) ↦[a0.view.set]{fullShare} gs) -∗ (a1.view.loc (c : Thread nD τ) ↦[a1.view.set]{fullShare} ss)
          -∗ landed c (cB ev.toNat k.val) (slB k.val) BB -∗ semVal ((c : Thread nD τ), .dma (smB k.val)) 0 -∗ srcAll c (cB ev.toNat k.val) (shr k.val) BB
          -∗ idleS c SS k.val
          -∗ (M3.view.loc (c : Thread nD τ) ↦[Finset.univ]{fullShare} (stepV (fun x => (cS ev.toNat k.val).view.read (Elt F) SS (oneIx x)) : Vec F S112x512 .f32))
          -∗ (∃ W', owes (c : Thread nD τ) 0 W')
          -∗ Q ⟨word SL ev.toNat, chk11_ok h27 k hok, word (F := F) f7 (k.val / 4), word G ev.toNat⟩))
      ⊢ WP c (readyP (F := F) a0 a1 n hn k) Q := by
  have hk4 : k.val / 4 < 27 := by have := lt_trips h27 k; omega
  iintro ⟨H6, H7, H0, H1, HB, HS, ⟨%S, HM⟩, HO, Hk⟩
  unfold readyP
  iapply (Ev.seq (Ev.smem (Finset.Subset.refl _) (v := ev) (fun x => (read_word (m := T6) (f := f6) rfl (off36_eq h27 k) hk4 _ x).trans he))) $$ H6
  iintro H6
  iapply (Ev.seq (R := iprop(emp)) (Ev.assume (chk9_ok h27 k he'))) $$ []
  · iempintro
  iintro -
  iapply (Ev.seq (Ev.smem (Finset.Subset.refl _) (v := word SL ev.toNat) (fun x => read_word hSL rfl he' _ x))) $$ H1
  iintro H1
  iapply (Ev.seq (R := iprop(emp)) (Ev.assume (chk11_ok h27 k hok))) $$ []
  · iempintro
  iintro -
  dsimp only
  iapply (waitB c BB k.val ev.toNat k.val (off38_eq h27 k) (off39_eq h27 k)) $$ [HB HO]
  · isplitl [HB] <;> iassumption
  iintro ⟨HLB, HvB, HsB, HO⟩
  iapply (waitS c SS k.val ev.toNat k.val (off41_eq h27 k) (off42_eq h27 k)) $$ [HS HO]
  · isplitl [HS] <;> iassumption
  iintro ⟨HLS, HvS, HsS, HO⟩
  unfold landed
  icases HLS with ⟨%fS, %eS, HLS⟩
  iapply (Ev.seq (slS_ld c k.val (off44_eq h27 k) _ (f := fS))) $$ HLS
  iintro HLS
  rw [eS]
  iapply (Ev.seq (R := (M3.view.loc (c : Thread nD τ) ↦[Finset.univ]{fullShare} S)) (v := M3.view.readAt (Elt F) (Rect.unit (s := S112x512) ![0, 0] S112x512.size inb_S112x512_S112x512_0_0).toLoadRect S)
    (Ev.load (m := M3) (S := Finset.univ) (q := fullShare) (f := S) (R' := iprop(emp)) (Finset.subset_univ _) (by
      iintro H
      isplitl [H]; · iexact H
      iempintro) (by
      iintro ⟨H, -⟩
      iexact H) rfl)) $$ HM
  iintro HM
  iapply (wp_store 𝒱₀ (c : Thread nD τ) none Set.univ (m := M3) (r := Rect.unit (s := S112x512) ![0, 0] S112x512.size inb_S112x512_S112x512_0_0) (f := S) (Finset.subset_univ _)) $$ HM
  iintro HM
  rw [m3_write, put_full _ _ inb_S112x512_S112x512_0_0]
  iapply (Ev.seq (Ev.smem (Finset.Subset.refl _) (v := word (F := F) f7 (k.val / 4)) (fun x => read_word (m := T7) (f := f7) rfl (off45_eq h27 k) hk4 _ x))) $$ H7
  iintro H7
  iapply (Ev.seq (Ev.smem (Finset.Subset.refl _) (v := ev) (fun x => (read_word (m := T6) (f := f6) rfl (off45_eq h27 k) hk4 _ x).trans he))) $$ H6
  iintro H6
  iapply (Ev.seq (R := iprop(emp)) (Ev.assume (chk10_ok he'))) $$ []
  · iempintro
  iintro -
  iapply (Ev.seq (Ev.smem (Finset.Subset.refl _) (v := word G ev.toNat) (fun x => read_word hG rfl he' _ x))) $$ H0
  iintro H0
  iapply (le_wp_ret _ _ _ _ _)
  iapply Hk $$ H6 H7 H0 H1 HLB HvB HsB [HLS HvS HsS] HM [HO]
  · unfold idleS freeDst
    isplitl [HLS]
    · iexists fS; iexact HLS
    isplitl [HvS]; · iexact HvS
    iexact HsS
  · iexists _; iexact HO
end Step

end Cert.Proof.Kern

end
-- ==== Proof.Turn.lean ====
/- One step of the main loop. -/
module

public import proofs.«01_k».proof.Proof.Step

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

theorem ne_ext : ∀ b : BitVec 1, Scalar.cmpi .ne (Scalar.extui b) 0#32 = b := by decide
theorem ofBool_one (p : Prop) [Decidable p] : BitVec.ofBool (decide p) = 1#1 ↔ p := by by_cases h : p <;> simp [h]
theorem cond3_iff (v : BitVec 32) : k0_cond3 v = 1#1 ↔ 0 ≤ v.toInt := by
  have e : k0_cond3 v = Scalar.cmpi .sge v 0#32 := ne_ext _
  rw [e]
  show BitVec.ofBool ((0#32).sle v) = 1#1 ↔ _
  rw [BitVec.sle_eq_decide]
  exact (ofBool_one _).trans (by simp)
theorem cond1_iff (v : BitVec 32) : k0_cond1 v = 1#1 ↔ 0 < v.toInt := by
  have e : k0_cond1 v = Scalar.cmpi .sgt v 0#32 := ne_ext _
  rw [e]
  show BitVec.ofBool ((0#32).slt v) = 1#1 ↔ _
  rw [BitVec.slt_eq_decide]
  exact (ofBool_one _).trans (by simp)
theorem cond9_iff (v : BitVec 32) : k0_cond9 v = 1#1 ↔ ¬ k0_cond3 v = 1#1 := by
  rw [cond3_iff]
  have e : k0_cond9 v = Scalar.cmpi .slt v 0#32 := ne_ext _
  rw [e]
  show BitVec.ofBool (v.slt 0#32) = 1#1 ↔ _
  rw [BitVec.slt_eq_decide]
  exact (ofBool_one _).trans (by simp)

section Tail
variable (c : Dev nD) (BB : Buf (Elt F) ((c : Thread nD τ).loc main_arg2)) (SS : Buf (Elt F) ((c : Thread nD τ).loc main_arg3))
  (RR : Buf (Elt F) ((c : Thread nD τ).loc main_arg4))

/-- What step `j` projects for expert `e`, whose slot word is `w`. -/
def stepProj (X : Vec F S24x7168 .bf16) (e : ℕ) (w : BitVec 32) (j : ℕ) : FVec F S24x512 .f32 :=
  if k0_cond3 w = 1#1 then
    projV X (tileCV ((cB e j).view.read (Elt F) BB) ((cR w.toNat j).view.read (Elt F) RR) (stepV (fun x => (cS e j).view.read (Elt F) SS (oneIx x))))
  else projV X (tileUV ((cB e j).view.read (Elt F) BB) (stepV (fun x => (cS e j).view.read (Elt F) SS (oneIx x))))

theorem tail_spec (n : BitVec 32) (h27 : n.toNat ≤ 27) (k : Fin (k0_t2_loop n).trips) (e : ℕ) (w : BitVec 32) (h11 : k0_chk11 n k w) (f g : BitVec 32)
    (X : Buf (Elt F) (M4.view.loc (c : Thread nD τ))) (A : Buf (Elt F) (M5.view.loc (c : Thread nD τ))) (W : Waits sig Unit) (Q : BitVec 32 → sProp 𝕄) :
    iprop(landed c (cB e k.val) (slB k.val) BB ∗ mayR c RR k.val w k.val
        ∗ (M3.view.loc (c : Thread nD τ) ↦[Finset.univ]{fullShare} (stepV (fun x => (cS e k.val).view.read (Elt F) SS (oneIx x)) : Vec F S112x512 .f32))
        ∗ (M4.view.loc (c : Thread nD τ) ↦[Finset.univ]{fullShare} X) ∗ (M5.view.loc (c : Thread nD τ) ↦[Finset.univ]{fullShare} A) ∗ owes (c : Thread nD τ) 0 W
        ∗ (freeDst c (slB k.val) -∗ idleR c RR k.val -∗ (∃ S : Buf (Elt F) (M3.view.loc (c : Thread nD τ)), (M3.view.loc (c : Thread nD τ) ↦[Finset.univ]{fullShare} S))
          -∗ (M4.view.loc (c : Thread nD τ) ↦[Finset.univ]{fullShare} X)
          -∗ (M5.view.loc (c : Thread nD τ) ↦[Finset.univ]{fullShare} (accPut k.val (mineV f g) (stepProj c BB SS RR X e w k.val) A : Vec F S24x2048 .f32))
          -∗ (∃ W', owes (c : Thread nD τ) 0 W') -∗ Q 0#32))
      ⊢ WP c (tailP (F := F) n k (off50_lt h27 k) w h11 f g) Q := by
  have hv : (k0_off50 n k) 0 = k.val % 3 := by rw [off50_eq h27 k]; rfl
  unfold mayR
  by_cases h3 : k0_cond3 w = 1#1
  · have h9 : ¬ k0_cond9 w = 1#1 := fun h => (cond9_iff w).mp h h3
    unfold tailP
    rw [if_pos h3, dif_pos (show k0_cond8 w = 1#1 from h3), dif_neg h9]
    unfold stepProj
    rw [if_pos h3]
    unfold planeP landed
    iintro ⟨⟨%fB, %eB, HB⟩, HR, HM, HX, HA, HO, Hk⟩
    simp only [bind_assoc, pure_bind]
    iapply (waitR c RR k.val w.toNat k.val (off47_eq h27 k) (off48_eq h27 k)) $$ [HR HO]
    · isplitl [HR] <;> iassumption
    unfold landed
    iintro ⟨⟨%fR, %eR, HR⟩, Hv, Hs, HO⟩
    iapply (Ev.seq (ev_projC c k.val fB fR _ X (off50_lt h27 k) hv)) $$ [HB HR HM HX]
    · unfold resC
      isplitl [HB]; · iexact HB
      isplitl [HR]; · iexact HR
      isplitl [HM]; · iexact HM
      iexact HX
    unfold resC
    iintro ⟨HB, HR, HM, HX⟩
    rw [eB, eR]
    iapply (wp_seq (putP_spec c k.val (off78_eq h27 k) _ _ _ A _) fun _ => .rfl)
    isplitl [HA]; · iexact HA
    iintro HA
    iapply (le_wp_ret _ _ _ _ _)
    iapply Hk $$ [HB] [HR Hv Hs] [HM] HX HA [HO]
    · unfold freeDst; iexists _; iexact HB
    · unfold idleR freeDst
      isplitl [HR]
      · iexists _; iexact HR
      isplitl [Hv]; · iexact Hv
      iexact Hs
    · iexists _; iexact HM
    · iexists _; iexact HO
  · have h9 : k0_cond9 w = 1#1 := (cond9_iff w).mpr h3
    unfold tailP
    rw [if_neg h3, dif_neg (show ¬ k0_cond8 w = 1#1 from h3), dif_pos h9]
    unfold stepProj
    rw [if_neg h3]
    unfold plainP landed
    iintro ⟨⟨%fB, %eB, HB⟩, HR, HM, HX, HA, HO, Hk⟩
    simp only [bind_assoc, pure_bind]
    iapply (Ev.seq (ev_projU c k.val fB _ X (off50_lt h27 k) hv)) $$ [HB HM HX]
    · unfold resU
      isplitl [HB]; · iexact HB
      isplitl [HM]; · iexact HM
      iexact HX
    unfold resU
    iintro ⟨HB, HM, HX⟩
    rw [eB]
    iapply (wp_seq (putP_spec c k.val (off107_eq h27 k) _ _ _ A _) fun _ => .rfl)
    isplitl [HA]; · iexact HA
    iintro HA
    iapply (le_wp_ret _ _ _ _ _)
    iapply Hk $$ [HB] HR [HM] HX HA [HO]
    · unfold freeDst; iexists _; iexact HB
    · iexists _; iexact HM
    · iexists _; iexact HO
end Tail

end Cert.Proof.Kern

end
-- ==== Proof.Loop.lean ====
/- The main loop: what holds before, inside and after a step. -/
module

public import proofs.«01_k».proof.Proof.Turn

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

section Loop
variable (c : Dev nD) (BB : Buf (Elt F) ((c : Thread nD τ).loc main_arg2)) (SS : Buf (Elt F) ((c : Thread nD τ).loc main_arg3))
  (RR : Buf (Elt F) ((c : Thread nD τ).loc main_arg4))

theorem slotB_congr {o o' : Fin 3 → ℕ} (e : o = o') {h h'} : slotB o h = slotB o' h' := by subst e; rfl
theorem slotR_congr {o o' : Fin 3 → ℕ} (e : o = o') {h h'} : slotR o h = slotR o' h' := by subst e; rfl
theorem slotS_congr {o o' : Fin 3 → ℕ} (e : o = o') {h h'} : slotS o h = slotS o' h' := by subst e; rfl
theorem rawSem_congr {o o' : Fin 2 → ℕ} (e : o = o') {h h'} : rawSem o h = rawSem o' h' := by subst e; rfl

/-- Three slots on is the same slot. -/
theorem idle_add3 (s : ℕ) : idle c BB SS RR (s + 3) = idle c BB SS RR s := by
  have e : (s + 3) % 3 = s % 3 := by omega
  have eB : slB (s + 3) = slB s := slotB_congr (by rw [e])
  have eR : slR (s + 3) = slR s := slotR_congr (by rw [e])
  have eS : slS (s + 3) = slS s := slotS_congr (by rw [e])
  have mB : smB (s + 3) = smB s := rawSem_congr (by rw [e])
  have mR : smR (s + 3) = smR s := rawSem_congr (by rw [e])
  have mS : smS (s + 3) = smS s := rawSem_congr (by rw [e])
  have q : shr (s + 3) = shr s := by unfold shr; rw [e]
  unfold idle idleB idleS idleR
  rw [eB, eR, eS, mB, mR, mS, q]

variable (en : ℕ → ℕ) (fw : ℕ → BitVec 32) (G SL : Vec F S27 .i32) (X : Vec F S24x7168 .bf16)

/-- A slot's state when it next serves step `j` of `m`. -/
def slotSt (m j : ℕ) : sProp 𝕄 := if j < m then busy c BB SS RR j (en (j / 4)) (word SL (en (j / 4))) j else idle c BB SS RR j

/-- The accumulator's start. -/
def acc0 : Vec F S24x2048 .f32 := shapeCast S24x2048 (broadcast S24x2048 (Scalar.ofBits .f32 0x00000000#32)) shapeCasts_S24x2048_S24x2048

/-- The accumulator after `j` steps. -/
def accF : ℕ → Vec F S24x2048 .f32
  | 0 => acc0
  | j + 1 => accPut j (mineV (fw (j / 4)) (word G (en (j / 4)))) (stepProj c BB SS RR X (en (j / 4)) (word SL (en (j / 4))) j) (accF j)

variable {a0 a1 : Memref sig .tc .smem S27 .i32} (f6 : Buf (Elt F) (T6.view.loc (c : Thread nD τ))) (f7 : Buf (Elt F) (T7.view.loc (c : Thread nD τ)))
  (gs : Buf (Elt F) (a0.view.loc (c : Thread nD τ))) (ss : Buf (Elt F) (a1.view.loc (c : Thread nD τ)))

/-- The four tables of words. -/
def tabs : sProp 𝕄 := iprop((T6.view.loc (c : Thread nD τ) ↦[T6.view.set]{fullShare} f6) ∗ (T7.view.loc (c : Thread nD τ) ↦[T7.view.set]{fullShare} f7)
        ∗ (a0.view.loc (c : Thread nD τ) ↦[a0.view.set]{fullShare} gs) ∗ (a1.view.loc (c : Thread nD τ) ↦[a1.view.set]{fullShare} ss))

/-- The buffers a step computes with. -/
def bufs (j : ℕ) : sProp 𝕄 := iprop((∃ S : Buf (Elt F) (M3.view.loc (c : Thread nD τ)), (M3.view.loc (c : Thread nD τ) ↦[Finset.univ]{fullShare} S))
    ∗ (M4.view.loc (c : Thread nD τ) ↦[Finset.univ]{fullShare} X) ∗ (M5.view.loc (c : Thread nD τ) ↦[Finset.univ]{fullShare} accF c BB SS RR en fw G SL X j)
    ∗ (∃ W, owes (c : Thread nD τ) 0 W))

def A0 (m j : ℕ) : sProp 𝕄 := iprop(tabs c (a0 := a0) (a1 := a1) f6 f7 gs ss ∗ slotSt c BB SS RR en SL m j ∗ slotSt c BB SS RR en SL m (j + 1) ∗ idle c BB SS RR (j + 2)
    ∗ bufs c BB SS RR en fw G SL X j)
def A1 (m j : ℕ) : sProp 𝕄 := iprop(tabs c (a0 := a0) (a1 := a1) f6 f7 gs ss ∗ slotSt c BB SS RR en SL m j ∗ slotSt c BB SS RR en SL m (j + 1) ∗ slotSt c BB SS RR en SL m (j + 2)
    ∗ bufs c BB SS RR en fw G SL X j)
def A2 (m j : ℕ) (r : (Σ' (sv : Elt F .i32) (_ : Elt F .i32), Elt F .i32)) : sProp 𝕄 :=
  iprop(⌜r = ⟨word SL (en (j / 4)), fw (j / 4), word G (en (j / 4))⟩⌝ ∗ tabs c (a0 := a0) (a1 := a1) f6 f7 gs ss
    ∗ landed c (cB (en (j / 4)) j) (slB j) BB ∗ semVal ((c : Thread nD τ), .dma (smB j)) 0 ∗ srcAll c (cB (en (j / 4)) j) (shr j) BB
    ∗ idleS c SS j ∗ mayR c RR j (word SL (en (j / 4))) j ∗ slotSt c BB SS RR en SL m (j + 1) ∗ slotSt c BB SS RR en SL m (j + 2)
    ∗ (M3.view.loc (c : Thread nD τ) ↦[Finset.univ]{fullShare} (stepV (fun x => (cS (en (j / 4)) j).view.read (Elt F) SS (oneIx x)) : Vec F S112x512 .f32))
    ∗ (M4.view.loc (c : Thread nD τ) ↦[Finset.univ]{fullShare} X) ∗ (M5.view.loc (c : Thread nD τ) ↦[Finset.univ]{fullShare} accF c BB SS RR en fw G SL X j)
    ∗ (∃ W, owes (c : Thread nD τ) 0 W))

variable {n : BitVec 32} (hn : k0_chk6 n) (h27 : n.toNat ≤ 27) (k : Fin (k0_t2_loop n).trips)
  (hG : a0.view.read (Elt F) gs = G) (hSL : a1.view.read (Elt F) ss = SL)
  (hT : ∀ p < n.toNat, (word (F := F) f6 p).toNat = en p ∧ en p < 27 ∧ word (F := F) f7 p = fw p) (hok : ∀ e < 27, SlotOk (word SL e))

include h27 hSL hT hok in
theorem ahead_spec {β : Type} (r : β) :
    A0 c BB SS RR en fw G SL X (a0 := a0) (a1 := a1) f6 f7 gs ss (4 * n.toNat) k.val
      ⊢ WP c (if h6 : k0_cond6 n k = 1#1 then aheadK (F := F) a1 n hn k h6 (pure r) else pure r)
        (fun _ => A1 c BB SS RR en fw G SL X (a0 := a0) (a1 := a1) f6 f7 gs ss (4 * n.toNat) k.val) := by
  unfold A0 A1
  by_cases h6 : k0_cond6 n k = 1#1
  · have hlt := (cond6_iff h27 k).mp h6
    have hp : (k.val + 2) / 4 < n.toNat := by omega
    obtain ⟨e1, e2, -⟩ := hT _ hp
    have e3 := hok _ e2
    have m1 : (word (F := F) f6 ((k.val + 2) / 4)).toNat % 27 = (word (F := F) f6 ((k.val + 2) / 4)).toNat := Nat.mod_eq_of_lt (by rw [e1]; exact e2)
    rw [dif_pos h6, aheadK_eq]
    unfold aheadP
    have hS : slotSt c BB SS RR en SL (4 * n.toNat) (k.val + 2) = busy c BB SS RR (k.val + 2) (word (F := F) f6 ((k.val + 2) / 4)).toNat (word SL (en ((k.val + 2) / 4))) (k.val + 2) := by
      unfold slotSt; rw [if_pos hlt, e1]
    rw [hS]
    unfold tabs
    refine BIBase.Entails.trans ?_ (wp_seq (fetch_spec a1 _ _ _ _ _ _ _ _ _ _ _ _ _ _ _ _ _ _ _ _ _ _ _ _ _ _ _ _ _ _ _ _ c BB SS RR (k.val + 2) (k.val + 2) (word (F := F) f6 ((k.val + 2) / 4)) (word SL (en ((k.val + 2) / 4)))
      (fun x => read_word (m := T6) (f := f6) rfl (off25_eq h27 k) (by omega) _ x)
      (fun h x => (read_word hSL rfl (by rw [e1]; exact e2) _ x).trans (congrArg (word SL) e1))
      (chk7_ok h27 k (by rw [e1]; exact e2)) (chk8_ok h27 k e3)
      (off27_eq h27 k) (off30_eq h27 k) (off33_eq h27 k) (off28_eq h27 k) (off31_eq h27 k) (off34_eq h27 k)
      (by rw [m1]; exact off29_eq h27 k _) (by rw [m1]; exact off32_eq h27 k _)
      (fun h => (off35_eq h27 k _ h).trans (by rw [Nat.mod_eq_of_lt (e3 h)])) _) fun _ => le_wp_ret _ _ _ _ _)
    iintro ⟨⟨H6, H7, H0, H1⟩, HA, HB, HI, Hb⟩
    isplitl [H6]; · iexact H6
    isplitl [H1]; · iexact H1
    isplitl [HI]; · iexact HI
    iintro H6 H1 Hbusy
    isplitl [H6 H7 H0 H1]
    · isplitl [H6]; · iexact H6
      isplitl [H7]; · iexact H7
      isplitl [H0] <;> iassumption
    isplitl [HA]; · iexact HA
    isplitl [HB]; · iexact HB
    isplitl [Hbusy]; · iexact Hbusy
    iexact Hb
  · have hlt : ¬ k.val + 2 < 4 * n.toNat := fun h => h6 ((cond6_iff h27 k).mpr h)
    rw [dif_neg h6]
    have hS : slotSt c BB SS RR en SL (4 * n.toNat) (k.val + 2) = idle c BB SS RR (k.val + 2) := by
      unfold slotSt; rw [if_neg hlt]
    rw [hS]
    iintro H
    iapply (le_wp_ret _ _ _ _ _)
    iexact H

include h27 hG hSL hT hok in
theorem readyA_spec :
    A1 c BB SS RR en fw G SL X (a0 := a0) (a1 := a1) f6 f7 gs ss (4 * n.toNat) k.val
      ⊢ WP c (readyP (F := F) a0 a1 n hn k)
        (fun r => A2 c BB SS RR en fw G SL X (a0 := a0) (a1 := a1) f6 f7 gs ss (4 * n.toNat) k.val ⟨r.1, r.2.2.1, r.2.2.2⟩) := by
  have hlt := lt_trips h27 k
  obtain ⟨e1, e2, e3⟩ := hT (k.val / 4) (by omega)
  have hS : slotSt c BB SS RR en SL (4 * n.toNat) k.val = busy c BB SS RR k.val (word (F := F) f6 (k.val / 4)).toNat (word SL (word (F := F) f6 (k.val / 4)).toNat) k.val := by
    unfold slotSt; rw [if_pos hlt, e1]
  unfold A1 A2
  rw [hS, ← e1, ← e3]
  unfold tabs bufs busy
  iintro ⟨⟨H6, H7, H0, H1⟩, ⟨HB, HS, HR⟩, HA, HC, HM, HX, HAcc, ⟨%W, HO⟩⟩
  iapply (ready_spec c BB SS n hn h27 k hG hSL (word (F := F) f6 (k.val / 4)) rfl (by rw [e1]; exact e2) (by rw [e1]; exact hok _ e2) W)
  isplitl [H6]; · iexact H6
  isplitl [H7]; · iexact H7
  isplitl [H0]; · iexact H0
  isplitl [H1]; · iexact H1
  isplitl [HB]; · iexact HB
  isplitl [HS]; · iexact HS
  isplitl [HM]; · iexact HM
  isplitl [HO]; · iexact HO
  iintro H6 H7 H0 H1 HL Hv Hs HS HM HO
  isplitr
  · ipureintro; rfl
  isplitl [H6 H7 H0 H1]
  · isplitl [H6]; · iexact H6
    isplitl [H7]; · iexact H7
    isplitl [H0] <;> iassumption
  isplitl [HL]; · iexact HL
  isplitl [Hv]; · iexact Hv
  isplitl [Hs]; · iexact Hs
  isplitl [HS]; · iexact HS
  isplitl [HR]; · iexact HR
  isplitl [HA]; · iexact HA
  isplitl [HC]; · iexact HC
  isplitl [HM]; · iexact HM
  isplitl [HX]; · iexact HX
  isplitl [HAcc]; · iexact HAcc
  iexact HO

include h27 in
theorem tailA_spec (sv : BitVec 32) (h11 : k0_chk11 n k sv) (f g : BitVec 32) :
    A2 c BB SS RR en fw G SL X (a0 := a0) (a1 := a1) f6 f7 gs ss (4 * n.toNat) k.val ⟨sv, f, g⟩
      ⊢ WP c (tailP (F := F) n k (off50_lt h27 k) sv h11 f g)
        (fun _ => A0 c BB SS RR en fw G SL X (a0 := a0) (a1 := a1) f6 f7 gs ss (4 * n.toNat) (k.val + 1)) := by
  unfold A2 A0
  iintro ⟨%er, Ht, HL, Hv, Hs, HS, HR, HA, HC, HM, HX, HAcc, ⟨%W, HO⟩⟩
  injection er with er1 er2
  injection er2 with er2 er3
  subst er1 er2 er3
  iapply (tail_spec c BB SS RR n h27 k (en (k.val / 4)) (word SL (en (k.val / 4))) h11 _ _ X _ W)
  isplitl [HL]; · iexact HL
  isplitl [HR]; · iexact HR
  isplitl [HM]; · iexact HM
  isplitl [HX]; · iexact HX
  isplitl [HAcc]; · iexact HAcc
  isplitl [HO]; · iexact HO
  iintro Hfree HR HM HX HAcc HO
  isplitl [Ht]; · iexact Ht
  isplitl [HA]; · iexact HA
  isplitl [HC]; · iexact HC
  isplitl [Hfree Hv Hs HS HR]
  · rw [show k.val + 1 + 2 = k.val + 3 from rfl, idle_add3]
    unfold idle idleB
    isplitl [Hfree Hv Hs]
    · isplitl [Hfree]; · iexact Hfree
      isplitl [Hv]; · iexact Hv
      iexact Hs
    isplitl [HS]; · iexact HS
    iexact HR
  unfold bufs
  isplitl [HM]; · iexact HM
  isplitl [HX]; · iexact HX
  isplitl [HAcc]; · iexact HAcc
  iexact HO
end Loop

end Cert.Proof.Kern

end
-- ==== Proof.Collect.lean ====
/- The first loop: which groups have rows, and where each begins. -/
module

public import proofs.«01_k».proof.Proof.Loop

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

section Model
variable (G : Vec F S27 .i32)

/-- How many of the first `k` groups have rows. -/
def cnt : ℕ → ℕ
  | 0 => 0
  | k + 1 => cnt k + (if 0 < (word G k).toInt then 1 else 0)

/-- The first row of group `k`. -/
def sta : ℕ → BitVec 32
  | 0 => 0#32
  | k + 1 => sta k + word G k

theorem cnt_le (k : ℕ) : cnt G k ≤ k := by
  induction k with
  | zero => exact le_rfl
  | succ k ih => unfold cnt; split <;> omega

theorem cnt_succ {k : ℕ} (h : 0 < (word G k).toInt) : cnt G (k + 1) = cnt G k + 1 := by
  show cnt G k + (if 0 < (word G k).toInt then 1 else 0) = _
  rw [if_pos h]

theorem cnt_mono {i k : ℕ} (h : i ≤ k) : cnt G i ≤ cnt G k := by
  induction h with
  | refl => exact le_rfl
  | step _ ih => exact ih.trans (Nat.le_add_right _ _)

theorem cnt_lt {i k : ℕ} (h : i < k) (ha : 0 < (word G i).toInt) : cnt G i < cnt G k := by
  have := cnt_mono G (Nat.succ_le_of_lt h)
  rw [Nat.succ_eq_add_one, cnt_succ G ha] at this
  omega

theorem cnt_hit {p : ℕ} (k : ℕ) (h : p < cnt G k) : ∃ i < k, 0 < (word G i).toInt ∧ cnt G i = p := by
  induction k with
  | zero => exact absurd h (Nat.not_lt_zero _)
  | succ k ih =>
    by_cases ha : 0 < (word G k).toInt
    · rw [cnt_succ G ha] at h
      by_cases hp : p < cnt G k
      · obtain ⟨i, hi, hh⟩ := ih hp
        exact ⟨i, hi.trans (Nat.lt_succ_self _), hh⟩
      · exact ⟨k, Nat.lt_succ_self _, ha, by omega⟩
    · have : cnt G (k + 1) = cnt G k := by
        show cnt G k + (if 0 < (word G k).toInt then 1 else 0) = _
        rw [if_neg ha, Nat.add_zero]
      rw [this] at h
      obtain ⟨i, hi, hh⟩ := ih h
      exact ⟨i, hi.trans (Nat.lt_succ_self _), hh⟩

open Classical in
/-- The group served `p`-th. -/
def en (p : ℕ) : ℕ := if h : p < cnt G 27 then (cnt_hit G 27 h).choose else 0

theorem en_spec {p : ℕ} (h : p < cnt G 27) : en G p < 27 ∧ 0 < (word G (en G p)).toInt ∧ cnt G (en G p) = p := by
  unfold en
  rw [dif_pos h]
  exact (cnt_hit G 27 h).choose_spec

/-- Two groups with rows are served at different times. -/
theorem cnt_inj {i j : ℕ} (hi : 0 < (word G i).toInt) (hj : 0 < (word G j).toInt) (h : cnt G i = cnt G j) : i = j := by
  rcases lt_trichotomy i j with hl | hl | hl
  · have := cnt_lt G hl hi; omega
  · exact hl
  · have := cnt_lt G hl hj; omega

/-- The first row of the group served `p`-th. -/
def fw (p : ℕ) : BitVec 32 := sta G (en G p)

/-- What the tables hold after `k` groups. -/
def TabInv (k : ℕ) (n s : BitVec 32) (f6 f7 : Vec F S27 .i32) : Prop :=
  n = BitVec.ofNat 32 (cnt G k) ∧ s = sta G k ∧
    ∀ i < k, 0 < (word G i).toInt → word f6 (cnt G i) = BitVec.ofNat 32 i ∧ word f7 (cnt G i) = sta G i

theorem word_put (f : Vec F S27 .i32) {m i : ℕ} (hi : i < 27) (hm : m < 27) (v : BitVec 32) :
    word (F := F) (VecWindow.put (s := S27) f ![m] S1.size (fun _ => v)) i = if i = m then v else word f i := by
  unfold word VecWindow.put
  by_cases h : i = m
  · rw [if_pos h, dif_pos]
    intro a
    fin_cases a
    show m ≤ i % 27 ∧ i % 27 < m + 1
    omega
  · rw [if_neg h, dif_neg]
    intro hh
    have := hh 0
    have : m ≤ i % 27 ∧ i % 27 < m + 1 := this
    omega

theorem tab_step {k : ℕ} (hk : k < 27) {n s : BitVec 32} {f6 f7 : Vec F S27 .i32} (h : TabInv G k n s f6 f7) (ha : 0 < (word G k).toInt) :
    TabInv G (k + 1) (Scalar.addi n (Scalar.extui (Scalar.cmpi .sgt (word G k) 0#32))) (Scalar.addi s (word G k))
      (VecWindow.put (s := S27) f6 ![n.toNat] S1.size (fun _ => (BitVec.ofNat 32 k : BitVec 32))) (VecWindow.put (s := S27) f7 ![n.toNat] S1.size (fun _ => s)) := by
  obtain ⟨hn, hs, ht⟩ := h
  have hc := cnt_le G k
  have hN : n.toNat = cnt G k := by rw [hn, BitVec.toNat_ofNat]; omega
  refine ⟨?_, ?_, ?_⟩
  · rw [cnt_succ G ha, hn, BitVec.ofNat_add]
    congr 1
    show Scalar.extui (BitVec.ofBool ((0#32).slt (word G k))) = 1#32
    have : (0#32).slt (word G k) = true := by rw [BitVec.slt_iff_toInt_lt]; exact ha
    rw [this]; rfl
  · show s + word G k = sta G k + word G k
    rw [hs]
  · intro i hi hia
    have hci : cnt G i < 27 := by have := cnt_le G i; omega
    rw [hN, word_put f6 hci (by omega), word_put f7 hci (by omega)]
    by_cases e : i = k
    · subst e
      rw [if_pos rfl, if_pos rfl]
      exact ⟨rfl, hs⟩
    · have := cnt_lt G (lt_of_le_of_ne (Nat.le_of_lt_succ hi) e) hia
      rw [if_neg (by omega), if_neg (by omega)]
      exact ht i (lt_of_le_of_ne (Nat.le_of_lt_succ hi) e) hia

theorem tab_skip {k : ℕ} {n s : BitVec 32} {f6 f7 : Vec F S27 .i32} (h : TabInv G k n s f6 f7) (ha : ¬ 0 < (word G k).toInt) :
    TabInv G (k + 1) (Scalar.addi n (Scalar.extui (Scalar.cmpi .sgt (word G k) 0#32))) (Scalar.addi s (word G k)) f6 f7 := by
  obtain ⟨hn, hs, ht⟩ := h
  refine ⟨?_, ?_, ?_⟩
  · have e : cnt G (k + 1) = cnt G k := by
      show cnt G k + (if 0 < (word G k).toInt then 1 else 0) = _
      rw [if_neg ha, Nat.add_zero]
    rw [e, ← hn]
    show n + Scalar.extui (BitVec.ofBool ((0#32).slt (word G k))) = n
    have : (0#32).slt (word G k) = false := by
      rw [Bool.eq_false_iff, Ne, BitVec.slt_iff_toInt_lt]; exact ha
    rw [this]
    exact BitVec.add_zero n
  · show s + word G k = sta G k + word G k
    rw [hs]
  · intro i hi hia
    refine ht i (lt_of_le_of_ne (Nat.le_of_lt_succ hi) ?_) hia
    rintro rfl
    exact ha hia

/-- The tables as the steps read them. -/
theorem tab_done {n s : BitVec 32} {f6 f7 : Vec F S27 .i32} (h : TabInv G 27 n s f6 f7) :
    n.toNat = cnt G 27 ∧ ∀ p < n.toNat, (word f6 p).toNat = en G p ∧ en G p < 27 ∧ word f7 p = fw G p := by
  obtain ⟨hn, -, ht⟩ := h
  have hc := cnt_le G 27
  have hN : n.toNat = cnt G 27 := by rw [hn, BitVec.toNat_ofNat]; omega
  refine ⟨hN, fun p hp => ?_⟩
  obtain ⟨h1, h2, h3⟩ := en_spec G (hN ▸ hp)
  obtain ⟨t1, t2⟩ := ht _ h1 h2
  rw [h3] at t1 t2
  refine ⟨?_, h1, t2⟩
  rw [t1, BitVec.toNat_ofNat]
  omega

end Model

theorem off1_lit : ∀ k : Fin k0_t1_loop.trips, ∀ a, k0_off1 k a = (![k.val] : Fin _ → ℕ) a := by decide +kernel
theorem iv1_lit : ∀ k : Fin k0_t1_loop.trips, Scf.iv 0#32 1#32 k = BitVec.ofNat 32 k.val := by decide +kernel
theorem trips1 : k0_t1_loop.trips = 27 := by decide +kernel

section Collect
variable (c : Dev nD) {a0 : Memref sig .tc .smem S27 .i32} (G : Vec F S27 .i32) (gs : Buf (Elt F) (a0.view.loc (c : Thread nD τ)))

/-- A store to scalar memory, then the rest. -/
theorem Law.seq_store {β : Type} {m : Memref sig .tc .smem S27 .i32} {off : Fin 1 → ℕ} {h : ∀ a, off a + S1.size a ≤ S27.size a}
    {f f' : Buf (Elt F) (m.view.loc (c : Thread nD τ))} {w : (Rect.unit (s := S27) off S1.size h).shape.Idx → Elt F .i32}
    (e : (m.access (Rect.unit (s := S27) off S1.size h)).write (Elt F) f w Finset.univ = f') {h1 h2} {k : PUnit → P F β} {Q : β → sProp 𝕄} :
    (m.view.loc (c : Thread nD τ) ↦[m.view.set]{fullShare} f) ⊢ iprop(((m.view.loc (c : Thread nD τ) ↦[m.view.set]{fullShare} f') -∗ WP c (k ⟨⟩) Q)
      -∗ WP c ((Prog.lift (.store m (Rect.unit (s := S27) off S1.size h) w Finset.univ h1 h2) : P F PUnit) >>= k) Q) := by
  subst e
  iintro H Hk
  iapply (entails_of_eq (wp_bind _ _ _ _ k Q).symm)
  iapply (wp_store 𝒱₀ (c : Thread nD τ) none Set.univ (m := m) (r := Rect.unit (s := S27) off S1.size h) (f := f) (S := m.view.set) (View.setOn_slice_subset_set _ _ _)) $$ H
  iintro H
  iapply (le_wp_ret _ _ _ _ _)
  iapply Hk
  iexact H

/-- The tables under construction. -/
def C0 (k : ℕ) (r : BitVec 32 × BitVec 32) : sProp 𝕄 := iprop(∃ f6 : Buf (Elt F) (T6.view.loc (c : Thread nD τ)), ∃ f7 : Buf (Elt F) (T7.view.loc (c : Thread nD τ)),
    ⌜TabInv G k r.1 r.2 f6 f7⌝ ∗ (T6.view.loc (c : Thread nD τ) ↦[T6.view.set]{fullShare} f6) ∗ (T7.view.loc (c : Thread nD τ) ↦[T7.view.set]{fullShare} f7)
        ∗ (a0.view.loc (c : Thread nD τ) ↦[a0.view.set]{fullShare} gs))

theorem collect_spec (hG : a0.view.read (Elt F) gs = G) (k : Fin k0_t1_loop.trips) (n s : BitVec 32) :
    C0 c G gs k.val (n, s) ⊢ WP c (collectTrip (F := F) a0 k n s) (C0 c (a0 := a0) G gs (k.val + 1)) := by
  have hk : k.val < 27 := lt_of_lt_of_eq k.2 trips1
  unfold C0 collectTrip
  iintro ⟨%f6, %f7, %hI, H6, H7, H0⟩
  have hN : n.toNat < 27 := by
    have := hI.1
    have hc := cnt_le G k.val
    change n = _ at this
    rw [this, BitVec.toNat_ofNat]
    omega
  iapply (Ev.seq (Ev.smem (m := a0) (Finset.Subset.refl _) (fun x => read_word hG (funext (off1_lit k)) hk _ x))) $$ H0
  iintro H0
  iapply (Ev.seq (R := iprop(emp)) (Ev.assume (fun _ a => by
    have ha : a = 0 := Subsingleton.elim _ _
    subst ha
    show n.toNat + 1 ≤ 27
    omega))) $$ []
  · iempintro
  iintro -
  by_cases h1 : k0_cond1 (word G k.val) = 1#1
  · rw [dif_pos h1]
    have e2 : k0_off2 n = ![n.toNat] := rfl
    iapply (Ev.seq (Ev.smem (m := T6) (f := f6) (Finset.Subset.refl _) (fun x => read_word (m := T6) (f := f6) rfl e2 hN _ x))) $$ H6
    iintro H6
    iapply (Law.seq_store c (m := T6) (f := f6) (t6_write c f6 _ _ _)) $$ H6
    iintro H6
    iapply (Ev.seq (Ev.smem (m := T7) (f := f7) (Finset.Subset.refl _) (fun x => read_word (m := T7) (f := f7) rfl e2 hN _ x))) $$ H7
    iintro H7
    iapply (Law.seq_store c (m := T7) (f := f7) (t7_write c f7 _ _ _)) $$ H7
    iintro H7
    iapply (le_wp_ret _ _ _ _ _)
    iexists _
    iexists _
    isplitr
    · ipureintro
      have := tab_step G hk hI ((cond1_iff _).mp h1)
      rw [← iv1_lit k] at this
      exact this
    isplitl [H6]; · iexact H6
    isplitl [H7]; · iexact H7
    iexact H0
  · rw [dif_neg h1]
    iapply (le_wp_ret _ _ _ _ _)
    iexists f6
    iexists f7
    isplitr
    · ipureintro; exact tab_skip G hI (fun h => h1 ((cond1_iff _).mpr h))
    isplitl [H6]; · iexact H6
    isplitl [H7]; · iexact H7
    iexact H0
end Collect

section Head
variable (c : Dev nD) (BB : Buf (Elt F) ((c : Thread nD τ).loc main_arg2)) (SS : Buf (Elt F) ((c : Thread nD τ).loc main_arg3))
  (RR : Buf (Elt F) ((c : Thread nD τ).loc main_arg4)) {a0 a1 : Memref sig .tc .smem S27 .i32} (G SL : Vec F S27 .i32)
  (gs : Buf (Elt F) (a0.view.loc (c : Thread nD τ))) (ss : Buf (Elt F) (a1.view.loc (c : Thread nD τ)))

/-- After the first part: the count, the tables, and the first two steps' copies under way. -/
def HD (n : BitVec 32) : sProp 𝕄 := iprop(∃ f6 : Buf (Elt F) (T6.view.loc (c : Thread nD τ)), ∃ f7 : Buf (Elt F) (T7.view.loc (c : Thread nD τ)),
    ⌜n.toNat = cnt G 27 ∧ ∀ p < n.toNat, (word (F := F) f6 p).toNat = en G p ∧ en G p < 27 ∧ word (F := F) f7 p = fw G p⌝
    ∗ tabs c (a0 := a0) (a1 := a1) f6 f7 gs ss ∗ slotSt c BB SS RR (en G) SL (4 * n.toNat) 0 ∗ slotSt c BB SS RR (en G) SL (4 * n.toNat) 1)

/-- The two fetches before the main loop. -/
theorem firsts_spec {β : Type} (hG : a0.view.read (Elt F) gs = G) (hSL : a1.view.read (Elt F) ss = SL) (hok : ∀ e < 27, SlotOk (word SL e))
    {n : BitVec 32} (h27 : n.toNat ≤ 27) (f6 : Buf (Elt F) (T6.view.loc (c : Thread nD τ))) (f7 : Buf (Elt F) (T7.view.loc (c : Thread nD τ)))
    (hT : ∀ p < n.toNat, (word (F := F) f6 p).toNat = en G p ∧ en G p < 27 ∧ word (F := F) f7 p = fw G p) (r : β) :
    iprop(tabs c (a0 := a0) (a1 := a1) f6 f7 gs ss ∗ idle c BB SS RR 0 ∗ idle c BB SS RR 1)
      ⊢ WP c (if h2 : k0_cond2 n = 1#1 then first0K (F := F) a1 n h2 (if h4 : k0_cond4 n = 1#1 then first1K a1 n h4 (pure r) else pure r)
          else (if h4 : k0_cond4 n = 1#1 then first1K a1 n h4 (pure r) else pure r))
        (fun r' => iprop(⌜r' = r⌝ ∗ tabs c (a0 := a0) (a1 := a1) f6 f7 gs ss ∗ slotSt c BB SS RR (en G) SL (4 * n.toNat) 0 ∗ slotSt c BB SS RR (en G) SL (4 * n.toNat) 1)) := by
  by_cases h2 : k0_cond2 n = 1#1
  · have hp := (cond2_iff h27).mp h2
    have h4 := (cond4_iff h27).mpr hp
    obtain ⟨e1, e2, -⟩ := hT 0 hp
    have e3 := hok _ e2
    have e4 : (word (F := F) f6 0).toNat < 27 := e1.trans_lt e2
    have m1 : (word (F := F) f6 0).toNat % 27 = (word (F := F) f6 0).toNat := Nat.mod_eq_of_lt e4
    rw [dif_pos h2, dif_pos h4, first0K_eq, first1K_eq]
    have hS0 : slotSt c BB SS RR (en G) SL (4 * n.toNat) 0 = busy c BB SS RR 0 (word (F := F) f6 0).toNat (word SL (en G 0)) 0 := by
      unfold slotSt; rw [if_pos (by omega), e1]
    have hS1 : slotSt c BB SS RR (en G) SL (4 * n.toNat) 1 = busy c BB SS RR 1 (word (F := F) f6 0).toNat (word SL (en G 0)) 1 := by
      unfold slotSt; rw [if_pos (by omega), e1]
    rw [hS0, hS1]
    unfold tabs first0P first1P
    refine BIBase.Entails.trans ?_ (wp_seq (Q' := fun _ => iprop(tabs c (a0 := a0) (a1 := a1) f6 f7 gs ss ∗ busy c BB SS RR 0 (word (F := F) f6 0).toNat (word SL (en G 0)) 0 ∗ idle c BB SS RR 1))
      (fetch_spec a1 _ _ _ _ _ _ _ _ _ _ _ _ _ _ _ _ _ _ _ _ _ _ _ _ _ _ _ _ _ _ _ _ c BB SS RR 0 0 (word (F := F) f6 0) (word SL (en G 0))
      (fun x => read_word (m := T6) (f := f6) rfl off3_eq (by omega) _ x)
      (fun h x => (read_word hSL rfl e4 _ x).trans (congrArg (word SL) e1))
      (chk2_ok e4) (chk3_ok e3) off5_eq off8_eq off11_eq off6_eq off9_eq off12_eq
      (by rw [m1]; exact off7_eq _) (by rw [m1]; exact off10_eq _)
      (fun h => (off13_eq _ h).trans (by rw [Nat.mod_eq_of_lt (e3 h)])) _) fun _ => ?_)
    · unfold tabs
      iintro ⟨⟨H6, H7, H0, H1⟩, HA, HB⟩
      isplitl [H6]; · iexact H6
      isplitl [H1]; · iexact H1
      isplitl [HA]; · iexact HA
      iintro H6 H1 Hbusy
      isplitl [H6 H7 H0 H1]
      · isplitl [H6]; · iexact H6
        isplitl [H7]; · iexact H7
        isplitl [H0] <;> iassumption
      isplitl [Hbusy]; · iexact Hbusy
      iexact HB
    · refine BIBase.Entails.trans ?_ (wp_seq
        (fetch_spec a1 _ _ _ _ _ _ _ _ _ _ _ _ _ _ _ _ _ _ _ _ _ _ _ _ _ _ _ _ _ _ _ _ c BB SS RR 1 1 (word (F := F) f6 0) (word SL (en G 0))
        (fun x => read_word (m := T6) (f := f6) rfl off14_eq (by omega) _ x)
        (fun h x => (read_word hSL rfl e4 _ x).trans (congrArg (word SL) e1))
        (chk4_ok e4) (chk5_ok e3) off16_eq off19_eq off22_eq off17_eq off20_eq off23_eq
        (by rw [m1]; exact off18_eq _) (by rw [m1]; exact off21_eq _)
        (fun h => (off24_eq _ h).trans (by rw [Nat.mod_eq_of_lt (e3 h)])) _) fun _ => le_wp_ret _ _ _ _ _)
      unfold tabs
      iintro ⟨⟨H6, H7, H0, H1⟩, HA, HB⟩
      isplitl [H6]; · iexact H6
      isplitl [H1]; · iexact H1
      isplitl [HB]; · iexact HB
      iintro H6 H1 Hbusy
      isplitr
      · ipureintro; rfl
      isplitl [H6 H7 H0 H1]
      · isplitl [H6]; · iexact H6
        isplitl [H7]; · iexact H7
        isplitl [H0] <;> iassumption
      isplitl [HA]; · iexact HA
      iexact Hbusy
  · have h4 : ¬ k0_cond4 n = 1#1 := fun h => h2 ((cond2_iff h27).mpr ((cond4_iff h27).mp h))
    have hp : ¬ 0 < n.toNat := fun h => h2 ((cond2_iff h27).mpr h)
    rw [dif_neg h2, dif_neg h4]
    have hS0 : slotSt c BB SS RR (en G) SL (4 * n.toNat) 0 = idle c BB SS RR 0 := by
      unfold slotSt; rw [if_neg (by omega)]
    have hS1 : slotSt c BB SS RR (en G) SL (4 * n.toNat) 1 = idle c BB SS RR 1 := by
      unfold slotSt; rw [if_neg (by omega)]
    rw [hS0, hS1]
    iintro H
    iapply (le_wp_ret _ _ _ _ _)
    isplitr
    · ipureintro; rfl
    iexact H

theorem head_spec (hG : a0.view.read (Elt F) gs = G) (hSL : a1.view.read (Elt F) ss = SL) (hok : ∀ e < 27, SlotOk (word SL e))
    (f6 : Buf (Elt F) (T6.view.loc (c : Thread nD τ))) (f7 : Buf (Elt F) (T7.view.loc (c : Thread nD τ))) :
    iprop(tabs c (a0 := a0) (a1 := a1) f6 f7 gs ss ∗ idle c BB SS RR 0 ∗ idle c BB SS RR 1)
      ⊢ WP c (headP (F := F) a0 a1) (fun r => iprop(⌜r.1.toNat ≤ 27 ∧ r.2.2.1 = Scalar.muli r.1 4#32 ∧ r.2.2.2 = permParts⌝ ∗ HD c BB SS RR (a0 := a0) (a1 := a1) G SL gs ss r.1)) := by
  unfold headP
  refine wp_seq (Q' := fun r => iprop(C0 c (a0 := a0) G gs 27 r ∗ (a1.view.loc (c : Thread nD τ) ↦[a1.view.set]{fullShare} ss) ∗ idle c BB SS RR 0 ∗ idle c BB SS RR 1)) ?_ ?_
  · unfold tabs
    iintro ⟨⟨H6, H7, H0, H1⟩, HA, HB⟩
    iapply (Scf.wp_for _ _ _ _ _ _ k0_t1_ok (0#32, 0#32) (fun k (r : BitVec 32 × BitVec 32) => collectTrip (F := F) a0 k r.1 r.2) (C0 c (a0 := a0) G gs)
      (fun k r => collect_spec c G gs hG k r.1 r.2))
    isplitl [H6 H7 H0]
    · unfold C0
      iexists f6
      iexists f7
      isplitr
      · ipureintro; exact ⟨rfl, rfl, fun i hi => absurd hi (Nat.not_lt_zero _)⟩
      isplitl [H6]; · iexact H6
      isplitl [H7]; · iexact H7
      iexact H0
    · iintro %r HC
      isplitl [HC]
      · have e : Scf.trips k0_t1_loop.lb k0_t1_loop.ub k0_t1_loop.st = 27 := trips1
        rw [e]
        iexact HC
      isplitl [H1]; · iexact H1
      isplitl [HA]; · iexact HA
      iexact HB
  · rintro ⟨n, s⟩
    unfold C0
    iintro ⟨⟨%f6', %f7', %hI, H6, H7, H0⟩, H1, HA, HB⟩
    obtain ⟨hN, hT⟩ := tab_done G hI
    change n.toNat = _ at hN
    have h27 : n.toNat ≤ 27 := hN.trans_le (cnt_le G 27)
    iapply (Ev.seq (R := iprop(emp)) (Ev.assume (chk6_ok h27))) $$ []
    · iempintro
    iintro -
    iapply (wp_mono _ _ _ ?_)
    rotate_left
    · iapply (firsts_spec c BB SS RR G SL gs ss hG hSL hok h27 f6' f7' hT _)
      unfold tabs
      isplitl [H6 H7 H0 H1]
      · isplitl [H6]; · iexact H6
        isplitl [H7]; · iexact H7
        isplitl [H0] <;> iassumption
      isplitl [HA] <;> iassumption
    · intro r
      iintro ⟨%hr, HT, HA, HB⟩
      subst hr
      isplitr
      · ipureintro; exact ⟨h27, rfl, rfl⟩
      unfold HD
      iexists f6'
      iexists f7'
      isplitr
      · ipureintro; exact ⟨hN, hT⟩
      isplitl [HT]; · iexact HT
      isplitl [HA] <;> iassumption
end Head

end Cert.Proof.Kern

end
-- ==== Proof.Perm.lean ====
/- The gather of the tokens' columns, the zero start, and the rounded result. -/
module

public import proofs.«01_k».proof.Proof.Collect

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

/-- A store to a buffer, then the rest. -/
theorem seq_store {β : Type} {c : Dev nD} {cs : CoreSpace} {s : Shape} {e : EltTy} {m : Memref sig .tc cs s e} {r : Rect s} {S : Finset (Idx (m.view.loc (c : Thread nD τ)))}
    {f f' : Buf (Elt F) (m.view.loc (c : Thread nD τ))} {w : r.shape.Idx → Elt F e} (hS : m.view.set ⊆ S)
    (e' : (m.access r).write (Elt F) f w Finset.univ = f') {h1 h2} {k : PUnit → P F β} {Q : β → sProp 𝕄} :
    (m.view.loc (c : Thread nD τ) ↦[S]{fullShare} f) ⊢ iprop(((m.view.loc (c : Thread nD τ) ↦[S]{fullShare} f') -∗ WP c (k ⟨⟩) Q)
      -∗ WP c ((Prog.lift (.store m r w Finset.univ h1 h2) : P F PUnit) >>= k) Q) := by
  subst e'
  iintro H Hk
  iapply (entails_of_eq (wp_bind _ _ _ _ k Q).symm)
  iapply (wp_store 𝒱₀ (c : Thread nD τ) none Set.univ (m := m) (r := r) (f := f) (S := S) ((View.setOn_slice_subset_set _ _ _).trans hS)) $$ H
  iintro H
  iapply (le_wp_ret _ _ _ _ _)
  iapply Hk
  iexact H

theorem last_store {c : Dev nD} {cs : CoreSpace} {s : Shape} {e : EltTy} {m : Memref sig .tc cs s e} {r : Rect s} {S : Finset (Idx (m.view.loc (c : Thread nD τ)))}
    {f f' : Buf (Elt F) (m.view.loc (c : Thread nD τ))} {w : r.shape.Idx → Elt F e} (hS : m.view.set ⊆ S)
    (e' : (m.access r).write (Elt F) f w Finset.univ = f') {h1 h2} {Q : PUnit → sProp 𝕄} :
    (m.view.loc (c : Thread nD τ) ↦[S]{fullShare} f) ⊢ iprop(((m.view.loc (c : Thread nD τ) ↦[S]{fullShare} f') -∗ Q ⟨⟩)
      -∗ WP c (Prog.lift (.store m r w Finset.univ h1 h2) : P F PUnit) Q) := by
  subst e'
  iintro H Hk
  iapply (wp_store 𝒱₀ (c : Thread nD τ) none Set.univ (m := m) (r := r) (f := f) (S := S) ((View.setOn_slice_subset_set _ _ _).trans hS)) $$ H
  iintro H
  iapply (le_wp_ret _ _ _ _ _)
  iapply Hk
  iexact H

/-- A load by itself. -/
theorem Ev.ld {c : Dev nD} {cs : CoreSpace} {s : Shape} {e : EltTy} {m : Memref sig .tc cs s e}
    {r : LoadRect s} {hl : m.view.LoadsAt r} {S : Finset (Idx (m.view.loc (c : Thread nD τ)))} {q : PosShare TreeShare}
    {f : Buf (Elt F) (m.view.loc (c : Thread nD τ))} (hS : m.view.set ⊆ S) {v : r.shape.Idx → Elt F e} (hv : m.view.readAt (Elt F) r f = v) :
    Ev c (m.view.loc (c : Thread nD τ) ↦[S]{q} f) (Prog.lift (.load m r hl) : P F _) v := by
  refine Ev.load (m := m) (S := S) (q := q) (f := f) (R' := iprop(emp)) ((View.setOn_subset_set _ _).trans hS) ?_ ?_ hv
  · iintro H
    isplitl [H]; · iexact H
    iempintro
  · iintro ⟨H, -⟩
    iexact H

section Perm
variable {c : Dev nD} {a2 : Memref sig .tc .vmem S24x7168 .bf16} {xs : Buf (Elt F) (a2.view.loc (c : Thread nD τ))} (XV : Vec F S24x7168 .bf16)

/-- Tile `t` of the tokens. -/
def xWin (t : ℕ) : Vec F S24x256 .bf16 := VecWindow.window (s := S24x7168) XV ![0, 256 * (t % 28)] S24x256.size (xt_inb t)

/-- The gathered tokens after `t` tiles. -/
def xPut (v : FVec F S256x256 .bf16) (f0 : Vec F S24x7168 .bf16) : ℕ → Vec F S24x7168 .bf16
  | 0 => f0
  | t + 1 => VecWindow.put (s := S24x7168) (xPut v f0 t) ![0, 256 * (t % 28)] S24x256.size (gather v (xWin XV t))

/-- The gathered tokens. -/
def xPerm (v : FVec F S256x256 .bf16) : Vec F S24x7168 .bf16 := fun i =>
  gather v (xWin XV ((i 1).val / 256)) (ix2 (i 0) ⟨(i 1).val % 256, Nat.mod_lt _ (by decide)⟩)

theorem xPut_apply (v : FVec F S256x256 .bf16) (f0 : Vec F S24x7168 .bf16) (t : ℕ) (ht : t ≤ 28) (i : S24x7168.Idx) :
    xPut XV v f0 t i = if (i 1).val / 256 < t then xPerm XV v i else f0 i := by
  induction t with
  | zero => rw [if_neg (Nat.not_lt_zero _)]; rfl
  | succ t ih =>
    have m : t % 28 = t := Nat.mod_eq_of_lt (by omega)
    have h0 : (i 0).val < 24 := (i 0).isLt
    show VecWindow.put (s := S24x7168) (xPut XV v f0 t) ![0, 256 * (t % 28)] S24x256.size (gather v (xWin XV t)) i = _
    unfold VecWindow.put
    by_cases h : (i 1).val / 256 = t
    · rw [dif_pos, if_pos (by omega)]
      · unfold xPerm
        subst h
        refine congrArg _ (funext fun a => Fin.ext ?_)
        fin_cases a
        · show (i 0).val - 0 = (i 0).val; omega
        · show (i 1).val - 256 * ((i 1).val / 256 % 28) = (i 1).val % 256; omega
      · intro a
        fin_cases a
        · show 0 ≤ (i 0).val ∧ (i 0).val < 0 + 24; omega
        · show 256 * (t % 28) ≤ (i 1).val ∧ (i 1).val < 256 * (t % 28) + 256; omega
    · rw [dif_neg, ih (by omega)]
      · by_cases h' : (i 1).val / 256 < t
        · rw [if_pos h', if_pos (by omega)]
        · rw [if_neg h', if_neg (by omega)]
      · intro hh
        have := hh 1
        have : 256 * (t % 28) ≤ (i 1).val ∧ (i 1).val < 256 * (t % 28) + 256 := this
        omega

theorem xPut_done (v : FVec F S256x256 .bf16) (f0 : Vec F S24x7168 .bf16) : xPut XV v f0 28 = xPerm XV v := by
  funext i
  have h1 : (i 1).val < 7168 := (i 1).isLt
  rw [xPut_apply XV v f0 28 (by omega), if_pos (by omega)]

theorem ev_xtLd (hX : a2.view.read (Elt F) xs = XV) (t : ℕ) :
    Ev c (a2.view.loc (c : Thread nD τ) ↦[a2.view.set]{fullShare} xs) (xtLd (F := F) a2 t) (xWin XV t) := by
  subst hX
  exact Ev.ld (m := a2) (Finset.Subset.refl _) rfl

theorem xtSt_spec {β : Type} (v : FVec F S256x256 .bf16) (t : ℕ) (f0 : Vec F S24x7168 .bf16) {k : PUnit → P F β} {Q : β → sProp 𝕄} :
    (M4.view.loc (c : Thread nD τ) ↦[Finset.univ]{fullShare} xPut XV v f0 t)
      ⊢ iprop(((M4.view.loc (c : Thread nD τ) ↦[Finset.univ]{fullShare} xPut XV v f0 (t + 1)) -∗ WP c (k ⟨⟩) Q) -∗ WP c (xtSt (F := F) v t (xWin XV t) >>= k) Q) := by
  unfold xtSt
  iintro H Hk
  iapply (entails_of_eq (wp_bind _ _ _ _ k Q).symm)
  iapply (Ev.seq (Ev.ld (m := M4) (f := xPut XV v f0 t) (Finset.subset_univ _) rfl)) $$ H
  iintro H
  iapply (last_store (m := M4) (f := xPut XV v f0 t) (f' := xPut XV v f0 (t + 1)) (Finset.subset_univ _) (m4_write c (xPut XV v f0 t) _ _ _)) $$ H
  iexact Hk

theorem permSeg_spec (hX : a2.view.read (Elt F) xs = XV) (v : FVec F S256x256 .bf16) (f0 : Vec F S24x7168 .bf16) (n t : ℕ) :
    iprop((a2.view.loc (c : Thread nD τ) ↦[a2.view.set]{fullShare} xs) ∗ (M4.view.loc (c : Thread nD τ) ↦[Finset.univ]{fullShare} xPut XV v f0 t))
      ⊢ WP c (permSeg (F := F) a2 v n t (xWin XV t)) (fun x => iprop(⌜x = xWin XV (t + n)⌝ ∗ (a2.view.loc (c : Thread nD τ) ↦[a2.view.set]{fullShare} xs)
          ∗ (M4.view.loc (c : Thread nD τ) ↦[Finset.univ]{fullShare} xPut XV v f0 (t + n)))) := by
  induction n generalizing t with
  | zero =>
    iintro ⟨HX, H⟩
    iapply (le_wp_ret _ _ _ _ _)
    isplitr
    · ipureintro; rfl
    isplitl [HX] <;> iassumption
  | succ n ih =>
    have e : t + (n + 1) = t + 1 + n := by omega
    rw [e]
    show _ ⊢ WP c (xtSt (F := F) v t (xWin XV t) >>= fun _ => xtLd a2 (t + 1) >>= fun x' => permSeg a2 v n (t + 1) x') _
    iintro ⟨HX, H⟩
    iapply (xtSt_spec XV v t f0) $$ H
    iintro H
    iapply (Ev.seq (ev_xtLd XV hX (t + 1))) $$ HX
    iintro HX
    iapply (ih (t + 1))
    isplitl [HX] <;> iassumption

theorem zeroP_spec (f : Buf (Elt F) (M5.view.loc (c : Thread nD τ))) {β : Type} {k : PUnit → P F β} {Q : β → sProp 𝕄} :
    (M5.view.loc (c : Thread nD τ) ↦[Finset.univ]{fullShare} f)
      ⊢ iprop(((M5.view.loc (c : Thread nD τ) ↦[Finset.univ]{fullShare} (acc0 : Vec F S24x2048 .f32)) -∗ WP c (k ⟨⟩) Q) -∗ WP c (zeroP (F := F) >>= k) Q) := by
  unfold zeroP
  iintro H Hk
  iapply (entails_of_eq (wp_bind _ _ _ _ k Q).symm)
  iapply (Ev.seq (Ev.ld (m := M5) (f := f) (Finset.subset_univ _) rfl)) $$ H
  iintro H
  iapply (last_store (m := M5) (f := f) (f' := (acc0 : Vec F S24x2048 .f32)) (Finset.subset_univ _)
    ((m5all_write c f _ _ _).trans (put_full (s := S24x2048) f _ inb_S24x2048_S24x2048_0_0 _))) $$ H
  iexact Hk

theorem outP_spec {a6 : Memref sig .tc .vmem S24x2048 .bf16} (ha6 : a6.IsWhole) (A : Vec F S24x2048 .f32) (o : Buf (Elt F) (a6.view.loc (c : Thread nD τ))) :
    iprop((M5.view.loc (c : Thread nD τ) ↦[Finset.univ]{fullShare} A) ∗ (a6.view.loc (c : Thread nD τ) ↦[a6.view.set]{fullShare} o))
      ⊢ WP c (outP (F := F) a6 ha6) (fun _ => iprop((M5.view.loc (c : Thread nD τ) ↦[Finset.univ]{fullShare} A)
          ∗ ∃ o' : Buf (Elt F) (a6.view.loc (c : Thread nD τ)), ⌜a6.view.read (Elt F) o' = truncf .bf16 A bitsLt_bf16_f32⌝ ∗ (a6.view.loc (c : Thread nD τ) ↦[a6.view.set]{fullShare} o'))) := by
  unfold outP
  iintro ⟨HA, HO⟩
  iapply (Ev.seq (Ev.ld (m := M5) (f := A) (v := A) (Finset.subset_univ _) (View.readAt_full M5.view A inb_S24x2048_S24x2048_0_0))) $$ HA
  iintro HA
  iapply (Ev.seq (Ev.ld (m := a6) (f := o) (Finset.Subset.refl _) rfl)) $$ HO
  iintro HO
  iapply (seq_store (m := a6) (f := o) (Finset.Subset.refl _) rfl) $$ HO
  iintro HO
  iapply (le_wp_ret _ _ _ _ _)
  isplitl [HA]; · iexact HA
  iexists _
  isplitr
  rotate_left
  · iexact HO
  · ipureintro
    exact (View.read_writes_cons_put a6.view o inb_S24x2048_S24x2048_0_0 _ [] rfl).trans (put_full _ _ inb_S24x2048_S24x2048_0_0 _)
end Perm

end Cert.Proof.Kern

end
-- ==== Proof.Body.lean ====
/- The kernel's body, part by part. -/
module

public import proofs.«01_k».proof.Proof.Perm

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ
variable [Facts]

theorem seq_spec {c : Dev nD} {α β : Type} {R : sProp 𝕄} {p : P F α} {k : α → P F β} {Q' : α → sProp 𝕄} {Q : β → sProp 𝕄}
    (h : R ⊢ WP c p Q') : R ⊢ iprop((∀ a, Q' a -∗ WP c (k a) Q) -∗ WP c (p >>= k) Q) := by
  iintro H Hk
  iapply (entails_of_eq (wp_bind _ _ _ p k Q).symm)
  iapply (wp_wand_r _ _ _)
  isplitl [H]
  · iapply h; iexact H
  · iexact Hk

section Body
variable {c : Dev nD} (BB : Buf (Elt F) ((c : Thread nD τ).loc main_arg2)) (SS : Buf (Elt F) ((c : Thread nD τ).loc main_arg3))
  (RR : Buf (Elt F) ((c : Thread nD τ).loc main_arg4)) (G SL : Vec F S27 .i32) (XV : Vec F S24x7168 .bf16)

/-- The same slot under any name. -/
theorem idle_mod (s : ℕ) : idle c BB SS RR s = idle c BB SS RR (s % 3) := by
  have e : s % 3 % 3 = s % 3 := by omega
  unfold idle idleB idleS idleR
  have eB : slB (s % 3) = slB s := slotB_congr (by rw [e])
  have eR : slR (s % 3) = slR s := slotR_congr (by rw [e])
  have eS : slS (s % 3) = slS s := slotS_congr (by rw [e])
  have mB : smB (s % 3) = smB s := rawSem_congr (by rw [e])
  have mR : smR (s % 3) = smR s := rawSem_congr (by rw [e])
  have mS : smS (s % 3) = smS s := rawSem_congr (by rw [e])
  have q : shr (s % 3) = shr s := by unfold shr; rw [e]
  rw [eB, eR, eS, mB, mR, mS, q]

theorem idles_rot (m : ℕ) : iprop(idle c BB SS RR m ∗ idle c BB SS RR (m + 1) ∗ idle c BB SS RR (m + 2)) ⊢ iprop(idle c BB SS RR 0 ∗ idle c BB SS RR 1 ∗ idle c BB SS RR 2) := by
  rw [idle_mod BB SS RR m, idle_mod BB SS RR (m + 1), idle_mod BB SS RR (m + 2)]
  have h : m % 3 = 0 ∨ m % 3 = 1 ∨ m % 3 = 2 := by omega
  rcases h with h | h | h
  · rw [h, show (m + 1) % 3 = 1 by omega, show (m + 2) % 3 = 2 by omega]
  · rw [h, show (m + 1) % 3 = 2 by omega, show (m + 2) % 3 = 0 by omega]
    iintro ⟨H1, H2, H0⟩
    isplitl [H0]; · iexact H0
    isplitl [H1] <;> iassumption
  · rw [h, show (m + 1) % 3 = 0 by omega, show (m + 2) % 3 = 1 by omega]
    iintro ⟨H2, H0, H1⟩
    isplitl [H0]; · iexact H0
    isplitl [H1] <;> iassumption

/-- What the kernel computes. -/
def yV : Vec F S24x2048 .bf16 :=
  truncf .bf16 (accF c BB SS RR (en G) (fw G) G SL (xPerm XV hotV) (4 * cnt G 27)) bitsLt_bf16_f32

/-- The scratch buffers, at anything. -/
def scr : sProp 𝕄 := iprop((∃ f : Buf (Elt F) (T6.view.loc (c : Thread nD τ)), (T6.view.loc (c : Thread nD τ) ↦[T6.view.set]{fullShare} f))
    ∗ (∃ f : Buf (Elt F) (T7.view.loc (c : Thread nD τ)), (T7.view.loc (c : Thread nD τ) ↦[T7.view.set]{fullShare} f))
    ∗ (∃ f : Buf (Elt F) (M3.view.loc (c : Thread nD τ)), (M3.view.loc (c : Thread nD τ) ↦[Finset.univ]{fullShare} f))
    ∗ (∃ f : Buf (Elt F) (M4.view.loc (c : Thread nD τ)), (M4.view.loc (c : Thread nD τ) ↦[Finset.univ]{fullShare} f))
    ∗ (∃ f : Buf (Elt F) (M5.view.loc (c : Thread nD τ)), (M5.view.loc (c : Thread nD τ) ↦[Finset.univ]{fullShare} f)))

variable {a0 a1 : Memref sig .tc .smem S27 .i32} {a2 : Memref sig .tc .vmem S24x7168 .bf16} {a6 : Memref sig .tc .vmem S24x2048 .bf16}
  (h0 : a0.IsWhole) (h1 : a1.IsWhole) (h2 : a2.IsWhole) (h6 : a6.IsWhole)
  (gs : Buf (Elt F) (a0.view.loc (c : Thread nD τ))) (ss : Buf (Elt F) (a1.view.loc (c : Thread nD τ))) (xs : Buf (Elt F) (a2.view.loc (c : Thread nD τ)))
  (hG : a0.view.read (Elt F) gs = G) (hSL : a1.view.read (Elt F) ss = SL) (hX : a2.view.read (Elt F) xs = XV)
  (hok : ∀ e < 27, SlotOk (word SL e))

include hX in
theorem part231_spec (f4 : Vec F S24x7168 .bf16) (f5 : Buf (Elt F) (M5.view.loc (c : Thread nD τ))) (n : BitVec 32) :
    iprop((a2.view.loc (c : Thread nD τ) ↦[a2.view.set]{fullShare} xs) ∗ (M4.view.loc (c : Thread nD τ) ↦[Finset.univ]{fullShare} xPut XV hotV f4 24)
        ∗ (M5.view.loc (c : Thread nD τ) ↦[Finset.univ]{fullShare} f5))
      ⊢ WP c (permSeg (F := F) a2 hotV 3 24 (xWin XV 24) >>= fun x' => xtSt hotV 27 x' >>= fun _ => zeroP >>= fun _ =>
        pure (⟨0#32, 0#32, Scalar.muli (Scalar.divsi (Scalar.subi (Scalar.muli n 4#32) 0#32) 1#32) 1#32⟩ : (Σ' (_ : BitVec 32) (_ : BitVec 32), BitVec 32)))
        (fun r => iprop(⌜r = ⟨0#32, 0#32, Scalar.muli (Scalar.divsi (Scalar.subi (Scalar.muli n 4#32) 0#32) 1#32) 1#32⟩⌝
          ∗ (a2.view.loc (c : Thread nD τ) ↦[a2.view.set]{fullShare} xs) ∗ (M4.view.loc (c : Thread nD τ) ↦[Finset.univ]{fullShare} xPerm XV hotV)
          ∗ (M5.view.loc (c : Thread nD τ) ↦[Finset.univ]{fullShare} (acc0 : Vec F S24x2048 .f32)))) := by
  iintro ⟨HX, H4, H5⟩
  iapply (seq_spec (permSeg_spec XV hX hotV f4 3 24)) $$ [HX H4]
  · isplitl [HX] <;> iassumption
  iintro %r ⟨%hr, HX, H4⟩
  subst hr
  iapply (xtSt_spec XV hotV 27 f4) $$ H4
  iintro H4
  iapply (zeroP_spec f5) $$ H5
  iintro H5
  iapply (le_wp_ret _ _ _ _ _)
  isplitr; · ipureintro; rfl
  isplitl [HX]; · iexact HX
  rw [← xPut_done XV hotV f4]
  isplitl [H4] <;> iassumption

set_option maxRecDepth 4000 in
include hG hSL hX hok in
theorem body_spec (o : Buf (Elt F) (a6.view.loc (c : Thread nD τ))) :
    iprop((a0.view.loc (c : Thread nD τ) ↦[a0.view.set]{fullShare} gs) ∗ (a1.view.loc (c : Thread nD τ) ↦[a1.view.set]{fullShare} ss)
        ∗ (a2.view.loc (c : Thread nD τ) ↦[a2.view.set]{fullShare} xs) ∗ (a6.view.loc (c : Thread nD τ) ↦[a6.view.set]{fullShare} o)
        ∗ scr (c := c) ∗ (idle c BB SS RR 0 ∗ idle c BB SS RR 1 ∗ idle c BB SS RR 2) ∗ (∃ W, owes (c : Thread nD τ) 0 W))
      ⊢ WP c (cc0_two_level_moe (F := F) a0 h0 a1 h1 a2 h2 (Memref.whole main_arg2) (Memref.isWhole_whole main_arg2) (Memref.whole main_arg3) (Memref.isWhole_whole main_arg3) (Memref.whole main_arg4) (Memref.isWhole_whole main_arg4) a6 h6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8)
        (fun _ => iprop((a0.view.loc (c : Thread nD τ) ↦[a0.view.set]{fullShare} gs) ∗ (a1.view.loc (c : Thread nD τ) ↦[a1.view.set]{fullShare} ss)
        ∗ (a2.view.loc (c : Thread nD τ) ↦[a2.view.set]{fullShare} xs)
        ∗ (∃ o' : Buf (Elt F) (a6.view.loc (c : Thread nD τ)), ⌜a6.view.read (Elt F) o' = yV BB SS RR G SL XV⌝ ∗ (a6.view.loc (c : Thread nD τ) ↦[a6.view.set]{fullShare} o'))
        ∗ scr (c := c) ∗ (idle c BB SS RR 0 ∗ idle c BB SS RR 1 ∗ idle c BB SS RR 2) ∗ (∃ W, owes (c : Thread nD τ) 0 W))) := by
  unfold scr cc0_two_level_moe
  iintro ⟨H0, H1, HX, HO, ⟨⟨%f6, H6⟩, ⟨%f7, H7⟩, ⟨%f3, H3⟩, ⟨%f4, H4⟩, ⟨%f5, H5⟩⟩, ⟨HA, HB, HC⟩, HW⟩
  irw [part225_eq]
  iapply (seq_spec (head_spec c BB SS RR G SL gs ss hG hSL hok f6 f7)) $$ [H0 H1 H6 H7 HA HB]
  · unfold tabs
    isplitl [H0 H1 H6 H7]
    · isplitl [H6]; · iexact H6
      isplitl [H7]; · iexact H7
      isplitl [H0] <;> iassumption
    isplitl [HA] <;> iassumption
  iintro %r ⟨%hr, HD⟩
  obtain ⟨n, hn, v2, v9, v14, v16, v35⟩ := r
  obtain ⟨h27, e2, e3⟩ := hr
  change n.toNat ≤ 27 at h27
  change v2 = Scalar.muli n 4#32 at e2
  subst e2
  have e9 : v9 = permParts.1 := congrArg (fun q => q.1) e3
  have e14 : v14 = permParts.2.1 := congrArg (fun q => q.2.1) e3
  have e16 : v16 = permParts.2.2.1 := congrArg (fun q => q.2.2.1) e3
  have e35 : v35 = permParts.2.2.2 := congrArg (fun q => q.2.2.2) e3
  subst e9 e14 e16 e35
  clear e3
  dsimp only
  irw [part226_eq]
  iapply (seq_spec (Q' := fun r => iprop(⌜r = ⟨hotV, xWin XV 4⟩⌝ ∗ (a2.view.loc (c : Thread nD τ) ↦[a2.view.set]{fullShare} xs)
          ∗ (M4.view.loc (c : Thread nD τ) ↦[Finset.univ]{fullShare} xPut XV hotV f4 4))) (R := iprop((a2.view.loc (c : Thread nD τ) ↦[a2.view.set]{fullShare} xs)
          ∗ (M4.view.loc (c : Thread nD τ) ↦[Finset.univ]{fullShare} xPut XV hotV f4 0))) ?_) $$ [HX H4]
  rotate_left
  · isplitl [HX]; · iexact HX
    iexact H4
  · iintro %r ⟨%hr, HX, H4⟩
    subst hr
    dsimp only
    irw [part227_eq]
    iapply (seq_spec (permSeg_spec XV hX hotV f4 5 4)) $$ [HX H4]
    · isplitl [HX] <;> iassumption
    iintro %r ⟨%hr, HX, H4⟩
    subst hr
    irw [part228_eq]
    iapply (seq_spec (permSeg_spec XV hX hotV f4 5 9)) $$ [HX H4]
    · isplitl [HX] <;> iassumption
    iintro %r ⟨%hr, HX, H4⟩
    subst hr
    irw [part229_eq]
    iapply (seq_spec (permSeg_spec XV hX hotV f4 5 14)) $$ [HX H4]
    · isplitl [HX] <;> iassumption
    iintro %r ⟨%hr, HX, H4⟩
    subst hr
    irw [part230_eq]
    iapply (seq_spec (permSeg_spec XV hX hotV f4 5 19)) $$ [HX H4]
    · isplitl [HX] <;> iassumption
    iintro %r ⟨%hr, HX, H4⟩
    subst hr
    irw [part231_eq]
    iapply (seq_spec (part231_spec XV xs hX f4 f5 n)) $$ [HX H4 H5]
    · isplitl [HX]; · iexact HX
      isplitl [H4] <;> iassumption
    iintro %r ⟨%hr, HX, H4, H5⟩
    subst hr
    dsimp only
    unfold HD
    icases HD with ⟨%g6, %g7, %hT, HT, HA, HB⟩
    obtain ⟨hN, hT⟩ := hT
    refine BIBase.Entails.trans (Q := iprop(A0 c BB SS RR (en G) (fw G) G SL (xPerm XV hotV) (a0 := a0) (a1 := a1) g6 g7 gs ss (4 * n.toNat) 0
      ∗ (a2.view.loc (c : Thread nD τ) ↦[a2.view.set]{fullShare} xs) ∗ (a6.view.loc (c : Thread nD τ) ↦[a6.view.set]{fullShare} o))) ?_ ?_
    · unfold A0 bufs
      iintro ⟨⟨⟨⟨⟨⟨⟨⟨⟨HO, H3⟩, HC⟩, HW⟩, HX⟩, H4⟩, H5⟩, HT⟩, HA⟩, HB⟩
      isplitr [HX HO]
      · isplitl [HT]; · iexact HT
        isplitl [HA]; · iexact HA
        isplitl [HB]; · iexact HB
        isplitl [HC]; · iexact HC
        isplitl [H3]; · iexists _; iexact H3
        isplitl [H4]; · iexact H4
        isplitl [H5]; · iexact H5
        iexact HW
      · isplitl [HX] <;> iassumption
    refine wp_seq (Q' := fun _ => iprop(A0 c BB SS RR (en G) (fw G) G SL (xPerm XV hotV) (a0 := a0) (a1 := a1) g6 g7 gs ss (4 * n.toNat) (4 * n.toNat)
      ∗ (a2.view.loc (c : Thread nD τ) ↦[a2.view.set]{fullShare} xs) ∗ (a6.view.loc (c : Thread nD τ) ↦[a6.view.set]{fullShare} o))) ?_ ?_
    · iintro ⟨H, HX, HO⟩
      iapply (Scf.wp_for _ _ _ _ _ _ (k0_t2_ok n hn) _ _ (fun k _ => A0 c BB SS RR (en G) (fw G) G SL (xPerm XV hotV) (a0 := a0) (a1 := a1) g6 g7 gs ss (4 * n.toNat) k) ?_)
      rotate_left
      · isplitl [H]; · iexact H
        iintro %a H
        have e : Scf.trips (k0_t2_loop n).lb (k0_t2_loop n).ub (k0_t2_loop n).st = 4 * n.toNat := trips_eq h27
        rw [e]
        isplitl [H]; · iexact H
        isplitl [HX] <;> iassumption
      · intro k acc
        refine wp_seq (Q' := fun _ => A1 c BB SS RR (en G) (fw G) G SL (xPerm XV hotV) (a0 := a0) (a1 := a1) g6 g7 gs ss (4 * n.toNat) k.val) ?_ ?_
        · rw [part112_eq]
          exact ahead_spec c BB SS RR (en G) (fw G) G SL (xPerm XV hotV) g6 g7 gs ss hn h27 k hSL hT hok _
        rintro ⟨b1, b2, b3, b4, b5, b6⟩
        refine wp_seq (Q' := fun r => A2 c BB SS RR (en G) (fw G) G SL (xPerm XV hotV) (a0 := a0) (a1 := a1) g6 g7 gs ss (4 * n.toNat) k.val ⟨r.1, r.2.2.1, r.2.2.2⟩) ?_ ?_
        · rw [part113_eq]
          exact readyA_spec c BB SS RR (en G) (fw G) G SL (xPerm XV hotV) g6 g7 gs ss hn h27 k hG hSL hT hok
        rintro ⟨sv, h11, f, g⟩
        refine BIBase.Entails.trans (tailA_spec c BB SS RR (en G) (fw G) G SL (xPerm XV hotV) g6 g7 gs ss h27 k sv h11 f g) (entails_of_eq (congrArg (fun p => WP c p _) ?_))
        sl_kernel_rfl
    · intro a
      refine wp_seq (Q' := fun _ => iprop(A0 c BB SS RR (en G) (fw G) G SL (xPerm XV hotV) (a0 := a0) (a1 := a1) g6 g7 gs ss (4 * n.toNat) (4 * n.toNat)
        ∗ (a2.view.loc (c : Thread nD τ) ↦[a2.view.set]{fullShare} xs) ∗ (a6.view.loc (c : Thread nD τ) ↦[a6.view.set]{fullShare} o))) ?_ ?_
      · iintro H
        iapply (Scf.wp_for _ _ _ _ _ _ (k0_t3_ok n hn) _ _ (fun _ _ => iprop(A0 c BB SS RR (en G) (fw G) G SL (xPerm XV hotV) (a0 := a0) (a1 := a1) g6 g7 gs ss (4 * n.toNat) (4 * n.toNat)
          ∗ (a2.view.loc (c : Thread nD τ) ↦[a2.view.set]{fullShare} xs) ∗ (a6.view.loc (c : Thread nD τ) ↦[a6.view.set]{fullShare} o))) ?_)
        rotate_left
        · isplitl [H]; · iexact H
          iintro %a H
          iexact H
        · intro k
          exact (no3 h27 k).elim
      · intro a'
        show _ ⊢ WP c (outP (F := F) a6 h6) _
        unfold A0 bufs tabs
        iintro ⟨⟨⟨H6, H7, H0, H1⟩, HA, HB, HC, H3, H4, H5, HW⟩, HX, HO⟩
        iapply (wp_wand_r _ _ _)
        isplitl [H5 HO]
        · iapply (outP_spec h6 _ o)
          isplitl [H5] <;> iassumption
        iintro %u ⟨H5, HO⟩
        isplitl [H0]; · iexact H0
        isplitl [H1]; · iexact H1
        isplitl [HX]; · iexact HX
        isplitl [HO]
        · unfold yV
          rw [← hN]
          iexact HO
        isplitl [H6 H7 H3 H4 H5]
        · isplitl [H6]; · iexists _; iexact H6
          isplitl [H7]; · iexists _; iexact H7
          isplitl [H3]; · iexact H3
          isplitl [H4]; · iexists _; iexact H4
          iexists _; iexact H5
        isplitl [HA HB HC]
        · have s0 : slotSt c BB SS RR (en G) SL (4 * n.toNat) (4 * n.toNat) = idle c BB SS RR (4 * n.toNat) := by unfold slotSt; rw [if_neg (by omega)]
          have s1 : slotSt c BB SS RR (en G) SL (4 * n.toNat) (4 * n.toNat + 1) = idle c BB SS RR (4 * n.toNat + 1) := by unfold slotSt; rw [if_neg (by omega)]
          iapply (idles_rot BB SS RR (4 * n.toNat))
          isplitl [HA]; · iapply (entails_of_eq s0); iexact HA
          isplitl [HB]; · iapply (entails_of_eq s1); iexact HB
          iexact HC
        iexact HW
  · iintro ⟨HX, H4⟩
    iapply (Ev.seq (ev_xtLd XV hX 0)) $$ HX
    iintro HX
    iapply (seq_spec (permSeg_spec XV hX hotV f4 4 0)) $$ [HX H4]
    · isplitl [HX] <;> iassumption
    iintro %x ⟨%hx, HX, H4⟩
    subst hx
    iapply (le_wp_ret _ _ _ _ _)
    isplitr; · ipureintro; rfl
    isplitl [HX]; · iexact HX
    iexact H4
end Body

end Cert.Proof.Kern

end
-- ==== Proof.Share.lean ====
/- The scratch buffers, semaphores and operands dealt into three slots, and back. -/
module

public import proofs.«01_k».proof.Proof.Ring
public import proofs.«01_k».proof.Proof.Data
public import Idealize.ShloMosaic.Lib.Ring
public import Idealize.ShloMosaic.Lib.Pipeline.KitQuiescent
public import proofs.«01_k».proof.Proof.Gen.KernelIdeal.Launch

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ

/-- A buffer at anything is three parts at anything. -/
theorem split3 {ℓ : Loc nD τ sig} (S : Fin 3 → Finset (Idx ℓ)) (hd : ∀ s s', s ≠ s' → Disjoint (S s) (S s')) (hc : Finset.univ.biUnion S = Finset.univ) :
    (iprop(∃ f : Buf (Elt F) ℓ, ℓ ↦{fullShare} f) : sProp 𝕄) ⊢ iprop((∃ f, ℓ ↦[S 0]{fullShare} f) ∗ (∃ f, ℓ ↦[S 1]{fullShare} f) ∗ (∃ f, ℓ ↦[S 2]{fullShare} f)) := by
  iintro ⟨%f, H⟩
  ihave H2 := (entails_of_eq ((Ring.pointsTo_blocks (Ix := Unit) (Name := ℕ) (U := UU nD τ) (Lvl := ℕ) (q := fullShare) (ℓ := ℓ) S hd hc f).trans (Ring.bigSep_fin3 _))) $$ H
  icases H2 with ⟨H0, H1, H2⟩
  isplitl [H0]; · iexists f; iexact H0
  isplitl [H1]; · iexists f; iexact H1
  iexists f; iexact H2
theorem join3 {ℓ : Loc nD τ sig} (S : Fin 3 → Finset (Idx ℓ)) (hd : ∀ s s', s ≠ s' → Disjoint (S s) (S s')) (hc : Finset.univ.biUnion S = Finset.univ) :
    (iprop((∃ f, ℓ ↦[S 0]{fullShare} f) ∗ (∃ f, ℓ ↦[S 1]{fullShare} f) ∗ (∃ f, ℓ ↦[S 2]{fullShare} f)) : sProp 𝕄) ⊢ iprop(∃ f : Buf (Elt F) ℓ, ℓ ↦{fullShare} f) := by
  iintro ⟨⟨%f0, H0⟩, ⟨%f1, H1⟩, ⟨%f2, H2⟩⟩
  iapply (Ring.pointsTo_blocks_join_exists (ℓ := ℓ) S hd hc f0)
  irw [Ring.bigSep_fin3]
  isplitl [H0]; · iexists f0; iexact H0
  isplitl [H1]; · iexists f1; iexact H1
  iexists f2; iexact H2

abbrev PB (s : Fin 3) : Finset S3x1792x512.Idx := (Rect.unit (s := S3x1792x512) ![s.val % 3, 0, 0] S1x1792x512.size (slot_inb s.val)).set
omit [FloatOps F] in
theorem PB_set (s : Fin 3) : (slB s.val).view.set = PB s := (View.set_reshape _ _).trans (View.set_slice_whole _ _)
theorem mem_PB (s : Fin 3) (y : S3x1792x512.Idx) : y ∈ PB s ↔ (y 0).val = s.val := by
  rw [Rect.mem_set_unit]
  have h0 : s.val % 3 = s.val := Nat.mod_eq_of_lt s.2
  constructor
  · intro H; have a0 : s.val % 3 ≤ (y 0).val ∧ (y 0).val < s.val % 3 + 1 := H 0; omega
  · intro H i; fin_cases i
    · show s.val % 3 ≤ (y 0).val ∧ (y 0).val < s.val % 3 + 1; omega
    · exact ⟨Nat.zero_le _, lt_of_lt_of_eq (y 1).2 (Nat.zero_add _).symm⟩
    · exact ⟨Nat.zero_le _, lt_of_lt_of_eq (y 2).2 (Nat.zero_add _).symm⟩
theorem PB_disjoint : ∀ s s' : Fin 3, s ≠ s' → Disjoint (PB s) (PB s') := by
  intro s s' hne; rw [Finset.disjoint_left]; intro y hy hy'; rw [mem_PB] at hy hy'; exact hne (Fin.ext (hy.symm.trans hy'))
theorem PB_cover : (Finset.univ : Finset (Fin 3)).biUnion PB = Finset.univ := by
  ext y; simp only [Finset.mem_biUnion, Finset.mem_univ, true_and, iff_true]; exact ⟨⟨(y 0).val, (y 0).2⟩, by rw [mem_PB]⟩
theorem PB_split (c : Dev nD) : (iprop(∃ f : Buf (Elt F) ((c : Thread nD τ).loc cc0_scratch0), ((c : Thread nD τ).loc cc0_scratch0) ↦{fullShare} f) : sProp 𝕄)
    ⊢ iprop(freeDst c (slB 0) ∗ freeDst c (slB 1) ∗ freeDst c (slB 2)) := by
  refine (split3 (ℓ := (c : Thread nD τ).loc cc0_scratch0) PB PB_disjoint PB_cover).trans ?_
  unfold freeDst
  have e (s : Fin 3) (f) : (((c : Thread nD τ).loc cc0_scratch0) ↦[PB s]{fullShare} f : sProp 𝕄) = ((slB s.val).view.loc (c : Thread nD τ) ↦[(slB s.val).view.set]{fullShare} f) :=
    congrArg (fun S => (_ ↦[S]{fullShare} f : sProp 𝕄)) (PB_set s).symm
  simp only [e]
  exact .rfl
theorem PB_join (c : Dev nD) : (iprop(freeDst c (slB 0) ∗ freeDst c (slB 1) ∗ freeDst c (slB 2)) : sProp 𝕄)
    ⊢ iprop(∃ f : Buf (Elt F) ((c : Thread nD τ).loc cc0_scratch0), ((c : Thread nD τ).loc cc0_scratch0) ↦{fullShare} f) := by
  refine BIBase.Entails.trans ?_ (join3 (ℓ := (c : Thread nD τ).loc cc0_scratch0) PB PB_disjoint PB_cover)
  unfold freeDst
  have e (s : Fin 3) (f) : (((c : Thread nD τ).loc cc0_scratch0) ↦[PB s]{fullShare} f : sProp 𝕄) = ((slB s.val).view.loc (c : Thread nD τ) ↦[(slB s.val).view.set]{fullShare} f) :=
    congrArg (fun S => (_ ↦[S]{fullShare} f : sProp 𝕄)) (PB_set s).symm
  simp only [e]
  exact .rfl

abbrev PR (s : Fin 3) : Finset S3x1792x512.Idx := (Rect.unit (s := S3x1792x512) ![s.val % 3, 0, 0] S1x1792x512.size (slot_inb s.val)).set
omit [FloatOps F] in
theorem PR_set (s : Fin 3) : (slR s.val).view.set = PR s := (View.set_reshape _ _).trans (View.set_slice_whole _ _)
theorem mem_PR (s : Fin 3) (y : S3x1792x512.Idx) : y ∈ PR s ↔ (y 0).val = s.val := by
  rw [Rect.mem_set_unit]
  have h0 : s.val % 3 = s.val := Nat.mod_eq_of_lt s.2
  constructor
  · intro H; have a0 : s.val % 3 ≤ (y 0).val ∧ (y 0).val < s.val % 3 + 1 := H 0; omega
  · intro H i; fin_cases i
    · show s.val % 3 ≤ (y 0).val ∧ (y 0).val < s.val % 3 + 1; omega
    · exact ⟨Nat.zero_le _, lt_of_lt_of_eq (y 1).2 (Nat.zero_add _).symm⟩
    · exact ⟨Nat.zero_le _, lt_of_lt_of_eq (y 2).2 (Nat.zero_add _).symm⟩
theorem PR_disjoint : ∀ s s' : Fin 3, s ≠ s' → Disjoint (PR s) (PR s') := by
  intro s s' hne; rw [Finset.disjoint_left]; intro y hy hy'; rw [mem_PR] at hy hy'; exact hne (Fin.ext (hy.symm.trans hy'))
theorem PR_cover : (Finset.univ : Finset (Fin 3)).biUnion PR = Finset.univ := by
  ext y; simp only [Finset.mem_biUnion, Finset.mem_univ, true_and, iff_true]; exact ⟨⟨(y 0).val, (y 0).2⟩, by rw [mem_PR]⟩
theorem PR_split (c : Dev nD) : (iprop(∃ f : Buf (Elt F) ((c : Thread nD τ).loc cc0_scratch1), ((c : Thread nD τ).loc cc0_scratch1) ↦{fullShare} f) : sProp 𝕄)
    ⊢ iprop(freeDst c (slR 0) ∗ freeDst c (slR 1) ∗ freeDst c (slR 2)) := by
  refine (split3 (ℓ := (c : Thread nD τ).loc cc0_scratch1) PR PR_disjoint PR_cover).trans ?_
  unfold freeDst
  have e (s : Fin 3) (f) : (((c : Thread nD τ).loc cc0_scratch1) ↦[PR s]{fullShare} f : sProp 𝕄) = ((slR s.val).view.loc (c : Thread nD τ) ↦[(slR s.val).view.set]{fullShare} f) :=
    congrArg (fun S => (_ ↦[S]{fullShare} f : sProp 𝕄)) (PR_set s).symm
  simp only [e]
  exact .rfl
theorem PR_join (c : Dev nD) : (iprop(freeDst c (slR 0) ∗ freeDst c (slR 1) ∗ freeDst c (slR 2)) : sProp 𝕄)
    ⊢ iprop(∃ f : Buf (Elt F) ((c : Thread nD τ).loc cc0_scratch1), ((c : Thread nD τ).loc cc0_scratch1) ↦{fullShare} f) := by
  refine BIBase.Entails.trans ?_ (join3 (ℓ := (c : Thread nD τ).loc cc0_scratch1) PR PR_disjoint PR_cover)
  unfold freeDst
  have e (s : Fin 3) (f) : (((c : Thread nD τ).loc cc0_scratch1) ↦[PR s]{fullShare} f : sProp 𝕄) = ((slR s.val).view.loc (c : Thread nD τ) ↦[(slR s.val).view.set]{fullShare} f) :=
    congrArg (fun S => (_ ↦[S]{fullShare} f : sProp 𝕄)) (PR_set s).symm
  simp only [e]
  exact .rfl

abbrev PS (s : Fin 3) : Finset S3x112x512.Idx := (Rect.unit (s := S3x112x512) ![s.val % 3, 0, 0] S1x112x512.size (slotS_inb s.val)).set
omit [FloatOps F] in
theorem PS_set (s : Fin 3) : (slS s.val).view.set = PS s := (View.set_reshape _ _).trans (View.set_slice_whole _ _)
theorem mem_PS (s : Fin 3) (y : S3x112x512.Idx) : y ∈ PS s ↔ (y 0).val = s.val := by
  rw [Rect.mem_set_unit]
  have h0 : s.val % 3 = s.val := Nat.mod_eq_of_lt s.2
  constructor
  · intro H; have a0 : s.val % 3 ≤ (y 0).val ∧ (y 0).val < s.val % 3 + 1 := H 0; omega
  · intro H i; fin_cases i
    · show s.val % 3 ≤ (y 0).val ∧ (y 0).val < s.val % 3 + 1; omega
    · exact ⟨Nat.zero_le _, lt_of_lt_of_eq (y 1).2 (Nat.zero_add _).symm⟩
    · exact ⟨Nat.zero_le _, lt_of_lt_of_eq (y 2).2 (Nat.zero_add _).symm⟩
theorem PS_disjoint : ∀ s s' : Fin 3, s ≠ s' → Disjoint (PS s) (PS s') := by
  intro s s' hne; rw [Finset.disjoint_left]; intro y hy hy'; rw [mem_PS] at hy hy'; exact hne (Fin.ext (hy.symm.trans hy'))
theorem PS_cover : (Finset.univ : Finset (Fin 3)).biUnion PS = Finset.univ := by
  ext y; simp only [Finset.mem_biUnion, Finset.mem_univ, true_and, iff_true]; exact ⟨⟨(y 0).val, (y 0).2⟩, by rw [mem_PS]⟩
theorem PS_split (c : Dev nD) : (iprop(∃ f : Buf (Elt F) ((c : Thread nD τ).loc cc0_scratch2), ((c : Thread nD τ).loc cc0_scratch2) ↦{fullShare} f) : sProp 𝕄)
    ⊢ iprop(freeDst c (slS 0) ∗ freeDst c (slS 1) ∗ freeDst c (slS 2)) := by
  refine (split3 (ℓ := (c : Thread nD τ).loc cc0_scratch2) PS PS_disjoint PS_cover).trans ?_
  unfold freeDst
  have e (s : Fin 3) (f) : (((c : Thread nD τ).loc cc0_scratch2) ↦[PS s]{fullShare} f : sProp 𝕄) = ((slS s.val).view.loc (c : Thread nD τ) ↦[(slS s.val).view.set]{fullShare} f) :=
    congrArg (fun S => (_ ↦[S]{fullShare} f : sProp 𝕄)) (PS_set s).symm
  simp only [e]
  exact .rfl
theorem PS_join (c : Dev nD) : (iprop(freeDst c (slS 0) ∗ freeDst c (slS 1) ∗ freeDst c (slS 2)) : sProp 𝕄)
    ⊢ iprop(∃ f : Buf (Elt F) ((c : Thread nD τ).loc cc0_scratch2), ((c : Thread nD τ).loc cc0_scratch2) ↦{fullShare} f) := by
  refine BIBase.Entails.trans ?_ (join3 (ℓ := (c : Thread nD τ).loc cc0_scratch2) PS PS_disjoint PS_cover)
  unfold freeDst
  have e (s : Fin 3) (f) : (((c : Thread nD τ).loc cc0_scratch2) ↦[PS s]{fullShare} f : sProp 𝕄) = ((slS s.val).view.loc (c : Thread nD τ) ↦[(slS s.val).view.set]{fullShare} f) :=
    congrArg (fun S => (_ ↦[S]{fullShare} f : sProp 𝕄)) (PS_set s).symm
  simp only [e]
  exact .rfl

/-- An operand whole is three read shares and the rest. -/
theorem toks (ℓ : Loc nD τ sig) (f : Buf (Elt F) ℓ) : ((ℓ ↦{fullShare} f) : sProp 𝕄)
    = iprop((ℓ ↦{Transfers.shareDrop fullShare 3} f) ∗ (ℓ ↦{shr 0} f) ∗ (ℓ ↦{shr 1} f) ∗ (ℓ ↦{shr 2} f)) := by
  have h := Transfers.pointsTo_toks (Ix := Unit) (Name := ℕ) (U := UU nD τ) (Lvl := ℕ) (Val := Elt F) (ℓ := ℓ) (S := Finset.univ) (f := f) fullShare 3
  rw [Ring.bigSep_fin3] at h
  exact Entails.antisymm h.1 h.2

abbrev osem : Fin 9 → SemLoc sig := fun
  | 0 => .dma (smB 0) | 1 => .dma (smB 1) | 2 => .dma (smB 2)
  | 3 => .dma (smS 0) | 4 => .dma (smS 1) | 5 => .dma (smS 2)
  | 6 => .dma (smR 0) | 7 => .dma (smR 1) | 8 => .dma (smR 2)
theorem ownSemFacts : Pipeline.OwnSemFacts spec0 osem := by decide

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

section Rest
variable (c : Dev nD) (BB : Buf (Elt F) ((c : Thread nD τ).loc main_arg2)) (SS : Buf (Elt F) ((c : Thread nD τ).loc main_arg3))
  (RR : Buf (Elt F) ((c : Thread nD τ).loc main_arg4))

/-- What stays behind of the operands' shares. -/
def rest : sProp 𝕄 := iprop((((c : Thread nD τ).loc main_arg2) ↦{Transfers.shareDrop fullShare 3} BB) ∗ (((c : Thread nD τ).loc main_arg3) ↦{Transfers.shareDrop fullShare 3} SS)
  ∗ (((c : Thread nD τ).loc main_arg4) ↦{Transfers.shareDrop fullShare 3} RR))

def opds : sProp 𝕄 := iprop((((c : Thread nD τ).loc main_arg2) ↦{fullShare} BB) ∗ (((c : Thread nD τ).loc main_arg3) ↦{fullShare} SS) ∗ (((c : Thread nD τ).loc main_arg4) ↦{fullShare} RR))

def frees : sProp 𝕄 := iprop((freeDst c (slB 0) ∗ freeDst c (slB 1) ∗ freeDst c (slB 2)) ∗ (freeDst c (slR 0) ∗ freeDst c (slR 1) ∗ freeDst c (slR 2))
  ∗ (freeDst c (slS 0) ∗ freeDst c (slS 1) ∗ freeDst c (slS 2)))

theorem toIdle : iprop(opds c BB SS RR ∗ frees c ∗ Pipeline.ownSems0 (Ix := Unit) (Name := ℕ) (U := UU nD τ) (Lvl := ℕ) (Val := Elt F) (τ := τ) osem c)
    ⊢ iprop(rest c BB SS RR ∗ idle c BB SS RR 0 ∗ idle c BB SS RR 1 ∗ idle c BB SS RR 2) := by
  unfold Pipeline.ownSems0 opds frees rest idle idleB idleS idleR srcAll
  rw [bigSep_fin9, toks _ BB, toks _ SS, toks _ RR]
  iintro ⟨⟨⟨DB, B0, B1, B2⟩, ⟨DS, S0, S1, S2⟩, ⟨DR, R0, R1, R2⟩⟩, ⟨⟨b0, b1, b2⟩, ⟨r0, r1, r2⟩, ⟨s0, s1, s2⟩⟩, h0, h1, h2, h3, h4, h5, h6, h7, h8⟩
  isplitl [DB DS DR]
  · isplitl [DB]; · iexact DB
    isplitl [DS] <;> iassumption
  isplitl [b0 h0 B0 s0 h3 S0 r0 h6 R0]
  · isplitl [b0 h0 B0]
    · isplitl [b0]; · iexact b0
      isplitl [h0]; · iexact h0
      iexact B0
    isplitl [s0 h3 S0]
    · isplitl [s0]; · iexact s0
      isplitl [h3]; · iexact h3
      iexact S0
    isplitl [r0]; · iexact r0
    isplitl [h6]; · iexact h6
    iexact R0
  isplitl [b1 h1 B1 s1 h4 S1 r1 h7 R1]
  · isplitl [b1 h1 B1]
    · isplitl [b1]; · iexact b1
      isplitl [h1]; · iexact h1
      iexact B1
    isplitl [s1 h4 S1]
    · isplitl [s1]; · iexact s1
      isplitl [h4]; · iexact h4
      iexact S1
    isplitl [r1]; · iexact r1
    isplitl [h7]; · iexact h7
    iexact R1
  isplitl [b2 h2 B2]
  · isplitl [b2]; · iexact b2
    isplitl [h2]; · iexact h2
    iexact B2
  isplitl [s2 h5 S2]
  · isplitl [s2]; · iexact s2
    isplitl [h5]; · iexact h5
    iexact S2
  isplitl [r2]; · iexact r2
  isplitl [h8]; · iexact h8
  iexact R2

theorem ofIdle : iprop(rest c BB SS RR ∗ idle c BB SS RR 0 ∗ idle c BB SS RR 1 ∗ idle c BB SS RR 2)
    ⊢ iprop(opds c BB SS RR ∗ frees c ∗ Pipeline.ownSems0 (Ix := Unit) (Name := ℕ) (U := UU nD τ) (Lvl := ℕ) (Val := Elt F) (τ := τ) osem c) := by
  unfold Pipeline.ownSems0 opds frees rest idle idleB idleS idleR srcAll
  rw [bigSep_fin9, toks _ BB, toks _ SS, toks _ RR]
  iintro ⟨⟨DB, DS, DR⟩, ⟨⟨b0, h0, B0⟩, ⟨s0, h3, S0⟩, ⟨r0, h6, R0⟩⟩, ⟨⟨b1, h1, B1⟩, ⟨s1, h4, S1⟩, ⟨r1, h7, R1⟩⟩, ⟨⟨b2, h2, B2⟩, ⟨s2, h5, S2⟩, ⟨r2, h8, R2⟩⟩⟩
  isplitl [DB DS DR B0 B1 B2 S0 S1 S2 R0 R1 R2]
  · isplitl [DB B0 B1 B2]
    · isplitl [DB]; · iexact DB
      isplitl [B0]; · iexact B0
      isplitl [B1]; · iexact B1
      iexact B2
    isplitl [DS S0 S1 S2]
    · isplitl [DS]; · iexact DS
      isplitl [S0]; · iexact S0
      isplitl [S1]; · iexact S1
      iexact S2
    isplitl [DR]; · iexact DR
    isplitl [R0]; · iexact R0
    isplitl [R1]; · iexact R1
    iexact R2
  isplitl [b0 b1 b2 r0 r1 r2 s0 s1 s2]
  · isplitl [b0 b1 b2]
    · isplitl [b0]; · iexact b0
      isplitl [b1]; · iexact b1
      iexact b2
    isplitl [r0 r1 r2]
    · isplitl [r0]; · iexact r0
      isplitl [r1]; · iexact r1
      iexact r2
    isplitl [s0]; · iexact s0
    isplitl [s1]; · iexact s1
    iexact s2
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  iexact h8
end Rest

end Cert.Proof.Kern

end
-- ==== Proof.Run.lean ====
/- The launch: the body's specification carried to a run of the whole program. -/
module

public import proofs.«01_k».proof.Proof.Body
public import proofs.«01_k».proof.Proof.Share
public import proofs.«01_k».proof.Proof.Gen.KernelIdeal.Points

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.ValueIdx

variable {F : FTy → Type} [FloatOps F]
local notation "𝕄" => MT nD τ sig Unit (Elt F) ℕ (UU nD τ) ℕ

open Cert.KernelIdeal.Gen
open Idealize.ShloMosaic.Pipeline (Dat Cfg Window BodyObligation cellOf)

variable (m : (ℓ : Loc nD τ sig) → Buf (Elt F) ℓ) (ρ : Dev nD → PrngReg)

/-- A buffer's contents at launch. -/
abbrev V (c : Dev nD) (b : Ref sig .tc) : Buf (Elt F) ((c : Thread nD τ).loc b) := (s₀ m ρ).mem ((c : Thread nD τ).loc b)
abbrev vB (c : Dev nD) : Buf (Elt F) ((c : Thread nD τ).loc main_arg2) := V m ρ c main_arg2
abbrev vS (c : Dev nD) : Buf (Elt F) ((c : Thread nD τ).loc main_arg3) := V m ρ c main_arg3
abbrev vR (c : Dev nD) : Buf (Elt F) ((c : Thread nD τ).loc main_arg4) := V m ρ c main_arg4

abbrev st0 (t : Fin cfg0.N) : Memref sig .tc .smem S27 .i32 := win0_0.stage (cfg0.slots t 0)
abbrev st1 (t : Fin cfg0.N) : Memref sig .tc .smem S27 .i32 := win0_1.stage (cfg0.slots t 1)
abbrev st2 (t : Fin cfg0.N) : Memref sig .tc .vmem S24x7168 .bf16 := win0_2.stage (cfg0.slots t 2)
abbrev st3 (t : Fin cfg0.N) : Memref sig .tc .vmem S24x2048 .bf16 := win0_3.stage (cfg0.slots t 3)
abbrev hst0 (t : Fin cfg0.N) : (st0 t).IsWhole := Gen.hstage0_0 0
abbrev hst1 (t : Fin cfg0.N) : (st1 t).IsWhole := Gen.hstage0_1 0
abbrev hst2 (t : Fin cfg0.N) : (st2 t).IsWhole := Gen.hstage0_2 0
abbrev hst3 (t : Fin cfg0.N) : (st3 t).IsWhole := Gen.hstage0_3 0

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Every slot word names a plane of the pool or none. -/
def PreOK : Prop := ∀ (c : Dev nD) (j), SlotOk (m ((c : Thread nD τ).loc main_arg5) j)

theorem slot_ok (h : PreOK m) (c : Dev nD) (t : Fin cfg0.N) : ∀ e < 27, SlotOk (word (F := F) (iblk m ρ c 1 t) e) := by
  intro e _
  unfold word iblk
  rw [View.read_apply]
  exact h c _

/-- The result. -/
def outAt (c : Dev nD) (t : Fin cfg0.N) : Vec F S24x2048 .bf16 :=
  yV (vB m ρ c) (vS m ρ c) (vR m ρ c) (iblk m ρ c 0 t) (iblk m ρ c 1 t) (iblk m ρ c 2 t)

/-- Between the parts of the launch: the slots at rest and the scratch buffers at anything. -/
def Φ (c : Dev nD) : sProp 𝕄 := iprop(rest c (vB m ρ c) (vS m ρ c) (vR m ρ c)
  ∗ (idle c (vB m ρ c) (vS m ρ c) (vR m ρ c) 0 ∗ idle c (vB m ρ c) (vS m ρ c) (vR m ρ c) 1 ∗ idle c (vB m ρ c) (vS m ρ c) (vR m ρ c) 2) ∗ scr (c := c))

def dats (_ : Fin 1) (c : Dev nD) : Dat τ (Elt F) Unit ℕ (UU nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => outAt m ρ c t
  Φ _ := Φ m ρ c
  q _ := fullShare
  owed _ := 0

theorem before_w0 (c : Dev nD) (t : Fin cfg0.N) (d) : (dats m ρ 0 c).before 0 t d = iblk m ρ c 0 t := by
  unfold Dat.before; rw [if_pos (fetch0_0 t)]; unfold Dat.fetched Dat.blockOf iblk; dsimp only [dats]; rfl
theorem before_w1 (c : Dev nD) (t : Fin cfg0.N) (d) : (dats m ρ 0 c).before 1 t d = iblk m ρ c 1 t := by
  unfold Dat.before; rw [if_pos (fetch0_1 t)]; unfold Dat.fetched Dat.blockOf iblk; dsimp only [dats]; rfl
theorem before_w2 (c : Dev nD) (t : Fin cfg0.N) (d) : (dats m ρ 0 c).before 2 t d = iblk m ρ c 2 t := by
  unfold Dat.before; rw [if_pos (fetch0_2 t)]; unfold Dat.fetched Dat.blockOf iblk; dsimp only [dats]; rfl
theorem after_w0 (c : Dev nD) (t : Fin cfg0.N) : (dats m ρ 0 c).after 0 t = iblk m ρ c 0 t := by dsimp only [dats]
theorem after_w1 (c : Dev nD) (t : Fin cfg0.N) : (dats m ρ 0 c).after 1 t = iblk m ρ c 1 t := by dsimp only [dats]
theorem after_w2 (c : Dev nD) (t : Fin cfg0.N) : (dats m ρ 0 c).after 2 t = iblk m ρ c 2 t := by dsimp only [dats]
theorem after_w3 (c : Dev nD) (t : Fin cfg0.N) : (dats m ρ 0 c).after 3 t = outAt m ρ c t := by dsimp only [dats]

abbrev bodyG (a0 : Memref sig .tc .smem S27 .i32) (h0 : a0.IsWhole) (a1 : Memref sig .tc .smem S27 .i32) (h1 : a1.IsWhole) (a2 : Memref sig .tc .vmem S24x7168 .bf16) (h2 : a2.IsWhole)
    (a6 : Memref sig .tc .vmem S24x2048 .bf16) (h6 : a6.IsWhole) : P F PUnit :=
  cc0_two_level_moe (F := F) a0 h0 a1 h1 a2 h2 (Memref.whole main_arg2) (Memref.isWhole_whole main_arg2) (Memref.whole main_arg3) (Memref.isWhole_whole main_arg3) (Memref.whole main_arg4) (Memref.isWhole_whole main_arg4) a6 h6 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) cc0_scratch8

theorem defs_tc : (defs₀ (F := F)) .tc cfg0.body
    = fun a => bodyG (win0_0.stage (a.2 0)) (Gen.hstage0_0 0) (win0_1.stage (a.2 1)) (Gen.hstage0_1 0) (win0_2.stage (a.2 2)) (Gen.hstage0_2 0) (win0_3.stage (a.2 3)) (Gen.hstage0_3 0) := rfl
theorem prog_eq (t : Fin cfg0.N) : (defs₀ (F := F)) .tc cfg0.body (cfg0.bodyArgs t (cfg0.slots t)) = bodyG (st0 t) (hst0 t) (st1 t) (hst1 t) (st2 t) (hst2 t) (st3 t) (hst3 t) :=
  (congrFun defs_tc _).trans rfl

set_option backward.isDefEq.respectTransparency.types false in
theorem body_obligation (h : PreOK m) (c : Dev nD) : BodyObligation (dats (F := F) m ρ 0 c) (defs₀ (F := F)) 𝒱₀ () Set.univ := fun t => by
  rw [bigSep_W0, bigSep_W0]
  dsimp only
  simp only [before_w0, before_w1, before_w2, after_w0, after_w1, after_w2, after_w3]
  rw [show (dats m ρ 0 c).Φ t.castSucc = Φ m ρ c from rfl, show (dats m ρ 0 c).Φ t.succ = Φ m ρ c from rfl]
  unfold Dat.owesAt Pipeline.owesWithin
  rw [show (dats m ρ 0 c).owed t.castSucc = 0 from rfl, show (dats m ρ 0 c).owed t.succ = 0 from rfl]
  unfold owns Φ
  iintro ⟨⟨HR, HI, HS⟩, ⟨%W, -, HW⟩, ⟨%d0, %g0, %hg0, H0⟩, ⟨%d1, %g1, %hg1, H1⟩, ⟨%d2, %g2, %hg2, H2⟩, ⟨%d3, %g3, -, H3⟩⟩
  sl_rw [prog_eq t]
  iapply (wp_wand_r _ _ _)
  isplitl [H0 H1 H2 H3 HI HS HW]
  · iapply (body_spec (vB m ρ c) (vS m ρ c) (vR m ρ c) (iblk m ρ c 0 t) (iblk m ρ c 1 t) (iblk m ρ c 2 t) (hst0 t) (hst1 t) (hst2 t) (hst3 t) g0 g1 g2 hg0 hg1 hg2 (slot_ok m ρ h c t) g3)
    isplitl [H0]; · iexact H0
    isplitl [H1]; · iexact H1
    isplitl [H2]; · iexact H2
    isplitl [H3]; · iexact H3
    isplitl [HS]; · iexact HS
    isplitl [HI]; · iexact HI
    iexists W; iexact HW
  · iintro %u ⟨H0, H1, H2, ⟨%o', %ho, H3⟩, HS, HI, ⟨%W', HW⟩⟩
    isplitl [HR HS HI]
    · isplitl [HR]; · iexact HR
      isplitl [HI]; · iexact HI
      iexact HS
    isplitl [HW]
    · iexists W'; isplitr; · ipureintro; exact fun _ _ => Or.inl trivial
      iexact HW
    isplitl [H0]
    · iexists _; isplitr; · ipureintro; exact hg0
      iexact H0
    isplitl [H1]
    · iexists _; isplitr; · ipureintro; exact hg1
      iexact H1
    isplitl [H2]
    · iexists _; isplitr; · ipureintro; exact hg2
      iexact H2
    iexists o'; isplitr; · ipureintro; exact ho
    iexact H3

/-! ## The run -/

def intoΦ (c : Dev nD) : sProp 𝕄 := iprop(opds c (vB m ρ c) (vS m ρ c) (vR m ρ c) ∗ Pipeline.ownSems0 osem c)
def outOfΦ (c : Dev nD) : sProp 𝕄 := opds c (vB m ρ c) (vS m ρ c) (vR m ρ c)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m ρ 0 c).arrAt w cfg0.N
def QY (c : Dev nD) (s : MemSt nD τ sig (Elt F)) : Prop := s.mem ((c : Thread nD τ).loc main_arg2) = m ((c : Thread nD τ).loc main_arg2)
  ∧ s.mem ((c : Thread nD τ).loc main_arg3) = m ((c : Thread nD τ).loc main_arg3) ∧ s.mem ((c : Thread nD τ).loc main_arg4) = m ((c : Thread nD τ).loc main_arg4)
def QC : PUnit × MemSt nD τ sig (Elt F) → Prop := fun r =>
  ∀ c : Dev nD, (∀ w : Fin cfg0.W, r.2.mem ((cfg0.win w).arr.view.loc (c : Thread nD τ)) = finalA m ρ c w) ∧ QY m c r.2

theorem scr_of (c : Dev nD) : iprop((∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)) ⊣⊢ (scr (c := c) : sProp 𝕄) := by
  have e6 : T6.view.set = Finset.univ := View.set_whole _
  have e7 : T7.view.set = Finset.univ := View.set_whole _
  unfold scr
  rw [e6, e7]
  constructor
  · iintro ⟨H3, H4, H5, H6, H7⟩
    isplitl [H6]; · iexact H6
    isplitl [H7]; · iexact H7
    isplitl [H3]; · iexact H3
    isplitl [H4]; · iexact H4
    iexact H5
  · iintro ⟨H6, H7, H3, H4, H5⟩
    isplitl [H3]; · iexact H3
    isplitl [H4]; · iexact H4
    isplitl [H5]; · iexact H5
    isplitl [H6]; · iexact H6
    iexact H7

theorem scr_eq (c : Dev nD) : iprop((∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)) = (scr (c := c) : sProp 𝕄) := Entails.antisymm (scr_of c).1 (scr_of c).2

set_option backward.isDefEq.respectTransparency.types false in
theorem run_main (h : PreOK m) : θ_run defs (onTc (τ := τ) (main (F := F))) (s₀ m ρ) (fun r => QC m ρ r ∧ r.2.sem = fun _ => 0) :=
  Pipeline.θ_run_region_kit_quiescent cfgs (dats m ρ) () (0 : Fin 1) launch0 ownSemFacts EP defs₀ 𝒱₀ m ρ main
    (hbody := fun c => (body_obligation m ρ h c).loose) (hshare := fun c => (dats m ρ 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m ρ) (Y := outOfΦ m ρ) (Z := fun _ => iprop(emp))
    (hX := fun c => by
      rw [unscopedRest0_eq]
      unfold intoΦ opds
      iintro ⟨⟨H2, H3, H4⟩, HS, -, -, -⟩; imodintro
      isplitl [H2 H3 H4 HS]
      · isplitl [H2 H3 H4]
        · isplitl [H2]; · iexact H2
          isplitl [H3]; · iexact H3
          iexact H4
        iexact HS
      iempintro)
    (hin := fun c => by
      rw [scopedRest0_eq, show (dats m ρ 0 c).Φ 0 = Φ m ρ c from rfl]
      unfold intoΦ Φ
      rw [← scr_eq]
      iintro ⟨⟨HO, HS⟩, H0, H1, H2, H3, H4, H5, H6, H7⟩
      ihave H0 := (PB_split c) $$ H0
      ihave H1 := (PR_split c) $$ H1
      ihave H2 := (PS_split c) $$ H2
      ihave HI := (toIdle c (vB m ρ c) (vS m ρ c) (vR m ρ c)) $$ [HO HS H0 H1 H2]
      · isplitl [HO]; · iexact HO
        unfold frees
        isplitl [H0 H1 H2]
        · isplitl [H0]; · iexact H0
          isplitl [H1]; · iexact H1
          iexact H2
        iexact HS
      icases HI with ⟨HR, HI⟩
      isplitl [HR]; · iexact HR
      isplitl [HI]; · iexact HI
      isplitl [H3]; · iexact H3
      isplitl [H4]; · iexact H4
      isplitl [H5]; · iexact H5
      isplitl [H6]; · iexact H6
      iexact H7)
    (hout := fun c => by
      rw [scopedRest0_eq, show (dats m ρ 0 c).Φ (Fin.last cfg0.N) = Φ m ρ c from rfl]
      unfold outOfΦ Φ
      rw [← scr_eq]
      iintro ⟨HR, HI, H3, H4, H5, H6, H7⟩
      ihave HA := (ofIdle c (vB m ρ c) (vS m ρ c) (vR m ρ c)) $$ [HR HI]
      · isplitl [HR]; · iexact HR
        iexact HI
      unfold frees
      icases HA with ⟨HO, ⟨H0, H1, H2⟩, HS⟩
      isplitl [HO]; · iexact HO
      isplitl [HS]; · iexact HS
      isplitl [H0]; · iapply (PB_join c); iexact H0
      isplitl [H1]; · iapply (PR_join c); iexact H1
      isplitl [H2]; · iapply (PS_join c); iexact H2
      isplitl [H3]; · iexact H3
      isplitl [H4]; · iexact H4
      isplitl [H5]; · iexact H5
      isplitl [H6]; · iexact H6
      iexact H7)
    (QY := QY m)
    (hY := fun c s' => by
      unfold outOfΦ opds
      iintro ⟨⟨H2, H3, H4⟩, -, HSI⟩
      icombine HSI H2 gives %h2
      icombine HSI H3 gives %h3
      icombine HSI H4 gives %h4
      imodintro
      isplitr; · ipureintro; exact ⟨Buf.eq_of_forall_mem_univ h2, Buf.eq_of_forall_mem_univ h3, Buf.eq_of_forall_mem_univ h4⟩
      iexact HSI)
    (hQ := fun _ hh hz => ⟨hh, hz⟩)

theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The run: the arguments are kept, the result is the output window's final array, and every counter is zero. -/
theorem run_frame (h : PreOK m) : θ_run defs (onTc (τ := τ) (main (F := F))) (s₀ m ρ) (fun r => (∀ c : Dev nD,
      r.2.mem ((c : Thread nD τ).loc main_v0) = finalA m ρ c 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun _ hh => ⟨fun c => ⟨(hh.1 c).1 3, ((hh.1 c).1 2).trans (finalA_in m ρ c 2 rfl), ((hh.1 c).1 0).trans (finalA_in m ρ c 0 rfl),
    (hh.1 c).2.1, (hh.1 c).2.2.1, (hh.1 c).2.2.2, ((hh.1 c).1 1).trans (finalA_in m ρ c 1 rfl)⟩, hh.2⟩) (run_main m ρ h)

end Cert.Proof.Kern

end
-- ==== Proof.Frames.lean ====
/-
  The frames of the kernel and of its idealization: no fault, every argument unchanged, every semaphore counter zero.
-/
module

public import proofs.«01_k».proof.Defs
public import proofs.«01_k».proof.Proof.Run
public import Idealize.ShloMosaic.Lib.Tactic

@[expose] public section

noncomputable section

namespace Cert.Proof

open Idealize.ShloMosaic Idealize.SL.Sem Idealize.ShloMosaic.Tactic Idealize.ShloMosaic.TcCoe

/-- The side condition of the first predicate. -/
instance slotsFacts : Cert.Pre_slots_fit.Facts := ⟨by decide⟩
/-- The side condition of the second predicate. -/
instance groupsFacts : Cert.Pre_groups_fit.Facts := ⟨by decide⟩

/-- A slot word that is at most 16 as a signed number names a plane of the pool or none. -/
theorem slotOk_of_le (v : BitVec 32) (h : v.toInt ≤ 16) : Kern.SlotOk v := by
  intro h3
  have h0 := (Kern.cond3_iff v).1 h3
  have := BitVec.toInt_eq_toNat_cond v
  split at this <;> omega

/-- The predicate `slots_fit` bounds every slot word. -/
theorem slots_le {F : FTy → Type} [FloatOps F] (x g b s r) (t : IVec Cert.Pre_slots_fit.S27 32) (h : Cert.Pre_slots_fit.fn (F := F) x g b s r t = fun _ => 1#1) (j) : (t j).toInt ≤ 16 := by
  have hj := congrFun h j
  have h2 : (t j).sle 16#32 = true := by
    by_contra hc
    have : (Cert.Pre_slots_fit.fn (F := F) x g b s r t) j = BitVec.ofBool ((t j).sle 16#32) := rfl
    rw [this] at hj
    simp [hc] at hj
  simpa [BitVec.sle_iff_toInt_le] using h2

/-- Three bits whose conjunction is one are each one. -/
theorem and3 {a b c : Bool} (h : (BitVec.ofBool a &&& BitVec.ofBool b) &&& BitVec.ofBool c = 1#1) : (a = true ∧ b = true) ∧ c = true := by
  revert h; revert a b c; decide

/-- The predicate `groups_fit` bounds every slot word and every group size. -/
theorem groups_le {F : FTy → Type} [FloatOps F] (x) (g : IVec Cert.Pre_groups_fit.S27 32) (b s r) (t : IVec Cert.Pre_groups_fit.S27 32) (h : Cert.Pre_groups_fit.fn (F := F) x g b s r t = fun _ => 1#1) (j) :
    (t j).toInt ≤ 16 ∧ 0 ≤ (g j).toInt ∧ (g j).toInt ≤ 24 := by
  have hj := congrFun h j
  have e : (Cert.Pre_groups_fit.fn (F := F) x g b s r t) j = (BitVec.ofBool ((t j).sle 16#32) &&& BitVec.ofBool ((0#32).sle (g j))) &&& BitVec.ofBool ((g j).sle 24#32) := rfl
  rw [e] at hj
  obtain ⟨⟨k1, k2⟩, k3⟩ := and3 hj
  rw [BitVec.sle_iff_toInt_le] at k1 k2 k3
  exact ⟨by simpa using k1, by simpa using k2, by simpa using k3⟩

/-- The kernel's precondition, said of the idealized text read at the machine's floats. -/
def PreB [hPre_slots_fit : Cert.Pre_slots_fit.Facts] (m : (ℓ : Loc Cert.KernelIdeal.nD Cert.KernelIdeal.τ Cert.KernelIdeal.sig) → Buf (Elt Bits) ℓ) : Prop :=
  ∀ c : Dev Cert.KernelIdeal.nD,
    (Cert.Pre_slots_fit.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

/-- The kernel's frame, said of the idealized text read at the machine's floats. -/
def QB [hKernelIdeal : Cert.KernelIdeal.Facts] [hPre_slots_fit : Cert.Pre_slots_fit.Facts] : Prop :=
  ∀ (m : (ℓ : Loc Cert.KernelIdeal.nD Cert.KernelIdeal.τ Cert.KernelIdeal.sig) → Buf (Elt Bits) ℓ) (g : Dev Cert.KernelIdeal.nD → PrngReg), PreB m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The kernel's frame is the same proposition. -/
theorem quiescent_eq [hk : Cert.Kernel.Facts] [hki : Cert.KernelIdeal.Facts] [hPre_slots_fit : Cert.Pre_slots_fit.Facts] :
    Cert.quiescent_Kernel = QB := by sl_kernel_rfl

/-- The frame of the kernel. -/
theorem frame_kernel [hk : Cert.Kernel.Facts] : Cert.quiescent_Kernel := by
  rw [quiescent_eq]
  intro m g hpre
  refine (θ_run _ _ _).mono ?_ (Kern.run_frame m g fun c j => slotOk_of_le _ (slots_le _ _ _ _ _ _ (hpre c) j))
  exact fun r hr => ⟨fun c => (hr.1 c).2, hr.2⟩

/-- The frame of the idealized kernel, where every slot fits. -/
theorem frame_ideal : Cert.quiescent_KernelIdeal := by
  intro m g hpre
  refine (θ_run _ _ _).mono ?_ (Kern.run_frame m g fun c j => slotOk_of_le _ (slots_le _ _ _ _ _ _ (hpre c) j))
  exact fun r hr => ⟨fun c => (hr.1 c).2, hr.2⟩

/-- The frame of the idealized kernel, where slots and groups fit. -/
theorem frame_ideal_groups : Cert.quiescent_KernelIdeal_pre_groups_fit := by
  intro m g hpre
  refine (θ_run _ _ _).mono ?_ (Kern.run_frame m g fun c j => slotOk_of_le _ (groups_le _ _ _ _ _ _ (hpre c) j).1)
  exact fun r hr => ⟨fun c => (hr.1 c).2, hr.2⟩

end Cert.Proof

end
-- ==== Proof.Ref.lean ====
/-
  The frame of the reference.
-/
module

public import proofs.«01_k».proof.Defs
public import proofs.«01_k».proof.Proof.Gen.ReferenceIdeal
public import Idealize.ShloMosaic.Lib.Claim
public import Idealize.ShloMosaic.Lib.Tactic

@[expose] public section

noncomputable section

namespace Cert.Proof

open Idealize.ShloMosaic Idealize.SL.Sem Idealize.ShloMosaic.Tactic Idealize.ShloMosaic.TcCoe

open Cert.ReferenceIdeal in
/-- The reference runs, and its arguments are kept. -/
theorem ref_args (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) := by
  hlo_run

/-- The frame of the reference. -/
theorem frame_ref : Cert.quiescent_ReferenceIdeal := by
  intro m g hpre
  exact (θ_run _ _ _).mono (fun r h => ⟨h, sem_eq_zero_of_no_sems (sig := Cert.ReferenceIdeal.sig) (by decide) r.2⟩) (ref_args m g)

/-- The same under the predicate. -/
theorem frame_ref_groups [Cert.Pre_groups_fit.Facts] : Cert.quiescent_ReferenceIdeal_pre_groups_fit := fun m g _ => frame_ref m g trivial

end Cert.Proof

end
-- ==== Proof.Nib.lean ====
/- The bits of a word's nibbles. -/
module

public import proofs.«01_k».proof.KernelIdeal
public import Mathlib.Tactic.IntervalCases
public import Mathlib.Tactic.Ring

@[expose] public section

namespace Cert.Proof.Kern

/-- Field `t` of a byte: two bits. -/
def fld (v : BitVec 8) (t : ℕ) : ℕ := v.toNat / 4 ^ t % 4

/-- A field by its two bits. -/
theorem fld_bits : ∀ (v : BitVec 8) (t : Fin 4), fld v t.val = 2 * (v.getLsbD (2 * t.val + 1)).toNat + (v.getLsbD (2 * t.val)).toNat := by decide +kernel

/-- A field as the reference extracts it. -/
theorem fld_ref : ∀ (v : BitVec 8) (t : Fin 4), (((v.setWidth 32).sshiftRight (2 * t.val)) &&& 3#32).toInt = (fld v t.val : ℤ) := by decide +kernel

/-- The bits of a number's last hexadecimal digit. -/
theorem nat_bits (n : ℕ) : n % 16 = 8 * (n.testBit 3).toNat + 4 * (n.testBit 2).toNat + 2 * (n.testBit 1).toNat + (n.testBit 0).toNat := by
  have h (i : ℕ) : (n.testBit i).toNat = n / 2 ^ i % 2 := by
    rw [Nat.testBit_eq_decide_div_mod_eq]
    rcases Nat.mod_two_eq_zero_or_one (n / 2 ^ i) with e | e <;> simp [e]
  rw [h, h, h, h]
  omega

/-- Nibble `k` of a word. -/
def nibN (w : BitVec 32) (k : ℕ) : ℕ := 8 * (w.getLsbD (4 * k + 3)).toNat + 4 * (w.getLsbD (4 * k + 2)).toNat + 2 * (w.getLsbD (4 * k + 1)).toNat + (w.getLsbD (4 * k)).toNat

theorem nibN_eq (w : BitVec 32) (k : ℕ) : nibN w k = w.toNat / 2 ^ (4 * k) % 16 := by
  rw [nat_bits (w.toNat / 2 ^ (4 * k))]
  simp only [Nat.testBit_div_two_pow]
  unfold nibN
  simp only [BitVec.getLsbD]
  rw [Nat.add_comm 3, Nat.add_comm 2, Nat.add_comm 1, Nat.add_comm 0]
  rfl

/-- An unsigned nibble's value. -/
theorem nib_unsigned (w : BitVec 32) (k : ℕ) (hk : k < 8) : ((w >>> (4 * k)) &&& 15#32).toInt = (nibN w k : ℤ) := by
  have e : ((w >>> (4 * k)) &&& 15#32).toNat = nibN w k := by
    rw [nibN_eq, BitVec.toNat_and, BitVec.toNat_ushiftRight, Nat.shiftRight_eq_div_pow]
    exact Nat.and_two_pow_sub_one_eq_mod _ 4
  have l : nibN w k < 16 := by rw [nibN_eq]; omega
  rw [BitVec.toInt_eq_toNat_cond, e]
  split <;> omega

/-- A signed nibble's value. -/
theorem nib_signed (w : BitVec 32) (k : ℕ) (hk : k < 8) : ((w <<< (28 - 4 * k)).sshiftRight 28).toInt = (if nibN w k < 8 then (nibN w k : ℤ) else (nibN w k : ℤ) - 16) := by
  rw [nibN_eq, BitVec.toInt_sshiftRight, Int.shiftRight_eq_div_pow, BitVec.toInt_eq_toNat_cond, BitVec.toNat_shiftLeft, Nat.shiftLeft_eq]
  have hw := w.isLt
  interval_cases k <;> norm_num <;> split <;> split <;> omega

theorem bit_3 : ∀ i : Fin 32, (858993459#32).getLsbD i.val = decide (i.val % 4 < 2) := by decide +kernel
theorem bit_C : ∀ i : Fin 32, (3435973836#32).getLsbD i.val = decide (2 ≤ i.val % 4) := by decide +kernel
theorem bit_A : ∀ i : Fin 32, (2863311530#32).getLsbD i.val = decide (i.val % 2 = 1) := by decide +kernel

theorem bit_3' (i : ℕ) (h : i < 32) : (858993459#32).getLsbD i = decide (i % 4 < 2) := bit_3 ⟨i, h⟩
theorem bit_C' (i : ℕ) (h : i < 32) : (3435973836#32).getLsbD i = decide (2 ≤ i % 4) := bit_C ⟨i, h⟩
theorem bit_A' (i : ℕ) (h : i < 32) : (2863311530#32).getLsbD i = decide (i % 2 = 1) := bit_A ⟨i, h⟩

/-- The words of the four decodings. -/
def swapB (b r : BitVec 32) : BitVec 32 := ((r >>> 2) ^^^ b) &&& 858993459#32
def oddB (b r : BitVec 32) : BitVec 32 := b ^^^ swapB b r
def evenB (b r : BitVec 32) : BitVec 32 := r ^^^ (swapB b r <<< 2)
def oddN (b : BitVec 32) : BitVec 32 := (b &&& 3435973836#32) ^^^ 2863311530#32
def evenN (b : BitVec 32) : BitVec 32 := ((b <<< 2) &&& 3435973836#32) ^^^ 2863311530#32

theorem evenB_nib (b r : BitVec 32) (k : ℕ) (hk : k < 8) : nibN (evenB b r) k =
    4 * (2 * (b.getLsbD (4 * k + 1)).toNat + (b.getLsbD (4 * k)).toNat) + (2 * (r.getLsbD (4 * k + 1)).toNat + (r.getLsbD (4 * k)).toNat) := by
  unfold nibN evenB swapB
  interval_cases k <;> simp [bit_3'] <;> ring

theorem xor_back (p q : Bool) : (p ^^ (q ^^ p)) = q := by cases p <;> cases q <;> rfl

theorem oddB_nib (b r : BitVec 32) (k : ℕ) (hk : k < 8) : nibN (oddB b r) k =
    4 * (2 * (b.getLsbD (4 * k + 3)).toNat + (b.getLsbD (4 * k + 2)).toNat) + (2 * (r.getLsbD (4 * k + 3)).toNat + (r.getLsbD (4 * k + 2)).toNat) := by
  unfold nibN oddB swapB
  interval_cases k <;> simp [bit_3', xor_back] <;> ring

theorem sgn_bits (p q : Bool) : (if 8 * (!p).toNat + 4 * q.toNat + 2 * true.toNat + false.toNat < 8 then ((8 * (!p).toNat + 4 * q.toNat + 2 * true.toNat + false.toNat : ℕ) : ℤ)
    else ((8 * (!p).toNat + 4 * q.toNat + 2 * true.toNat + false.toNat : ℕ) : ℤ) - 16) = 4 * ((2 * p.toNat + q.toNat : ℕ) : ℤ) - 6 := by
  cases p <;> cases q <;> decide

theorem evenN_nib (b : BitVec 32) (k : ℕ) (hk : k < 8) : (if nibN (evenN b) k < 8 then (nibN (evenN b) k : ℤ) else (nibN (evenN b) k : ℤ) - 16) =
    4 * ((2 * (b.getLsbD (4 * k + 1)).toNat + (b.getLsbD (4 * k)).toNat : ℕ) : ℤ) - 6 := by
  have e : nibN (evenN b) k = 8 * (!(b.getLsbD (4 * k + 1))).toNat + 4 * (b.getLsbD (4 * k)).toNat + 2 * true.toNat + false.toNat := by
    unfold nibN evenN
    interval_cases k <;> simp [bit_C', bit_A']
  rw [e]
  exact sgn_bits _ _

theorem oddN_nib (b : BitVec 32) (k : ℕ) (hk : k < 8) : (if nibN (oddN b) k < 8 then (nibN (oddN b) k : ℤ) else (nibN (oddN b) k : ℤ) - 16) =
    4 * ((2 * (b.getLsbD (4 * k + 3)).toNat + (b.getLsbD (4 * k + 2)).toNat : ℕ) : ℤ) - 6 := by
  have e : nibN (oddN b) k = 8 * (!(b.getLsbD (4 * k + 3))).toNat + 4 * (b.getLsbD (4 * k + 2)).toNat + 2 * true.toNat + false.toNat := by
    unfold nibN oddN
    interval_cases k <;> simp [bit_C', bit_A']
  rw [e]
  exact sgn_bits _ _

end Cert.Proof.Kern

end
-- ==== Proof.Tile.lean ====
/- A decoded tile, entry by entry. -/
module

public import proofs.«01_k».proof.Proof.Nib
public import proofs.«01_k».proof.Proof.Data
public import Idealize.ShloMosaic.Lib.Pointwise
public import Idealize.ShloMosaic.Lib.BitcastFour
public import Idealize.ShloMosaic.Lib.IdealHost

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

open Cert.KernelIdeal.Gen

theorem shrui_ok (w : BitVec 32) : ∀ k : Fin 8, IntOp.shrui .vector w (IntOp.muli (4#32) (BitVec.ofNat 32 k.val)) = w >>> (4 * k.val) := by
  intro k; fin_cases k <;> rfl
theorem shl_ok (w : BitVec 32) : ∀ k : Fin 8, IntOp.shrsi .vector (IntOp.shli .vector w (IntOp.subi (28#32) (IntOp.muli (4#32) (BitVec.ofNat 32 k.val)))) 28#32 = (w <<< (28 - 4 * k.val)).sshiftRight 28 := by
  intro k; fin_cases k <;> rfl

theorem bits_75 : Ideal.ofBits .bf16 0x40F0#16 = ((7.5 : ℝ) : EReal) := by
  simp [Ideal.ofBits, Ideal.ieee, -EReal.coe_mul]; norm_num
theorem bits_15 : Ideal.ofBits .bf16 0x3FC0#16 = ((1.5 : ℝ) : EReal) := by
  simp [Ideal.ofBits, Ideal.ieee, -EReal.coe_mul]; norm_num
theorem bits_4 : Ideal.ofBits .bf16 0x4080#16 = ((4 : ℝ) : EReal) := by
  simp [Ideal.ofBits, Ideal.ieee, -EReal.coe_mul]; norm_num

theorem nibC_at (w : IVec S16x512 32) (n : Fin 512) (j : Fin 128) :
    nibC (F := Ideal) w (ix2 j n) = (((nibN (w (ix2 ⟨j.val / 8, by omega⟩ n)) (j.val % 8) : ℕ) - 7.5 : ℝ) : EReal) := by
  pointwise [nibC]
  have e := shrui_ok (w (ix2 ⟨j.val / 8, by omega⟩ n)) ⟨j.val % 8, by omega⟩
  refine (congrArg₂ (· - ·) (congrArg (fun z : BitVec 32 => ((z.toInt : ℝ) : EReal)) ((congrArg (fun z => IntOp.andi z 15#32) e).trans rfl)) bits_75).trans ?_
  show (((((w (ix2 ⟨j.val / 8, _⟩ n)) >>> (4 * (j.val % 8))) &&& 15#32).toInt : ℝ) : EReal) - _ = _
  rw [nib_unsigned _ _ (by omega)]
  rw [← EReal.coe_sub]
  norm_num

theorem nibU_at (w : IVec S16x512 32) (n : Fin 512) (j : Fin 128) (z : ℤ)
    (hz : (if nibN (w (ix2 ⟨j.val / 8, by omega⟩ n)) (j.val % 8) < 8 then (nibN (w (ix2 ⟨j.val / 8, by omega⟩ n)) (j.val % 8) : ℤ) else (nibN (w (ix2 ⟨j.val / 8, by omega⟩ n)) (j.val % 8) : ℤ) - 16) = z) :
    nibU (F := Ideal) w (ix2 j n) = ((z : ℝ) : EReal) := by
  pointwise [nibU]
  have e := shl_ok (w (ix2 ⟨j.val / 8, by omega⟩ n)) ⟨j.val % 8, by omega⟩
  refine (congrArg (fun z : BitVec 32 => ((z.toInt : ℝ) : EReal)) e).trans ?_
  show (((((w (ix2 ⟨j.val / 8, _⟩ n)) <<< (28 - 4 * (j.val % 8))).sshiftRight 28).toInt : ℝ) : EReal) = _
  rw [nib_signed _ _ (by omega), hz]

theorem four_at (s : Vec Ideal S8x512 .f32) (x : EReal) (i : Fin 32) (n : Fin 512) (h : ∀ a : Fin 8, s (ix2 a n) = x) : four (F := Ideal) s (ix2 i n) = x := by
  pointwise [four]
  simp only [h, ite_self, dite_eq_ite]

/-- The even rows come first, then the odd rows; each run of 32 has its own step. -/
theorem tileV_at (ev od : FVec Ideal S128x512 .bf16) (S : Vec Ideal S112x512 .f32) (t : ℕ) (ht : t < 28) (j : Fin 256) (n : Fin 512) :
    scaledV (F := Ideal) S t ht ev od (ix2 j n) = (if j.val < 128 then ev (ix2 ⟨j.val % 128, Nat.mod_lt _ (by decide)⟩ n) else od (ix2 ⟨j.val % 128, Nat.mod_lt _ (by decide)⟩ n))
      * S (ix2 ⟨4 * t + j.val % 128 / 32, by omega⟩ n) := by
  pointwise [scaledV, tileV]
  have st (g : ℕ) (hg : g < 112) (i : Fin 32) : four (F := Ideal) (stepRow S g hg) (ix2 i n) = S (ix2 ⟨g, hg⟩ n) := four_at _ _ _ _ fun a => rfl
  simp only [st]
  have hj := j.isLt
  repeat' split
  all_goals first | (exfalso; omega) | (congr 4 <;> omega) | skip

theorem words_at (b : Vec Ideal S1x64x512 .i8) (i : Fin 16) (n : Fin 512) (q : ℕ) (hq : q < 32) :
    (words (F := Ideal) b (ix2 i n)).getLsbD q = (b (ix3 0 ⟨4 * i.val + q / 8, by omega⟩ n)).getLsbD (q % 8) := by
  unfold words
  refine (bitcast_8_32_getLsbD_ix2 _ _ i n q hq ⟨4 * i.val + q / 8, by omega⟩ rfl).trans ?_
  pointwise

theorem gather_at (h : FVec Ideal S256x256 .bf16) (x : Vec Ideal S24x256 .bf16) (r : Fin 24) (j : Fin 256) :
    gather (F := Ideal) h x (ix2 r j) = ∑ k, x (ix2 r k) * h (ix2 k j) := by
  pointwise [gather]

theorem eq_flag (a b : BitVec 32) : BitVec.toInt (BitVec.setWidth 32 (IntOp.cmpi .eq a b)) = if a = b then 1 else 0 := by
  by_cases h : a = b
  · subst h
    rw [if_pos rfl]
    simp [IntOp.cmpi]
  · rw [if_neg h]
    have e : (a == b) = false := by simpa using h
    simp [IntOp.cmpi, e]

theorem hot_key : ∀ j : Fin 256, (IntOp.addi (IntOp.muli (2#32) (IntOp.andi (BitVec.ofNat 32 j.val) 127#32))
            (Scalar.select
              (IntOp.andi
                (IntOp.cmpi CmpIPredicate.ne
                  (IntOp.subi (BitVec.setWidth 32 (IntOp.cmpi CmpIPredicate.sgt (BitVec.ofNat 32 j.val) 0#32))
                    (BitVec.setWidth 32 (IntOp.cmpi CmpIPredicate.slt (BitVec.ofNat 32 j.val) 0#32)))
                  (Scalar.subi (Scalar.extui (Scalar.cmpi CmpIPredicate.sgt 128#32 0#32))
                    (Scalar.extui (Scalar.cmpi CmpIPredicate.slt 128#32 0#32))))
                (IntOp.cmpi CmpIPredicate.ne (IntOp.remsi ArithUnit.vector (BitVec.ofNat 32 j.val) 128#32) 0#32))
              (IntOp.subi (IntOp.divsi ArithUnit.vector (BitVec.ofNat 32 j.val) 128#32) 1#32)
              (IntOp.divsi ArithUnit.vector (BitVec.ofNat 32 j.val) 128#32)))
    = BitVec.ofNat 32 (2 * (j.val % 128) + j.val / 128) := by decide +kernel

theorem hotV_at (k j : Fin 256) :
    hotV (F := Ideal) (ix2 k j) = if k.val = 2 * (j.val % 128) + j.val / 128 then 1 else 0 := by
  pointwise [hotV, permParts]
  refine (congrArg (fun z : BitVec 32 => ((BitVec.toInt (BitVec.setWidth 32 (IntOp.cmpi .eq (BitVec.ofNat 32 k.val) z)) : ℝ) : EReal)) (hot_key j)).trans ?_
  show ((BitVec.toInt (BitVec.setWidth 32 (IntOp.cmpi .eq (BitVec.ofNat 32 k.val) (BitVec.ofNat 32 (2 * (j.val % 128) + j.val / 128)))) : ℝ) : EReal) = _
  rw [eq_flag]
  have hk := k.isLt
  have hj := j.isLt
  have e : (BitVec.ofNat 32 k.val = BitVec.ofNat 32 (2 * (j.val % 128) + j.val / 128)) ↔ k.val = 2 * (j.val % 128) + j.val / 128 := by
    constructor
    · intro h
      have := congrArg BitVec.toNat h
      simp only [BitVec.toNat_ofNat] at this
      omega
    · intro h; rw [h]
  simp only [e]
  split <;> simp

/-! ## The weight of a column -/

/-- The number of column `c` that row `j` of tile `t` holds. -/
def tcol (t : ℕ) (ht : t < 28) (j : Fin 256) : Fin 7168 := ⟨256 * t + (2 * (j.val % 128) + j.val / 128), by omega⟩

variable (B R : Vec Ideal S1792x512 .i8) (S : Vec Ideal S112x512 .f32)

/-- A cached expert's weight at column `c`. -/
def colC (c : Fin 7168) (n : Fin 512) : EReal :=
  (((4 * fld (B (ix2 ⟨c.val / 4, by omega⟩ n)) (c.val % 4) + fld (R (ix2 ⟨c.val / 4, by omega⟩ n)) (c.val % 4) : ℕ) - 7.5 : ℝ) : EReal) * S (ix2 ⟨c.val / 64, by omega⟩ n)
/-- The weight of an expert with no residual plane, at column `c`. -/
def colU (c : Fin 7168) (n : Fin 512) : EReal :=
  (((4 * fld (B (ix2 ⟨c.val / 4, by omega⟩ n)) (c.val % 4) : ℕ) + 1.5 - 7.5 : ℝ) : EReal) * S (ix2 ⟨c.val / 64, by omega⟩ n)

/-- A nibble's bits are those of a packed row. -/
theorem byte_bits (t : ℕ) (ht : t < 28) (j : Fin 128) (n : Fin 512) (q : ℕ) (hq : q < 4) :
    (words (F := Ideal) (tileOf B t ht) (ix2 ⟨j.val / 8, by omega⟩ n)).getLsbD (4 * (j.val % 8) + q)
      = (B (ix2 ⟨64 * t + j.val / 2, by omega⟩ n)).getLsbD (4 * (j.val % 2) + q) := by
  refine (words_at _ _ _ _ (by omega)).trans ?_
  refine congrArg₂ (fun (x : Fin 1792) (y : ℕ) => (B (ix2 x n)).getLsbD y) (Fin.ext ?_) ?_
  · show 64 * t + (4 * (j.val / 8) + (4 * (j.val % 8) + q) / 8) = 64 * t + j.val / 2
    omega
  · show (4 * (j.val % 8) + q) % 8 = 4 * (j.val % 2) + q
    omega

theorem fld_even (v : BitVec 8) (j : ℕ) : fld v (2 * (j % 2)) = 2 * (v.getLsbD (4 * (j % 2) + 1)).toNat + (v.getLsbD (4 * (j % 2) + 0)).toNat := by
  refine (fld_bits v ⟨2 * (j % 2), by omega⟩).trans ?_
  show 2 * (v.getLsbD (2 * (2 * (j % 2)) + 1)).toNat + (v.getLsbD (2 * (2 * (j % 2)))).toNat = _
  rw [show 2 * (2 * (j % 2)) = 4 * (j % 2) by omega]
  rfl
theorem fld_odd (v : BitVec 8) (j : ℕ) : fld v (2 * (j % 2) + 1) = 2 * (v.getLsbD (4 * (j % 2) + 3)).toNat + (v.getLsbD (4 * (j % 2) + 2)).toNat := by
  refine (fld_bits v ⟨2 * (j % 2) + 1, by omega⟩).trans ?_
  show 2 * (v.getLsbD (2 * (2 * (j % 2) + 1) + 1)).toNat + (v.getLsbD (2 * (2 * (j % 2) + 1))).toNat = _
  rw [show 2 * (2 * (j % 2) + 1) = 4 * (j % 2) + 2 by omega]

theorem evenC_at (t : ℕ) (ht : t < 28) (j : Fin 128) (n : Fin 512) :
    nibN (evenC (words (F := Ideal) (tileOf B t ht)) (words (F := Ideal) (tileOf R t ht)) (ix2 ⟨j.val / 8, by omega⟩ n)) (j.val % 8)
      = 4 * fld (B (ix2 ⟨64 * t + j.val / 2, by omega⟩ n)) (2 * (j.val % 2)) + fld (R (ix2 ⟨64 * t + j.val / 2, by omega⟩ n)) (2 * (j.val % 2)) := by
  refine (evenB_nib (words (F := Ideal) (tileOf B t ht) (ix2 ⟨j.val / 8, by omega⟩ n)) (words (F := Ideal) (tileOf R t ht) (ix2 ⟨j.val / 8, by omega⟩ n)) (j.val % 8) (by omega)).trans ?_
  rw [fld_even, fld_even, ← byte_bits B t ht j n 1 (by omega), ← byte_bits B t ht j n 0 (by omega), ← byte_bits R t ht j n 1 (by omega), ← byte_bits R t ht j n 0 (by omega)]
  rfl

theorem oddC_at (t : ℕ) (ht : t < 28) (j : Fin 128) (n : Fin 512) :
    nibN (oddC (words (F := Ideal) (tileOf B t ht)) (words (F := Ideal) (tileOf R t ht)) (ix2 ⟨j.val / 8, by omega⟩ n)) (j.val % 8)
      = 4 * fld (B (ix2 ⟨64 * t + j.val / 2, by omega⟩ n)) (2 * (j.val % 2) + 1) + fld (R (ix2 ⟨64 * t + j.val / 2, by omega⟩ n)) (2 * (j.val % 2) + 1) := by
  refine (oddB_nib (words (F := Ideal) (tileOf B t ht) (ix2 ⟨j.val / 8, by omega⟩ n)) (words (F := Ideal) (tileOf R t ht) (ix2 ⟨j.val / 8, by omega⟩ n)) (j.val % 8) (by omega)).trans ?_
  rw [fld_odd, fld_odd, ← byte_bits B t ht j n 3 (by omega), ← byte_bits B t ht j n 2 (by omega), ← byte_bits R t ht j n 3 (by omega), ← byte_bits R t ht j n 2 (by omega)]

theorem evenU_at (t : ℕ) (ht : t < 28) (j : Fin 128) (n : Fin 512) :
    nibU (F := Ideal) (evenU (words (F := Ideal) (tileOf B t ht))) (ix2 j n) = (((4 * ((fld (B (ix2 ⟨64 * t + j.val / 2, by omega⟩ n)) (2 * (j.val % 2)) : ℕ) : ℤ) - 6 : ℤ) : ℝ) : EReal) := by
  refine nibU_at _ n j _ ?_
  refine (evenN_nib (words (F := Ideal) (tileOf B t ht) (ix2 ⟨j.val / 8, by omega⟩ n)) (j.val % 8) (by omega)).trans ?_
  rw [fld_even, ← byte_bits B t ht j n 1 (by omega), ← byte_bits B t ht j n 0 (by omega)]
  rfl

theorem oddU_at (t : ℕ) (ht : t < 28) (j : Fin 128) (n : Fin 512) :
    nibU (F := Ideal) (oddU (words (F := Ideal) (tileOf B t ht))) (ix2 j n) = (((4 * ((fld (B (ix2 ⟨64 * t + j.val / 2, by omega⟩ n)) (2 * (j.val % 2) + 1) : ℕ) : ℤ) - 6 : ℤ) : ℝ) : EReal) := by
  refine nibU_at _ n j _ ?_
  refine (oddN_nib (words (F := Ideal) (tileOf B t ht) (ix2 ⟨j.val / 8, by omega⟩ n)) (j.val % 8) (by omega)).trans ?_
  rw [fld_odd, ← byte_bits B t ht j n 3 (by omega), ← byte_bits B t ht j n 2 (by omega)]

/-- The column's packed row, field and step. -/
theorem tcol_at (t : ℕ) (ht : t < 28) (j : Fin 256) : (tcol t ht j).val / 4 = 64 * t + j.val % 128 / 2 ∧ (tcol t ht j).val % 4 = 2 * (j.val % 128 % 2) + j.val / 128
    ∧ (tcol t ht j).val / 64 = 4 * t + j.val % 128 / 32 := by
  have hj := j.isLt
  unfold tcol
  dsimp only
  omega

theorem tileCV_at (t : ℕ) (ht : t < 28) (j : Fin 256) (n : Fin 512) : tileCV (F := Ideal) B R S t ht (ix2 j n) = colC B R S (tcol t ht j) n := by
  obtain ⟨e1, e2, e3⟩ := tcol_at t ht j
  have hj := j.isLt
  unfold tileCV colC
  rw [tileV_at]
  have r1 : (⟨(tcol t ht j).val / 4, by omega⟩ : Fin 1792) = ⟨64 * t + j.val % 128 / 2, by omega⟩ := Fin.ext e1
  have r3 : (⟨(tcol t ht j).val / 64, by omega⟩ : Fin 112) = ⟨4 * t + j.val % 128 / 32, by omega⟩ := Fin.ext e3
  rw [r1, r3, e2]
  refine congrArg (· * _) ?_
  split
  · rename_i h
    rw [nibC_at, show j.val / 128 = 0 by omega]
    exact congrArg (fun z : ℕ => (((z : ℝ) - 7.5 : ℝ) : EReal)) (evenC_at B R t ht ⟨j.val % 128, Nat.mod_lt _ (by decide)⟩ n)
  · rename_i h
    rw [nibC_at, show j.val / 128 = 1 by omega]
    exact congrArg (fun z : ℕ => (((z : ℝ) - 7.5 : ℝ) : EReal)) (oddC_at B R t ht ⟨j.val % 128, Nat.mod_lt _ (by decide)⟩ n)

theorem real_u (f : ℕ) : (((4 * ((f : ℕ) : ℤ) - 6 : ℤ) : ℝ) : EReal) = (((4 * f : ℕ) + 1.5 - 7.5 : ℝ) : EReal) := by
  congr 1
  push_cast
  norm_num
  ring

theorem tileUV_at (t : ℕ) (ht : t < 28) (j : Fin 256) (n : Fin 512) : tileUV (F := Ideal) B S t ht (ix2 j n) = colU B S (tcol t ht j) n := by
  obtain ⟨e1, e2, e3⟩ := tcol_at t ht j
  have hj := j.isLt
  unfold tileUV colU
  rw [tileV_at]
  have r1 : (⟨(tcol t ht j).val / 4, by omega⟩ : Fin 1792) = ⟨64 * t + j.val % 128 / 2, by omega⟩ := Fin.ext e1
  have r3 : (⟨(tcol t ht j).val / 64, by omega⟩ : Fin 112) = ⟨4 * t + j.val % 128 / 32, by omega⟩ := Fin.ext e3
  rw [r1, r3, e2]
  refine congrArg (· * _) ?_
  split
  · rename_i h
    rw [show j.val / 128 = 0 by omega]
    exact (evenU_at B t ht ⟨j.val % 128, Nat.mod_lt _ (by decide)⟩ n).trans (real_u _)
  · rename_i h
    rw [show j.val / 128 = 1 by omega]
    exact (oddU_at B t ht ⟨j.val % 128, Nat.mod_lt _ (by decide)⟩ n).trans (real_u _)

end Cert.Proof.Kern
end
-- ==== Proof.Grp.lean ====
/- Consecutive groups of rows. -/
module

public import proofs.«01_k».proof.Proof.Nib
public import Idealize.ShloMosaic.Lib.Pointwise
public import Idealize.ShloMosaic.Lib.StableHlo.Predicate

@[expose] public section

noncomputable section

namespace Cert.Proof.Kern

open Idealize.ShloMosaic

/-- The shape of the tables. -/
local notation "T27" => (⟨1, ![27]⟩ : Shape)

variable (G : IVec T27 32)

/-- The rows of group `i`. -/
def gsz (i : ℕ) : ℕ := (G (ix1 ⟨i % 27, Nat.mod_lt _ (by decide)⟩)).toNat
/-- The rows before group `e`. -/
def gst (e : ℕ) : ℕ := ∑ i ∈ Finset.range e, gsz G i
/-- Row `r` belongs to group `e`. -/
def inGrp (e r : ℕ) : Prop := gst G e ≤ r ∧ r < gst G e + gsz G e

theorem gst_succ (e : ℕ) : gst G (e + 1) = gst G e + gsz G e := Finset.sum_range_succ _ _

theorem gst_mono {a b : ℕ} (h : a ≤ b) : gst G a ≤ gst G b := Finset.sum_le_sum_of_subset (Finset.range_mono h)

/-- A row belongs to one group at most. -/
theorem inGrp_unique {e e' r : ℕ} (h : inGrp G e r) (h' : inGrp G e' r) : e = e' := by
  unfold inGrp at h h'
  rcases lt_trichotomy e e' with l | l | l
  · have := gst_mono G (Nat.succ_le_of_lt l)
    rw [Nat.succ_eq_add_one, gst_succ] at this
    omega
  · exact l
  · have := gst_mono G (Nat.succ_le_of_lt l)
    rw [Nat.succ_eq_add_one, gst_succ] at this
    omega

/-- Every size is between 0 and 24. -/
def Fits : Prop := ∀ j : Fin 27, 0 ≤ (G (ix1 j)).toInt ∧ (G (ix1 j)).toInt ≤ 24

theorem toNat_of_small (v : BitVec 32) (h0 : 0 ≤ v.toInt) (h1 : v.toInt ≤ 24) : v.toNat ≤ 24 ∧ v.toInt = v.toNat := by
  rw [BitVec.toInt_eq_toNat_cond] at *
  split at h0 <;> rename_i hc <;> (try rw [if_pos hc] at *) <;> (try rw [if_neg hc] at *) <;> omega

variable {G} (hG : Fits G)
include hG

theorem gsz_le (i : ℕ) : gsz G i ≤ 24 := (toNat_of_small _ (hG _).1 (hG _).2).1

theorem gst_le (e : ℕ) : gst G e ≤ 24 * e := by
  induction e with
  | zero => exact le_rfl
  | succ e ih => rw [gst_succ]; have := gsz_le hG e; omega

/-- The running sum as the masked row sum. -/
theorem masked_sum (e : Fin 27) : (Finset.fold IntOp.addi (0#32) (fun x : Fin 27 => Scalar.select (IntOp.cmpi .slt (BitVec.ofNat 32 x.val) (BitVec.ofNat 32 e.val)) (G (ix1 x)) 0#32) Finset.univ).toNat = gst G e.val := by
  have term (x : Fin 27) : (Scalar.select (IntOp.cmpi .slt (BitVec.ofNat 32 x.val) (BitVec.ofNat 32 e.val)) (G (ix1 x)) 0#32).toNat = if x.val < e.val then gsz G x.val else 0 := by
    have lt_flag : ∀ a b : Fin 27, IntOp.cmpi .slt (BitVec.ofNat 32 a.val) (BitVec.ofNat 32 b.val) = BitVec.ofBool (decide (a.val < b.val)) := by decide +kernel
    have ge : (G (ix1 x)).toNat = gsz G x.val := by
      unfold gsz
      exact congrArg (fun y : Fin 27 => (G (ix1 y)).toNat) (Fin.ext (Nat.mod_eq_of_lt x.isLt).symm)
    rw [lt_flag]
    by_cases h : x.val < e.val
    · rw [if_pos h, decide_eq_true h]; exact ge
    · rw [if_neg h, decide_eq_false h]; rfl
  have sum : ∑ x : Fin 27, (Scalar.select (IntOp.cmpi .slt (BitVec.ofNat 32 x.val) (BitVec.ofNat 32 e.val)) (G (ix1 x)) 0#32).toNat = gst G e.val := by
    rw [Finset.sum_congr rfl (fun x _ => term x), Fin.sum_univ_eq_sum_range (fun i => if i < e.val then gsz G i else 0) 27, ← Finset.sum_filter]
    unfold gst
    refine Finset.sum_congr (Finset.ext fun i => ?_) fun _ _ => rfl
    have := e.isLt
    simp only [Finset.mem_filter, Finset.mem_range]
    omega
  rw [StableHlo.Predicate.toNat_fold_addi _ _ (by rw [sum]; have := gst_le hG e.val; have := e.isLt; omega), sum]

/-- The two comparisons that put a row into a group. -/
theorem member_flag (s g : BitVec 32) (e : ℕ) (he : e ≤ 27) (hs : s.toNat = gst G e) (hg : g.toNat = gsz G e) (r : ℕ) (hr : r < 24) :
    (IntOp.andi (IntOp.cmpi .sge (BitVec.ofNat 32 r) s) (IntOp.cmpi .slt (BitVec.ofNat 32 r) (IntOp.addi s g)) = 1#1) ↔ inGrp G e r := by
  have h1 := gst_le hG e
  have h2 := gsz_le hG e
  have hi (v : BitVec 32) (h : v.toNat < 2000) : v.toInt = v.toNat := by rw [BitVec.toInt_eq_toNat_cond]; split <;> omega
  have hrn : (BitVec.ofNat 32 r).toNat = r := by rw [BitVec.toNat_ofNat]; omega
  have ha : (s + g).toNat = gst G e + gsz G e := by rw [BitVec.toNat_add, hs, hg]; omega
  have hand (a b : Bool) : (IntOp.andi (BitVec.ofBool a) (BitVec.ofBool b) = 1#1) ↔ (a = true ∧ b = true) := by revert a b; decide
  refine (hand (s.sle (BitVec.ofNat 32 r)) ((BitVec.ofNat 32 r).slt (s + g))).trans ?_
  rw [BitVec.sle_iff_toInt_le, BitVec.slt_iff_toInt_lt, hi _ (by omega), hi _ (by omega), hi (s + g) (by omega), hrn, ha, hs]
  unfold inGrp
  omega

end Cert.Proof.Kern
end
-- ==== Proof.RefVal.lean ====
/- The reference's result, entry by entry. -/
module

public import proofs.«01_k».proof.Proof.Tile
public import proofs.«01_k».proof.Proof.Grp
public import proofs.«01_k».proof.Proof.Gen.ReferenceIdeal.Run
public import Idealize.ShloMosaic.Lib.Pointwise
public import Idealize.ShloMosaic.Lib.IdealHost

@[expose] public section

noncomputable section

namespace Cert.Proof.RefVal

open Cert.Proof.Kern (fld fld_ref gsz gst inGrp Fits masked_sum member_flag bits_75 bits_15 bits_4)
open Cert.ReferenceIdeal Cert.ReferenceIdeal.Gen Cert.ReferenceIdeal.Value
open Idealize.ShloMosaic Idealize.ShloMosaic.TcCoe Idealize.SL.Sem Idealize.ShloMosaic.StableHlo

instance : Std.Commutative (IntOp.addi (w := 32)) := ⟨fun a b => BitVec.add_comm a b⟩
instance : Std.Associative (IntOp.addi (w := 32)) := ⟨fun a b c => BitVec.add_assoc a b c⟩

variable (V0 : Valuation τ sig (Elt Ideal))

/-- The six arguments. -/
abbrev aX : FVec Ideal S24x7168 .bf16 := V0 (Proc.devRef .tc main_arg0)
abbrev aG : IVec S27 32 := V0 (Proc.devRef .tc main_arg1)
abbrev aB : IVec S27x1792x2048 8 := V0 (Proc.devRef .tc main_arg2)
abbrev aS : FVec Ideal S27x112x2048 .f32 := V0 (Proc.devRef .tc main_arg3)
abbrev aR : IVec S17x1792x2048 8 := V0 (Proc.devRef .tc main_arg4)
abbrev aT : IVec S27 32 := V0 (Proc.devRef .tc main_arg5)

/-- One contraction: over the groups and the packed rows. -/
theorem dot_at (X : FVec Ideal S27x24x1792 .bf16) (W : FVec Ideal S27x1792x2048 .bf16) (r : Fin 24) (n : Fin 2048) :
    (Host.dotGeneral dot_S27x24x1792_S27x1792x2048_S24x2048_02_01_1_2_n_n none X W : FVec Ideal S24x2048 .f32) (ix2 r n) = (∑ e : Fin 27, ∑ p : Fin 1792, X (ix3 e r p) * W (ix3 e p n) : EReal) := by
  pointwise

theorem red_at (G : IVec S27 32) (e : Fin 27) :
    Host.reduce IntOp.addi (select (cmpi .slt (iotaInDim S27x27 32 1) (iotaInDim S27x27 32 0)) (broadcastInDim S27x27 ![0, 1] bcast_S1x27_S27x27_0_1 (broadcastInDim S1x27 ![1] bcast_S27_S1x27_1 G)) (broadcastInDim S27x27 ![] bcast_S_S27x27 (id (constantI S_ 32 0#32)))) (constantI S_ 32 0#32) reducesTo_S27x27_S27_d1 h_S_ (ix1 e)
      = Finset.fold IntOp.addi (0#32) (fun x : Fin 27 => Scalar.select (IntOp.cmpi .slt (BitVec.ofNat 32 x.val) (BitVec.ofNat 32 e.val)) (G (ix1 x)) 0#32) Finset.univ := by
  pointwise
  rfl

theorem v22_at (e : Fin 27) : (res_main_v22 V0 : IVec S27x1 32) (ix2 e 0) = Finset.fold IntOp.addi (0#32) (fun x : Fin 27 => Scalar.select (IntOp.cmpi .slt (BitVec.ofNat 32 x.val) (BitVec.ofNat 32 e.val)) (aG V0 (ix1 x)) 0#32) Finset.univ := by
  pointwise [res_main_v22]
  exact red_at (aG V0) e

/-- The mask of the rows of a group. -/
theorem v30_at (hG : Fits (aG V0)) (e : Fin 27) (r : Fin 24) : ((res_main_v30 V0 : IVec S27x24 1) (ix2 e r) = 1#1) ↔ inGrp (aG V0) e.val r.val := by
  have h : (res_main_v30 V0 : IVec S27x24 1) (ix2 e r) = IntOp.andi (IntOp.cmpi .sge (BitVec.ofNat 32 r.val) ((res_main_v22 V0 : IVec S27x1 32) (ix2 e 0)))
      (IntOp.cmpi .slt (BitVec.ofNat 32 r.val) (IntOp.addi ((res_main_v22 V0 : IVec S27x1 32) (ix2 e 0)) (aG V0 (ix1 e)))) := by
    pointwise [res_main_v30, res_main_v23]
  rw [h]
  refine member_flag hG _ _ e.val (by omega) ?_ ?_ r.val r.isLt
  · rw [v22_at]; exact masked_sum hG e
  · unfold gsz
    exact congrArg (fun y : Fin 27 => (aG V0 (ix1 y)).toNat) (Fin.ext (Nat.mod_eq_of_lt e.isLt).symm)

theorem gather_at (P : IVec S17x1792x2048 8) (idx : IVec S27x1 32) (e : Fin 27) (p : Fin 1792) (n : Fin 2048) :
    Host.gather gather_S17x1792x2048_S27x1_S27x1792x2048_12_0_n_n_0_1_117922048 P idx (ix3 e p n)
      = P (ix3 ⟨min (idx (ix2 e 0)).toInt.toNat 16, by omega⟩ p n) := by
  unfold Host.gather
  refine congrArg P (funext fun a => Fin.ext ?_)
  match a with
  | ⟨0, _⟩ =>
    show GatherDims.start _ (ix3 e p n) idx 0 + GatherDims.batchCoord _ (ix3 e p n) 0 + GatherDims.offCoord _ (ix3 e p n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S17x1792x2048_S27x1_S27x1792x2048_12_0_n_n_0_1_117922048.startIndexMap from List.mem_singleton.mpr rfl)]
    have hsi : GatherDims.siIdx gather_S17x1792x2048_S27x1_S27x1792x2048_12_0_n_n_0_1_117922048 (ix3 e p n) ⟨List.idxOf (0 : Fin 3) gather_S17x1792x2048_S27x1_S27x1792x2048_12_0_n_n_0_1_117922048.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start _ (ix3 e p n) idx 1 + GatherDims.batchCoord _ (ix3 e p n) 1 + GatherDims.offCoord _ (ix3 e p n) 1 = p.val
    rw [GatherDims.batchCoord_eq_zero _ _ _ List.not_mem_nil, Nat.add_zero]
    unfold GatherDims.start GatherDims.offCoord
    rw [dif_neg (by decide), dif_pos (by decide), Nat.zero_add]
    rfl
  | ⟨2, _⟩ =>
    show GatherDims.start _ (ix3 e p n) idx 2 + GatherDims.batchCoord _ (ix3 e p n) 2 + GatherDims.offCoord _ (ix3 e p n) 2 = n.val
    rw [GatherDims.batchCoord_eq_zero _ _ _ List.not_mem_nil, Nat.add_zero]
    unfold GatherDims.start GatherDims.offCoord
    rw [dif_neg (by decide), dif_pos (by decide), Nat.zero_add]
    rfl

/-- A slot word read signed, negative ones as zero. -/
theorem slot_word (v : BitVec 32) : (Scalar.select (IntOp.cmpi .slt (IntOp.maxsi v 0#32) 0#32) (IntOp.addi (IntOp.maxsi v 0#32) 17#32) (IntOp.maxsi v 0#32)).toInt.toNat = v.toInt.toNat := by
  have hm : (IntOp.maxsi v 0#32).toInt = max v.toInt 0 := by
    unfold IntOp.maxsi
    split
    · rename_i h
      rw [BitVec.slt_iff_toInt_lt] at h
      simp at h ⊢
      omega
    · rename_i h
      rw [BitVec.slt_iff_toInt_lt] at h
      simp at h ⊢
      omega
  have hc : IntOp.cmpi .slt (IntOp.maxsi v 0#32) 0#32 = 0#1 := by
    have : (IntOp.maxsi v 0#32).slt 0#32 = false := by
      rw [Bool.eq_false_iff]
      intro h
      rw [BitVec.slt_iff_toInt_lt, hm] at h
      simp at h
    show BitVec.ofBool _ = _
    rw [this]
    rfl
  rw [hc]
  show (IntOp.maxsi v 0#32).toInt.toNat = _
  rw [hm]
  omega

/-- The residual plane of group `e`. -/
def plane (e : Fin 27) : Fin 17 := ⟨min (aT V0 (ix1 e)).toInt.toNat 16, by omega⟩

theorem v11_at (e : Fin 27) (p : Fin 1792) (n : Fin 2048) : (res_main_v11 V0 : IVec S27x1792x2048 8) (ix3 e p n) = aR V0 (ix3 (plane V0 e) p n) := by
  refine (gather_at (aR V0) _ e p n).trans ?_
  refine congrArg (fun k : Fin 17 => aR V0 (ix3 k p n)) (Fin.ext ?_)
  refine congrArg (fun z : ℕ => min z 16) (Eq.trans ?_ (slot_word (aT V0 (ix1 e))))
  refine congrArg (fun z : BitVec 32 => z.toInt.toNat) ?_
  pointwise [res_main_v4]

theorem v15_at (e : Fin 27) (p : Fin 112) (n : Fin 2048) : (res_main_v15 V0 : FVec Ideal S27x112x1x2048 .bf16) (ix4 e p 0 n) = (aS V0 (ix3 e p n) * Ideal.ofBits .bf16 0x3E80#16 : EReal) := by
  pointwise [res_main_v15]

theorem v2_at (e : Fin 27) : (res_main_v2 V0 : IVec S27x1x1 1) (ix3 e 0 0) = BitVec.ofBool (decide (0 ≤ (aT V0 (ix1 e)).toInt)) := by
  have h : (res_main_v2 V0 : IVec S27x1x1 1) (ix3 e 0 0) = IntOp.cmpi .sge (aT V0 (ix1 e)) 0#32 := by
    pointwise [res_main_v2]
  rw [h]
  show BitVec.ofBool ((0#32).sle (aT V0 (ix1 e))) = _
  congr 1

/-- The weights of one field, as the reference makes them. -/
def wRef (sh : BitVec 32) : FVec Ideal S27x1792x2048 .bf16 :=
  shapeCast _ (mulf (shapeCast _ (subf (addf (mulf (broadcastInDim S27x1792x2048 ![] bcast_S_S27x1792x2048 (constant S_ .bf16 0x4080#16)) (sitofp .bf16 (andi (Host.shrsi (extui 32 (V0 (Proc.devRef .tc main_arg2)) natLt_8_32) (broadcastInDim S27x1792x2048 ![] bcast_S_S27x1792x2048 (constantI S_ 32 sh))) (broadcastInDim S27x1792x2048 ![] bcast_S_S27x1792x2048 (constantI S_ 32 3#32))))) (select (broadcastInDim S27x1792x2048 ![0, 1, 2] bcast_S27x1x1_S27x1792x2048_0_1_2 (res_main_v2 V0)) (sitofp .bf16 (andi (Host.shrsi (extui 32 (res_main_v11 V0) natLt_8_32) (broadcastInDim S27x1792x2048 ![] bcast_S_S27x1792x2048 (constantI S_ 32 sh))) (broadcastInDim S27x1792x2048 ![] bcast_S_S27x1792x2048 (constantI S_ 32 3#32)))) (broadcastInDim S27x1792x2048 ![] bcast_S_S27x1792x2048 (constant S_ .bf16 0x3FC0#16)))) (broadcastInDim S27x1792x2048 ![] bcast_S_S27x1792x2048 (constant S_ .bf16 0x40F0#16))) shapeCasts_S27x1792x2048_S27x112x16x2048) (broadcastInDim S27x112x16x2048 ![0, 1, 2, 3] bcast_S27x112x1x2048_S27x112x16x2048_0_1_2_3 (res_main_v15 V0))) shapeCasts_S27x112x16x2048_S27x1792x2048

/-- The decoded number at column `c`, less 7.5. -/
def qv (e : Fin 27) (c : Fin 7168) (n : Fin 2048) : ℝ :=
  if 0 ≤ (aT V0 (ix1 e)).toInt then (4 * fld (aB V0 (ix3 e ⟨c.val / 4, by omega⟩ n)) (c.val % 4) + fld (aR V0 (ix3 (plane V0 e) ⟨c.val / 4, by omega⟩ n)) (c.val % 4) : ℕ) - 7.5
  else (4 * fld (aB V0 (ix3 e ⟨c.val / 4, by omega⟩ n)) (c.val % 4) : ℕ) + 1.5 - 7.5
/-- The weight at column `c`. -/
def wcol (e : Fin 27) (c : Fin 7168) (n : Fin 2048) : EReal :=
  (qv V0 e c n : EReal) * (aS V0 (ix3 e ⟨c.val / 64, by omega⟩ n) * Ideal.ofBits .bf16 0x3E80#16)

theorem fld_host (v : BitVec 8) (t : Fin 4) : ((IntOp.andi (IntOp.shrsi .host (BitVec.setWidth 32 v) (BitVec.ofNat 32 (2 * t.val))) 3#32).toInt : ℤ) = fld v t.val := by
  rw [← fld_ref]
  fin_cases t <;> rfl

theorem wRef_at (t : Fin 4) (e : Fin 27) (p : Fin 1792) (n : Fin 2048) : wRef V0 (BitVec.ofNat 32 (2 * t.val)) (ix3 e p n) = wcol V0 e ⟨4 * p.val + t.val, by omega⟩ n := by
  have h : wRef V0 (BitVec.ofNat 32 (2 * t.val)) (ix3 e p n) = (Ideal.ofBits .bf16 0x4080#16 * (((IntOp.andi (IntOp.shrsi .host (BitVec.setWidth 32 (aB V0 (ix3 e p n))) (BitVec.ofNat 32 (2 * t.val))) 3#32).toInt : ℝ) : EReal)
      + Scalar.select ((res_main_v2 V0 : IVec S27x1x1 1) (ix3 e 0 0)) (((IntOp.andi (IntOp.shrsi .host (BitVec.setWidth 32 ((res_main_v11 V0 : IVec S27x1792x2048 8) (ix3 e p n))) (BitVec.ofNat 32 (2 * t.val))) 3#32).toInt : ℝ) : EReal) (Ideal.ofBits .bf16 0x3FC0#16)
      - Ideal.ofBits .bf16 0x40F0#16) * (res_main_v15 V0 : FVec Ideal S27x112x1x2048 .bf16) (ix4 e ⟨p.val / 16, by omega⟩ 0 n) := by
    pointwise [wRef]
    rfl
  rw [h, v2_at, v11_at, v15_at, fld_host, fld_host, bits_4, bits_15, bits_75]
  unfold wcol qv
  have e1 : (⟨(4 * p.val + t.val) / 4, by omega⟩ : Fin 1792) = p := Fin.ext (by show (4 * p.val + t.val) / 4 = p.val; omega)
  have e2 : (4 * p.val + t.val) % 4 = t.val := by omega
  have e3 : (⟨(4 * p.val + t.val) / 64, by omega⟩ : Fin 112) = ⟨p.val / 16, by omega⟩ := Fin.ext (by show (4 * p.val + t.val) / 64 = p.val / 16; omega)
  dsimp only
  rw [e1, e2, e3]
  refine congrArg (· * _) ?_
  by_cases hs : 0 ≤ (aT V0 (ix1 e)).toInt
  · rw [if_pos hs, decide_eq_true hs]
    show (((4 : ℝ) : EReal) * (((fld (aB V0 (ix3 e p n)) t.val : ℤ) : ℝ) : EReal) + (((fld (aR V0 (ix3 (plane V0 e) p n)) t.val : ℤ) : ℝ) : EReal)) - ((7.5 : ℝ) : EReal) = _
    rw [← EReal.coe_mul, ← EReal.coe_add, ← EReal.coe_sub]
    congr 1
    push_cast
    ring
  · rw [if_neg hs, decide_eq_false hs]
    show (((4 : ℝ) : EReal) * (((fld (aB V0 (ix3 e p n)) t.val : ℤ) : ℝ) : EReal) + ((1.5 : ℝ) : EReal)) - ((7.5 : ℝ) : EReal) = _
    rw [← EReal.coe_mul, ← EReal.coe_add, ← EReal.coe_sub]
    congr 1
    push_cast
    ring

/-- The tokens of one field, on the rows of each group. -/
def xRef (off : Fin 2 → ℕ) (h : S24x7168.SlicesBy off ![1, 4] S24x1792) : FVec Ideal S27x24x1792 .bf16 :=
  select (broadcastInDim S27x24x1792 ![0, 1, 2] bcast_S27x24x1_S27x24x1792_0_1_2 (broadcastInDim S27x24x1 ![0, 1] bcast_S27x24_S27x24x1_0_1 (res_main_v30 V0))) (broadcastInDim S27x24x1792 ![0, 1, 2] bcast_S1x24x1792_S27x24x1792_0_1_2 (broadcastInDim S1x24x1792 ![1, 2] bcast_S24x1792_S1x24x1792_1_2 (Host.slice S24x1792 off ![1, 4] (V0 (Proc.devRef .tc main_arg0)) h))) (broadcastInDim S27x24x1792 ![] bcast_S_S27x24x1792 (constant S_ .bf16 0x0000#16))

open Classical in
theorem xRef_at (hG : Fits (aG V0)) (t : ℕ) (ht : t < 4) (h : S24x7168.SlicesBy ![0, t] ![1, 4] S24x1792) (e : Fin 27) (r : Fin 24) (p : Fin 1792) :
    xRef V0 _ h (ix3 e r p) = if inGrp (aG V0) e.val r.val then aX V0 (ix2 r ⟨4 * p.val + t, by omega⟩) else 0 := by
  have hx : xRef V0 _ h (ix3 e r p) = Scalar.select ((res_main_v30 V0 : IVec S27x24 1) (ix2 e r)) (aX V0 (ix2 r ⟨4 * p.val + t, by omega⟩)) 0 := by
    pointwise [xRef]
    refine congrArg (fun z => Scalar.select _ z _) (congrArg (aX V0) (funext fun a => Fin.ext ?_))
    fin_cases a
    · rfl
    · show t + 4 * p.val = 4 * p.val + t
      omega
  rw [hx]
  by_cases hm : inGrp (aG V0) e.val r.val
  · rw [if_pos hm, (v30_at V0 hG e r).2 hm]; rfl
  · rw [if_neg hm]
    have : (res_main_v30 V0 : IVec S27x24 1) (ix2 e r) ≠ 1#1 := fun h1 => hm ((v30_at V0 hG e r).1 h1)
    exact if_neg this

open Classical in
/-- One field's contribution. -/
theorem dotRef_at (hG : Fits (aG V0)) (t : Fin 4) (h : S24x7168.SlicesBy ![0, t.val] ![1, 4] S24x1792) (r : Fin 24) (n : Fin 2048) :
    (Host.dotGeneral dot_S27x24x1792_S27x1792x2048_S24x2048_02_01_1_2_n_n none (xRef V0 _ h) (wRef V0 (BitVec.ofNat 32 (2 * t.val))) : FVec Ideal S24x2048 .f32) (ix2 r n)
      = (∑ e : Fin 27, if inGrp (aG V0) e.val r.val then ∑ p : Fin 1792, aX V0 (ix2 r ⟨4 * p.val + t.val, by omega⟩) * wcol V0 e ⟨4 * p.val + t.val, by omega⟩ n else 0 : EReal) := by
  rw [dot_at]
  refine Finset.sum_congr rfl fun e _ => ?_
  by_cases hm : inGrp (aG V0) e.val r.val
  · rw [if_pos hm]
    refine Finset.sum_congr rfl fun p _ => ?_
    rw [xRef_at V0 hG t.val t.isLt, if_pos hm, wRef_at]
  · rw [if_neg hm]
    refine Finset.sum_eq_zero fun p _ => ?_
    rw [xRef_at V0 hG t.val t.isLt, if_neg hm, zero_mul]

/-- What the reference returns. -/
def refY : FVec Ideal S24x2048 .bf16 :=
  truncf .bf16 (addf (addf (addf
    (Host.dotGeneral dot_S27x24x1792_S27x1792x2048_S24x2048_02_01_1_2_n_n none (xRef V0 ![0, 0] slicesBy_S24x7168_S24x1792_0s1_0s4) (wRef V0 0#32))
    (Host.dotGeneral dot_S27x24x1792_S27x1792x2048_S24x2048_02_01_1_2_n_n none (xRef V0 ![0, 1] slicesBy_S24x7168_S24x1792_0s1_1s4) (wRef V0 2#32)))
    (Host.dotGeneral dot_S27x24x1792_S27x1792x2048_S24x2048_02_01_1_2_n_n none (xRef V0 ![0, 2] slicesBy_S24x7168_S24x1792_0s1_2s4) (wRef V0 4#32)))
    (Host.dotGeneral dot_S27x24x1792_S27x1792x2048_S24x2048_02_01_1_2_n_n none (xRef V0 ![0, 3] slicesBy_S24x7168_S24x1792_0s1_3s4) (wRef V0 6#32))) bitsLt_bf16_f32

/-- A sum over the columns, field by field. -/
theorem sum_fields (f : Fin 7168 → EReal) : ∑ c : Fin 7168, f c = ∑ t : Fin 4, ∑ p : Fin 1792, f ⟨4 * p.val + t.val, by omega⟩ := by
  rw [Fin.sum_univ_tiles 1792 4 rfl, Finset.sum_comm]
  refine Finset.sum_congr rfl fun t _ => Finset.sum_congr rfl fun p _ => congrArg f (Fin.ext ?_)
  show p.val * 4 + t.val = 4 * p.val + t.val
  omega

open Classical in
/-- The reference's result: each row times its own group's weights. -/
theorem refY_at (hG : Fits (aG V0)) (r : Fin 24) (n : Fin 2048) :
    refY V0 (ix2 r n) = (∑ e : Fin 27, if inGrp (aG V0) e.val r.val then ∑ c : Fin 7168, aX V0 (ix2 r c) * wcol V0 e c n else 0 : EReal) := by
  have e0 := dotRef_at V0 hG 0 slicesBy_S24x7168_S24x1792_0s1_0s4 r n
  have e1 := dotRef_at V0 hG 1 slicesBy_S24x7168_S24x1792_0s1_1s4 r n
  have e2 := dotRef_at V0 hG 2 slicesBy_S24x7168_S24x1792_0s1_2s4 r n
  have e3 := dotRef_at V0 hG 3 slicesBy_S24x7168_S24x1792_0s1_3s4 r n
  refine (congrArg₂ (· + ·) (congrArg₂ (· + ·) (congrArg₂ (· + ·) e0 e1) e2) e3 : refY V0 (ix2 r n) = _).trans ?_
  rw [← Finset.sum_add_distrib, ← Finset.sum_add_distrib, ← Finset.sum_add_distrib]
  refine Finset.sum_congr rfl fun e _ => ?_
  by_cases hm : inGrp (aG V0) e.val r.val
  · simp only [if_pos hm]
    rw [sum_fields, Fin.sum_univ_four]
  · simp only [if_neg hm, add_zero]

end Cert.Proof.RefVal
end
-- ==== Proof.Proj.lean ====
/- A projection as one sum over the tokens' columns. -/
module

public import proofs.«01_k».proof.Proof.Tile
public import proofs.«01_k».proof.Proof.Perm

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

open Cert.KernelIdeal.Gen

theorem xWin_at (XV : Vec Ideal S24x7168 .bf16) (t : ℕ) (ht : t < 28) (r : Fin 24) (k : Fin 256) :
    xWin (F := Ideal) XV t (ix2 r k) = XV (ix2 r ⟨256 * t + k.val, by omega⟩) := by
  unfold xWin VecWindow.window
  refine congrArg XV (funext fun a => Fin.ext ?_)
  fin_cases a
  · show 0 + 1 * r.val = r.val
    omega
  · show 256 * (t % 28) + 1 * k.val = 256 * t + k.val
    rw [Nat.mod_eq_of_lt ht, one_mul]

/-- The gathered tokens are the tokens with their columns renumbered. -/
theorem xPerm_at (XV : Vec Ideal S24x7168 .bf16) (r : Fin 24) (c : Fin 7168) :
    xPerm (F := Ideal) XV hotV (ix2 r c) = XV (ix2 r (tcol (c.val / 256) (by omega) ⟨c.val % 256, Nat.mod_lt _ (by decide)⟩)) := by
  refine (gather_at hotV (xWin XV (c.val / 256)) r ⟨c.val % 256, Nat.mod_lt _ (by decide)⟩).trans ?_
  have hb : 2 * (c.val % 256 % 128) + c.val % 256 / 128 < 256 := by omega
  rw [Finset.sum_eq_single (⟨2 * (c.val % 256 % 128) + c.val % 256 / 128, hb⟩ : Fin 256)]
  · rw [hotV_at, if_pos rfl, mul_one, xWin_at _ _ (by omega)]
    rfl
  · intro k _ hk
    rw [hotV_at, if_neg (fun h => hk (Fin.ext h)), mul_zero]
  · intro h; exact absurd (Finset.mem_univ _) h

theorem opnd_at (T : Fin 7 → FVec Ideal S256x512 .bf16) (m : Fin 1792) (n : Fin 512) :
    opnd (F := Ideal) T (ix2 m n) = T ⟨m.val / 256, by omega⟩ (ix2 ⟨m.val % 256, Nat.mod_lt _ (by decide)⟩ n) := by
  pointwise [opnd]
  have hm := m.isLt
  have key (q : Fin 7) (a : Fin 256) (h : m.val = 256 * q.val + a.val) : T q (ix2 a n) = T ⟨m.val / 256, by omega⟩ (ix2 ⟨m.val % 256, Nat.mod_lt _ (by decide)⟩ n) := by
    refine congrArg₂ (fun q (a : Fin 256) => T q (ix2 a n)) (Fin.ext ?_) (Fin.ext ?_)
    · show q.val = m.val / 256
      omega
    · show a.val = m.val % 256
      omega
  repeat' split
  all_goals (refine key _ _ ?_; dsimp only; omega)

theorem dotKV_at (X : Vec Ideal S24x7168 .bf16) (tv : (t : ℕ) → t < 28 → FVec Ideal S256x512 .bf16) (k : ℕ) (hk : k < 4) (r : Fin 24) (n : Fin 512) :
    dotKV (F := Ideal) X tv k hk (ix2 r n) = ∑ m : Fin 1792, X (ix2 r ⟨k * 1792 + m.val, by omega⟩)
      * tv ((k * 1792 + m.val) / 256) (by omega) (ix2 ⟨(k * 1792 + m.val) % 256, Nat.mod_lt _ (by decide)⟩ n) := by
  unfold dotKV
  pointwise [dotV]
  refine Finset.sum_congr rfl fun m _ => congrArg₂ (· * ·) ?_ ?_
  · unfold quarter
    refine congrArg X (funext fun a => Fin.ext ?_)
    fin_cases a
    · rfl
    · show 1792 * k + m.val = k * 1792 + m.val
      omega
  · rw [opnd_at]
    have hm := m.isLt
    have key (q : ℕ) (hq : q < 28) (e : q = (k * 1792 + m.val) / 256) : tv q hq (ix2 ⟨m.val % 256, Nat.mod_lt _ (by decide)⟩ n)
        = tv ((k * 1792 + m.val) / 256) (by omega) (ix2 ⟨(k * 1792 + m.val) % 256, Nat.mod_lt _ (by decide)⟩ n) := by
      subst e
      refine congrArg (fun a : Fin 256 => tv ((k * 1792 + m.val) / 256) _ (ix2 a n)) (Fin.ext ?_)
      show m.val % 256 = (k * 1792 + m.val) % 256
      omega
    have hb : m.val / 256 < 7 := by omega
    generalize hq : (⟨m.val / 256, hb⟩ : Fin 7) = q
    have hv : m.val / 256 = q.val := congrArg Fin.val hq
    fin_cases q <;> (refine key _ _ ?_; dsimp only at hv; omega)

theorem col_left (x : ℕ) : 256 * ((256 * (x / 256) + (2 * (x % 256 % 128) + x % 256 / 128)) / 256)
    + ((256 * (x / 256) + (2 * (x % 256 % 128) + x % 256 / 128)) % 2 * 128 + (256 * (x / 256) + (2 * (x % 256 % 128) + x % 256 / 128)) % 256 / 2) = x := by
  have hs : x % 256 < 256 := Nat.mod_lt _ (by decide)
  have hx : 256 * (x / 256) + x % 256 = x := Nat.div_add_mod x 256
  generalize x / 256 = q at *
  generalize x % 256 = s at *
  have h1 : (256 * q + (2 * (s % 128) + s / 128)) / 256 = q := by omega
  have h2 : (256 * q + (2 * (s % 128) + s / 128)) % 256 = 2 * (s % 128) + s / 128 := by omega
  have h3 : (256 * q + (2 * (s % 128) + s / 128)) % 2 = s / 128 := by omega
  rw [h1, h2, h3]
  omega
theorem col_right (x : ℕ) : 256 * ((256 * (x / 256) + (x % 2 * 128 + x % 256 / 2)) / 256)
    + (2 * ((256 * (x / 256) + (x % 2 * 128 + x % 256 / 2)) % 256 % 128) + (256 * (x / 256) + (x % 2 * 128 + x % 256 / 2)) % 256 / 128) = x := by
  have hs : x % 256 < 256 := Nat.mod_lt _ (by decide)
  have hx : 256 * (x / 256) + x % 256 = x := Nat.div_add_mod x 256
  have he : x % 2 = x % 256 % 2 := by omega
  rw [he]
  generalize x / 256 = q at *
  generalize x % 256 = s at *
  have h1 : (256 * q + (s % 2 * 128 + s / 2)) / 256 = q := by omega
  have h2 : (256 * q + (s % 2 * 128 + s / 2)) % 256 = s % 2 * 128 + s / 2 := by omega
  rw [h1, h2]
  omega

/-- The renumbering of the columns. -/
def colEquiv : Fin 7168 ≃ Fin 7168 where
  toFun c := tcol (c.val / 256) (by omega) ⟨c.val % 256, Nat.mod_lt _ (by decide)⟩
  invFun c := ⟨256 * (c.val / 256) + (c.val % 2 * 128 + c.val % 256 / 2), by omega⟩
  left_inv c := Fin.ext (col_left c.val)
  right_inv c := Fin.ext (col_right c.val)

/-- The projection of the gathered tokens is the product with the weights of the tokens' own columns. -/
theorem projV_at (XV : Vec Ideal S24x7168 .bf16) (tv : (t : ℕ) → t < 28 → FVec Ideal S256x512 .bf16) (W : Fin 7168 → Fin 512 → EReal)
    (hW : ∀ t ht j n, tv t ht (ix2 j n) = W (tcol t ht j) n) (r : Fin 24) (n : Fin 512) :
    projV (F := Ideal) (xPerm XV hotV) tv (ix2 r n) = ∑ c : Fin 7168, XV (ix2 r c) * W c n := by
  have one (k : Fin 4) : dotKV (F := Ideal) (xPerm XV hotV) tv k.val k.isLt (ix2 r n)
      = ∑ m : Fin 1792, (fun c : Fin 7168 => XV (ix2 r (colEquiv c)) * W (colEquiv c) n) ⟨k.val * 1792 + m.val, by omega⟩ := by
    rw [dotKV_at]
    refine Finset.sum_congr rfl fun m _ => ?_
    rw [hW, xPerm_at]
    rfl
  rw [← Equiv.sum_comp colEquiv, Fin.sum_univ_tiles 4 1792 rfl, ← Finset.sum_congr rfl (fun k _ => one k), Fin.sum_univ_four]
  rfl

end Cert.Proof.Kern
end
-- ==== Proof.Acc.lean ====
/- What the kernel computes, entry by entry. -/
module

public import proofs.«01_k».proof.Proof.Proj
public import proofs.«01_k».proof.Proof.Grp
public import proofs.«01_k».proof.Proof.Body

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

open Cert.KernelIdeal.Gen

variable (c : Dev nD) (BB : Buf (Elt Ideal) ((c : Thread nD τ).loc main_arg2)) (SS : Buf (Elt Ideal) ((c : Thread nD τ).loc main_arg3))
  (RR : Buf (Elt Ideal) ((c : Thread nD τ).loc main_arg4)) (G SL : Vec Ideal S27 .i32) (XV : Vec Ideal S24x7168 .bf16)

/-- The three weight arrays, as arrays. -/
abbrev vecB : Vec Ideal S27x1792x2048 .i8 := BB
abbrev vecS : Vec Ideal S27x112x2048 .f32 := SS
abbrev vecR : Vec Ideal S17x1792x2048 .i8 := RR

/-- A block of the base codes, entry by entry. -/
theorem cB_at (e j : ℕ) (p : Fin 1792) (n : Fin 512) :
    (cB e j).view.read (Elt Ideal) BB (ix2 p n) = vecB c BB (ix3 ⟨e % 27, Nat.mod_lt _ (by decide)⟩ p ⟨512 * (j % 4) + n.val, by omega⟩) := by
  refine (congrArg (vecB c BB) (funext fun a => Fin.ext ?_) : vecB c BB ((cB e j).view.emb (ix2 p n)) = _)
  have q := fun h => ValueIdx.reshapeEquiv_ix2_1ab (a := 1792) (b := 512) h p n
  refine (congrArg (fun y => ((Rect.unit (s := S27x1792x2048) ![e % 27, 0, 512 * (j % 4)] S1x1792x512.size (blkB_inb e j)).idx y a).val) (q _)).trans ?_
  fin_cases a
  · show e % 27 + 1 * 0 = e % 27
    rfl
  · show 0 + 1 * p.val = p.val
    omega
  · show 512 * (j % 4) + 1 * n.val = 512 * (j % 4) + n.val
    omega

/-- A block of the residual codes. -/
theorem cR_at (t j : ℕ) (p : Fin 1792) (n : Fin 512) :
    (cR t j).view.read (Elt Ideal) RR (ix2 p n) = vecR c RR (ix3 ⟨t % 17, Nat.mod_lt _ (by decide)⟩ p ⟨512 * (j % 4) + n.val, by omega⟩) := by
  refine (congrArg (vecR c RR) (funext fun a => Fin.ext ?_) : vecR c RR ((cR t j).view.emb (ix2 p n)) = _)
  have q := fun h => ValueIdx.reshapeEquiv_ix2_1ab (a := 1792) (b := 512) h p n
  refine (congrArg (fun y => ((Rect.unit (s := S17x1792x2048) ![t % 17, 0, 512 * (j % 4)] S1x1792x512.size (blkR_inb t j)).idx y a).val) (q _)).trans ?_
  fin_cases a
  · show t % 17 + 1 * 0 = t % 17
    rfl
  · show 0 + 1 * p.val = p.val
    omega
  · show 512 * (j % 4) + 1 * n.val = 512 * (j % 4) + n.val
    omega

/-- A block of the scales. -/
theorem cS_at (e j : ℕ) (p : Fin 112) (n : Fin 512) :
    (cS e j).view.read (Elt Ideal) SS (ix2 p n) = vecS c SS (ix3 ⟨e % 27, Nat.mod_lt _ (by decide)⟩ p ⟨512 * (j % 4) + n.val, by omega⟩) := by
  refine (congrArg (vecS c SS) (funext fun a => Fin.ext ?_) : vecS c SS ((cS e j).view.emb (ix2 p n)) = _)
  have q := fun h => ValueIdx.reshapeEquiv_ix2_1ab (a := 112) (b := 512) h p n
  refine (congrArg (fun y => ((Rect.unit (s := S27x112x2048) ![e % 27, 0, 512 * (j % 4)] S1x112x512.size (blkS_inb e j)).idx y a).val) (q _)).trans ?_
  fin_cases a
  · show e % 27 + 1 * 0 = e % 27
    rfl
  · show 0 + 1 * p.val = p.val
    omega
  · show 512 * (j % 4) + 1 * n.val = 512 * (j % 4) + n.val
    omega

/-- A quarter of a scale. -/
theorem stepV_at (v : Vec Ideal S1x112x512 .f32) (g : Fin 112) (n : Fin 512) : stepV (F := Ideal) v (ix2 g n) = (v (ix3 0 g n) * Ideal.ofBits .bf16 0x3E80#16 : EReal) := by
  pointwise [stepV]

/-- The decoded number of expert `e` at column `k`, less 7.5. -/
def kq (e : Fin 27) (k : Fin 7168) (n : Fin 2048) : ℝ :=
  if 0 ≤ (SL (ix1 e)).toInt then ((4 * fld (vecB c BB (ix3 e ⟨k.val / 4, by omega⟩ n)) (k.val % 4) + fld (vecR c RR (ix3 ⟨(SL (ix1 e)).toNat % 17, Nat.mod_lt _ (by decide)⟩ ⟨k.val / 4, by omega⟩ n)) (k.val % 4) : ℕ) : ℝ) - 7.5
  else ((4 * fld (vecB c BB (ix3 e ⟨k.val / 4, by omega⟩ n)) (k.val % 4) : ℕ) : ℝ) + 1.5 - 7.5
/-- The weight of expert `e` at column `k`. -/
def kw (e : Fin 27) (k : Fin 7168) (n : Fin 2048) : EReal :=
  (kq c BB RR SL e k n : EReal) * (vecS c SS (ix3 e ⟨k.val / 64, by omega⟩ n) * Ideal.ofBits .bf16 0x3E80#16)

/-- A step's projection: the tokens times the expert's weights. -/
theorem stepProj_at (e j : ℕ) (r : Fin 24) (n : Fin 512) :
    stepProj c BB SS RR (xPerm XV hotV) e (word SL e) j (ix2 r n)
      = (∑ k : Fin 7168, (XV (ix2 r k) : EReal) * kw c BB SS RR SL ⟨e % 27, Nat.mod_lt _ (by decide)⟩ k ⟨512 * (j % 4) + n.val, by omega⟩ : EReal) := by
  have hw : word SL e = SL (ix1 ⟨e % 27, Nat.mod_lt _ (by decide)⟩) := rfl
  unfold stepProj
  by_cases h : k0_cond3 (word SL e) = 1#1
  · rw [if_pos h]
    have h0 := (cond3_iff _).1 h
    rw [hw] at h0 ⊢
    refine (projV_at XV _ _ (fun t ht a b => tileCV_at _ _ _ t ht a b) r n).trans (Finset.sum_congr rfl fun k _ => congrArg (fun z : EReal => XV (ix2 r k) * z) ?_)
    unfold colC kw kq
    rw [if_pos h0, stepV_at, cB_at, cR_at]
    refine congrArg (fun z : EReal => _ * (z * _)) (cS_at c SS e j _ _)
  · rw [if_neg h]
    have h0 : ¬ 0 ≤ (word SL e).toInt := fun h1 => h ((cond3_iff _).2 h1)
    rw [hw] at h0
    refine (projV_at XV _ _ (fun t ht a b => tileUV_at _ _ t ht a b) r n).trans (Finset.sum_congr rfl fun k _ => congrArg (fun z : EReal => XV (ix2 r k) * z) ?_)
    unfold colU kw kq
    rw [if_neg h0, stepV_at, cB_at]
    refine congrArg (fun z : EReal => _ * (z * _)) (cS_at c SS e j _ _)

/-- Putting a block into the accumulator, entry by entry. -/
theorem accPut_at (j : ℕ) (mine : IVec S24x512 1) (d : FVec Ideal S24x512 .f32) (A : Vec Ideal S24x2048 .f32) (r : Fin 24) (N : Fin 2048) :
    accPut (F := Ideal) j mine d A (ix2 r N) = if N.val / 512 = j % 4 ∧ mine (ix2 r ⟨N.val % 512, Nat.mod_lt _ (by decide)⟩) = 1#1 then d (ix2 r ⟨N.val % 512, Nat.mod_lt _ (by decide)⟩) else A (ix2 r N) := by
  unfold accPut VecWindow.put
  by_cases hN : N.val / 512 = j % 4
  · have hin : ∀ a : Fin S24x2048.rank, (![0, 512 * (j % 4)] : Fin 2 → ℕ) a ≤ (ix2 r N a : Fin _).val ∧ (ix2 r N a : Fin _).val < (![0, 512 * (j % 4)] : Fin 2 → ℕ) a + S24x512.size a := by
      intro a
      fin_cases a
      · show 0 ≤ r.val ∧ r.val < 0 + 24
        omega
      · show 512 * (j % 4) ≤ N.val ∧ N.val < 512 * (j % 4) + 512
        omega
    have hl : (Rect.unitLocal (s := S24x2048) (off := ![0, 512 * (j % 4)]) (size := S24x512.size) (ix2 r N) hin) = (ix2 r ⟨N.val % 512, Nat.mod_lt _ (by decide)⟩ : S24x512.Idx) := by
      funext a
      refine Fin.ext ?_
      fin_cases a
      · show r.val - 0 = r.val
        rfl
      · show N.val - 512 * (j % 4) = N.val % 512
        omega
    rw [dif_pos hin, hl]
    have hs (v : FVec Ideal S24x512 .f32) : shapeCast S24x512 v Gen.shapeCasts_S24x512_S24x512 (ix2 r ⟨N.val % 512, Nat.mod_lt _ (by decide)⟩) = v (ix2 r ⟨N.val % 512, Nat.mod_lt _ (by decide)⟩) := by
      pointwise
    refine (hs _).trans ?_
    have hw : VecWindow.window (s := S24x2048) A ![0, 512 * (j % 4)] S24x512.size (col_inb j) (ix2 r ⟨N.val % 512, Nat.mod_lt _ (by decide)⟩ : S24x512.Idx) = A (ix2 r N) := by
      refine congrArg A (funext fun a => Fin.ext ?_)
      fin_cases a
      · show 0 + 1 * r.val = r.val
        omega
      · show 512 * (j % 4) + 1 * (N.val % 512) = N.val
        omega
    refine (congrArg (fun z => Scalar.select (mine (ix2 r ⟨N.val % 512, Nat.mod_lt _ (by decide)⟩)) (d (ix2 r ⟨N.val % 512, Nat.mod_lt _ (by decide)⟩)) z) hw).trans ?_
    by_cases hm : mine (ix2 r ⟨N.val % 512, Nat.mod_lt _ (by decide)⟩) = 1#1
    · rw [if_pos ⟨hN, hm⟩]; exact if_pos hm
    · rw [if_neg (fun h => hm h.2)]; exact if_neg hm
  · rw [dif_neg, if_neg (fun h => hN h.1)]
    intro h
    have h1 : 512 * (j % 4) ≤ N.val ∧ N.val < 512 * (j % 4) + 512 := h 1
    omega

/-- The mask of a group's rows. -/
theorem mineV_at (f g : BitVec 32) (r : Fin 24) (n : Fin 512) :
    mineV f g (ix2 r n) = IntOp.andi (IntOp.cmpi .sge (BitVec.ofNat 32 r.val) f) (IntOp.cmpi .slt (BitVec.ofNat 32 r.val) (IntOp.addi f g)) := by
  pointwise [mineV]
  rfl

theorem acc0_at (r : Fin 24) (N : Fin 2048) : (acc0 (F := Ideal)) (ix2 r N) = (0 : EReal) := by
  pointwise [acc0]

variable {G} (hG : Fits G)
include hG

theorem sta_toNat (k : ℕ) (hk : k ≤ 27) : (sta (F := Ideal) G k).toNat = gst G k := by
  induction k with
  | zero => rfl
  | succ k ih =>
    show (sta (F := Ideal) G k + word G k).toNat = _
    have h1 := gst_le hG k
    have h2 := gsz_le hG k
    have h3 : (word G k).toNat = gsz G k := rfl
    rw [BitVec.toNat_add, ih (by omega), h3, gst_succ]
    omega

theorem word_pos {e r : ℕ} (h : inGrp G e r) : 0 < (word G e).toInt := by
  have h2 := gsz_le hG e
  have h3 : (word G e).toNat = gsz G e := rfl
  unfold inGrp at h
  rw [BitVec.toInt_eq_toNat_cond, h3]
  split <;> omega

open Classical in
/-- The accumulator after `j` steps: every group served so far has its rows. -/
theorem accF_at (j : ℕ) (hj : j ≤ 4 * cnt (F := Ideal) G 27) (r : Fin 24) (N : Fin 2048) :
    accF c BB SS RR (en (F := Ideal) G) (fw (F := Ideal) G) G SL (xPerm XV hotV) j (ix2 r N)
      = (∑ e : Fin 27, if inGrp G e.val r.val ∧ 4 * cnt (F := Ideal) G e.val + N.val / 512 < j then ∑ k : Fin 7168, (XV (ix2 r k) : EReal) * kw c BB SS RR SL e k N else 0 : EReal) := by
  induction j with
  | zero =>
    refine (acc0_at r N).trans (Finset.sum_eq_zero fun e _ => if_neg (fun h => Nat.not_lt_zero _ h.2)).symm
  | succ j ih =>
    obtain ⟨he, hp, hc⟩ := en_spec (F := Ideal) G (p := j / 4) (by omega)
    have hNd : N.val / 512 < 4 := by omega
    have hmem (n : Fin 512) : (mineV (fw (F := Ideal) G (j / 4)) (word G (en (F := Ideal) G (j / 4))) (ix2 r n) = 1#1) ↔ inGrp G (en (F := Ideal) G (j / 4)) r.val := by
      rw [mineV_at]
      exact member_flag hG _ _ _ (by omega) (sta_toNat hG _ (by omega)) rfl r.val r.isLt
    refine (accPut_at j _ _ _ r N).trans ?_
    refine (if_congr (and_congr Iff.rfl (hmem _)) rfl rfl).trans ?_
    rw [ih (by omega), stepProj_at]
    by_cases h : N.val / 512 = j % 4 ∧ inGrp G (en (F := Ideal) G (j / 4)) r.val
    · rw [if_pos h]
      rw [Finset.sum_eq_single (⟨en (F := Ideal) G (j / 4) % 27, Nat.mod_lt _ (by decide)⟩ : Fin 27)]
      · have hm : en (F := Ideal) G (j / 4) % 27 = en (F := Ideal) G (j / 4) := Nat.mod_eq_of_lt he
        rw [if_pos (by dsimp only; rw [hm]; exact ⟨h.2, by omega⟩)]
        refine Finset.sum_congr rfl fun k _ => congrArg (fun z => (XV (ix2 r k) : EReal) * kw c BB SS RR SL _ k z) (Fin.ext ?_)
        show 512 * (j % 4) + N.val % 512 = N.val
        omega
      · intro e _ hne
        refine if_neg fun hh => hne (Fin.ext ?_)
        rw [inGrp_unique G hh.1 h.2]
        exact (Nat.mod_eq_of_lt he).symm
      · intro hh; exact absurd (Finset.mem_univ _) hh
    · rw [if_neg h]
      refine Finset.sum_congr rfl fun e _ => if_congr ⟨fun hh => ⟨hh.1, by omega⟩, fun hh => ⟨hh.1, ?_⟩⟩ rfl rfl
      by_contra hlt
      have h4 : cnt (F := Ideal) G e.val = j / 4 := by omega
      have h5 : e.val = en (F := Ideal) G (j / 4) := cnt_inj (F := Ideal) G (word_pos hG hh.1) hp (h4.trans hc.symm)
      exact h ⟨by omega, h5 ▸ hh.1⟩

open Classical in
/-- The kernel's result: each row times its own group's weights. -/
theorem yV_at (r : Fin 24) (N : Fin 2048) :
    yV (c := c) BB SS RR G SL XV (ix2 r N) = (∑ e : Fin 27, if inGrp G e.val r.val then ∑ k : Fin 7168, (XV (ix2 r k) : EReal) * kw c BB SS RR SL e k N else 0 : EReal) := by
  refine (accF_at c BB SS RR SL XV hG (4 * cnt (F := Ideal) G 27) le_rfl r N).trans (Finset.sum_congr rfl fun e _ => if_congr ⟨fun h => h.1, fun h => ⟨h, ?_⟩⟩ rfl rfl)
  have := cnt_lt (F := Ideal) G e.isLt (word_pos hG h)
  omega

end Cert.Proof.Kern
end
-- ==== Proof.Val.lean ====
/- What the kernel leaves in its result. -/
module

public import proofs.«01_k».proof.Proof.Acc
public import Idealize.ShloMosaic.Lib.Pipeline.ValueKit.Geometry
public import proofs.«01_k».proof.Proof.Run

@[expose] public section

noncomputable section

namespace Cert.Proof.Kern

open Cert.KernelIdeal
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

open Cert.KernelIdeal.Gen

variable (m : (ℓ : Loc nD τ sig) → Buf (Elt Ideal) ℓ) (ρ : Dev nD → PrngReg)

/-- The one block of each input is the whole array. -/
theorem iblk0 (c : Dev nD) (t : Fin cfg0.N) : (iblk m ρ c 0 t : Vec Ideal S27 .i32) = m ((c : Thread nD τ).loc main_arg1) := by
  funext i
  unfold iblk
  refine (congrArg (m ((c : Thread nD τ).loc main_arg1)) (funext fun a => Fin.ext ?_) : (m ((c : Thread nD τ).loc main_arg1)) (((cfg0.win 0).blk t).view.emb i) = _)
  blk_simp
  rw [(by decide +kernel : ∀ t a, win0_0.index t a = 0) t a, Nat.zero_mul, Nat.zero_add]
theorem iblk1 (c : Dev nD) (t : Fin cfg0.N) : (iblk m ρ c 1 t : Vec Ideal S27 .i32) = m ((c : Thread nD τ).loc main_arg5) := by
  funext i
  unfold iblk
  refine (congrArg (m ((c : Thread nD τ).loc main_arg5)) (funext fun a => Fin.ext ?_) : (m ((c : Thread nD τ).loc main_arg5)) (((cfg0.win 1).blk t).view.emb i) = _)
  blk_simp
  rw [(by decide +kernel : ∀ t a, win0_1.index t a = 0) t a, Nat.zero_mul, Nat.zero_add]
theorem iblk2 (c : Dev nD) (t : Fin cfg0.N) : (iblk m ρ c 2 t : Vec Ideal S24x7168 .bf16) = m ((c : Thread nD τ).loc main_arg0) := by
  funext i
  unfold iblk
  refine (congrArg (m ((c : Thread nD τ).loc main_arg0)) (funext fun a => Fin.ext ?_) : (m ((c : Thread nD τ).loc main_arg0)) (((cfg0.win 2).blk t).view.emb i) = _)
  blk_simp
  rw [(by decide +kernel : ∀ t a, win0_2.index t a = 0) t a, Nat.zero_mul, Nat.zero_add]

/-- The result array ends at what the kernel computes of its arguments. -/
theorem final_y (c : Dev nD) : (finalA m ρ c 3 : Vec Ideal S24x2048 .bf16)
    = yV (c := c) (m ((c : Thread nD τ).loc main_arg2)) (m ((c : Thread nD τ).loc main_arg3)) (m ((c : Thread nD τ).loc main_arg4)) (m ((c : Thread nD τ).loc main_arg1)) (m ((c : Thread nD τ).loc main_arg5)) (m ((c : Thread nD τ).loc main_arg0)) := by
  unfold finalA
  refine (dats m ρ 0 c).arrAt_eq_of_after_last 3 ⟨0, by decide +kernel⟩ (by decide +kernel) _ fun j => ?_
  rw [after_w3]
  unfold outAt
  rw [iblk0, iblk1, iblk2]
  rfl

end Cert.Proof.Kern
end
-- ==== Proof.Value.lean ====
/- The value claim: the kernel's idealization and the reference return the same array. -/
module

public import proofs.«01_k».proof.Proof.Gen.ReferenceIdeal.Run
public import proofs.«01_k».proof.Proof.Frames
public import proofs.«01_k».proof.Proof.RefVal
public import proofs.«01_k».proof.Proof.Val
public import Idealize.ShloMosaic.Lib.Claim
public import Idealize.ShloMosaic.Lib.Tactic

@[expose] public section

noncomputable section

namespace Cert.Proof

open Idealize.ShloMosaic Idealize.SL.Sem Idealize.ShloMosaic.Tactic Idealize.ShloMosaic.TcCoe

section Same
variable (V0 : Valuation Cert.ReferenceIdeal.τ Cert.ReferenceIdeal.sig (Elt Ideal)) (c : Dev Cert.KernelIdeal.nD)

/-- The residual plane the kernel copies is the one the reference gathers. -/
theorem plane_eq (v : BitVec 32) (h : v.toInt ≤ 16) (h0 : 0 ≤ v.toInt) : min v.toInt.toNat 16 = v.toNat % 17 := by
  have := BitVec.toInt_eq_toNat_cond v
  split at this <;> omega

/-- On equal arguments with fitting slots, the two decode to the same weights. -/
theorem weights_eq (hT : ∀ j, (RefVal.aT V0 j).toInt ≤ 16) (e : Fin 27) (k : Fin 7168) (n : Fin 2048) :
    Kern.kw c (RefVal.aB V0) (RefVal.aS V0) (RefVal.aR V0) (RefVal.aT V0) e k n = RefVal.wcol V0 e k n := by
  unfold Kern.kw RefVal.wcol
  refine congrArg (fun z : ℝ => (z : EReal) * _) ?_
  unfold Kern.kq RefVal.qv
  by_cases h : 0 ≤ (RefVal.aT V0 (ix1 e)).toInt
  · rw [if_pos h, if_pos h]
    have hp : RefVal.plane V0 e = ⟨(RefVal.aT V0 (ix1 e)).toNat % 17, Nat.mod_lt _ (by decide)⟩ := Fin.ext (plane_eq _ (hT _) h)
    rw [hp]
  · rw [if_neg h, if_neg h]

open Classical in
/-- On equal arguments that fit, the two results are the same. -/
theorem same (hG : Kern.Fits (RefVal.aG V0)) (hT : ∀ j, (RefVal.aT V0 j).toInt ≤ 16) :
    RefVal.refY V0 = Kern.yV (F := Ideal) (c := c) (RefVal.aB V0) (RefVal.aS V0) (RefVal.aR V0) (RefVal.aG V0) (RefVal.aT V0) (RefVal.aX V0) := by
  funext i
  obtain ⟨r, n, rfl⟩ : ∃ (r : Fin 24) (n : Fin 2048), i = ix2 r n := ⟨i 0, i 1, by
    funext a
    fin_cases a <;> rfl⟩
  rw [RefVal.refY_at V0 hG]
  refine Eq.symm ((Kern.yV_at c (RefVal.aB V0) (RefVal.aS V0) (RefVal.aR V0) (RefVal.aT V0) (RefVal.aX V0) hG r n).trans ?_)
  refine Finset.sum_congr rfl fun e _ => if_congr Iff.rfl (Finset.sum_congr rfl fun k _ => ?_) rfl
  rw [weights_eq V0 c hT]

/-- The same, with the kernel's arguments named. -/
theorem same_of (x g b s r t) (hx : RefVal.aX V0 = x) (hg : RefVal.aG V0 = g) (hb : RefVal.aB V0 = b) (hs : RefVal.aS V0 = s) (hr : RefVal.aR V0 = r) (ht : RefVal.aT V0 = t)
    (hG : Kern.Fits g) (hT : ∀ j, (t j).toInt ≤ 16) : RefVal.refY V0 = Kern.yV (F := Ideal) (c := c) b s r g t x := by
  subst hx hg hb hs hr ht
  exact same V0 c hG hT
end Same

/-- The value claim. -/
theorem algebraic : Cert.algebraic_KernelIdeal_ReferenceIdeal_pre_groups_fit := by
  intro m g m' g' hpre hagree
  refine ⟨fun c => Kern.finalA m g c 3, ?_, ?_⟩
  · refine (θ_run _ _ _).mono ?_ (Kern.run_frame m g fun c j => slotOk_of_le _ (groups_le _ _ _ _ _ _ (hpre c) j).1)
    exact fun r hr => hr.1
  · refine (θ_run _ _ _).mono ?_ (Cert.ReferenceIdeal.Value.run m' g')
    intro r hr c
    refine ⟨(hr c).1.trans ?_, (hr c).2⟩
    obtain ⟨h0, h1, h2, h3, h4, h5⟩ := hagree c
    refine Eq.trans ?_ (Kern.final_y m g c).symm
    exact same_of (StableHlo.launchContents m' c) c _ _ _ _ _ _ h0 h1 h2 h3 h4 h5 (fun j => (groups_le _ _ _ _ _ _ (hpre c) (ix1 j)).2) (fun j => (groups_le _ _ _ _ _ _ (hpre c) j).1)

end Cert.Proof

end
-- ==== Proof.lean ====
/-
  The certificate: the frames of the kernel, of its idealization and of the reference, and the equality of the two results.
-/
module

public import proofs.«01_k».proof.Proof.Gen.ReferenceIdeal.Run
public import proofs.«01_k».proof.Proof.Frames
public import proofs.«01_k».proof.Proof.Ref
public import proofs.«01_k».proof.Proof.Value
public import proofs.«01_k».proof.Proof.Gen.Kernel

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, slotsFacts, groupsFacts, frame_kernel, frame_ideal, frame_ideal_groups, frame_ref, frame_ref_groups, trivial, algebraic⟩

end Cert.Proof

end
